-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v13)) (v1 : (c : Dev Cert.Kernel7Ideal.nD) → Buf (Elt Ideal) ((c.tc : Thread Cert.Kernel7Ideal.nD Cert.Kernel7Ideal.τ).loc Cert.Kernel7Ideal.main_v14)) (v2 : (c : Dev Cert.Kernel7Ideal.nD) → Buf (Elt Ideal) ((c.tc : Thread Cert.Kernel7Ideal.nD Cert.Kernel7Ideal.τ).loc Cert.Kernel7Ideal.main_v15)) (v3 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_v14) = v1 c
          ∧ r.2.mem ((c.tc : Thread Cert.Kernel7Ideal.nD Cert.Kernel7Ideal.τ).loc Cert.Kernel7Ideal.main_v15) = v2 c
          ∧ r.2.mem ((c.tc : Thread Cert.Kernel7Ideal.nD Cert.Kernel7Ideal.τ).loc Cert.Kernel7Ideal.main_v16) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v102) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_v104) = v2 c
          ∧ r.2.mem ((c.tc : Thread Cert.Reference7Ideal.nD Cert.Reference7Ideal.τ).loc Cert.Reference7Ideal.main_v105) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S16x256x2048 : Shape := ⟨3, ![16, 256, 2048]⟩
abbrev S1x1x2048 : Shape := ⟨3, ![1, 1, 2048]⟩
abbrev S2048 : Shape := ⟨1, ![2048]⟩
abbrev S2048x6192 : Shape := ⟨2, ![2048, 6192]⟩
abbrev S3x3x2048 : Shape := ⟨3, ![3, 3, 2048]⟩
abbrev S6192x2048 : Shape := ⟨2, ![6192, 2048]⟩
abbrev S16x2048 : Shape := ⟨2, ![16, 2048]⟩
abbrev S32x2048 : Shape := ⟨2, ![32, 2048]⟩
abbrev S48x2048 : Shape := ⟨2, ![48, 2048]⟩
abbrev S_ : Shape := ⟨0, ![]⟩
abbrev S128x2048 : Shape := ⟨2, ![128, 2048]⟩
abbrev S4096x2048 : Shape := ⟨2, ![4096, 2048]⟩
abbrev S1x2048 : Shape := ⟨2, ![1, 2048]⟩
abbrev S9x2048 : Shape := ⟨2, ![9, 2048]⟩
abbrev S4096x6144 : Shape := ⟨2, ![4096, 6144]⟩
abbrev S4096x128 : Shape := ⟨2, ![4096, 128]⟩
abbrev S1024x2048 : Shape := ⟨2, ![1024, 2048]⟩
abbrev S9x1024 : Shape := ⟨2, ![9, 1024]⟩
abbrev S1x1024 : Shape := ⟨2, ![1, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 21
  | .vmem => 19
  | .smem => 0
  | _ => 0

abbrev bufTy : (tb : Table) → Fin (tcTables nBuf tb) → BufTy
  | .hbm, ⟨0, _⟩ => ⟨S16x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x6192, .f32⟩
  | .hbm, ⟨5, _⟩ => ⟨S3x3x2048, .f32⟩
  | .hbm, ⟨6, _⟩ => ⟨S2048, .f32⟩
  | .hbm, ⟨7, _⟩ => ⟨S6192x2048, .f32⟩
  | .hbm, ⟨8, _⟩ => ⟨S6192x2048, .bf16⟩
  | .hbm, ⟨9, _⟩ => ⟨S16x2048, .bf16⟩
  | .hbm, ⟨10, _⟩ => ⟨S32x2048, .bf16⟩
  | .hbm, ⟨11, _⟩ => ⟨S48x2048, .bf16⟩
  | .hbm, ⟨12, _⟩ => ⟨S_, .i32⟩
  | .hbm, ⟨13, _⟩ => ⟨S_, .bf16⟩
  | .hbm, ⟨14, _⟩ => ⟨S128x2048, .bf16⟩
  | .hbm, ⟨15, _⟩ => ⟨S4096x2048, .f32⟩
  | .hbm, ⟨16, _⟩ => ⟨S1x2048, .f32⟩
  | .hbm, ⟨17, _⟩ => ⟨S9x2048, .f32⟩
  | .hbm, ⟨18, _⟩ => ⟨S1x2048, .f32⟩
  | .hbm, ⟨19, _⟩ => ⟨S4096x6144, .f32⟩
  | .hbm, ⟨20, _⟩ => ⟨S4096x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S128x2048, .bf16⟩
  | .local _ .vmem, ⟨10, _⟩ => ⟨S9x1024, .f32⟩
  | .local _ .vmem, ⟨11, _⟩ => ⟨S9x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x128, .f32⟩
  | .local _ .vmem, ⟨17, _⟩ => ⟨S1024x128, .f32⟩
  | .local _ .vmem, ⟨18, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c4_i32_0 : BitVec 32 := 4#32
  let v7 : BitVec 1 := Scalar.cmpi .sge arg1 c4_i32_0
  let v8 : BitVec 32 := Scalar.extui v7
  let c0_i32_1 : BitVec 32 := 0#32
  let v9 : BitVec 1 := Scalar.cmpi .ne v8 c0_i32_1
  v9

def k0_cond2 (i : grid0.Coords) : BitVec 1 :=
  let arg1 : BitVec 32 := BitVec.ofNat 32 (i 1).val
  let c0_i32_2 : BitVec 32 := 0#32
  let v10 : BitVec 1 := Scalar.cmpi .eq arg1 c0_i32_2
  let v11 : BitVec 32 := Scalar.extui v10
  let c0_i32_3 : BitVec 32 := 0#32
  let v12 : BitVec 1 := Scalar.cmpi .ne v11 c0_i32_3
  v12

def k0_cond3 (i : grid0.Coords) : BitVec 1 :=
  let arg1 : BitVec 32 := BitVec.ofNat 32 (i 1).val
  let c0_i32 : BitVec 32 := 0#32
  let v0 : BitVec 1 := Scalar.cmpi .sgt arg1 c0_i32
  let c2_i32 : BitVec 32 := 2#32
  let v1 : BitVec 1 := Scalar.cmpi .ne arg1 c2_i32
  let v2 : BitVec 1 := Scalar.andi v0 v1
  let c3_i32 : BitVec 32 := 3#32
  let v3 : BitVec 1 := Scalar.cmpi .ne arg1 c3_i32
  let v4 : BitVec 1 := Scalar.andi v2 v3
  let c4_i32 : BitVec 32 := 4#32
  let v5 : BitVec 1 := Scalar.cmpi .slt arg1 c4_i32
  let v6 : BitVec 1 := Scalar.andi v4 v5
  let v13 : BitVec 32 := Scalar.extui v6
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c2_i32_5 : BitVec 32 := 2#32
  let v15 : BitVec 1 := Scalar.cmpi .eq arg1 c2_i32_5
  let c3_i32_6 : BitVec 32 := 3#32
  let v16 : BitVec 1 := Scalar.cmpi .eq arg1 c3_i32_6
  let v17 : BitVec 1 := Scalar.ori v15 v16
  let v18 : BitVec 32 := Scalar.extui v17
  let c0_i32_7 : BitVec 32 := 0#32
  let v19 : BitVec 1 := Scalar.cmpi .ne v18 c0_i32_7
  v19

def k0_cond5 (i : grid0.Coords) : BitVec 1 :=
  let arg1 : BitVec 32 := BitVec.ofNat 32 (i 1).val
  let c5_i32 : BitVec 32 := 5#32
  let v20 : BitVec 1 := Scalar.cmpi .eq arg1 c5_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c3_i32 : BitVec 32 := 3#32
  let v1 : BitVec 1 := Scalar.cmpi .sge arg1 c3_i32
  let v2 : BitVec 32 := Scalar.extui v1
  let v3 : BitVec 32 := Scalar.addi v0 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x256x2048 : Shape := ⟨3, ![16, 256, 2048]⟩
abbrev S1x1x2048 : Shape := ⟨3, ![1, 1, 2048]⟩
abbrev S2048 : Shape := ⟨1, ![2048]⟩
abbrev S2048x6192 : Shape := ⟨2, ![2048, 6192]⟩
abbrev S3x3x2048 : Shape := ⟨3, ![3, 3, 2048]⟩
abbrev S_ : Shape := ⟨0, ![]⟩
abbrev S16x256 : Shape := ⟨2, ![16, 256]⟩
abbrev S16x256x1 : Shape := ⟨3, ![16, 256, 1]⟩
abbrev S16x256x6192 : Shape := ⟨3, ![16, 256, 6192]⟩
abbrev S16x256x512 : Shape := ⟨3, ![16, 256, 512]⟩
abbrev S16x256x1024 : Shape := ⟨3, ![16, 256, 1024]⟩
abbrev S16x256x8 : Shape := ⟨3, ![16, 256, 8]⟩
abbrev S16x256x32 : Shape := ⟨3, ![16, 256, 32]⟩
abbrev S16x1x256x2048 : Shape := ⟨4, ![16, 1, 256, 2048]⟩
abbrev S16x3x258x2048 : Shape := ⟨4, ![16, 3, 258, 2048]⟩
abbrev S1x16x1x256x2048 : Shape := ⟨5, ![1, 16, 1, 256, 2048]⟩
abbrev S9x16x1x256x2048 : Shape := ⟨5, ![9, 16, 1, 256, 2048]⟩
abbrev S9x1x1x1x2048 : Shape := ⟨5, ![9, 1, 1, 1, 2048]⟩
abbrev S16x256x6144 : Shape := ⟨3, ![16, 256, 6144]⟩
abbrev S16x256x80 : Shape := ⟨3, ![16, 256, 80]⟩
abbrev S16x256x128 : Shape := ⟨3, ![16, 256, 128]⟩
abbrev S4096x6144 : Shape := ⟨2, ![4096, 6144]⟩
abbrev S4096x128 : Shape := ⟨2, ![4096, 128]⟩

abbrev nBuf : Space → Nat
  | .hbm => 104
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x1x2048, .f32⟩
  | .hbm, ⟨2, _⟩ => ⟨S1x1x2048, .f32⟩
  | .hbm, ⟨3, _⟩ => ⟨S2048, .f32⟩
  | .hbm, ⟨4, _⟩ => ⟨S2048x6192, .f32⟩
  | .hbm, ⟨5, _⟩ => ⟨S3x3x2048, .f32⟩
  | .hbm, ⟨6, _⟩ => ⟨S2048, .f32⟩
  | .hbm, ⟨7, _⟩ => ⟨S16x256x2048, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x2048, .f32⟩
  | .hbm, ⟨19, _⟩ => ⟨S16x256x2048, .f32⟩
  | .hbm, ⟨20, _⟩ => ⟨S1x1x2048, .f32⟩
  | .hbm, ⟨21, _⟩ => ⟨S16x256x2048, .f32⟩
  | .hbm, ⟨22, _⟩ => ⟨S16x256x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S16x256x2048, .f32⟩
  | .hbm, ⟨27, _⟩ => ⟨S16x256x2048, .f32⟩
  | .hbm, ⟨28, _⟩ => ⟨S16x256x2048, .f32⟩
  | .hbm, ⟨29, _⟩ => ⟨S16x256x2048, .f32⟩
  | .hbm, ⟨30, _⟩ => ⟨S16x256x6192, .f32⟩
  | .hbm, ⟨31, _⟩ => ⟨S16x256x512, .f32⟩
  | .hbm, ⟨32, _⟩ => ⟨S16x256x512, .f32⟩
  | .hbm, ⟨33, _⟩ => ⟨S16x256x1024, .f32⟩
  | .hbm, ⟨34, _⟩ => ⟨S16x256x1024, .f32⟩
  | .hbm, ⟨35, _⟩ => ⟨S16x256x8, .f32⟩
  | .hbm, ⟨36, _⟩ => ⟨S16x256x8, .f32⟩
  | .hbm, ⟨37, _⟩ => ⟨S16x256x1024, .f32⟩
  | .hbm, ⟨38, _⟩ => ⟨S16x256x2048, .f32⟩
  | .hbm, ⟨39, _⟩ => ⟨S16x256x32, .f32⟩
  | .hbm, ⟨40, _⟩ => ⟨S16x1x256x2048, .f32⟩
  | .hbm, ⟨41, _⟩ => ⟨S_, .i32⟩
  | .hbm, ⟨42, _⟩ => ⟨S_, .f32⟩
  | .hbm, ⟨43, _⟩ => ⟨S16x3x258x2048, .f32⟩
  | .hbm, ⟨44, _⟩ => ⟨S16x1x256x2048, .f32⟩
  | .hbm, ⟨45, _⟩ => ⟨S16x1x256x2048, .f32⟩
  | .hbm, ⟨46, _⟩ => ⟨S16x1x256x2048, .f32⟩
  | .hbm, ⟨47, _⟩ => ⟨S16x1x256x2048, .f32⟩
  | .hbm, ⟨48, _⟩ => ⟨S16x1x256x2048, .f32⟩
  | .hbm, ⟨49, _⟩ => ⟨S16x1x256x2048, .f32⟩
  | .hbm, ⟨50, _⟩ => ⟨S16x1x256x2048, .f32⟩
  | .hbm, ⟨51, _⟩ => ⟨S16x1x256x2048, .f32⟩
  | .hbm, ⟨52, _⟩ => ⟨S16x1x256x2048, .f32⟩
  | .hbm, ⟨53, _⟩ => ⟨S1x16x1x256x2048, .f32⟩
  | .hbm, ⟨54, _⟩ => ⟨S1x16x1x256x2048, .f32⟩
  | .hbm, ⟨55, _⟩ => ⟨S1x16x1x256x2048, .f32⟩
  | .hbm, ⟨56, _⟩ => ⟨S1x16x1x256x2048, .f32⟩
  | .hbm, ⟨57, _⟩ => ⟨S1x16x1x256x2048, .f32⟩
  | .hbm, ⟨58, _⟩ => ⟨S1x16x1x256x2048, .f32⟩
  | .hbm, ⟨59, _⟩ => ⟨S1x16x1x256x2048, .f32⟩
  | .hbm, ⟨60, _⟩ => ⟨S1x16x1x256x2048, .f32⟩
  | .hbm, ⟨61, _⟩ => ⟨S1x16x1x256x2048, .f32⟩
  | .hbm, ⟨62, _⟩ => ⟨S9x16x1x256x2048, .f32⟩
  | .hbm, ⟨63, _⟩ => ⟨S9x1x1x1x2048, .f32⟩
  | .hbm, ⟨64, _⟩ => ⟨S9x16x1x256x2048, .f32⟩
  | .hbm, ⟨65, _⟩ => ⟨S9x16x1x256x2048, .f32⟩
  | .hbm, ⟨66, _⟩ => ⟨S_, .f32⟩
  | .hbm, ⟨67, _⟩ => ⟨S16x1x256x2048, .f32⟩
  | .hbm, ⟨68, _⟩ => ⟨S16x256x2048, .f32⟩
  | .hbm, ⟨69, _⟩ => ⟨S1x1x2048, .f32⟩
  | .hbm, ⟨70, _⟩ => ⟨S16x256x2048, .f32⟩
  | .hbm, ⟨71, _⟩ => ⟨S16x256x2048, .f32⟩
  | .hbm, ⟨72, _⟩ => ⟨S16x256x2048, .f32⟩
  | .hbm, ⟨73, _⟩ => ⟨S16x256x2048, .f32⟩
  | .hbm, ⟨74, _⟩ => ⟨S_, .f32⟩
  | .hbm, ⟨75, _⟩ => ⟨S16x256x2048, .f32⟩
  | .hbm, ⟨76, _⟩ => ⟨S16x256x2048, .f32⟩
  | .hbm, ⟨77, _⟩ => ⟨S_, .f32⟩
  | .hbm, ⟨78, _⟩ => ⟨S16x256x2048, .f32⟩
  | .hbm, ⟨79, _⟩ => ⟨S16x256x2048, .f32⟩
  | .hbm, ⟨80, _⟩ => ⟨S16x256x2048, .f32⟩
  | .hbm, ⟨81, _⟩ => ⟨S16x256x1024, .f32⟩
  | .hbm, ⟨82, _⟩ => ⟨S16x256x1024, .f32⟩
  | .hbm, ⟨83, _⟩ => ⟨S_, .f32⟩
  | .hbm, ⟨84, _⟩ => ⟨S16x256x1024, .f32⟩
  | .hbm, ⟨85, _⟩ => ⟨S16x256x1024, .f32⟩
  | .hbm, ⟨86, _⟩ => ⟨S_, .f32⟩
  | .hbm, ⟨87, _⟩ => ⟨S16x256x1024, .f32⟩
  | .hbm, ⟨88, _⟩ => ⟨S16x256x1024, .f32⟩
  | .hbm, ⟨89, _⟩ => ⟨S16x256x1024, .f32⟩
  | .hbm, ⟨90, _⟩ => ⟨S16x256x1024, .f32⟩
  | .hbm, ⟨91, _⟩ => ⟨S_, .f32⟩
  | .hbm, ⟨92, _⟩ => ⟨S16x256x1024, .f32⟩
  | .hbm, ⟨93, _⟩ => ⟨S16x256x1024, .f32⟩
  | .hbm, ⟨94, _⟩ => ⟨S_, .f32⟩
  | .hbm, ⟨95, _⟩ => ⟨S16x256x1024, .f32⟩
  | .hbm, ⟨96, _⟩ => ⟨S16x256x1024, .f32⟩
  | .hbm, ⟨97, _⟩ => ⟨S16x256x1024, .f32⟩
  | .hbm, ⟨98, _⟩ => ⟨S16x256x6144, .f32⟩
  | .hbm, ⟨99, _⟩ => ⟨S_, .f32⟩
  | .hbm, ⟨100, _⟩ => ⟨S16x256x80, .f32⟩
  | .hbm, ⟨101, _⟩ => ⟨S16x256x128, .f32⟩
  | .hbm, ⟨102, _⟩ => ⟨S4096x6144, .f32⟩
  | .hbm, ⟨103, _⟩ => ⟨S4096x128, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_cst_5 : Ref sig .tc := ⟨.hbm, 86, rfl⟩
abbrev main_v63 : Ref sig .tc := ⟨.hbm, 87, rfl⟩
abbrev main_v64 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v65 : Ref sig .tc := ⟨.hbm, 97, rfl⟩
abbrev main_v66 : Ref sig .tc := ⟨.hbm, 98, rfl⟩
abbrev main_cst_6 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v11 : BitVec 32 := Scalar.muli arg0 c1024_i32
  v11
def k0_off1 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def k0_mult2 (i : grid0.Coords) : BitVec 32 :=
  let arg0 : BitVec 32 := BitVec.ofNat 32 (i 0).val
  let c1024_i32 : BitVec 32 := 1024#32
  let v11 : BitVec 32 := Scalar.muli arg0 c1024_i32
  v11
def k0_off2 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S1x1x2048 : Shape := ⟨3, ![1, 1, 2048]⟩
abbrev S2048 : Shape := ⟨1, ![2048]⟩
abbrev S4096x8192 : Shape := ⟨2, ![4096, 8192]⟩
abbrev S_ : Shape := ⟨0, ![]⟩
abbrev S1x2048 : Shape := ⟨2, ![1, 2048]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S1x1x2048, .f32⟩
  | .hbm, ⟨5, _⟩ => ⟨S2048, .f32⟩
  | .hbm, ⟨6, _⟩ => ⟨S4096x2048, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel3.lean ====
abbrev S16x256x1024 : Shape := ⟨3, ![16, 256, 1024]⟩
abbrev S2048x2048 : Shape := ⟨2, ![2048, 2048]⟩
abbrev S16x256x2048 : Shape := ⟨3, ![16, 256, 2048]⟩
abbrev S1x1x2048 : Shape := ⟨3, ![1, 1, 2048]⟩
abbrev S2048 : Shape := ⟨1, ![2048]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 19
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S2048x2048, .f32⟩
  | .hbm, ⟨3, _⟩ => ⟨S16x256x2048, .f32⟩
  | .hbm, ⟨4, _⟩ => ⟨S1x1x2048, .f32⟩
  | .hbm, ⟨5, _⟩ => ⟨S2048, .f32⟩
  | .hbm, ⟨6, _⟩ => ⟨S2048, .f32⟩
  | .hbm, ⟨7, _⟩ => ⟨S1x1x2048, .f32⟩
  | .hbm, ⟨8, _⟩ => ⟨S1x1x2048, .f32⟩
  | .hbm, ⟨9, _⟩ => ⟨S4096x1024, .bf16⟩
  | .hbm, ⟨10, _⟩ => ⟨S4096x1024, .bf16⟩
  | .hbm, ⟨11, _⟩ => ⟨S2048x2048, .bf16⟩
  | .hbm, ⟨12, _⟩ => ⟨S4096x2048, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16x256x1024 : Shape := ⟨3, ![16, 256, 1024]⟩
abbrev S2048x2048 : Shape := ⟨2, ![2048, 2048]⟩
abbrev S16x256x2048 : Shape := ⟨3, ![16, 256, 2048]⟩
abbrev S1x1x2048 : Shape := ⟨3, ![1, 1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x256x1024, .bf16⟩
  | .hbm, ⟨1, _⟩ => ⟨S16x256x1024, .bf16⟩
  | .hbm, ⟨2, _⟩ => ⟨S2048x2048, .f32⟩
  | .hbm, ⟨3, _⟩ => ⟨S16x256x2048, .f32⟩
  | .hbm, ⟨4, _⟩ => ⟨S1x1x2048, .f32⟩
  | .hbm, ⟨5, _⟩ => ⟨S2048, .f32⟩
  | .hbm, ⟨6, _⟩ => ⟨S2048, .f32⟩
  | .hbm, ⟨7, _⟩ => ⟨S1x1x2048, .f32⟩
  | .hbm, ⟨8, _⟩ => ⟨S1x1x2048, .f32⟩
  | .hbm, ⟨9, _⟩ => ⟨S16x256x1024, .f32⟩
  | .hbm, ⟨10, _⟩ => ⟨S16x256x1024, .f32⟩
  | .hbm, ⟨11, _⟩ => ⟨S16x256x2048, .f32⟩
  | .hbm, ⟨12, _⟩ => ⟨S16x256x2048, .f32⟩
  | .hbm, ⟨13, _⟩ => ⟨S16x256x2048, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x2048, .f32⟩
  | .hbm, ⟨25, _⟩ => ⟨S16x256x2048, .f32⟩
  | .hbm, ⟨26, _⟩ => ⟨S1x1x2048, .f32⟩
  | .hbm, ⟨27, _⟩ => ⟨S16x256x2048, .f32⟩
  | .hbm, ⟨28, _⟩ => ⟨S16x256x2048, .f32⟩
  | .hbm, ⟨29, _⟩ => ⟨S16x256x2048, .f32⟩
  | .hbm, ⟨30, _⟩ => ⟨S16x256x2048, .f32⟩
  | .hbm, ⟨31, _⟩ => ⟨S16x256x2048, .f32⟩
  | .hbm, ⟨32, _⟩ => ⟨S16x256x2048, .f32⟩
  | .hbm, ⟨33, _⟩ => ⟨S_, .f32⟩
  | .hbm, ⟨34, _⟩ => ⟨S16x256, .f32⟩
  | .hbm, ⟨35, _⟩ => ⟨S16x256x1, .f32⟩
  | .hbm, ⟨36, _⟩ => ⟨S_, .f32⟩
  | .hbm, ⟨37, _⟩ => ⟨S16x256x1, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S16x256x1, .f32⟩
  | .hbm, ⟨43, _⟩ => ⟨S16x256x2048, .f32⟩
  | .hbm, ⟨44, _⟩ => ⟨S16x256x2048, .f32⟩
  | .hbm, ⟨45, _⟩ => ⟨S1x1x2048, .f32⟩
  | .hbm, ⟨46, _⟩ => ⟨S16x256x2048, .f32⟩
  | .hbm, ⟨47, _⟩ => ⟨S16x256x2048, .f32⟩
  | .hbm, ⟨48, _⟩ => ⟨S_, .f32⟩
  | .hbm, ⟨49, _⟩ => ⟨S1x1x2048, .f32⟩
  | .hbm, ⟨50, _⟩ => ⟨S1x1x2048, .f32⟩
  | .hbm, ⟨51, _⟩ => ⟨S16x256x2048, .f32⟩
  | .hbm, ⟨52, _⟩ => ⟨S16x256x2048, .f32⟩
  | .hbm, ⟨53, _⟩ => ⟨S16x256x2048, .f32⟩
  | .hbm, ⟨54, _⟩ => ⟨S16x256x2048, .f32⟩
  | .hbm, ⟨55, _⟩ => ⟨S4096x2048, .f32⟩
  | .hbm, ⟨56, _⟩ => ⟨S4096x2048, .f32⟩
  | .hbm, ⟨57, _⟩ => ⟨S4096x2048, .bf16⟩
  | _, _ => ⟨S16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S8192x2048 : Shape := ⟨2, ![8192, 2048]⟩
abbrev S2x1x2048 : Shape := ⟨3, ![2, 1, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1x1x2048 : Shape := ⟨3, ![1, 1, 2048]⟩
abbrev S_ : Shape := ⟨0, ![]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S2x1x2048, .f32⟩
  | .hbm, ⟨5, _⟩ => ⟨S2048, .f32⟩
  | .hbm, ⟨6, _⟩ => ⟨S1x2048, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v11 : BitVec 32 := Scalar.muli arg0 c1024_i32
  v11
def k0_off1 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def k0_mult2 (i : grid0.Coords) : BitVec 32 :=
  let arg0 : BitVec 32 := BitVec.ofNat 32 (i 0).val
  let c1024_i32 : BitVec 32 := 1024#32
  let v11 : BitVec 32 := Scalar.muli arg0 c1024_i32
  v11
def k0_off2 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x2048 : Shape := ⟨2, ![4096, 2048]⟩
abbrev S2048x8192 : Shape := ⟨2, ![2048, 8192]⟩
abbrev S8192x2048 : Shape := ⟨2, ![8192, 2048]⟩
abbrev S2x1x2048 : Shape := ⟨3, ![2, 1, 2048]⟩
abbrev S2048 : Shape := ⟨1, ![2048]⟩
abbrev S2x2048x2048 : Shape := ⟨3, ![2, 2048, 2048]⟩
abbrev S2x2048x8192 : Shape := ⟨3, ![2, 2048, 8192]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S2x1x2048, .f32⟩
  | .hbm, ⟨5, _⟩ => ⟨S2048, .f32⟩
  | .hbm, ⟨6, _⟩ => ⟨S4096x2048, .f32⟩
  | .hbm, ⟨7, _⟩ => ⟨S2x2048x2048, .f32⟩
  | .hbm, ⟨8, _⟩ => ⟨S2x2048x8192, .f32⟩
  | .hbm, ⟨9, _⟩ => ⟨S_, .f32⟩
  | .hbm, ⟨10, _⟩ => ⟨S2x2048x8192, .f32⟩
  | .hbm, ⟨11, _⟩ => ⟨S2x2048x8192, .f32⟩
  | .hbm, ⟨12, _⟩ => ⟨S2x2048x8192, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x2048, .f32⟩
  | .hbm, ⟨27, _⟩ => ⟨S2x2048x2048, .f32⟩
  | .hbm, ⟨28, _⟩ => ⟨S1x1x2048, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel5.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S2x12288 : Shape := ⟨2, ![2, 12288]⟩

abbrev nBuf : Space → Nat
  | .hbm => 16
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S1x12288, .f32⟩
  | .hbm, ⟨13, _⟩ => ⟨S8x12288, .f32⟩
  | .hbm, ⟨14, _⟩ => ⟨S1x12288, .f32⟩
  | .hbm, ⟨15, _⟩ => ⟨S2x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S1x2048 : Shape := ⟨2, ![1, 2048]⟩
abbrev S_ : Shape := ⟨0, ![]⟩
abbrev S1x12288 : Shape := ⟨2, ![1, 12288]⟩
abbrev S2x12288 : Shape := ⟨2, ![2, 12288]⟩

abbrev nBuf : Space → Nat
  | .hbm => 30
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x12288, .f32⟩
  | .hbm, ⟨15, _⟩ => ⟨S1x12288, .f32⟩
  | .hbm, ⟨16, _⟩ => ⟨S1x12288, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S2x12288, .f32⟩
  | .hbm, ⟨27, _⟩ => ⟨S1x12288, .f32⟩
  | .hbm, ⟨28, _⟩ => ⟨S2x12288, .f32⟩
  | .hbm, ⟨29, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel6.lean ====
abbrev S4096x6144 : Shape := ⟨2, ![4096, 6144]⟩
abbrev S3x3x2048 : Shape := ⟨3, ![3, 3, 2048]⟩
abbrev S2048 : Shape := ⟨1, ![2048]⟩
abbrev S9x2048 : Shape := ⟨2, ![9, 2048]⟩
abbrev S1x2048 : Shape := ⟨2, ![1, 2048]⟩
abbrev S4096x2048 : Shape := ⟨2, ![4096, 2048]⟩
abbrev S2048x256 : Shape := ⟨2, ![2048, 256]⟩
abbrev S9x256 : Shape := ⟨2, ![9, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x6144, .f32⟩
  | .hbm, ⟨1, _⟩ => ⟨S3x3x2048, .f32⟩
  | .hbm, ⟨2, _⟩ => ⟨S2048, .f32⟩
  | .hbm, ⟨3, _⟩ => ⟨S9x2048, .f32⟩
  | .hbm, ⟨4, _⟩ => ⟨S1x2048, .f32⟩
  | .hbm, ⟨5, _⟩ => ⟨S4096x2048, .f32⟩
  | .local _ .vmem, ⟨0, _⟩ => ⟨S2048x256, .f32⟩
  | .local _ .vmem, ⟨1, _⟩ => ⟨S2048x256, .f32⟩
  | .local _ .vmem, ⟨2, _⟩ => ⟨S9x256, .f32⟩
  | .local _ .vmem, ⟨3, _⟩ => ⟨S9x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x6144 : Shape := ⟨2, ![4096, 6144]⟩
abbrev S3x3x2048 : Shape := ⟨3, ![3, 3, 2048]⟩
abbrev S2048 : Shape := ⟨1, ![2048]⟩
abbrev S4096x2048 : Shape := ⟨2, ![4096, 2048]⟩
abbrev S2x2048x2048 : Shape := ⟨3, ![2, 2048, 2048]⟩
abbrev S2x32x64x2048 : Shape := ⟨4, ![2, 32, 64, 2048]⟩
abbrev S_ : Shape := ⟨0, ![]⟩
abbrev S2x34x66x2048 : Shape := ⟨4, ![2, 34, 66, 2048]⟩
abbrev S1x2x32x64x2048 : Shape := ⟨5, ![1, 2, 32, 64, 2048]⟩
abbrev S9x2x32x64x2048 : Shape := ⟨5, ![9, 2, 32, 64, 2048]⟩
abbrev S9x1x1x1x2048 : Shape := ⟨5, ![9, 1, 1, 1, 2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x3x2048, .f32⟩
  | .hbm, ⟨2, _⟩ => ⟨S2048, .f32⟩
  | .hbm, ⟨3, _⟩ => ⟨S4096x2048, .f32⟩
  | .hbm, ⟨4, _⟩ => ⟨S2x2048x2048, .f32⟩
  | .hbm, ⟨5, _⟩ => ⟨S2x32x64x2048, .f32⟩
  | .hbm, ⟨6, _⟩ => ⟨S_, .i32⟩
  | .hbm, ⟨7, _⟩ => ⟨S_, .f32⟩
  | .hbm, ⟨8, _⟩ => ⟨S2x34x66x2048, .f32⟩
  | .hbm, ⟨9, _⟩ => ⟨S2x32x64x2048, .f32⟩
  | .hbm, ⟨10, _⟩ => ⟨S2x32x64x2048, .f32⟩
  | .hbm, ⟨11, _⟩ => ⟨S2x32x64x2048, .f32⟩
  | .hbm, ⟨12, _⟩ => ⟨S2x32x64x2048, .f32⟩
  | .hbm, ⟨13, _⟩ => ⟨S2x32x64x2048, .f32⟩
  | .hbm, ⟨14, _⟩ => ⟨S2x32x64x2048, .f32⟩
  | .hbm, ⟨15, _⟩ => ⟨S2x32x64x2048, .f32⟩
  | .hbm, ⟨16, _⟩ => ⟨S2x32x64x2048, .f32⟩
  | .hbm, ⟨17, _⟩ => ⟨S2x32x64x2048, .f32⟩
  | .hbm, ⟨18, _⟩ => ⟨S1x2x32x64x2048, .f32⟩
  | .hbm, ⟨19, _⟩ => ⟨S1x2x32x64x2048, .f32⟩
  | .hbm, ⟨20, _⟩ => ⟨S1x2x32x64x2048, .f32⟩
  | .hbm, ⟨21, _⟩ => ⟨S1x2x32x64x2048, .f32⟩
  | .hbm, ⟨22, _⟩ => ⟨S1x2x32x64x2048, .f32⟩
  | .hbm, ⟨23, _⟩ => ⟨S1x2x32x64x2048, .f32⟩
  | .hbm, ⟨24, _⟩ => ⟨S1x2x32x64x2048, .f32⟩
  | .hbm, ⟨25, _⟩ => ⟨S1x2x32x64x2048, .f32⟩
  | .hbm, ⟨26, _⟩ => ⟨S1x2x32x64x2048, .f32⟩
  | .hbm, ⟨27, _⟩ => ⟨S9x2x32x64x2048, .f32⟩
  | .hbm, ⟨28, _⟩ => ⟨S9x1x1x1x2048, .f32⟩
  | .hbm, ⟨29, _⟩ => ⟨S9x2x32x64x2048, .f32⟩
  | .hbm, ⟨30, _⟩ => ⟨S9x2x32x64x2048, .f32⟩
  | .hbm, ⟨31, _⟩ => ⟨S_, .f32⟩
  | .hbm, ⟨32, _⟩ => ⟨S2x32x64x2048, .f32⟩
  | .hbm, ⟨33, _⟩ => ⟨S2x2048x2048, .f32⟩
  | .hbm, ⟨34, _⟩ => ⟨S1x1x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S_, .f32⟩
  | .hbm, ⟨40, _⟩ => ⟨S2x2048x2048, .f32⟩
  | .hbm, ⟨41, _⟩ => ⟨S2x2048x2048, .f32⟩
  | .hbm, ⟨42, _⟩ => ⟨S_, .f32⟩
  | .hbm, ⟨43, _⟩ => ⟨S2x2048x2048, .f32⟩
  | .hbm, ⟨44, _⟩ => ⟨S2x2048x2048, .f32⟩
  | .hbm, ⟨45, _⟩ => ⟨S2x2048x2048, .f32⟩
  | .hbm, ⟨46, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel7.lean ====
abbrev S4096x128 : Shape := ⟨2, ![4096, 128]⟩
abbrev S2x4 : Shape := ⟨2, ![2, 4]⟩
abbrev S2x16 : Shape := ⟨2, ![2, 16]⟩
abbrev S_ : Shape := ⟨0, ![]⟩
abbrev S8 : Shape := ⟨1, ![8]⟩
abbrev S32 : Shape := ⟨1, ![32]⟩
abbrev S48 : Shape := ⟨1, ![48]⟩
abbrev S128 : Shape := ⟨1, ![128]⟩
abbrev S1x128 : Shape := ⟨2, ![1, 128]⟩
abbrev S1024x128 : Shape := ⟨2, ![1024, 128]⟩
abbrev S128x128 : Shape := ⟨2, ![128, 128]⟩
abbrev S32x128x128 : Shape := ⟨3, ![32, 128, 128]⟩
abbrev S4096x48 : Shape := ⟨2, ![4096, 48]⟩
abbrev S4096x8 : Shape := ⟨2, ![4096, 8]⟩
abbrev S32x8x128 : Shape := ⟨3, ![32, 8, 128]⟩
abbrev S32x80x128 : Shape := ⟨3, ![32, 80, 128]⟩

abbrev nBuf : Space → Nat
  | .hbm => 29
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S2x4, .f32⟩
  | .hbm, ⟨2, _⟩ => ⟨S2x4, .f32⟩
  | .hbm, ⟨3, _⟩ => ⟨S2x16, .f32⟩
  | .hbm, ⟨4, _⟩ => ⟨S2x16, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S32, .f32⟩
  | .hbm, ⟨10, _⟩ => ⟨S48, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32, .f32⟩
  | .hbm, ⟨16, _⟩ => ⟨S48, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S32x128x128, .f32⟩
  | .hbm, ⟨25, _⟩ => ⟨S4096x48, .f32⟩
  | .hbm, ⟨26, _⟩ => ⟨S4096x8, .f32⟩
  | .hbm, ⟨27, _⟩ => ⟨S32x8x128, .f32⟩
  | .hbm, ⟨28, _⟩ => ⟨S32x80x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x128 : Shape := ⟨2, ![4096, 128]⟩
abbrev S2x4 : Shape := ⟨2, ![2, 4]⟩
abbrev S2x16 : Shape := ⟨2, ![2, 16]⟩
abbrev S32x128x128 : Shape := ⟨3, ![32, 128, 128]⟩
abbrev S32x128x8 : Shape := ⟨3, ![32, 128, 8]⟩
abbrev S8 : Shape := ⟨1, ![8]⟩
abbrev S1x1x8 : Shape := ⟨3, ![1, 1, 8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x128x4 : Shape := ⟨3, ![32, 128, 4]⟩
abbrev S1x128x128x1 : Shape := ⟨4, ![1, 128, 128, 1]⟩
abbrev S32x1x128x4 : Shape := ⟨4, ![32, 1, 128, 4]⟩
abbrev S32x128x128x4 : Shape := ⟨4, ![32, 128, 128, 4]⟩
abbrev S32x128x32 : Shape := ⟨3, ![32, 128, 32]⟩
abbrev S32 : Shape := ⟨1, ![32]⟩
abbrev S1x1x32 : Shape := ⟨3, ![1, 1, 32]⟩
abbrev S32x128x16 : Shape := ⟨3, ![32, 128, 16]⟩
abbrev S32x1x128x16 : Shape := ⟨4, ![32, 1, 128, 16]⟩
abbrev S32x128x128x16 : Shape := ⟨4, ![32, 128, 128, 16]⟩
abbrev S32x1x16 : Shape := ⟨3, ![32, 1, 16]⟩
abbrev S32x1x32 : Shape := ⟨3, ![32, 1, 32]⟩
abbrev S32x128x48 : Shape := ⟨3, ![32, 128, 48]⟩
abbrev S32x128x80 : Shape := ⟨3, ![32, 128, 80]⟩
abbrev S4096x48 : Shape := ⟨2, ![4096, 48]⟩
abbrev S4096x8 : Shape := ⟨2, ![4096, 8]⟩
abbrev S32x8x128 : Shape := ⟨3, ![32, 8, 128]⟩
abbrev S32x80x128 : Shape := ⟨3, ![32, 80, 128]⟩

abbrev nBuf : Space → Nat
  | .hbm => 175
  | .vmem => 0
  | .smem => 0
  | _ => 0

abbrev hbmTy0_0 (i : Nat) : BufTy := match i % 128 with
  | 0 => ⟨S4096x128, .f32⟩
  | 1 => ⟨S2x4, .f32⟩
  | 2 => ⟨S2x4, .f32⟩
  | 3 => ⟨S2x16, .f32⟩
  | 4 => ⟨S2x16, .f32⟩
  | 5 => ⟨S32x128x128, .f32⟩
  | 6 => ⟨S32x128x8, .f32⟩
  | 7 => ⟨S8, .f32⟩
  | 8 => ⟨S1x1x8, .f32⟩
  | 9 => ⟨S32x128x8, .f32⟩
  | 10 => ⟨S32x128x8, .f32⟩
  | 11 => ⟨S32x128x8, .f32⟩
  | 12 => ⟨S8, .f32⟩
  | 13 => ⟨S1x1x8, .f32⟩
  | 14 => ⟨S32x128x8, .f32⟩
  | 15 => ⟨S32x128x8, .f32⟩
  | 16 => ⟨S32x128x8, .f32⟩
  | 17 => ⟨S_, .f32⟩
  | 18 => ⟨S32x128x8, .f32⟩
  | 19 => ⟨S32x128x8, .f32⟩
  | 20 => ⟨S32x128x8, .f32⟩
  | 21 => ⟨S32x128x8, .f32⟩
  | 22 => ⟨S32x128x8, .i1⟩
  | 23 => ⟨S32x128x8, .f32⟩
  | 24 => ⟨S32x128x8, .f32⟩
  | 25 => ⟨S32x128x8, .f32⟩
  | 26 => ⟨S32x128x8, .f32⟩
  | 27 => ⟨S32x128x8, .f32⟩
  | 28 => ⟨S32x128x8, .f32⟩
  | 29 => ⟨S32x128x8, .f32⟩
  | 30 => ⟨S32x128x8, .f32⟩
  | 31 => ⟨S32x128x8, .f32⟩
  | 32 => ⟨S128, .i32⟩
  | 33 => ⟨S128x1, .i32⟩
  | 34 => ⟨S1x128, .i32⟩
  | 35 => ⟨S128x128, .i32⟩
  | 36 => ⟨S128x128, .i32⟩
  | 37 => ⟨S128x128, .i1⟩
  | 38 => ⟨S128x1, .i32⟩
  | 39 => ⟨S1x128, .i32⟩
  | 40 => ⟨S128x128, .i32⟩
  | 41 => ⟨S128x128, .i32⟩
  | 42 => ⟨S128x128, .i1⟩
  | 43 => ⟨S32x128x4, .f32⟩
  | 44 => ⟨S1x128x128x1, .i1⟩
  | 45 => ⟨S32x1x128x4, .f32⟩
  | 46 => ⟨S_, .f32⟩
  | 47 => ⟨S_, .f32⟩
  | 48 => ⟨S32x128x128x4, .i1⟩
  | 49 => ⟨S32x128x128x4, .f32⟩
  | 50 => ⟨S32x128x128x4, .f32⟩
  | 51 => ⟨S32x128x128x4, .f32⟩
  | 52 => ⟨S_, .f32⟩
  | 53 => ⟨S32x128x4, .f32⟩
  | 54 => ⟨S32x128x4, .f32⟩
  | 55 => ⟨S1x128x128x1, .i1⟩
  | 56 => ⟨S32x1x128x4, .f32⟩
  | 57 => ⟨S_, .f32⟩
  | 58 => ⟨S_, .f32⟩
  | 59 => ⟨S32x128x128x4, .i1⟩
  | 60 => ⟨S32x128x128x4, .f32⟩
  | 61 => ⟨S32x128x128x4, .f32⟩
  | 62 => ⟨S32x128x128x4, .f32⟩
  | 63 => ⟨S_, .f32⟩
  | 64 => ⟨S32x128x4, .f32⟩
  | 65 => ⟨S32x128x8, .f32⟩
  | 66 => ⟨S32x128x8, .f32⟩
  | 67 => ⟨S128, .i32⟩
  | 68 => ⟨S128x1, .i32⟩
  | 69 => ⟨S1x128, .i32⟩
  | 70 => ⟨S128x128, .i32⟩
  | 71 => ⟨S128x128, .i32⟩
  | 72 => ⟨S128x128, .i1⟩
  | 73 => ⟨S128x1, .i32⟩
  | 74 => ⟨S1x128, .i32⟩
  | 75 => ⟨S128x128, .i32⟩
  | 76 => ⟨S128x128, .i32⟩
  | 77 => ⟨S128x128, .i1⟩
  | 78 => ⟨S32x128x4, .f32⟩
  | 79 => ⟨S1x128x128x1, .i1⟩
  | 80 => ⟨S32x1x128x4, .f32⟩
  | 81 => ⟨S_, .f32⟩
  | 82 => ⟨S_, .f32⟩
  | 83 => ⟨S32x128x128x4, .i1⟩
  | 84 => ⟨S32x128x128x4, .f32⟩
  | 85 => ⟨S32x128x128x4, .f32⟩
  | 86 => ⟨S32x128x128x4, .f32⟩
  | 87 => ⟨S_, .f32⟩
  | 88 => ⟨S32x128x4, .f32⟩
  | 89 => ⟨S32x128x4, .f32⟩
  | 90 => ⟨S1x128x128x1, .i1⟩
  | 91 => ⟨S32x1x128x4, .f32⟩
  | 92 => ⟨S_, .f32⟩
  | 93 => ⟨S_, .f32⟩
  | 94 => ⟨S32x128x128x4, .i1⟩
  | 95 => ⟨S32x128x128x4, .f32⟩
  | 96 => ⟨S32x128x128x4, .f32⟩
  | 97 => ⟨S32x128x128x4, .f32⟩
  | 98 => ⟨S_, .f32⟩
  | 99 => ⟨S32x128x4, .f32⟩
  | 100 => ⟨S32x128x8, .f32⟩
  | 101 => ⟨S32x128x32, .f32⟩
  | 102 => ⟨S32, .f32⟩
  | 103 => ⟨S1x1x32, .f32⟩
  | 104 => ⟨S32x128x32, .f32⟩
  | 105 => ⟨S32x128x32, .f32⟩
  | 106 => ⟨S_, .f32⟩
  | 107 => ⟨S32x128x32, .f32⟩
  | 108 => ⟨S32x128x32, .f32⟩
  | 109 => ⟨S32x128x32, .f32⟩
  | 110 => ⟨S32x128x32, .f32⟩
  | 111 => ⟨S32x128x32, .i1⟩
  | 112 => ⟨S32x128x32, .f32⟩
  | 113 => ⟨S32x128x32, .f32⟩
  | 114 => ⟨S32x128x32, .f32⟩
  | 115 => ⟨S32x128x32, .f32⟩
  | 116 => ⟨S32x128x32, .f32⟩
  | 117 => ⟨S32x128x32, .f32⟩
  | 118 => ⟨S32x128x32, .f32⟩
  | 119 => ⟨S32x128x32, .f32⟩
  | 120 => ⟨S32, .f32⟩
  | 121 => ⟨S32, .f32⟩
  | 122 => ⟨S32, .f32⟩
  | 123 => ⟨S1x1x32, .f32⟩
  | 124 => ⟨S32x128x32, .f32⟩
  | 125 => ⟨S32x128x32, .f32⟩
  | 126 => ⟨S128, .i32⟩
  | 127 => ⟨S128x1, .i32⟩
  | _ => ⟨S4096x128, .f32⟩

abbrev hbmTy0_1 (i : Nat) : BufTy := match i % 128 with
  | 0 => ⟨S1x128, .i32⟩
  | 1 => ⟨S128x128, .i32⟩
  | 2 => ⟨S128x128, .i32⟩
  | 3 => ⟨S128x128, .i1⟩
  | 4 => ⟨S128x1, .i32⟩
  | 5 => ⟨S1x128, .i32⟩
  | 6 => ⟨S128x128, .i32⟩
  | 7 => ⟨S128x128, .i32⟩
  | 8 => ⟨S128x128, .i1⟩
  | 9 => ⟨S32x128x16, .f32⟩
  | 10 => ⟨S1x128x128x1, .i1⟩
  | 11 => ⟨S32x1x128x16, .f32⟩
  | 12 => ⟨S_, .f32⟩
  | 13 => ⟨S_, .f32⟩
  | 14 => ⟨S32x128x128x16, .i1⟩
  | 15 => ⟨S32x128x128x16, .f32⟩
  | 16 => ⟨S32x128x128x16, .f32⟩
  | 17 => ⟨S32x128x128x16, .f32⟩
  | 18 => ⟨S_, .f32⟩
  | 19 => ⟨S32x128x16, .f32⟩
  | 20 => ⟨S32x128x16, .f32⟩
  | 21 => ⟨S1x128x128x1, .i1⟩
  | 22 => ⟨S32x1x128x16, .f32⟩
  | 23 => ⟨S_, .f32⟩
  | 24 => ⟨S_, .f32⟩
  | 25 => ⟨S32x128x128x16, .i1⟩
  | 26 => ⟨S32x128x128x16, .f32⟩
  | 27 => ⟨S32x128x128x16, .f32⟩
  | 28 => ⟨S32x128x128x16, .f32⟩
  | 29 => ⟨S_, .f32⟩
  | 30 => ⟨S32x128x16, .f32⟩
  | 31 => ⟨S32x128x32, .f32⟩
  | 32 => ⟨S32x1x16, .f32⟩
  | 33 => ⟨S32x1x16, .f32⟩
  | 34 => ⟨S32x1x32, .f32⟩
  | 35 => ⟨S32x128x32, .f32⟩
  | 36 => ⟨S32x128x32, .f32⟩
  | 37 => ⟨S32x128x32, .f32⟩
  | 38 => ⟨S32x128x32, .f32⟩
  | 39 => ⟨S32x128x48, .f32⟩
  | 40 => ⟨S32x128x32, .f32⟩
  | 41 => ⟨S32x128x32, .f32⟩
  | 42 => ⟨S32x128x80, .f32⟩
  | 43 => ⟨S4096x48, .f32⟩
  | 44 => ⟨S4096x8, .f32⟩
  | 45 => ⟨S32x8x128, .f32⟩
  | 46 => ⟨S32x80x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_v49 : Ref sig .tc := ⟨.hbm, 86, rfl⟩
abbrev main_cst_4 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_5 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_v54 : Ref sig .tc := ⟨.hbm, 97, rfl⟩
abbrev main_cst_6 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_call5_cst : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_v6 : Ref sig .tc := ⟨.hbm, 113, rfl⟩
abbrev main_call5_v7 : Ref sig .tc := ⟨.hbm, 114, rfl⟩
abbrev main_call5_v8 : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_7 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_v83 : Ref sig .tc := ⟨.hbm, 145, rfl⟩
abbrev main_cst_8 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_9 : Ref sig .tc := ⟨.hbm, 151, rfl⟩
abbrev main_call7_v0 : Ref sig .tc := ⟨.hbm, 152, rfl⟩
abbrev main_call7_v1 : Ref sig .tc := ⟨.hbm, 153, rfl⟩
abbrev main_call7_v2 : Ref sig .tc := ⟨.hbm, 154, rfl⟩
abbrev main_call7_v3 : Ref sig .tc := ⟨.hbm, 155, rfl⟩
abbrev main_v88 : Ref sig .tc := ⟨.hbm, 156, rfl⟩
abbrev main_cst_10 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩

abbrev nD : Nat := 1
abbrev τ : Topo := Topo.v7x

variable {F : FTy → Type} [FloatOps F]
-- ==== Kernel8.lean ====
abbrev S2x2048x1024 : Shape := ⟨3, ![2, 2048, 1024]⟩
abbrev S2048x2048 : Shape := ⟨2, ![2048, 2048]⟩
abbrev S2x2048x2048 : Shape := ⟨3, ![2, 2048, 2048]⟩
abbrev S2x1x2048 : Shape := ⟨3, ![2, 1, 2048]⟩
abbrev S2048 : Shape := ⟨1, ![2048]⟩
abbrev S4096x1024 : Shape := ⟨2, ![4096, 1024]⟩
abbrev S4096x2048 : Shape := ⟨2, ![4096, 2048]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 19
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S2048x2048, .f32⟩
  | .hbm, ⟨3, _⟩ => ⟨S2x2048x2048, .f32⟩
  | .hbm, ⟨4, _⟩ => ⟨S2x1x2048, .f32⟩
  | .hbm, ⟨5, _⟩ => ⟨S2048, .f32⟩
  | .hbm, ⟨6, _⟩ => ⟨S2048, .f32⟩
  | .hbm, ⟨7, _⟩ => ⟨S2x1x2048, .f32⟩
  | .hbm, ⟨8, _⟩ => ⟨S2x1x2048, .f32⟩
  | .hbm, ⟨9, _⟩ => ⟨S4096x1024, .bf16⟩
  | .hbm, ⟨10, _⟩ => ⟨S4096x1024, .bf16⟩
  | .hbm, ⟨11, _⟩ => ⟨S2048x2048, .bf16⟩
  | .hbm, ⟨12, _⟩ => ⟨S4096x2048, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S2x2048x1024 : Shape := ⟨3, ![2, 2048, 1024]⟩
abbrev S2048x2048 : Shape := ⟨2, ![2048, 2048]⟩
abbrev S2x2048x2048 : Shape := ⟨3, ![2, 2048, 2048]⟩
abbrev S2x1x2048 : Shape := ⟨3, ![2, 1, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S2048x2048, .f32⟩
  | .hbm, ⟨3, _⟩ => ⟨S2x2048x2048, .f32⟩
  | .hbm, ⟨4, _⟩ => ⟨S2x1x2048, .f32⟩
  | .hbm, ⟨5, _⟩ => ⟨S2048, .f32⟩
  | .hbm, ⟨6, _⟩ => ⟨S2048, .f32⟩
  | .hbm, ⟨7, _⟩ => ⟨S2x1x2048, .f32⟩
  | .hbm, ⟨8, _⟩ => ⟨S2x1x2048, .f32⟩
  | .hbm, ⟨9, _⟩ => ⟨S2x2048x1024, .f32⟩
  | .hbm, ⟨10, _⟩ => ⟨S2x2048x1024, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x2048, .f32⟩
  | .hbm, ⟨25, _⟩ => ⟨S2x2048x2048, .f32⟩
  | .hbm, ⟨26, _⟩ => ⟨S1x1x2048, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x2048, .f32⟩
  | .hbm, ⟨44, _⟩ => ⟨S2x2048x2048, .f32⟩
  | .hbm, ⟨45, _⟩ => ⟨S1x1x2048, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x1x2048, .f32⟩
  | .hbm, ⟨50, _⟩ => ⟨S2x1x2048, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S2x2048x2048, .f32⟩
  | .hbm, ⟨55, _⟩ => ⟨S4096x2048, .f32⟩
  | .hbm, ⟨56, _⟩ => ⟨S4096x2048, .f32⟩
  | .hbm, ⟨57, _⟩ => ⟨S4096x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel9.lean ====
abbrev S2x2048x2048 : Shape := ⟨3, ![2, 2048, 2048]⟩
abbrev S2x1x2048 : Shape := ⟨3, ![2, 1, 2048]⟩
abbrev S2048 : Shape := ⟨1, ![2048]⟩
abbrev S2048x6192 : Shape := ⟨2, ![2048, 6192]⟩
abbrev S6192x2048 : Shape := ⟨2, ![6192, 2048]⟩
abbrev S16x2048 : Shape := ⟨2, ![16, 2048]⟩
abbrev S32x2048 : Shape := ⟨2, ![32, 2048]⟩
abbrev S48x2048 : Shape := ⟨2, ![48, 2048]⟩
abbrev S_ : Shape := ⟨0, ![]⟩
abbrev S128x2048 : Shape := ⟨2, ![128, 2048]⟩
abbrev S4096x2048 : Shape := ⟨2, ![4096, 2048]⟩
abbrev S1x2048 : Shape := ⟨2, ![1, 2048]⟩
abbrev S4096x6144 : Shape := ⟨2, ![4096, 6144]⟩
abbrev S4096x128 : Shape := ⟨2, ![4096, 128]⟩
abbrev S1024x2048 : Shape := ⟨2, ![1024, 2048]⟩
abbrev S1x1x2048 : Shape := ⟨3, ![1, 1, 2048]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x6192, .f32⟩
  | .hbm, ⟨5, _⟩ => ⟨S6192x2048, .f32⟩
  | .hbm, ⟨6, _⟩ => ⟨S6192x2048, .bf16⟩
  | .hbm, ⟨7, _⟩ => ⟨S16x2048, .bf16⟩
  | .hbm, ⟨8, _⟩ => ⟨S32x2048, .bf16⟩
  | .hbm, ⟨9, _⟩ => ⟨S48x2048, .bf16⟩
  | .hbm, ⟨10, _⟩ => ⟨S_, .i32⟩
  | .hbm, ⟨11, _⟩ => ⟨S_, .bf16⟩
  | .hbm, ⟨12, _⟩ => ⟨S128x2048, .bf16⟩
  | .hbm, ⟨13, _⟩ => ⟨S4096x2048, .f32⟩
  | .hbm, ⟨14, _⟩ => ⟨S1x2048, .f32⟩
  | .hbm, ⟨15, _⟩ => ⟨S4096x6144, .f32⟩
  | .hbm, ⟨16, _⟩ => ⟨S4096x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S128x2048, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32_0 : BitVec 32 := 0#32
  let v5 : BitVec 1 := Scalar.cmpi .eq arg1 c0_i32_0
  let v6 : BitVec 32 := Scalar.extui v5
  let c0_i32_1 : BitVec 32 := 0#32
  let v7 : BitVec 1 := Scalar.cmpi .ne v6 c0_i32_1
  v7

def k0_cond2 (i : grid0.Coords) : BitVec 1 :=
  let arg1 : BitVec 32 := BitVec.ofNat 32 (i 1).val
  let c0_i32 : BitVec 32 := 0#32
  let v0 : BitVec 1 := Scalar.cmpi .sgt arg1 c0_i32
  let c2_i32 : BitVec 32 := 2#32
  let v1 : BitVec 1 := Scalar.cmpi .ne arg1 c2_i32
  let v2 : BitVec 1 := Scalar.andi v0 v1
  let c3_i32 : BitVec 32 := 3#32
  let v3 : BitVec 1 := Scalar.cmpi .ne arg1 c3_i32
  let v4 : BitVec 1 := Scalar.andi v2 v3
  let v8 : BitVec 32 := Scalar.extui v4
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c2_i32_3 : BitVec 32 := 2#32
  let v10 : BitVec 1 := Scalar.cmpi .eq arg1 c2_i32_3
  let c3_i32_4 : BitVec 32 := 3#32
  let v11 : BitVec 1 := Scalar.cmpi .eq arg1 c3_i32_4
  let v12 : BitVec 1 := Scalar.ori v10 v11
  let v13 : BitVec 32 := Scalar.extui v12
  let c0_i32_5 : BitVec 32 := 0#32
  let v14 : BitVec 1 := Scalar.cmpi .ne v13 c0_i32_5
  v14

def k0_cond4 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c3_i32 : BitVec 32 := 3#32
  let v1 : BitVec 1 := Scalar.cmpi .sge arg1 c3_i32
  let v2 : BitVec 32 := Scalar.extui v1
  let v3 : BitVec 32 := Scalar.addi v0 v2
  let c16_i32 : BitVec 32 := 16#32
  let v4 : BitVec 32 := Scalar.muli v3 c16_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S2x2048x2048 : Shape := ⟨3, ![2, 2048, 2048]⟩
abbrev S2x1x2048 : Shape := ⟨3, ![2, 1, 2048]⟩
abbrev S2048 : Shape := ⟨1, ![2048]⟩
abbrev S2048x6192 : Shape := ⟨2, ![2048, 6192]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x2048x6192 : Shape := ⟨3, ![2, 2048, 6192]⟩
abbrev S2x2048x512 : Shape := ⟨3, ![2, 2048, 512]⟩
abbrev S2x2048x1024 : Shape := ⟨3, ![2, 2048, 1024]⟩
abbrev S2x2048x8 : Shape := ⟨3, ![2, 2048, 8]⟩
abbrev S2x2048x32 : Shape := ⟨3, ![2, 2048, 32]⟩
abbrev S2x2048x6144 : Shape := ⟨3, ![2, 2048, 6144]⟩
abbrev S2x2048x80 : Shape := ⟨3, ![2, 2048, 80]⟩
abbrev S2x2048x128 : Shape := ⟨3, ![2, 2048, 128]⟩
abbrev S4096x6144 : Shape := ⟨2, ![4096, 6144]⟩
abbrev S4096x128 : Shape := ⟨2, ![4096, 128]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x6192, .f32⟩
  | .hbm, ⟨5, _⟩ => ⟨S2x2048x2048, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x2048, .f32⟩
  | .hbm, ⟨17, _⟩ => ⟨S2x2048x2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S2x2048x6192, .f32⟩
  | .hbm, ⟨29, _⟩ => ⟨S2x2048x512, .f32⟩
  | .hbm, ⟨30, _⟩ => ⟨S2x2048x512, .f32⟩
  | .hbm, ⟨31, _⟩ => ⟨S2x2048x1024, .f32⟩
  | .hbm, ⟨32, _⟩ => ⟨S2x2048x1024, .f32⟩
  | .hbm, ⟨33, _⟩ => ⟨S2x2048x8, .f32⟩
  | .hbm, ⟨34, _⟩ => ⟨S2x2048x8, .f32⟩
  | .hbm, ⟨35, _⟩ => ⟨S2x2048x1024, .f32⟩
  | .hbm, ⟨36, _⟩ => ⟨S2x2048x2048, .f32⟩
  | .hbm, ⟨37, _⟩ => ⟨S2x2048x32, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x6144, .f32⟩
  | .hbm, ⟨56, _⟩ => ⟨S_, .f32⟩
  | .hbm, ⟨57, _⟩ => ⟨S2x2048x80, .f32⟩
  | .hbm, ⟨58, _⟩ => ⟨S2x2048x128, .f32⟩
  | .hbm, ⟨59, _⟩ => ⟨S4096x6144, .f32⟩
  | .hbm, ⟨60, _⟩ => ⟨S4096x128, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.InProj.Spec.lean ====
module

public import Idealize.ShloMosaic.Lib.Pointwise
public import Idealize.ShloMosaic.Lib.IdealHost

/-! # What the input projection computes, number by number

The normalised, modulated row of one token, its products with the columns of the projection,
and the two functions applied to them, over the extended reals. Both programs are compared with these. -/

@[expose] public section

set_option maxRecDepth 16384

noncomputable section

namespace Cert.InProj

open Idealize.ShloMosaic Idealize.ShloMosaic.TcCoe Idealize.SL.Sem

/-- One entry of a token's row after the norm, the gain, the scale and the shift. -/
def unorm (x g sc sh : Fin 2048 → EReal) (k : Fin 2048) : EReal :=
  x k * Ideal.rsqrt (Ideal.div (∑ l : Fin 2048, x l * x l) (Ideal.ofBits .f32 0x45000000#32) + Ideal.ofBits .f32 0x358637BD#32)
    * g k * (1 + sc k) + sh k

/-- The product of a token's row with one column of the projection. -/
def lin (u w : Fin 2048 → EReal) : EReal := ∑ k : Fin 2048, u k * w k

/-- The logistic function. -/
def sgm (a : EReal) : EReal := Ideal.div 1 (1 + Ideal.exp (-a))

/-- A number times its logistic. -/
def silu (a : EReal) : EReal := a * sgm a

/-- The denominator of the logistic is never zero. -/
theorem one_add_exp_ne_zero (a : EReal) : 1 + Ideal.exp a ≠ 0 := by
  have h : 0 ≤ Ideal.exp a := by
    induction a with
    | bot => exact le_refl _
    | top => exact le_top
    | coe r => exact EReal.coe_nonneg.mpr (Real.exp_pos r).le
  exact (lt_of_lt_of_le zero_lt_one (le_add_of_nonneg_right h)).ne'

/-- Dividing a number by the logistic's denominator is multiplying it by its logistic. -/
theorem div_eq_silu (a : EReal) : Ideal.div a (1 + Ideal.exp (0 - a)) = silu a := by
  rw [sub_eq_add_neg, zero_add]
  exact (Ideal.mul_one_div (one_add_exp_ne_zero _)).symm

/-- The three taps of the horizontal convolution along one row of the grid, and the bias. -/
def tap3 (w0 w1 w2 l c r b : EReal) : EReal := w0 * l + w1 * c + w2 * r + b

/-! ## The whole layer's entries

`P b s n` is the product of token `s` of row `b` with column `n` of the projection. -/

/-- The convolution along a grid row of 256 tokens: zero beyond both ends. -/
def convAt (P : Fin 16 → Fin 256 → Fin 6192 → EReal) (taps : Fin 3 → Fin 3 → Fin 2048 → EReal) (bias : Fin 2048 → EReal)
    (b : Fin 16) (s : Fin 256) (n : Fin 2048) : EReal :=
  tap3 (taps 1 0 n) (taps 1 1 n) (taps 1 2 n)
    (if s.val = 0 then 0 else P b ⟨(s.val + 255) % 256, Nat.mod_lt _ (by decide)⟩ ⟨4112 + n.val, by omega⟩)
    (P b s ⟨4112 + n.val, by omega⟩)
    (if s.val = 255 then 0 else P b ⟨(s.val + 1) % 256, Nat.mod_lt _ (by decide)⟩ ⟨4112 + n.val, by omega⟩)
    (bias n)

/-- The main result's entry: three plain parts, two gates, and the convolved part. -/
def mainAt (P : Fin 16 → Fin 256 → Fin 6192 → EReal) (taps : Fin 3 → Fin 3 → Fin 2048 → EReal) (bias : Fin 2048 → EReal)
    (b : Fin 16) (s : Fin 256) (n : Fin 6144) : EReal :=
  if h0 : n.val < 2048 then P b s ⟨n.val, by omega⟩
  else if h1 : n.val < 3072 then sgm (P b s ⟨n.val, by omega⟩)
  else if h2 : n.val < 4096 then silu (P b s ⟨n.val + 16, by omega⟩)
  else silu (convAt P taps bias b s ⟨n.val - 4096, by omega⟩)

/-- The column of the projection that a gate takes. -/
def gateCol (n : ℕ) : ℕ := if n < 16 then 3072 + n else 6144 + n

theorem gateCol_lt {n : ℕ} (h : n < 48) : gateCol n < 6192 := by unfold gateCol; split <;> omega

/-- The gates' entry: 48 columns, and zeros to the width of a register. -/
def gateAt (P : Fin 16 → Fin 256 → Fin 6192 → EReal) (b : Fin 16) (s : Fin 256) (n : Fin 128) : EReal :=
  if h : n.val < 48 then P b s ⟨gateCol n.val, gateCol_lt h⟩ else 0

end Cert.InProj

end
-- ==== Proof.InProj.Blocks.lean ====
module

public import proofs.«01_k».proof.Proof.Gen.KernelIdeal.Frame
public import proofs.«01_k».proof.Proof.InProj.Spec
public import Idealize.ShloMosaic.Lib.Pipeline.ValueKit

/-! # The blocks the windows stage, read off the call's arguments -/

@[expose] public section

set_option maxRecDepth 16384

noncomputable section

namespace Cert.KernelIdeal.InProj

open Idealize.ShloMosaic Idealize.ShloMosaic.TcCoe Idealize.SL.Sem
open Cert.KernelIdeal Cert.KernelIdeal.Gen Cert.InProj

variable (m : (ℓ : Loc nD τ sig) → Buf (Elt Ideal) ℓ)

abbrev bX (c : Dev nD) (t : Fin cfg0.N) : FVec Ideal S1024x2048 .f32 := iblk m c 0 t
abbrev bSc (c : Dev nD) (t : Fin cfg0.N) : FVec Ideal S1x1x2048 .f32 := iblk m c 1 t
abbrev bSh (c : Dev nD) (t : Fin cfg0.N) : FVec Ideal S1x1x2048 .f32 := iblk m c 2 t
abbrev bG (c : Dev nD) (t : Fin cfg0.N) : FVec Ideal S1x2048 .f32 := iblk m c 3 t
abbrev bW (c : Dev nD) (t : Fin cfg0.N) : FVec Ideal S1024x2048 .bf16 := iblk m c 4 t
abbrev bGate (c : Dev nD) (t : Fin cfg0.N) : FVec Ideal S128x2048 .bf16 := iblk m c 5 t
abbrev bTap (c : Dev nD) (t : Fin cfg0.N) : FVec Ideal S9x1024 .f32 := iblk m c 6 t
abbrev bBias (c : Dev nD) (t : Fin cfg0.N) : FVec Ideal S1x1024 .f32 := iblk m c 7 t

abbrev aX (c : Dev nD) : FVec Ideal S16x256x2048 .f32 := m ((c : Thread nD τ).loc main_arg0)
abbrev aSh (c : Dev nD) : FVec Ideal S1x1x2048 .f32 := m ((c : Thread nD τ).loc main_arg1)
abbrev aSc (c : Dev nD) : FVec Ideal S1x1x2048 .f32 := m ((c : Thread nD τ).loc main_arg2)
abbrev aG (c : Dev nD) : FVec Ideal S2048 .f32 := m ((c : Thread nD τ).loc main_arg3)
abbrev aW (c : Dev nD) : FVec Ideal S2048x6192 .f32 := m ((c : Thread nD τ).loc main_arg4)
abbrev aTap (c : Dev nD) : FVec Ideal S3x3x2048 .f32 := m ((c : Thread nD τ).loc main_arg5)
abbrev aBias (c : Dev nD) : FVec Ideal S2048 .f32 := m ((c : Thread nD τ).loc main_arg6)

/-- Where each window stands at each grid point. -/
theorem idx : ∀ t : Fin cfg0.N, win0_0.index t = ![t.val / 6, 0] ∧ win0_1.index t = ![0, 0, 0] ∧ win0_2.index t = ![0, 0, 0]
    ∧ win0_3.index t = ![0, 0] ∧ win0_4.index t = ![1024 * (t.val % 6) + (if 3 ≤ t.val % 6 then 16 else 0), 0] ∧ win0_5.index t = ![0, 0]
    ∧ win0_6.index t = ![0, t.val % 6 - 4] ∧ win0_7.index t = ![0, t.val % 6 - 4]
    ∧ win0_8.index t = ![t.val / 6, t.val % 6] ∧ win0_9.index t = ![t.val / 6, 0] :=
  (by decide +kernel : ∀ t : Fin grid0.N, win0_0.index t = ![t.val / 6, 0] ∧ win0_1.index t = ![0, 0, 0] ∧ win0_2.index t = ![0, 0, 0]
    ∧ win0_3.index t = ![0, 0] ∧ win0_4.index t = ![1024 * (t.val % 6) + (if 3 ≤ t.val % 6 then 16 else 0), 0] ∧ win0_5.index t = ![0, 0]
    ∧ win0_6.index t = ![0, t.val % 6 - 4] ∧ win0_7.index t = ![0, t.val % 6 - 4]
    ∧ win0_8.index t = ![t.val / 6, t.val % 6] ∧ win0_9.index t = ![t.val / 6, 0])

/-! ## What the host code leaves in the staged arrays -/

theorem V6 (c : Dev nD) : V m c main_v6 = shapeCast S4096x2048 (aX m c) shapeCasts_S16x256x2048_S4096x2048 := by
  unfold V; simp only [hostOps0, hostOps0_1, hostOps0_2, List.flatten_cons, List.flatten_nil, List.append_nil, List.cons_append, List.nil_append]; after_results; try rfl

theorem V1 (c : Dev nD) : V m c main_v1 = truncf .bf16 (transpose S6192x2048 [1, 0] (aW m c) transposes_S2048x6192_S6192x2048_1_0) bitsLt_bf16_f32 := by
  unfold V; simp only [hostOps0, hostOps0_1, hostOps0_2, List.flatten_cons, List.flatten_nil, List.append_nil, List.cons_append, List.nil_append]; after_results; try rfl

theorem V7 (c : Dev nD) : V m c main_v7 = shapeCast S1x2048 (aG m c) shapeCasts_S2048_S1x2048 := by
  unfold V; simp only [hostOps0, hostOps0_1, hostOps0_2, List.flatten_cons, List.flatten_nil, List.append_nil, List.cons_append, List.nil_append]; after_results; try rfl

theorem V8 (c : Dev nD) : V m c main_v8 = shapeCast S9x2048 (aTap m c) shapeCasts_S3x3x2048_S9x2048 := by
  unfold V; simp only [hostOps0, hostOps0_1, hostOps0_2, List.flatten_cons, List.flatten_nil, List.append_nil, List.cons_append, List.nil_append]; after_results; try rfl

theorem V9 (c : Dev nD) : V m c main_v9 = shapeCast S1x2048 (aBias m c) shapeCasts_S2048_S1x2048 := by
  unfold V; simp only [hostOps0, hostOps0_1, hostOps0_2, List.flatten_cons, List.flatten_nil, List.append_nil, List.cons_append, List.nil_append]; after_results; try rfl

/-- The gates' rows of the weight: two runs of columns, then rows of the padding's number. -/
def gateRows (w : FVec Ideal S2048x6192 .f32) : FVec Ideal S128x2048 .bf16 :=
  let wt : FVec Ideal S6192x2048 .bf16 := truncf .bf16 (transpose S6192x2048 [1, 0] w transposes_S2048x6192_S6192x2048_1_0) bitsLt_bf16_f32
  pad S128x2048 ![0, 0] ![80, 0] ![0, 0]
    (concatenate S48x2048 0 [⟨S16x2048, extractStridedSlice S16x2048 ![3072, 0] wt slices_S6192x2048_S16x2048_3072_0⟩,
      ⟨S32x2048, extractStridedSlice S32x2048 ![6160, 0] wt slices_S6192x2048_S32x2048_6160_0⟩] concatenates_S16x2048_S32x2048_S48x2048_d0)
    (sitofp .bf16 (constantI S_ 32 0#32)) pads_S48x2048_S128x2048_0800_000 h_S_

theorem V5 (c : Dev nD) : V m c main_v5 = gateRows (aW m c) := by
  unfold V; simp only [hostOps0, hostOps0_1, hostOps0_2, List.flatten_cons, List.flatten_nil, List.append_nil, List.cons_append, List.nil_append]; after_results; try rfl

theorem gateRows_at (w : FVec Ideal S2048x6192 .f32) (n : Fin 128) (l : Fin 2048) :
    (gateRows w (ix2 n l) : EReal) = if h : n.val < 48 then w (ix2 l ⟨gateCol n.val, gateCol_lt h⟩) else 0 := by
  pointwise [gateRows]
  split
  · split
    · congr 3
      unfold gateCol
      rw [if_pos ‹_›]
    · congr 3
      unfold gateCol
      rw [if_neg ‹_›]
      omega
  · show (((0#32).toInt : ℝ) : EReal) = 0
    simp

/-! ## The blocks -/

theorem bX_at (c : Dev nD) (t : Fin cfg0.N) (r : Fin 1024) (l : Fin 2048) :
    (bX m c t (ix2 r l) : EReal) = aX m c (ix3 ⟨(1024 * (t.val / 6) + r.val) / 256, by have := t.isLt; have : cfg0.N = 24 := N_0; omega⟩ ⟨(1024 * (t.val / 6) + r.val) % 256, by omega⟩ l) := by
  show (_ : EReal) = _
  have e : ((win0_0.blk t).view.emb (ix2 r l)) = (ix2 ⟨1024 * (t.val / 6) + r.val, by have := t.isLt; have : cfg0.N = 24 := N_0; omega⟩ l : S4096x2048.Idx) := by
    blk_ext [idx t]
  show V m c main_v6 ((win0_0.blk t).view.emb (ix2 r l)) = _
  rw [e, V6]
  pointwise

theorem bSc_at (c : Dev nD) (t : Fin cfg0.N) (l : Fin 2048) :
    (bSc m c t (ix3 0 0 l) : EReal) = aSc m c (ix3 0 0 l) := by
  show (_ : EReal) = _
  have e : ((win0_1.blk t).view.emb (ix3 0 0 l)) = (ix3 0 0 l : S1x1x2048.Idx) := by
    blk_ext [idx t]
  show V m c main_arg2 ((win0_1.blk t).view.emb (ix3 0 0 l)) = _
  rw [e, V_main_arg2]

theorem bSh_at (c : Dev nD) (t : Fin cfg0.N) (l : Fin 2048) :
    (bSh m c t (ix3 0 0 l) : EReal) = aSh m c (ix3 0 0 l) := by
  show (_ : EReal) = _
  have e : ((win0_2.blk t).view.emb (ix3 0 0 l)) = (ix3 0 0 l : S1x1x2048.Idx) := by
    blk_ext [idx t]
  show V m c main_arg1 ((win0_2.blk t).view.emb (ix3 0 0 l)) = _
  rw [e, V_main_arg1]

theorem bG_at (c : Dev nD) (t : Fin cfg0.N) (l : Fin 2048) :
    (bG m c t (ix2 0 l) : EReal) = aG m c (ix1 l) := by
  show (_ : EReal) = _
  have e : ((win0_3.blk t).view.emb (ix2 0 l)) = (ix2 0 l : S1x2048.Idx) := by
    blk_ext [idx t]
  show V m c main_v7 ((win0_3.blk t).view.emb (ix2 0 l)) = _
  rw [e, V7]
  pointwise

/-- The first weight row of a point's window: the element offset of the window. -/
def firstRow (j : ℕ) : ℕ := 1024 * j + (if 3 ≤ j then 16 else 0)

theorem firstRow_lt {j n : ℕ} (hj : j < 6) (hn : n < 1024) : firstRow j + n < 6192 := by
  unfold firstRow; split <;> omega

theorem bW_at (c : Dev nD) (t : Fin cfg0.N) (n : Fin 1024) (l : Fin 2048) :
    (bW m c t (ix2 n l) : EReal) = aW m c (ix2 l ⟨firstRow (t.val % 6) + n.val, firstRow_lt (Nat.mod_lt _ (by decide)) n.isLt⟩) := by
  show (_ : EReal) = _
  have e : ((win0_4.blk t).view.emb (ix2 n l)) = (ix2 ⟨firstRow (t.val % 6) + n.val, firstRow_lt (Nat.mod_lt _ (by decide)) n.isLt⟩ l : S6192x2048.Idx) := by
    have i4 := (idx t).2.2.2.2.1
    have h0 : win0_4.index t (0 : Fin 2) = firstRow (t.val % 6) := congrFun i4 (0 : Fin 2)
    have h1 : win0_4.index t (1 : Fin 2) = 0 := congrFun i4 (1 : Fin 2)
    funext a
    apply Fin.ext
    match a with
    | ⟨0, _⟩ =>
      show win0_4.index t (0 : Fin 2) + 1 * n.val = _
      rw [h0, one_mul]
      rfl
    | ⟨1, _⟩ =>
      show win0_4.index t (1 : Fin 2) + 1 * l.val = _
      rw [h1, one_mul, zero_add]
      rfl
  show V m c main_v1 ((win0_4.blk t).view.emb (ix2 n l)) = _
  rw [e, V1]
  pointwise

theorem bGate_at (c : Dev nD) (t : Fin cfg0.N) (n : Fin 128) (l : Fin 2048) :
    (bGate m c t (ix2 n l) : EReal) = gateRows (aW m c) (ix2 n l) := by
  show (_ : EReal) = _
  have e : ((win0_5.blk t).view.emb (ix2 n l)) = (ix2 n l : S128x2048.Idx) := by
    blk_ext [idx t]
  show V m c main_v5 ((win0_5.blk t).view.emb (ix2 n l)) = _
  rw [e, V5]

theorem bTap_at (c : Dev nD) (t : Fin cfg0.N) (q : Fin 9) (n : Fin 1024) :
    (bTap m c t (ix2 q n) : EReal) = aTap m c (ix3 ⟨q.val / 3, by omega⟩ ⟨q.val % 3, by omega⟩ ⟨1024 * (t.val % 6 - 4) + n.val, by omega⟩) := by
  show (_ : EReal) = _
  have e : ((win0_6.blk t).view.emb (ix2 q n)) = (ix2 q ⟨1024 * (t.val % 6 - 4) + n.val, by omega⟩ : S9x2048.Idx) := by
    blk_ext [idx t]
  show V m c main_v8 ((win0_6.blk t).view.emb (ix2 q n)) = _
  rw [e, V8]
  pointwise

theorem bBias_at (c : Dev nD) (t : Fin cfg0.N) (n : Fin 1024) :
    (bBias m c t (ix2 0 n) : EReal) = aBias m c (ix1 ⟨1024 * (t.val % 6 - 4) + n.val, by omega⟩) := by
  show (_ : EReal) = _
  have e : ((win0_7.blk t).view.emb (ix2 0 n)) = (ix2 0 ⟨1024 * (t.val % 6 - 4) + n.val, by omega⟩ : S1x2048.Idx) := by
    blk_ext [idx t]
  show V m c main_v9 ((win0_7.blk t).view.emb (ix2 0 n)) = _
  rw [e, V9]
  pointwise

end Cert.KernelIdeal.InProj

end
-- ==== Proof.InProj.Pure.lean ====
module

public import proofs.«01_k».proof.Proof.Gen.KernelIdeal.Skeleton
public import proofs.«01_k».proof.Proof.InProj.Spec

/-! # What one block of the projection's body computes, at an index -/

@[expose] public section

set_option maxRecDepth 16384

noncomputable section

namespace Cert.KernelIdeal.InProj

open Idealize.ShloMosaic Idealize.ShloMosaic.TcCoe Idealize.SL.Sem
open Cert.KernelIdeal Cert.KernelIdeal.Gen Cert.InProj

/-- The gates' block: products of the kept rows with the gate rows. -/
theorem gates_at (u : FVec Ideal S1024x2048 .bf16) (w : FVec Ideal S128x2048 .bf16) (r : Fin 1024) (n : Fin 128) :
    (k0_pay7 (F := Ideal) u w (ix2 r n) : EReal) = lin (fun k => u (ix2 r k)) (fun k => w (ix2 n k)) := by
  pointwise [k0_pay7, lin]

/-- A plain block: products of the kept rows with the weight rows. -/
theorem plain_at (u : FVec Ideal S1024x2048 .bf16) (w : FVec Ideal S1024x2048 .bf16) (r : Fin 1024) (n : Fin 1024) :
    (k0_pay5 (F := Ideal) u w (ix2 r n) : EReal) = lin (fun k => u (ix2 r k)) (fun k => w (ix2 n k)) := by
  pointwise [k0_pay5, lin]

/-- The output gate's block (column 2 of the grid): the logistic of the products. -/
theorem act2_at (i : grid0.Coords) (hi : (i 1).val = 2) (u : FVec Ideal S1024x2048 .bf16) (w : FVec Ideal S1024x2048 .bf16) (r : Fin 1024) (n : Fin 1024) :
    (k0_pay6 (F := Ideal) i u w (ix2 r n) : EReal) = sgm (lin (fun k => u (ix2 r k)) (fun k => w (ix2 n k))) := by
  pointwise [k0_pay6, lin, sgm]
  rw [hi]
  simp only [sub_eq_add_neg, zero_add]
  rfl

/-- The other gate's block (column 3 of the grid): the products times their logistic. -/
theorem act3_at (i : grid0.Coords) (hi : (i 1).val = 3) (u : FVec Ideal S1024x2048 .bf16) (w : FVec Ideal S1024x2048 .bf16) (r : Fin 1024) (n : Fin 1024) :
    (k0_pay6 (F := Ideal) i u w (ix2 r n) : EReal) = silu (lin (fun k => u (ix2 r k)) (fun k => w (ix2 n k))) := by
  pointwise [k0_pay6, lin, silu, sgm]
  rw [hi]
  simp only [sub_eq_add_neg, zero_add]
  rfl

/-- The neighbour to the left on the grid, zero at the left edge (a grid row is 256 tokens long). -/
theorem left_edge (r : Fin 1024) (a : EReal) :
    Scalar.select (IntOp.cmpi CmpIPredicate.sge (IntOp.andi (BitVec.ofNat 32 ↑r) 255#32) 1#32) a 0 = if r.val % 256 = 0 then 0 else a := by
  have e : ∀ r : Fin 1024, IntOp.cmpi CmpIPredicate.sge (IntOp.andi (BitVec.ofNat 32 ↑r) 255#32) 1#32 = if r.val % 256 = 0 then 0#1 else 1#1 := by
    decide +kernel
  rw [e r]
  split <;> rfl

theorem right_edge (r : Fin 1024) (a : EReal) :
    Scalar.select (IntOp.cmpi CmpIPredicate.sle (IntOp.andi (BitVec.ofNat 32 ↑r) 255#32) 254#32) a 0 = if r.val % 256 = 255 then 0 else a := by
  have e : ∀ r : Fin 1024, IntOp.cmpi CmpIPredicate.sle (IntOp.andi (BitVec.ofNat 32 ↑r) 255#32) 254#32 = if r.val % 256 = 255 then 0#1 else 1#1 := by
    decide +kernel
  rw [e r]
  split <;> rfl

/-- What the convolution's block holds before its activation. -/
def conv (u w : FVec Ideal S1024x2048 .bf16) (w0 w1 w2 b : FVec Ideal S1x1024 .f32) (r : Fin 1024) (n : Fin 1024) : EReal :=
  tap3 (w0 (ix2 0 n)) (w1 (ix2 0 n)) (w2 (ix2 0 n))
    (if r.val % 256 = 0 then 0 else lin (fun k => u (ix2 ⟨(r.val + 1024 - 1) % 1024, Nat.mod_lt _ (by decide)⟩ k)) (fun k => w (ix2 n k)))
    (lin (fun k => u (ix2 r k)) (fun k => w (ix2 n k)))
    (if r.val % 256 = 255 then 0 else lin (fun k => u (ix2 ⟨(r.val + 1024 - 1023) % 1024, Nat.mod_lt _ (by decide)⟩ k)) (fun k => w (ix2 n k)))
    (b (ix2 0 n))

/-- The convolution's block before its activation. -/
theorem conv_at (u : FVec Ideal S1024x2048 .bf16) (w : FVec Ideal S1024x2048 .bf16) (w0 w1 w2 b : FVec Ideal S1x1024 .f32) (r : Fin 1024) (n : Fin 1024) :
    (k0_pay8 (F := Ideal) u w w0 w1 w2 b (ix2 r n) : EReal) = conv u w w0 w1 w2 b r n := by
  pointwise [k0_pay8, conv, tap3, lin, left_edge, right_edge]

/-- The convolution's block after its activation. -/
theorem conv_silu_at (u : FVec Ideal S1024x2048 .bf16) (w : FVec Ideal S1024x2048 .bf16) (w0 w1 w2 b : FVec Ideal S1x1024 .f32) (r : Fin 1024) (n : Fin 1024) :
    (k0_pay1 (F := Ideal) (k0_pay8 u w w0 w1 w2 b) (k0_pay9 u w w0 w1 w2 b) (FloatOps.ofBits FTy.f32 1065353216#32) (ix2 r n) : EReal) = silu (conv u w w0 w1 w2 b r n) := by
  have e := conv_at u w w0 w1 w2 b r n
  pointwise [k0_pay1, k0_pay9, e]
  exact div_eq_silu _

/-- A row of the first quarter of a block after the norm. -/
theorem pay11_at (x : FVec Ideal S256x2048 .f32) (g : FVec Ideal S1x2048 .f32) (sc sh : FVec Ideal S1x1x2048 .f32) (r : Fin 256) (k : Fin 2048) :
    (k0_pay11 (F := Ideal) x g sc sh (ix2 r k) : EReal) =
      unorm (fun l => x (ix2 r l)) (fun l => g (ix2 0 l)) (fun l => sc (ix3 0 0 l)) (fun l => sh (ix3 0 0 l)) k := by
  pointwise [k0_pay11, k0_pay10, unorm]

theorem pay14_at (x : FVec Ideal S256x2048 .f32) (g : FVec Ideal S1x2048 .f32) (sc sh : FVec Ideal S1x1x2048 .f32) (r : Fin 256) (k : Fin 2048) :
    (k0_pay14 (F := Ideal) x g sc sh (ix2 r k) : EReal) =
      unorm (fun l => x (ix2 r l)) (fun l => g (ix2 0 l)) (fun l => sc (ix3 0 0 l)) (fun l => sh (ix3 0 0 l)) k := by
  pointwise [k0_pay14, k0_pay13, unorm]

theorem pay19_at (x : FVec Ideal S256x2048 .f32) (g : FVec Ideal S1x2048 .f32) (sc sh : FVec Ideal S1x1x2048 .f32) (r : Fin 256) (k : Fin 2048) :
    (k0_pay19 (F := Ideal) (k0_pay16 x) (k0_pay17 x) g sc sh (ix2 r k) : EReal) =
      unorm (fun l => x (ix2 r l)) (fun l => g (ix2 0 l)) (fun l => sc (ix3 0 0 l)) (fun l => sh (ix3 0 0 l)) k := by
  pointwise [k0_pay19, k0_pay18, k0_pay16, k0_pay17, unorm]

theorem pay3_at (x : FVec Ideal S256x2048 .f32) (g : FVec Ideal S1x2048 .f32) (sc sh : FVec Ideal S1x1x2048 .f32) (r : Fin 256) (k : Fin 2048) :
    (k0_pay3 (F := Ideal) (k0_pay21 x) (k0_pay22 x) (FloatOps.ofBits FTy.f32 1157627904#32) g sc sh (ix2 r k) : EReal) =
      unorm (fun l => x (ix2 r l)) (fun l => g (ix2 0 l)) (fun l => sc (ix3 0 0 l)) (fun l => sh (ix3 0 0 l)) k := by
  pointwise [k0_pay3, k0_pay2, k0_pay21, k0_pay22, unorm]

/-- The first block column, computed along with the norm, quarter by quarter. -/
theorem pay12_at (x : FVec Ideal S256x2048 .f32) (g : FVec Ideal S1x2048 .f32) (sc sh : FVec Ideal S1x1x2048 .f32) (w : FVec Ideal S1024x2048 .bf16) (r : Fin 256) (n : Fin 1024) :
    (k0_pay12 (F := Ideal) x g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay12, k0_pay10, unorm, lin]

theorem pay15_at (x : FVec Ideal S256x2048 .f32) (g : FVec Ideal S1x2048 .f32) (sc sh : FVec Ideal S1x1x2048 .f32) (w : FVec Ideal S1024x2048 .bf16) (r : Fin 256) (n : Fin 1024) :
    (k0_pay15 (F := Ideal) x g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay15, k0_pay13, unorm, lin]

theorem pay20_at (x : FVec Ideal S256x2048 .f32) (g : FVec Ideal S1x2048 .f32) (sc sh : FVec Ideal S1x1x2048 .f32) (w : FVec Ideal S1024x2048 .bf16) (r : Fin 256) (n : Fin 1024) :
    (k0_pay20 (F := Ideal) (k0_pay16 x) (k0_pay17 x) g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay20, k0_pay18, k0_pay16, k0_pay17, unorm, lin]

theorem pay4_at (x : FVec Ideal S256x2048 .f32) (g : FVec Ideal S1x2048 .f32) (sc sh : FVec Ideal S1x1x2048 .f32) (w : FVec Ideal S1024x2048 .bf16) (r : Fin 256) (n : Fin 1024) :
    (k0_pay4 (F := Ideal) (k0_pay21 x) (k0_pay22 x) (FloatOps.ofBits FTy.f32 1157627904#32) g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay4, k0_pay2, k0_pay21, k0_pay22, unorm, lin]

end Cert.KernelIdeal.InProj

end
-- ==== Proof.InProj.Cases.lean ====
module

public import proofs.«01_k».proof.Proof.InProj.Blocks
public import proofs.«01_k».proof.Proof.InProj.Pure
public import Idealize.ShloMosaic.Lib.Pipeline.ReadBack

/-! # What each grid point leaves in the outputs and in the kept rows -/

@[expose] public section

set_option maxRecDepth 16384

noncomputable section

namespace Cert.KernelIdeal.InProj

open Idealize.ShloMosaic Idealize.ShloMosaic.TcCoe Idealize.SL.Sem
open Cert.KernelIdeal Cert.KernelIdeal.Gen Cert.InProj

variable (m : (ℓ : Loc nD τ sig) → Buf (Elt Ideal) ℓ)

/-- The rows kept between the points, after point `n`. -/
abbrev kept (c : Dev nD) (n : ℕ) (h : n < cfg0.N) : FVec Ideal S1024x2048 .bf16 := (outsAt0 m c n h).2.2

theorem pred_lt (t : Fin cfg0.N) : t.val - 1 < cfg0.N := Nat.lt_of_le_of_lt (Nat.sub_le _ _) t.isLt

/-- The normalised rows of a point's block of tokens. -/
def urows (c : Dev nD) (t : Fin cfg0.N) (r : Fin 1024) : Fin 2048 → EReal :=
  unorm (fun l => bX m c t (ix2 r l)) (fun l => bG m c t (ix2 0 l)) (fun l => bSc m c t (ix3 0 0 l)) (fun l => bSh m c t (ix3 0 0 l))

/-- The first point of a block of tokens keeps its normalised rows. -/
theorem kept_first (c : Dev nD) (t : Fin cfg0.N) (h : t.val % 6 = 0) (r : Fin 1024) (k : Fin 2048) :
    (kept m c t.val t.isLt (ix2 r k) : EReal) = urows m c t r k := by
  unfold kept
  rw [outsAt0_A m c t (by omega) (by omega) (by omega) (by omega) (by omega)]
  frame_out
  canon_tiles x q
  · idx_vars x
    obtain rfl : r = ⟨768 + x0.val, Nat.lt_of_lt_of_le (Nat.add_lt_add_left x0.isLt 768) (by decide)⟩ := Fin.ext q0
    obtain rfl : k = x1 := Fin.ext q1
    refine (pay3_at _ _ _ _ x0 k).trans ?_
    pointwise [urows]
  · idx_vars x
    obtain rfl : r = ⟨512 + x0.val, Nat.lt_of_lt_of_le (Nat.add_lt_add_left x0.isLt 512) (by decide)⟩ := Fin.ext q0
    obtain rfl : k = x1 := Fin.ext q1
    refine (pay19_at _ _ _ _ x0 k).trans ?_
    pointwise [urows]
  · idx_vars x
    obtain rfl : r = ⟨256 + x0.val, Nat.lt_of_lt_of_le (Nat.add_lt_add_left x0.isLt 256) (by decide)⟩ := Fin.ext q0
    obtain rfl : k = x1 := Fin.ext q1
    refine (pay14_at _ _ _ _ x0 k).trans ?_
    pointwise [urows]
  · idx_vars x
    obtain rfl : r = ⟨x0.val, Nat.lt_trans x0.isLt (by decide)⟩ := Fin.ext q0
    obtain rfl : k = x1 := Fin.ext q1
    refine (pay11_at _ _ _ _ x0 k).trans ?_
    pointwise [urows]

/-- The first point of a block of tokens: the products of its rows with the first weight rows. -/
theorem out_first (c : Dev nD) (t : Fin cfg0.N) (h : t.val % 6 = 0) (r : Fin 1024) (n : Fin 1024) :
    ((outsAt0 m c t.val t.isLt).1 (ix2 r n) : EReal) = lin (urows m c t r) (fun l => bW m c t (ix2 n l)) := by
  rw [outsAt0_A m c t (by omega) (by omega) (by omega) (by omega) (by omega)]
  frame_out
  canon_tiles x q
  · idx_vars x
    obtain rfl : r = ⟨768 + x0.val, Nat.lt_of_lt_of_le (Nat.add_lt_add_left x0.isLt 768) (by decide)⟩ := Fin.ext q0
    obtain rfl : n = x1 := Fin.ext q1
    refine (pay4_at _ _ _ _ _ x0 n).trans ?_
    pointwise [urows]
  · idx_vars x
    obtain rfl : r = ⟨512 + x0.val, Nat.lt_of_lt_of_le (Nat.add_lt_add_left x0.isLt 512) (by decide)⟩ := Fin.ext q0
    obtain rfl : n = x1 := Fin.ext q1
    refine (pay20_at _ _ _ _ _ x0 n).trans ?_
    pointwise [urows]
  · idx_vars x
    obtain rfl : r = ⟨256 + x0.val, Nat.lt_of_lt_of_le (Nat.add_lt_add_left x0.isLt 256) (by decide)⟩ := Fin.ext q0
    obtain rfl : n = x1 := Fin.ext q1
    refine (pay15_at _ _ _ _ _ x0 n).trans ?_
    pointwise [urows]
  · idx_vars x
    obtain rfl : r = ⟨x0.val, Nat.lt_trans x0.isLt (by decide)⟩ := Fin.ext q0
    obtain rfl : n = x1 := Fin.ext q1
    refine (pay12_at _ _ _ _ _ x0 n).trans ?_
    pointwise [urows]

/-- The other points keep the rows as they were. -/
theorem kept_next (c : Dev nD) (t : Fin cfg0.N) (h : t.val % 6 ≠ 0) : kept m c t.val t.isLt = kept m c (t.val - 1) (pred_lt t) := by
  unfold kept
  by_cases h1 : t.val % 6 = 1
  · rw [outsAt0_B m c t (by omega) (by omega) (by omega) (by omega) (by omega)]
    rfl
  by_cases h2 : t.val % 6 = 4
  · rw [outsAt0_D m c t (by omega) (by omega) (by omega) (by omega) (by omega)]
    rfl
  by_cases h3 : t.val % 6 = 5
  · rw [outsAt0_E m c t (by omega) (by omega) (by omega) (by omega) (by omega)]
    rfl
  · rw [outsAt0_C m c t (by omega) (by omega) (by omega) (by omega) (by omega)]
    rfl

/-- The second column of the grid. -/
theorem out_1 (c : Dev nD) (t : Fin cfg0.N) (h : t.val % 6 = 1) (r : Fin 1024) (n : Fin 1024) :
    ((outsAt0 m c t.val t.isLt).1 (ix2 r n) : EReal) = lin (fun k => kept m c (t.val - 1) (pred_lt t) (ix2 r k)) (fun l => bW m c t (ix2 n l)) := by
  rw [outsAt0_B m c t (by omega) (by omega) (by omega) (by omega) (by omega)]
  frame_out
  rw [read_unread_whole]
  exact plain_at _ _ r n

theorem coord_1 : ∀ t : Fin cfg0.N, (grid0.coords t (1 : Fin 2)).val = t.val % 6 :=
  (by decide +kernel : ∀ t : Fin grid0.N, (grid0.coords t (1 : Fin 2)).val = t.val % 6)

/-- The third column of the grid: the output gate. -/
theorem out_2 (c : Dev nD) (t : Fin cfg0.N) (h : t.val % 6 = 2) (r : Fin 1024) (n : Fin 1024) :
    ((outsAt0 m c t.val t.isLt).1 (ix2 r n) : EReal) = sgm (lin (fun k => kept m c (t.val - 1) (pred_lt t) (ix2 r k)) (fun l => bW m c t (ix2 n l))) := by
  rw [outsAt0_C m c t (by omega) (by omega) (by omega) (by omega) (by omega)]
  frame_out
  rw [read_unread_whole]
  exact act2_at _ ((coord_1 t).trans h) _ _ r n

/-- The fourth column of the grid: the other gate. -/
theorem out_3 (c : Dev nD) (t : Fin cfg0.N) (h : t.val % 6 = 3) (r : Fin 1024) (n : Fin 1024) :
    ((outsAt0 m c t.val t.isLt).1 (ix2 r n) : EReal) = silu (lin (fun k => kept m c (t.val - 1) (pred_lt t) (ix2 r k)) (fun l => bW m c t (ix2 n l))) := by
  rw [outsAt0_C m c t (by omega) (by omega) (by omega) (by omega) (by omega)]
  frame_out
  rw [read_unread_whole]
  exact act3_at _ ((coord_1 t).trans h) _ _ r n

/-- The convolution's value in a block: the three middle taps of the nine. -/
def convB (c : Dev nD) (t : Fin cfg0.N) (r : Fin 1024) (n : Fin 1024) : EReal :=
  let u := kept m c (t.val - 1) (pred_lt t)
  tap3 (bTap m c t (ix2 3 n)) (bTap m c t (ix2 4 n)) (bTap m c t (ix2 5 n))
    (if r.val % 256 = 0 then 0 else lin (fun k => u (ix2 ⟨(r.val + 1024 - 1) % 1024, Nat.mod_lt _ (by decide)⟩ k)) (fun k => bW m c t (ix2 n k)))
    (lin (fun k => u (ix2 r k)) (fun k => bW m c t (ix2 n k)))
    (if r.val % 256 = 255 then 0 else lin (fun k => u (ix2 ⟨(r.val + 1024 - 1023) % 1024, Nat.mod_lt _ (by decide)⟩ k)) (fun k => bW m c t (ix2 n k)))
    (bBias m c t (ix2 0 n))

/-- The last two columns of the grid: the convolution and its activation. -/
theorem out_45 (c : Dev nD) (t : Fin cfg0.N) (h : 4 ≤ t.val % 6) (r : Fin 1024) (n : Fin 1024) :
    ((outsAt0 m c t.val t.isLt).1 (ix2 r n) : EReal) = silu (convB m c t r n) := by
  by_cases h5 : t.val % 6 = 5
  · rw [outsAt0_E m c t (by omega) (by omega) (by omega) (by omega) (by omega)]
    frame_out
    rw [read_unread_whole]
    refine (conv_silu_at _ _ _ _ _ _ r n).trans ?_
    pointwise [conv, convB]
  · rw [outsAt0_D m c t (by omega) (by omega) (by omega) (by omega) (by omega)]
    frame_out
    rw [read_unread_whole]
    refine (conv_silu_at _ _ _ _ _ _ r n).trans ?_
    pointwise [conv, convB]

/-- The gates, written at the last point of a block of tokens. -/
theorem gates_last (c : Dev nD) (t : Fin cfg0.N) (h : t.val % 6 = 5) (r : Fin 1024) (n : Fin 128) :
    ((outsAt0 m c t.val t.isLt).2.1 (ix2 r n) : EReal) = lin (fun k => kept m c (t.val - 1) (pred_lt t) (ix2 r k)) (fun l => bGate m c t (ix2 n l)) := by
  rw [outsAt0_E m c t (by omega) (by omega) (by omega) (by omega) (by omega)]
  frame_out
  rw [read_unread_whole]
  exact gates_at _ _ r n

end Cert.KernelIdeal.InProj

end
-- ==== Proof.InProj.Array.lean ====
module

public import proofs.«01_k».proof.Proof.InProj.Cases

/-! # What the two result arrays hold after the run -/

@[expose] public section

set_option maxRecDepth 16384

noncomputable section

namespace Cert.KernelIdeal.InProj

open Idealize.ShloMosaic Idealize.ShloMosaic.TcCoe Idealize.SL.Sem
open Cert.KernelIdeal Cert.KernelIdeal.Gen Cert.InProj

variable (m : (ℓ : Loc nD τ sig) → Buf (Elt Ideal) ℓ)

/-- A token's normalised row, from the arguments. -/
def tokenRow (c : Dev nD) (b : Fin 16) (s : Fin 256) : Fin 2048 → EReal :=
  unorm (fun l => aX m c (ix3 b s l)) (fun l => aG m c (ix1 l)) (fun l => aSc m c (ix3 0 0 l)) (fun l => aSh m c (ix3 0 0 l))

/-- The products of the tokens' rows with the projection's columns, from the arguments. -/
def prod (c : Dev nD) (b : Fin 16) (s : Fin 256) (n : Fin 6192) : EReal := lin (tokenRow m c b s) (fun k => aW m c (ix2 k n))

theorem batch_lt {q r : ℕ} (h : q < 24) (hr : r < 1024) : (1024 * (q / 6) + r) / 256 < 16 := by omega

abbrev bat (t : Fin cfg0.N) (r : Fin 1024) : Fin 16 := ⟨(1024 * (t.val / 6) + r.val) / 256, batch_lt (lt_of_lt_of_eq t.isLt N_0) r.isLt⟩
abbrev pos (t : Fin cfg0.N) (r : Fin 1024) : Fin 256 := ⟨(1024 * (t.val / 6) + r.val) % 256, Nat.mod_lt _ (by decide)⟩

theorem urows_at (c : Dev nD) (t : Fin cfg0.N) (r : Fin 1024) : urows m c t r = tokenRow m c (bat t r) (pos t r) := by
  unfold urows tokenRow
  simp only [bX_at, bG_at, bSc_at, bSh_at]

/-- The kept rows after any point of a block of tokens are the block's normalised rows. -/
theorem kept_at (c : Dev nD) (n : ℕ) : ∀ (h : n < cfg0.N) (r : Fin 1024) (k : Fin 2048),
    (kept m c n h (ix2 r k) : EReal) = tokenRow m c (bat ⟨n, h⟩ r) (pos ⟨n, h⟩ r) k := by
  induction n with
  | zero => exact fun h r k => (kept_first m c ⟨0, h⟩ rfl r k).trans (congrFun (urows_at m c ⟨0, h⟩ r) k)
  | succ n ih =>
    intro h r k
    by_cases h0 : (n + 1) % 6 = 0
    · exact (kept_first m c ⟨n + 1, h⟩ h0 r k).trans (congrFun (urows_at m c ⟨n + 1, h⟩ r) k)
    · have e := congrFun (kept_next m c ⟨n + 1, h⟩ h0) (ix2 r k)
      have hd : (n + 1) / 6 = n / 6 := by omega
      refine Eq.trans e ((ih (Nat.lt_of_succ_lt h) r k).trans ?_)
      simp only [bat, pos, hd]

/-- The rows a later point of the block finds. -/
theorem kept_before (c : Dev nD) (t : Fin cfg0.N) (h : t.val % 6 ≠ 0) (r : Fin 1024) (k : Fin 2048) :
    (kept m c (t.val - 1) (pred_lt t) (ix2 r k) : EReal) = tokenRow m c (bat t r) (pos t r) k := by
  refine (kept_at m c (t.val - 1) (pred_lt t) r k).trans ?_
  have hd : (t.val - 1) / 6 = t.val / 6 := by omega
  simp only [bat, pos, hd]

theorem lin_before (c : Dev nD) (t : Fin cfg0.N) (h : t.val % 6 ≠ 0) (r n : Fin 1024) :
    lin (fun k => kept m c (t.val - 1) (pred_lt t) (ix2 r k)) (fun l => bW m c t (ix2 n l))
      = prod m c (bat t r) (pos t r) ⟨firstRow (t.val % 6) + n.val, firstRow_lt (Nat.mod_lt _ (by decide)) n.isLt⟩ := by
  unfold prod
  simp only [kept_before m c t h, bW_at]

abbrev taps (c : Dev nD) : Fin 3 → Fin 3 → Fin 2048 → EReal := fun i j n => aTap m c (ix3 i j n)
abbrev bias (c : Dev nD) : Fin 2048 → EReal := fun n => aBias m c (ix1 n)

theorem convB_at (c : Dev nD) (t : Fin cfg0.N) (h : 4 ≤ t.val % 6) (r n : Fin 1024) :
    convB m c t r n = convAt (prod m c) (taps m c) (bias m c) (bat t r) (pos t r) ⟨1024 * (t.val % 6 - 4) + n.val, by omega⟩ := by
  have hN : t.val < 24 := lt_of_lt_of_eq t.isLt N_0
  have hc : firstRow (t.val % 6) + n.val = 4112 + (1024 * (t.val % 6 - 4) + n.val) := by
    unfold firstRow
    rw [if_pos (by omega)]
    omega
  have hs : (1024 * (t.val / 6) + r.val) % 256 = r.val % 256 := by omega
  unfold convB convAt tap3
  simp only [lin_before m c t (by omega), bTap_at, bBias_at, hs, hc]
  have hl : (if r.val % 256 = 0 then (0 : EReal) else prod m c (bat t ⟨(r.val + 1024 - 1) % 1024, Nat.mod_lt _ (by decide)⟩) (pos t ⟨(r.val + 1024 - 1) % 1024, Nat.mod_lt _ (by decide)⟩) ⟨4112 + (1024 * (t.val % 6 - 4) + n.val), by omega⟩)
      = if r.val % 256 = 0 then 0 else prod m c (bat t r) ⟨(r.val % 256 + 255) % 256, Nat.mod_lt _ (by decide)⟩ ⟨4112 + (1024 * (t.val % 6 - 4) + n.val), by omega⟩ := by
    by_cases h0 : r.val % 256 = 0
    · rw [if_pos h0, if_pos h0]
    · rw [if_neg h0, if_neg h0]
      congr 1
      · apply Fin.ext
        show (1024 * (t.val / 6) + (r.val + 1024 - 1) % 1024) / 256 = (1024 * (t.val / 6) + r.val) / 256
        omega
      · apply Fin.ext
        show (1024 * (t.val / 6) + (r.val + 1024 - 1) % 1024) % 256 = (r.val % 256 + 255) % 256
        omega
  have hr : (if r.val % 256 = 255 then (0 : EReal) else prod m c (bat t ⟨(r.val + 1024 - 1023) % 1024, Nat.mod_lt _ (by decide)⟩) (pos t ⟨(r.val + 1024 - 1023) % 1024, Nat.mod_lt _ (by decide)⟩) ⟨4112 + (1024 * (t.val % 6 - 4) + n.val), by omega⟩)
      = if r.val % 256 = 255 then 0 else prod m c (bat t r) ⟨(r.val % 256 + 1) % 256, Nat.mod_lt _ (by decide)⟩ ⟨4112 + (1024 * (t.val % 6 - 4) + n.val), by omega⟩ := by
    by_cases h0 : r.val % 256 = 255
    · rw [if_pos h0, if_pos h0]
    · rw [if_neg h0, if_neg h0]
      congr 1
      · apply Fin.ext
        show (1024 * (t.val / 6) + (r.val + 1024 - 1023) % 1024) / 256 = (1024 * (t.val / 6) + r.val) / 256
        omega
      · apply Fin.ext
        show (1024 * (t.val / 6) + (r.val + 1024 - 1023) % 1024) % 256 = (r.val % 256 + 1) % 256
        omega
  rw [hl, hr]
  rfl

/-- The block of the main result that a point leaves. -/
theorem out_at (c : Dev nD) (t : Fin cfg0.N) (r n : Fin 1024) :
    ((outsAt0 m c t.val t.isLt).1 (ix2 r n) : EReal)
      = mainAt (prod m c) (taps m c) (bias m c) (bat t r) (pos t r) ⟨1024 * (t.val % 6) + n.val, by omega⟩ := by
  have hn := n.isLt
  unfold mainAt
  by_cases h0 : t.val % 6 = 0
  · rw [dif_pos (by show 1024 * (t.val % 6) + n.val < 2048; omega)]
    refine (out_first m c t h0 r n).trans ?_
    unfold prod
    rw [urows_at]
    simp only [bW_at, firstRow, h0]
    rfl
  by_cases h1 : t.val % 6 = 1
  · rw [dif_pos (by show 1024 * (t.val % 6) + n.val < 2048; omega)]
    refine (out_1 m c t h1 r n).trans ((lin_before m c t h0 r n).trans ?_)
    simp only [firstRow, h1]
    rfl
  rw [dif_neg (by show ¬ 1024 * (t.val % 6) + n.val < 2048; omega)]
  by_cases h2 : t.val % 6 = 2
  · rw [dif_pos (by show 1024 * (t.val % 6) + n.val < 3072; omega)]
    refine (out_2 m c t h2 r n).trans (congrArg sgm ((lin_before m c t h0 r n).trans ?_))
    simp only [firstRow, h2]
    rfl
  rw [dif_neg (by show ¬ 1024 * (t.val % 6) + n.val < 3072; omega)]
  by_cases h3 : t.val % 6 = 3
  · rw [dif_pos (by show 1024 * (t.val % 6) + n.val < 4096; omega)]
    refine (out_3 m c t h3 r n).trans (congrArg silu ((lin_before m c t h0 r n).trans (congrArg (prod m c (bat t r) (pos t r)) (Fin.ext ?_))))
    show firstRow (t.val % 6) + n.val = 1024 * (t.val % 6) + n.val + 16
    unfold firstRow
    rw [if_pos (by omega)]
    omega
  rw [dif_neg (by show ¬ 1024 * (t.val % 6) + n.val < 4096; omega)]
  refine (out_45 m c t (by omega) r n).trans (congrArg silu ((convB_at m c t (by omega) r n).trans (congrArg (convAt (prod m c) (taps m c) (bias m c) (bat t r) (pos t r)) (Fin.ext ?_))))
  show 1024 * (t.val % 6 - 4) + n.val = 1024 * (t.val % 6) + n.val - 4096
  omega

theorem lin_zero (u : Fin 2048 → EReal) : lin u (fun _ => 0) = 0 := by
  unfold lin
  simp only [mul_zero, Finset.sum_const_zero]

/-- The block of the gates that a block of tokens' last point leaves. -/
theorem gate_at (c : Dev nD) (t : Fin cfg0.N) (h : t.val % 6 = 5) (r : Fin 1024) (n : Fin 128) :
    ((outsAt0 m c t.val t.isLt).2.1 (ix2 r n) : EReal) = gateAt (prod m c) (bat t r) (pos t r) n := by
  refine (gates_last m c t h r n).trans ?_
  unfold gateAt
  simp only [kept_before m c t (by omega), bGate_at, gateRows_at]
  by_cases hn : n.val < 48
  · simp only [dif_pos hn]
    rfl
  · simp only [dif_neg hn]
    exact lin_zero _

/-- The main result as an array. -/
def mainArr (c : Dev nD) : FVec Ideal S4096x6144 .f32 := fun y =>
  mainAt (prod m c) (taps m c) (bias m c) ⟨(y (0 : Fin 2)).val / 256, by have : (y (0 : Fin 2)).val < 4096 := (y (0 : Fin 2)).isLt; omega⟩
    ⟨(y (0 : Fin 2)).val % 256, Nat.mod_lt _ (by decide)⟩ (y (1 : Fin 2))

/-- The gates as an array. -/
def gateArr (c : Dev nD) : FVec Ideal S4096x128 .f32 := fun y =>
  gateAt (prod m c) ⟨(y (0 : Fin 2)).val / 256, by have : (y (0 : Fin 2)).val < 4096 := (y (0 : Fin 2)).isLt; omega⟩
    ⟨(y (0 : Fin 2)).val % 256, Nat.mod_lt _ (by decide)⟩ (y (1 : Fin 2))

theorem final_main (c : Dev nD) : (dats m 0 c).arrAt 8 cfg0.N = mainArr m c := by
  refine (dats m 0 c).arrAt_eq_of_covers 8 _ (by decide +kernel) fun t hf y => ?_
  blk_simp
  rw [after0_8]
  idx_vars y
  have e : ((win0_8.blk t).view.emb (ix2 y0 y1)) = (ix2 ⟨1024 * (t.val / 6) + y0.val, by have : t.val < 24 := lt_of_lt_of_eq t.isLt N_0; omega⟩ ⟨1024 * (t.val % 6) + y1.val, by omega⟩ : S4096x6144.Idx) := by
    blk_ext [idx t]
  refine (out_at m c t y0 y1).trans ?_
  show _ = mainArr m c ((win0_8.blk t).view.emb (ix2 y0 y1))
  rw [e]
  rfl

theorem final_gates (c : Dev nD) : (dats m 0 c).arrAt 9 cfg0.N = gateArr m c := by
  refine (dats m 0 c).arrAt_eq_of_covers 9 _ (by decide +kernel) fun t hf y => ?_
  blk_simp
  rw [after0_9]
  idx_vars y
  have e : ((win0_9.blk t).view.emb (ix2 y0 y1)) = (ix2 ⟨1024 * (t.val / 6) + y0.val, by have : t.val < 24 := lt_of_lt_of_eq t.isLt N_0; omega⟩ y1 : S4096x128.Idx) := by
    blk_ext [idx t]
  refine (gate_at m c t ((flush0_9 t).mp hf) y0 y1).trans ?_
  show _ = gateArr m c ((win0_9.blk t).view.emb (ix2 y0 y1))
  rw [e]
  rfl

end Cert.KernelIdeal.InProj

end
-- ==== Proof.InProj.Reference.lean ====
module

public import proofs.«01_k».proof.Proof.Gen.ReferenceIdeal.Run
public import proofs.«01_k».proof.Proof.InProj.Spec

/-! # What the reference computes, at an index -/

@[expose] public section

set_option maxRecDepth 16384

noncomputable section

namespace Cert.ReferenceIdeal.InProj

open Idealize.ShloMosaic Idealize.ShloMosaic.TcCoe Idealize.SL.Sem
open Cert.ReferenceIdeal Cert.ReferenceIdeal.Gen Cert.InProj

/-- The products of the normalised tokens with the projection. -/
def products (x : FVec Ideal S16x256x2048 .f32) (sh sc : FVec Ideal S1x1x2048 .f32) (g : FVec Ideal S2048 .f32)
    (w : FVec Ideal S2048x6192 .f32) : FVec Ideal S16x256x6192 .f32 :=
  Host.dotGeneral dot_S16x256x2048_S2048x6192_S16x256x6192_2_0_01_1_n_n none
    (addf (mulf (mulf (mulf x
      (broadcastInDim S16x256x2048 ![0, 1, 2] bcast_S16x256x1_S16x256x2048_0_1_2
        (Host.rsqrt (addf (Host.divf
          (broadcastInDim S16x256x1 ![0, 1] bcast_S16x256_S16x256x1_0_1 (Host.reduceAdd (mulf x x) (constant S_ .f32 0x00000000#32) reducesTo_S16x256x2048_S16x256_d2 h_S_))
          (broadcastInDim S16x256x1 ![] bcast_S_S16x256x1 (constant S_ .f32 0x45000000#32)))
          (broadcastInDim S16x256x1 ![] bcast_S_S16x256x1 (constant S_ .f32 0x358637BD#32))))))
      (broadcastInDim S16x256x2048 ![0, 1, 2] bcast_S1x1x2048_S16x256x2048_0_1_2 (broadcastInDim S1x1x2048 ![2] bcast_S2048_S1x1x2048_2 g)))
      (broadcastInDim S16x256x2048 ![0, 1, 2] bcast_S1x1x2048_S16x256x2048_0_1_2 (addf (broadcastInDim S1x1x2048 ![] bcast_S_S1x1x2048 (constant S_ .f32 0x3F800000#32)) sc)))
      (broadcastInDim S16x256x2048 ![0, 1, 2] bcast_S1x1x2048_S16x256x2048_0_1_2 sh)) w

/-- The convolution's input with a border of zeros around each grid. -/
def padded (P : FVec Ideal S16x256x6192 .f32) : FVec Ideal S16x3x258x2048 .f32 :=
  pad S16x3x258x2048 ![0, 1, 1, 0] ![0, 1, 1, 0] ![0, 0, 0, 0]
    (shapeCast _ (extractStridedSlice S16x256x2048 ![0, 0, 4112] P slices_S16x256x6192_S16x256x2048_0_0_4112) shapeCasts_S16x256x2048_S16x1x256x2048)
    (sitofp .f32 (constantI S_ 32 0#32)) pads_S16x1x256x2048_S16x3x258x2048_000_110_110_000 h_S_

/-- The nine shifted copies of the grid. -/
def stacked (P : FVec Ideal S16x256x6192 .f32) : FVec Ideal S9x16x1x256x2048 .f32 :=
  concatenate S9x16x1x256x2048 0 [
    ⟨S1x16x1x256x2048, broadcastInDim S1x16x1x256x2048 ![1, 2, 3, 4] bcast_S16x1x256x2048_S1x16x1x256x2048_1_2_3_4 (extractStridedSlice S16x1x256x2048 ![0, 0, 0, 0] (padded P) slices_S16x3x258x2048_S16x1x256x2048_0_0_0_0)⟩,
    ⟨S1x16x1x256x2048, broadcastInDim S1x16x1x256x2048 ![1, 2, 3, 4] bcast_S16x1x256x2048_S1x16x1x256x2048_1_2_3_4 (extractStridedSlice S16x1x256x2048 ![0, 0, 1, 0] (padded P) slices_S16x3x258x2048_S16x1x256x2048_0_0_1_0)⟩,
    ⟨S1x16x1x256x2048, broadcastInDim S1x16x1x256x2048 ![1, 2, 3, 4] bcast_S16x1x256x2048_S1x16x1x256x2048_1_2_3_4 (extractStridedSlice S16x1x256x2048 ![0, 0, 2, 0] (padded P) slices_S16x3x258x2048_S16x1x256x2048_0_0_2_0)⟩,
    ⟨S1x16x1x256x2048, broadcastInDim S1x16x1x256x2048 ![1, 2, 3, 4] bcast_S16x1x256x2048_S1x16x1x256x2048_1_2_3_4 (extractStridedSlice S16x1x256x2048 ![0, 1, 0, 0] (padded P) slices_S16x3x258x2048_S16x1x256x2048_0_1_0_0)⟩,
    ⟨S1x16x1x256x2048, broadcastInDim S1x16x1x256x2048 ![1, 2, 3, 4] bcast_S16x1x256x2048_S1x16x1x256x2048_1_2_3_4 (extractStridedSlice S16x1x256x2048 ![0, 1, 1, 0] (padded P) slices_S16x3x258x2048_S16x1x256x2048_0_1_1_0)⟩,
    ⟨S1x16x1x256x2048, broadcastInDim S1x16x1x256x2048 ![1, 2, 3, 4] bcast_S16x1x256x2048_S1x16x1x256x2048_1_2_3_4 (extractStridedSlice S16x1x256x2048 ![0, 1, 2, 0] (padded P) slices_S16x3x258x2048_S16x1x256x2048_0_1_2_0)⟩,
    ⟨S1x16x1x256x2048, broadcastInDim S1x16x1x256x2048 ![1, 2, 3, 4] bcast_S16x1x256x2048_S1x16x1x256x2048_1_2_3_4 (extractStridedSlice S16x1x256x2048 ![0, 2, 0, 0] (padded P) slices_S16x3x258x2048_S16x1x256x2048_0_2_0_0)⟩,
    ⟨S1x16x1x256x2048, broadcastInDim S1x16x1x256x2048 ![1, 2, 3, 4] bcast_S16x1x256x2048_S1x16x1x256x2048_1_2_3_4 (extractStridedSlice S16x1x256x2048 ![0, 2, 1, 0] (padded P) slices_S16x3x258x2048_S16x1x256x2048_0_2_1_0)⟩,
    ⟨S1x16x1x256x2048, broadcastInDim S1x16x1x256x2048 ![1, 2, 3, 4] bcast_S16x1x256x2048_S1x16x1x256x2048_1_2_3_4 (extractStridedSlice S16x1x256x2048 ![0, 2, 2, 0] (padded P) slices_S16x3x258x2048_S16x1x256x2048_0_2_2_0)⟩]
    concatenates_S1x16x1x256x2048_S1x16x1x256x2048_S1x16x1x256x2048_S1x16x1x256x2048_S1x16x1x256x2048_S1x16x1x256x2048_S1x16x1x256x2048_S1x16x1x256x2048_S1x16x1x256x2048_S9x16x1x256x2048_d0

/-- The convolution with its bias. -/
def convolved (P : FVec Ideal S16x256x6192 .f32) (T : FVec Ideal S3x3x2048 .f32) (B : FVec Ideal S2048 .f32) : FVec Ideal S16x256x2048 .f32 :=
  addf (shapeCast _ (Host.reduceAdd (mulf (stacked P)
      (broadcastInDim S9x16x1x256x2048 ![0, 1, 2, 3, 4] bcast_S9x1x1x1x2048_S9x16x1x256x2048_0_1_2_3_4 (shapeCast _ T shapeCasts_S3x3x2048_S9x1x1x1x2048)))
      (constant S_ .f32 0x00000000#32) reducesTo_S9x16x1x256x2048_S16x1x256x2048_d0 h_S_) shapeCasts_S16x1x256x2048_S16x256x2048)
    (broadcastInDim S16x256x2048 ![0, 1, 2] bcast_S1x1x2048_S16x256x2048_0_1_2 (broadcastInDim S1x1x2048 ![2] bcast_S2048_S1x1x2048_2 B))

/-- The logistic of a part of the products, 1024 columns wide. -/
def gateOf (z : FVec Ideal S16x256x1024 .f32) : FVec Ideal S16x256x1024 .f32 :=
  Host.divf (broadcastInDim S16x256x1024 ![] bcast_S_S16x256x1024 (constant S_ .f32 0x3F800000#32))
    (addf (broadcastInDim S16x256x1024 ![] bcast_S_S16x256x1024 (constant S_ .f32 0x3F800000#32)) (Host.exp (Host.negf z)))

/-- The activated convolution. -/
def activated (z : FVec Ideal S16x256x2048 .f32) : FVec Ideal S16x256x2048 .f32 :=
  mulf z (Host.divf (broadcastInDim S16x256x2048 ![] bcast_S_S16x256x2048 (constant S_ .f32 0x3F800000#32))
    (addf (broadcastInDim S16x256x2048 ![] bcast_S_S16x256x2048 (constant S_ .f32 0x3F800000#32)) (Host.exp (Host.negf z))))

/-- The main result, its parts side by side. -/
def parts (P : FVec Ideal S16x256x6192 .f32) (C : FVec Ideal S16x256x2048 .f32) : FVec Ideal S4096x6144 .f32 :=
  shapeCast _ (concatenate S16x256x6144 2 [
      ⟨S16x256x512, extractStridedSlice S16x256x512 ![0, 0, 0] P slices_S16x256x6192_S16x256x512_0_0_0⟩,
      ⟨S16x256x512, extractStridedSlice S16x256x512 ![0, 0, 512] P slices_S16x256x6192_S16x256x512_0_0_512⟩,
      ⟨S16x256x1024, extractStridedSlice S16x256x1024 ![0, 0, 1024] P slices_S16x256x6192_S16x256x1024_0_0_1024⟩,
      ⟨S16x256x1024, gateOf (extractStridedSlice S16x256x1024 ![0, 0, 2048] P slices_S16x256x6192_S16x256x1024_0_0_2048)⟩,
      ⟨S16x256x1024, mulf (extractStridedSlice S16x256x1024 ![0, 0, 3088] P slices_S16x256x6192_S16x256x1024_0_0_3088)
        (gateOf (extractStridedSlice S16x256x1024 ![0, 0, 3088] P slices_S16x256x6192_S16x256x1024_0_0_3088))⟩,
      ⟨S16x256x2048, C⟩]
      concatenates_S16x256x512_S16x256x512_S16x256x1024_S16x256x1024_S16x256x1024_S16x256x2048_S16x256x6144_d2) shapeCasts_S16x256x6144_S4096x6144

/-- The gates, side by side. -/
def gates (P : FVec Ideal S16x256x6192 .f32) : FVec Ideal S4096x128 .f32 :=
  shapeCast _ (concatenate S16x256x128 2 [
      ⟨S16x256x8, extractStridedSlice S16x256x8 ![0, 0, 3072] P slices_S16x256x6192_S16x256x8_0_0_3072⟩,
      ⟨S16x256x8, extractStridedSlice S16x256x8 ![0, 0, 3080] P slices_S16x256x6192_S16x256x8_0_0_3080⟩,
      ⟨S16x256x32, extractStridedSlice S16x256x32 ![0, 0, 6160] P slices_S16x256x6192_S16x256x32_0_0_6160⟩,
      ⟨S16x256x80, broadcastInDim S16x256x80 ![] bcast_S_S16x256x80 (constant S_ .f32 0x00000000#32)⟩]
      concatenates_S16x256x8_S16x256x8_S16x256x32_S16x256x80_S16x256x128_d2) shapeCasts_S16x256x128_S4096x128

theorem products_at (x : FVec Ideal S16x256x2048 .f32) (sh sc : FVec Ideal S1x1x2048 .f32) (g : FVec Ideal S2048 .f32)
    (w : FVec Ideal S2048x6192 .f32) (b : Fin 16) (s : Fin 256) (n : Fin 6192) :
    (products x sh sc g w (ix3 b s n) : EReal)
      = lin (unorm (fun l => x (ix3 b s l)) (fun l => g (ix1 l)) (fun l => sc (ix3 0 0 l)) (fun l => sh (ix3 0 0 l))) (fun k => w (ix2 k n)) := by
  pointwise [products, lin, unorm]

theorem padded_at (P : FVec Ideal S16x256x6192 .f32) (b : Fin 16) (i : Fin 3) (s : Fin 258) (n : Fin 2048) :
    (padded P (ix4 b i s n) : EReal)
      = if h : i.val = 1 ∧ 1 ≤ s.val ∧ s.val < 257 then P (ix3 b ⟨s.val - 1, by omega⟩ ⟨4112 + n.val, by omega⟩) else 0 := by
  pointwise [padded]
  have hz : (FloatOps.sitofp (F := Ideal) FTy.f32 0#32 : EReal) = 0 := by
    show (((0#32).toInt : ℝ) : EReal) = 0
    simp
  rw [hz]
  by_cases h : i.val = 1 ∧ 1 ≤ s.val ∧ s.val < 257
  · rw [dif_pos h, dif_pos (by omega)]
  · rw [dif_neg h, dif_neg (by omega)]

theorem stacked_at (P : FVec Ideal S16x256x6192 .f32) (q : Fin 9) (b : Fin 16) (s : Fin 256) (n : Fin 2048) :
    (stacked P (ix5 q b 0 s n) : EReal) = padded P (ix4 b ⟨q.val / 3, by omega⟩ ⟨s.val + q.val % 3, by omega⟩ n) := by
  pointwise [stacked]
  have hq := q.isLt
  split_ifs <;> (congr 2 <;> apply Fin.ext <;> simp only [Fin.isValue, Fin.val_zero, Fin.val_one, Fin.val_two] <;> omega)

/-- The middle row of taps meets the grid's row; the padding is above and below. -/
theorem tap_at (P : FVec Ideal S16x256x6192 .f32) (T : FVec Ideal S3x3x2048 .f32) (q : Fin 9) (b : Fin 16) (s : Fin 256) (n : Fin 2048) :
    (stacked P (ix5 q b 0 s n) * T (ix3 ⟨q.val / 3, by omega⟩ ⟨q.val % 3, by omega⟩ n) : EReal)
      = if h : q.val / 3 = 1 ∧ 1 ≤ s.val + q.val % 3 ∧ s.val + q.val % 3 < 257
        then T (ix3 1 ⟨q.val % 3, by omega⟩ n) * P (ix3 b ⟨s.val + q.val % 3 - 1, by omega⟩ ⟨4112 + n.val, by omega⟩) else 0 := by
  rw [stacked_at, padded_at]
  by_cases h : q.val / 3 = 1 ∧ 1 ≤ s.val + q.val % 3 ∧ s.val + q.val % 3 < 257
  · rw [dif_pos h, dif_pos h, mul_comm]
    have e : ∀ i : Fin 3, i = 1 → (T (ix3 i ⟨q.val % 3, by omega⟩ n) : EReal) = T (ix3 1 ⟨q.val % 3, by omega⟩ n) := by
      intro i hi
      rw [hi]
    exact congrArg (· * _) (e _ (Fin.ext h.1))
  · rw [dif_neg h, dif_neg h, zero_mul]

theorem sum_nine (f : Fin 9 → EReal) : ∑ q, f q = f 0 + f 1 + f 2 + f 3 + f 4 + f 5 + f 6 + f 7 + f 8 := by
  rw [Fin.sum_univ_castSucc, Fin.sum_univ_eight]
  rfl

theorem convolved_at (P : FVec Ideal S16x256x6192 .f32) (T : FVec Ideal S3x3x2048 .f32) (B : FVec Ideal S2048 .f32)
    (b : Fin 16) (s : Fin 256) (n : Fin 2048) :
    (convolved P T B (ix3 b s n) : EReal)
      = convAt (fun b s n => P (ix3 b s n)) (fun i j n => T (ix3 i j n)) (fun n => B (ix1 n)) b s n := by
  pointwise [convolved]
  have hs := s.isLt
  simp only [tap_at]
  rw [sum_nine]
  rw [dif_neg (by simp), dif_neg (by simp), dif_neg (by simp), dif_neg (c := _ ∧ _) (by simp : ¬ ((6 : Fin 9).val / 3 = 1 ∧ _)),
    dif_neg (by simp : ¬ ((7 : Fin 9).val / 3 = 1 ∧ _)), dif_neg (by simp : ¬ ((8 : Fin 9).val / 3 = 1 ∧ _))]
  simp only [zero_add, add_zero]
  unfold convAt tap3
  have e : ∀ (i j : ℕ) (hi : i < 256) (hj : j < 256), i = j →
      (P (ix3 b ⟨i, hi⟩ ⟨4112 + n.val, by omega⟩) : EReal) = P (ix3 b ⟨j, hj⟩ ⟨4112 + n.val, by omega⟩) := by
    intro i j hi hj h
    subst h
    rfl
  refine congrArg (· + _) (congrArg₂ (· + ·) (congrArg₂ (· + ·) ?_ ?_) ?_)
  · by_cases h : s.val = 0
    · rw [if_pos h, mul_zero]
      exact dif_neg (fun a => absurd (show 1 ≤ s.val + 0 from a.2.1) (by omega))
    · rw [if_neg h]
      refine (dif_pos ⟨rfl, (show 1 ≤ s.val + 0 by omega), (show s.val + 0 < 257 by omega)⟩).trans ?_
      exact congrArg (T (ix3 1 0 n) * ·) (e _ _ _ _ (show s.val + 0 - 1 = (s.val + 255) % 256 by omega))
  · refine (dif_pos ⟨rfl, (show 1 ≤ s.val + 1 by omega), (show s.val + 1 < 257 by omega)⟩).trans ?_
    exact congrArg (T (ix3 1 1 n) * ·) (e _ _ _ _ (show s.val + 1 - 1 = s.val by omega))
  · by_cases h : s.val = 255
    · rw [if_pos h, mul_zero]
      exact dif_neg (fun a => absurd (show s.val + 2 < 257 from a.2.2) (by omega))
    · rw [if_neg h]
      refine (dif_pos ⟨rfl, (show 1 ≤ s.val + 2 by omega), (show s.val + 2 < 257 by omega)⟩).trans ?_
      exact congrArg (T (ix3 1 2 n) * ·) (e _ _ _ _ (show s.val + 2 - 1 = (s.val + 1) % 256 by omega))

theorem gateOf_at (z : FVec Ideal S16x256x1024 .f32) (b : Fin 16) (s : Fin 256) (n : Fin 1024) :
    (gateOf z (ix3 b s n) : EReal) = sgm (z (ix3 b s n)) := by
  pointwise [gateOf, sgm]

theorem activated_at (z : FVec Ideal S16x256x2048 .f32) (b : Fin 16) (s : Fin 256) (n : Fin 2048) :
    (activated z (ix3 b s n) : EReal) = silu (z (ix3 b s n)) := by
  pointwise [activated, silu, sgm]

theorem gates_at (P : FVec Ideal S16x256x6192 .f32) (r : Fin 4096) (n : Fin 128) :
    (gates P (ix2 r n) : EReal) = gateAt (fun b s n => P (ix3 b s n)) ⟨r.val / 256, by omega⟩ ⟨r.val % 256, by omega⟩ n := by
  pointwise [gates, gateAt]
  have hn := n.isLt
  have e : ∀ (i j : ℕ) (hi : i < 6192) (hj : j < 6192), i = j →
      (P (ix3 ⟨r.val / 256, by omega⟩ ⟨r.val % 256, by omega⟩ ⟨i, hi⟩) : EReal) = P (ix3 ⟨r.val / 256, by omega⟩ ⟨r.val % 256, by omega⟩ ⟨j, hj⟩) := by
    intro i j hi hj h
    subst h
    rfl
  by_cases h : n.val < 48
  · rw [dif_pos h]
    by_cases a : n.val < 8
    · rw [dif_pos a]
      exact e _ _ _ _ (by unfold gateCol; rw [if_pos (by omega)])
    by_cases b : n.val - 8 < 8
    · rw [dif_neg a, dif_pos b]
      exact e _ _ _ _ (by unfold gateCol; rw [if_pos (by omega)]; omega)
    · rw [dif_neg a, dif_neg b, dif_pos (by omega)]
      exact e _ _ _ _ (by unfold gateCol; rw [if_neg (by omega)]; omega)
  · rw [dif_neg h, dif_neg (by omega), dif_neg (by omega), dif_neg (by omega)]

set_option maxHeartbeats 1000000 in
theorem parts_at (P : FVec Ideal S16x256x6192 .f32) (C : FVec Ideal S16x256x2048 .f32) (r : Fin 4096) (n : Fin 6144) :
    (parts P C (ix2 r n) : EReal) =
      if h0 : n.val < 2048 then P (ix3 ⟨r.val / 256, by omega⟩ ⟨r.val % 256, by omega⟩ ⟨n.val, by omega⟩)
      else if h1 : n.val < 3072 then sgm (P (ix3 ⟨r.val / 256, by omega⟩ ⟨r.val % 256, by omega⟩ ⟨n.val, by omega⟩))
      else if h2 : n.val < 4096 then silu (P (ix3 ⟨r.val / 256, by omega⟩ ⟨r.val % 256, by omega⟩ ⟨n.val + 16, by omega⟩))
      else C (ix3 ⟨r.val / 256, by omega⟩ ⟨r.val % 256, by omega⟩ ⟨n.val - 4096, by omega⟩) := by
  pointwise [parts]
  have hn := n.isLt
  simp only [gateOf_at]
  pointwise
  have e : ∀ (i j : ℕ) (hi : i < 6192) (hj : j < 6192), i = j →
      (P (ix3 ⟨r.val / 256, by omega⟩ ⟨r.val % 256, by omega⟩ ⟨i, hi⟩) : EReal) = P (ix3 ⟨r.val / 256, by omega⟩ ⟨r.val % 256, by omega⟩ ⟨j, hj⟩) := by
    intro i j hi hj h
    subst h
    rfl
  by_cases h0 : n.val < 2048
  · rw [dif_pos h0]
    by_cases a : n.val < 512
    · rw [dif_pos a]
    by_cases b : n.val - 512 < 512
    · rw [dif_neg a, dif_pos b]
      exact e _ _ _ _ (by omega)
    · rw [dif_neg a, dif_neg b, dif_pos (by omega)]
      exact e _ _ _ _ (by omega)
  rw [dif_neg h0, dif_neg (by omega), dif_neg (by omega), dif_neg (by omega)]
  by_cases h1 : n.val < 3072
  · rw [dif_pos h1, dif_pos (by omega)]
    exact congrArg sgm (e _ _ _ _ (by omega))
  rw [dif_neg h1, dif_neg (by omega)]
  by_cases h2 : n.val < 4096
  · rw [dif_pos h2, dif_pos (by omega)]
    exact congrArg silu (e _ _ _ _ (by omega))
  · rw [dif_neg h2, dif_neg (by omega)]
    have eC : ∀ (i j : ℕ) (hi : i < 2048) (hj : j < 2048), i = j →
        (C (ix3 ⟨r.val / 256, by omega⟩ ⟨r.val % 256, by omega⟩ ⟨i, hi⟩) : EReal) = C (ix3 ⟨r.val / 256, by omega⟩ ⟨r.val % 256, by omega⟩ ⟨j, hj⟩) := by
      intro i j hi hj h
      subst h
      rfl
    exact eC _ _ _ _ (by omega)

variable (m : (ℓ : Loc nD τ sig) → Buf (Elt Ideal) ℓ)

abbrev prods (c : Dev nD) : FVec Ideal S16x256x6192 .f32 :=
  products (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem main_term (c : Dev nD) : Value.res_main_v69 m c
    = parts (prods m c) (activated (convolved (prods m c) (m ((c.tc : Thread nD τ).loc main_arg5)) (m ((c.tc : Thread nD τ).loc main_arg6)))) := rfl

theorem gates_term (c : Dev nD) : Value.res_main_v70 m c = gates (prods m c) := rfl

end Cert.ReferenceIdeal.InProj

end
-- ==== Proof.InProj.Claim.lean ====
module

public import proofs.«01_k».proof.Defs
public import proofs.«01_k».proof.Proof.InProj.Array
public import proofs.«01_k».proof.Proof.InProj.Reference
public import proofs.«01_k».proof.Proof.Gen.Kernel.Frame
public import Idealize.ShloMosaic.Lib.Claim

/-! # The input projection equals its reference -/

@[expose] public section

set_option maxRecDepth 16384

noncomputable section

namespace Cert.InProj

open Idealize.ShloMosaic Idealize.ShloMosaic.TcCoe Idealize.SL.Sem
open Cert.KernelIdeal.InProj

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel's run: both results by their entries, the arguments as they were. -/
theorem kernel_run : θ_run Cert.KernelIdeal.defs (onTc (τ := Cert.KernelIdeal.τ) Cert.KernelIdeal.main) ⟨m, fun _ => 0, ρ⟩ fun r => ∀ c : Dev Cert.KernelIdeal.nD,
    r.2.mem ((c.tc : Thread Cert.KernelIdeal.nD Cert.KernelIdeal.τ).loc Cert.KernelIdeal.main_v10_0) = mainArr m c
    ∧ r.2.mem ((c.tc : Thread Cert.KernelIdeal.nD Cert.KernelIdeal.τ).loc Cert.KernelIdeal.main_v10_1) = gateArr m c :=
  (θ_run Cert.KernelIdeal.defs _ _).mono
    (fun _ h c => ⟨((h c).1 8).trans (final_main m c), ((h c).1 9).trans (final_gates m c)⟩)
    (Cert.KernelIdeal.Gen.run_main m ρ)

/-- From equal arguments, the reference's products are the kernel's. -/
theorem prods_eq (c : Dev Cert.KernelIdeal.nD)
    (h0 : (m' ((c.tc : Thread _ Cert.ReferenceIdeal.τ).loc Cert.ReferenceIdeal.main_arg0) : FVec Ideal Cert.ReferenceIdeal.S16x256x2048 .f32) = aX m c)
    (h1 : (m' ((c.tc : Thread _ Cert.ReferenceIdeal.τ).loc Cert.ReferenceIdeal.main_arg1) : FVec Ideal Cert.ReferenceIdeal.S1x1x2048 .f32) = aSh m c)
    (h2 : (m' ((c.tc : Thread _ Cert.ReferenceIdeal.τ).loc Cert.ReferenceIdeal.main_arg2) : FVec Ideal Cert.ReferenceIdeal.S1x1x2048 .f32) = aSc m c)
    (h3 : (m' ((c.tc : Thread _ Cert.ReferenceIdeal.τ).loc Cert.ReferenceIdeal.main_arg3) : FVec Ideal Cert.ReferenceIdeal.S2048 .f32) = aG m c)
    (h4 : (m' ((c.tc : Thread _ Cert.ReferenceIdeal.τ).loc Cert.ReferenceIdeal.main_arg4) : FVec Ideal Cert.ReferenceIdeal.S2048x6192 .f32) = aW m c)
    (b : Fin 16) (s : Fin 256) (n : Fin 6192) :
    (Cert.ReferenceIdeal.InProj.prods m' c (ix3 b s n) : EReal) = prod m c b s n := by
  refine (Cert.ReferenceIdeal.InProj.products_at _ _ _ _ _ b s n).trans ?_
  rw [h0, h1, h2, h3, h4]
  rfl

theorem algebraic : Cert.algebraic_KernelIdeal_ReferenceIdeal := by
  intro m ρ m' ρ' _ hagree
  refine ⟨fun c => mainArr m c, fun c => gateArr m c, ?_, ?_⟩
  · exact (θ_run Cert.KernelIdeal.defs _ _).mono (fun _ h c => ⟨(h.1 c).1, (h.1 c).2, h.2.1 c⟩)
      (θ_run_and (kernel_run m ρ) (Cert.KernelIdeal.Gen.frame m ρ))
  · refine (θ_run Cert.ReferenceIdeal.defs _ _).mono (fun r h c => ?_) (Cert.ReferenceIdeal.Value.run (F := Ideal) m' ρ')
    obtain ⟨h0, h1, h2, h3, h4, h5, h6⟩ := hagree c
    have hp := prods_eq m m' c h0 h1 h2 h3 h4
    have hp' : (fun b s n => (Cert.ReferenceIdeal.InProj.prods m' c (ix3 b s n) : EReal)) = prod m c := by
      funext b s n
      exact hp b s n
    refine ⟨(h c).1.trans ?_, (h c).2.1.trans ?_, (h c).2.2⟩
    · refine (Cert.ReferenceIdeal.InProj.main_term m' c).trans ?_
      funext y
      idx_vars y
      refine (Cert.ReferenceIdeal.InProj.parts_at _ _ y0 y1).trans ?_
      show _ = mainAt (prod m c) (taps m c) (bias m c) ⟨y0.val / 256, _⟩ ⟨y0.val % 256, _⟩ y1
      unfold mainAt
      simp only [Cert.ReferenceIdeal.InProj.activated_at, Cert.ReferenceIdeal.InProj.convolved_at, hp, hp']
      rw [h5, h6]
    · refine (Cert.ReferenceIdeal.InProj.gates_term m' c).trans ?_
      funext y
      idx_vars y
      refine (Cert.ReferenceIdeal.InProj.gates_at _ y0 y1).trans ?_
      rw [hp']
      rfl

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.InProj

end
-- ==== Proof.Mlp.Kit.lean ====
/-
What the grid points of the MLP's kernel share: the arrays as the kernel finds them, the blocks its windows show, the
three cases of a point (first, middle and last of the sixteen steps of a row block), its scratch, its semaphore and the
array it copies from by itself.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the kernel finds them -/

/-- Core `c`'s buffers when the kernel starts: after the host's one reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host program is its operations, then the kernel. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes no argument: the kernel finds argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- What window `w` shows at point `t` of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any data with these arrays and an untouched input. -/
theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any data with these arrays and an untouched input. -/
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any data with these arrays and an untouched input. -/
theorem before_in2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, for any data with these arrays and an untouched input. -/
theorem before_in3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, for any data with these arrays and an untouched input. -/
theorem before_in4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run that leaves the windows' arrays and the other buffers as the data says leaves every argument as launched. -/
theorem args_kept (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).1 3).trans (((dats 0 c).arrAt_in 3 rfl _).trans ((hA c 3).trans (V_arg4 m c))),
      ((h c).2 main_arg5 (Pipeline.mem_restRefs_of main_arg5 (by decide) (by decide))).trans (V_arg5 m c)⟩) h

/-! ## The three cases of a point -/

/-- The first of a row block's sixteen points. -/
abbrev first (i : grid0.Coords) : Prop := k0_cond1 i = 1#1
/-- Neither the first nor the last. -/
abbrev inner (i : grid0.Coords) : Prop := k0_cond2 i = 1#1
/-- The last. -/
abbrev last (i : grid0.Coords) : Prop := k0_cond3 i = 1#1

theorem first_iff : ∀ t : Fin cfg0.N, first (grid0.coords t) ↔ t.val % 16 = 0 :=
  (by decide +kernel : ∀ t : Fin grid0.N, first (grid0.coords t) ↔ t.val % 16 = 0)
theorem inner_iff : ∀ t : Fin cfg0.N, inner (grid0.coords t) ↔ (1 ≤ t.val % 16 ∧ t.val % 16 ≤ 14) :=
  (by decide +kernel : ∀ t : Fin grid0.N, inner (grid0.coords t) ↔ (1 ≤ t.val % 16 ∧ t.val % 16 ≤ 14))
theorem last_iff : ∀ t : Fin cfg0.N, last (grid0.coords t) ↔ t.val % 16 = 15 :=
  (by decide +kernel : ∀ t : Fin grid0.N, last (grid0.coords t) ↔ t.val % 16 = 15)

/-- No point leaves the output window idle. -/
theorem live5 : ∀ t : Fin cfg0.N, cfg0.idle 5 (grid0.coords t) = false := by decide +kernel

/-- Whether the output's buffer holds nothing of the current row block, position by position. -/
def freshTab : ℕ → Bool
  | 0 => true
  | n + 1 => (0x8000800080008000 : ℕ).testBit n
theorem freshTab_step : ∀ t : Fin cfg0.N,
    freshTab (t.val + 1) = ((cfg0.win 5).flush t || (cfg0.idle 5 (cfg0.grid.coords t) && freshTab t.val)) := by decide +kernel
theorem fresh_eq (t : Fin cfg0.N) : cfg0.fresh 5 t.val = freshTab t.val :=
  Pipeline.Cfg.fresh_tab cfg0 5 freshTab rfl freshTab_step t.val (Nat.le_of_lt t.isLt)
/-- After a row block's first point its running sum lies in the output's buffer. -/
theorem not_fresh : ∀ t : Fin cfg0.N, ¬t.val % 16 = 0 → cfg0.fresh 5 t.val = false := by
  intro t; rw [fresh_eq t]; revert t; decide +kernel

/-! ## Buffers -/

/-- One staging buffer of the output, through which its contents are stated. -/
abbrev VO : View sig .tc .vmem S1024x2048 .f32 := (Memref.whole cc0_stg5_0 : Memref sig .tc .vmem S1024x2048 .f32).view
/-- Window 0's buffer at point `t`, a whole one. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
/-- Window 1's buffer at point `t`, a whole one. -/
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
/-- Window 2's buffer at point `t`, a whole one. -/
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
/-- Window 3's buffer at point `t`, a whole one. -/
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
/-- Window 4's buffer at point `t`, a whole one. -/
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
/-- Window 5's buffer at point `t`, a whole one. -/
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
/-- The scratch, which the residual's row block is copied into. -/
abbrev scM : Memref sig .tc .vmem S1024x2048 .f32 := Memref.whole cc0_scratch0
/-- The residual, left in HBM. -/
abbrev hbM : Memref sig .tc .hbm S4096x2048 .f32 := Memref.whole main_arg3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own semaphore. -/
abbrev osem : Fin 1 → SemLoc sig := fun j => (![SemLoc.dma 11] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0) := by
  rw [Pipeline.ownSems0_eq_of_list c osem [0] (by decide) (by decide)]; rfl
/-- The one buffer the kernel addresses without a window. -/
def HB : Finset (Ref sig .tc) := {main_arg3}
theorem HB_sub : HB ⊆ Pipeline.restRefs sig spec0 := by decide
theorem hbPts_eq (c : Dev nD) :
    (bigSep HB (fun b => ((c : Thread nD τ).loc b) ↦{fullShare} V m c b) : sProp 𝕄) = iprop(hbPt c hbM (V m c main_arg3)) := by
  rw [BI.bigSep_eq_bigSepL_of_eq [main_arg3] (by decide) (by decide)]; rfl

/-- What the kernel holds of its own where nothing is in flight: the scratch, the generator's register, the semaphore at
    zero and the residual. -/
theorem rest_eq (c : Dev nD) :
    (Pipeline.ΦD osem spec0 HB (V m) c : sProp 𝕄)
      = iprop(iprop((∃ d, owns (c : Thread nD τ) scM fullShare d)) ∗ (∃ r, prngReg c r) ∗ iprop(semVal ((c : Thread nD τ), SemLoc.dma 11) 0) ∗ iprop(hbPt c hbM (V m c main_arg3))) := by
  rw [Pipeline.ΦD_eq, scopedRest0_eq, ownSems_eq, hbPts_eq]; simp only [scM, owns_whole]; try rfl

end Cert.Kernel2Ideal.Mlp

end
-- ==== Proof.Mlp.RunFirst.lean ====
/-
The first point of a row block: the copy of the residual's row block is started, and the partial product of the first
512 hidden columns goes into the output's buffer.
-/
module

public import proofs.«01_k».proof.Proof.Mlp.Kit

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row block of the residual the first point's copy reads. -/
abbrev srcA (i : grid0.Coords) (h : first i) : Memref sig .tc .hbm S1024x2048 .f32 :=
  hbM.slice (Rect.unit (s := S4096x2048) (k0_off1 i) S1024x2048.size (Gen.facts.k0_off1_inb i h)) (fun _ => rfl)

set_option maxHeartbeats 1000000 in
/-- What the first point's stores leave in the output's buffer, with its run. -/
noncomputable def runFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : first i) (hi : ¬inner i) (hl : ¬last i)
    (x0 : Vec F S1024x2048 .bf16) (x1 : Vec F S2048x512 .f32) (x2 : Vec F S512x2048 .f32) (fh : HbBuf (F := F) c hbM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ semVal ((c : Thread nD τ), SemLoc.dma 11) 0 ∗ hbPt c hbM fh ∗ owes (c : Thread nD τ) 0 W
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f L)
                ∗ Transfers.Flight countersEmb (c : Thread nD τ) (SemLoc.dma 11) () (arg9.view.amount (SemLoc.dma (sig := sig) 11))
                    iprop((arg9.view.loc (c : Thread nD τ) ↦[arg9.view.set]{fullShare} harg9.unread (Val := Elt F) ((srcA i hf).view.read (Elt F) fh))
                      ∗ ((srcA i hf).view.loc (c : Thread nD τ) ↦[(srcA i hf).view.set]{fullShare} fh))
                ∗ (hbM.view.loc (c : Thread nD τ) ↦[Finset.univ \ (srcA i hf).view.set]{fullShare} fh)
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    unfold owns
    iintro ⟨⟨%f0, %hf0, H0⟩, ⟨%f1, %hf1, H1⟩, ⟨%f2, %hf2, H2⟩, ⟨%d5, %f5, -, H5⟩, ⟨%ds, %fs, -, HS⟩, Hq, Hh, HW, Hk⟩
    obtain rfl := harg2.eq_unread hf0; obtain rfl := harg3.eq_unread hf1; obtain rfl := harg4.eq_unread hf2
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [Hq]
    · iapply (Transfers.Flight_mono countersEmb (c : Thread nD τ) ?hmono) $$ Hq
      case hmono =>
        iintro ⟨HA, HB⟩
        isplitl [HA]
        · rw [harg9.eq_unread (View.read_writes_whole arg9.view _ _)]
          iexact HA
        · iexact HB
    isplitl [Hh]; · iexact Hh
    iexists _; iexact HW

end Cert.Kernel2Ideal.Mlp

end
-- ==== Proof.Mlp.RunInner.lean ====
/-
A middle point of a row block: the partial product of the next 512 hidden columns is added to the output's buffer. The
copy in flight, its semaphore and the residual are not touched.
-/
module

public import proofs.«01_k».proof.Proof.Mlp.RunFirst

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What a middle point's stores leave in the output's buffer, with its run. -/
noncomputable def runInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : ¬first i) (hi : inner i) (hl : ¬last i)
    (x0 : Vec F S1024x2048 .bf16) (x1 : Vec F S2048x512 .f32) (x2 : Vec F S512x2048 .f32) (xo : Vec F S1024x2048 .f32) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg8 fullShare xo ∗ owes (c : Thread nD τ) 0 W
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f L)
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    unfold owns
    iintro ⟨⟨%f0, %hf0, H0⟩, ⟨%f1, %hf1, H1⟩, ⟨%f2, %hf2, H2⟩, ⟨%f5, %hf5, H5⟩, HW, Hk⟩
    obtain rfl := harg2.eq_unread hf0; obtain rfl := harg3.eq_unread hf1; obtain rfl := harg4.eq_unread hf2; obtain rfl := harg8.eq_unread hf5
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact HW

end Cert.Kernel2Ideal.Mlp

end
-- ==== Proof.Mlp.RunLast.lean ====
/-
The last point of a row block: the copy of the residual's row block is waited for, the last partial product is added,
and the row block is normalised, gated and added to the residual.
-/
module

public import proofs.«01_k».proof.Proof.Mlp.RunInner

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the last point's stores leave in the output's buffer, with its run: the copy in flight is to deliver `xs` into
    the scratch and to give back the elements `Sb` of the residual, which were lent to it. -/
noncomputable def runLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare xo
            ∗ Transfers.Flight countersEmb (c : Thread nD τ) (SemLoc.dma 11) () (arg9.view.amount (SemLoc.dma (sig := sig) 11))
                iprop((arg9.view.loc (c : Thread nD τ) ↦[arg9.view.set]{fullShare} harg9.unread (Val := Elt F) xs)
                  ∗ (hbM.view.loc (c : Thread nD τ) ↦[Sb]{fullShare} fh))
            ∗ (hbM.view.loc (c : Thread nD τ) ↦[Finset.univ \ Sb]{fullShare} fh)
            ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)
                ∗ (∃ d, owns (c : Thread nD τ) arg9 fullShare d) ∗ semVal ((c : Thread nD τ), SemLoc.dma 11) 0 ∗ hbPt c hbM fh
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hq, Hh, HW, Hk⟩
    obtain rfl := harg2.eq_unread hf0; obtain rfl := harg3.eq_unread hf1; obtain rfl := harg4.eq_unread hf2; obtain rfl := harg6.eq_unread hf3; obtain rfl := harg7.eq_unread hf4; obtain rfl := harg8.eq_unread hf5
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [Hq_dst]
    · iexists _, _; isplitr; swap; · iexact Hq_dst
      ipureintro; rfl
    isplitl [Hq]; · iexact Hq
    isplitl [Hh]; · iexact Hh
    iexists _; iexact HW

end Cert.Kernel2Ideal.Mlp

end
-- ==== Proof.Mlp.Outs.lean ====
/-
What the output's buffer holds after each point, the copy in flight between the first and the last point of a row
block, and the data the pipeline is run with.
-/
module

public import proofs.«01_k».proof.Proof.Mlp.RunLast

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves in the output's buffer -/

/-- The stores of the first point cover the output's block. -/
theorem coverFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : first i) (hi : ¬inner i) (hl : ¬last i)
    (x0 : Vec F S1024x2048 .bf16) (x1 : Vec F S2048x512 .f32) (x2 : Vec F S512x2048 .f32) (fh : HbBuf (F := F) c hbM) (y : S1024x2048.Idx) :
    ∃ pc ∈ (runFirst c i arg2 harg2 arg3 harg3 arg4 harg4 arg6 harg6 arg7 harg7 arg8 harg8 arg9 harg9 hf hi hl x0 x1 x2 fh).1, y ∈ pc.1.set :=
  View.cover_of_tiledL (runFirst c i arg2 harg2 arg3 harg3 arg4 harg4 arg6 harg6 arg7 harg7 arg8 harg8 arg9 harg9 hf hi hl x0 x1 x2 fh).1 S512x2048.size (by sl_kernel_rfl) y

/-- What the first point leaves in the output's buffer. -/
def outFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : first i) (hi : ¬inner i) (hl : ¬last i)
    (x0 : Vec F S1024x2048 .bf16) (x1 : Vec F S2048x512 .f32) (x2 : Vec F S512x2048 .f32) (fh : HbBuf (F := F) c hbM) : Vec F S1024x2048 .f32 :=
  VO.read (Elt F) (VO.writes (Elt F) VO.junk (runFirst c i arg2 harg2 arg3 harg3 arg4 harg4 arg6 harg6 arg7 harg7 arg8 harg8 arg9 harg9 hf hi hl x0 x1 x2 fh).1)

/-- The stores of a middle point cover the output's block. -/
theorem coverInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : inner i) (hl : ¬last i)
    (x0 : Vec F S1024x2048 .bf16) (x1 : Vec F S2048x512 .f32) (x2 : Vec F S512x2048 .f32) (xo : Vec F S1024x2048 .f32) (y : S1024x2048.Idx) :
    ∃ pc ∈ (runInner c i arg2 harg2 arg3 harg3 arg4 harg4 arg6 harg6 arg7 harg7 arg8 harg8 arg9 harg9 hf hi hl x0 x1 x2 xo).1, y ∈ pc.1.set :=
  View.cover_of_tiledL (runInner c i arg2 harg2 arg3 harg3 arg4 harg4 arg6 harg6 arg7 harg7 arg8 harg8 arg9 harg9 hf hi hl x0 x1 x2 xo).1 S512x2048.size (by sl_kernel_rfl) y

/-- What a middle point leaves in the output's buffer. -/
def outInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : inner i) (hl : ¬last i)
    (x0 : Vec F S1024x2048 .bf16) (x1 : Vec F S2048x512 .f32) (x2 : Vec F S512x2048 .f32) (xo : Vec F S1024x2048 .f32) : Vec F S1024x2048 .f32 :=
  VO.read (Elt F) (VO.writes (Elt F) VO.junk (runInner c i arg2 harg2 arg3 harg3 arg4 harg4 arg6 harg6 arg7 harg7 arg8 harg8 arg9 harg9 hf hi hl x0 x1 x2 xo).1)

/-- The stores of the last point cover the output's block. -/
theorem coverLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) (y : S1024x2048.Idx) :
    ∃ pc ∈ (runLast c i arg2 harg2 arg3 harg3 arg4 harg4 arg6 harg6 arg7 harg7 arg8 harg8 arg9 harg9 hf hi hl x0 x1 x2 x3 x4 xo xs fh Sb).1, y ∈ pc.1.set :=
  View.cover_of_tiledL (runLast c i arg2 harg2 arg3 harg3 arg4 harg4 arg6 harg6 arg7 harg7 arg8 harg8 arg9 harg9 hf hi hl x0 x1 x2 x3 x4 xo xs fh Sb).1 S512x2048.size (by sl_kernel_rfl) y

/-- What the last point leaves in the output's buffer. -/
def outLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) : Vec F S1024x2048 .f32 :=
  VO.read (Elt F) (VO.writes (Elt F) VO.junk (runLast c i arg2 harg2 arg3 harg3 arg4 harg4 arg6 harg6 arg7 harg7 arg8 harg8 arg9 harg9 hf hi hl x0 x1 x2 x3 x4 xo xs fh Sb).1)

/-! ## The cases exclude one another -/

theorem not_inner_of_first (t : Fin cfg0.N) (h : t.val % 16 = 0) : ¬inner (grid0.coords t) := fun hh => by
  have := (inner_iff t).mp hh; omega
theorem not_last_of_first (t : Fin cfg0.N) (h : t.val % 16 = 0) : ¬last (grid0.coords t) := fun hh => by
  have := (last_iff t).mp hh; omega
theorem not_first_of_last (t : Fin cfg0.N) (h : t.val % 16 = 15) : ¬first (grid0.coords t) := fun hh => by
  have := (first_iff t).mp hh; omega
theorem not_inner_of_last (t : Fin cfg0.N) (h : t.val % 16 = 15) : ¬inner (grid0.coords t) := fun hh => by
  have := (inner_iff t).mp hh; omega
theorem inner_of_between (t : Fin cfg0.N) (h : ¬t.val % 16 = 0) (l : ¬t.val % 16 = 15) : inner (grid0.coords t) :=
  (inner_iff t).mpr (by omega)

/-! ## The residual's row blocks -/

/-- Where row block `b` of the residual starts. -/
abbrev resOff (b : ℕ) : Fin 2 → ℕ := ![1024 * (b % 4), 0]
theorem resOff_inb (b : ℕ) : ∀ a, resOff b a + S1024x2048.size a ≤ S4096x2048.size a := by
  intro a
  have hb : b % 4 < 4 := Nat.mod_lt _ (by decide)
  match a with
  | ⟨0, _⟩ => show 1024 * (b % 4) + 1024 ≤ 4096; omega
  | ⟨1, _⟩ => show 0 + 2048 ≤ 2048; omega
/-- Row block `b` of the residual, in HBM. -/
abbrev resM (b : ℕ) : Memref sig .tc .hbm S1024x2048 .f32 :=
  hbM.slice (Rect.unit (s := S4096x2048) (resOff b) S1024x2048.size (resOff_inb b)) (fun _ => rfl)
/-- The elements of the residual it consists of. -/
def resSet (c : Dev nD) (b : ℕ) : Finset (Idx (hbM.view.loc (c : Thread nD τ))) := by exact (resM b).view.set
/-- Its contents. -/
def resBlk (c : Dev nD) (b : ℕ) : Vec F S1024x2048 .f32 := (resM b).view.read (Elt F) (V m c main_arg3)

theorem off_first : ∀ t : Fin cfg0.N, t.val % 16 = 0 → k0_off1 (grid0.coords t) = resOff (t.val / 16) :=
  (by decide +kernel : ∀ t : Fin grid0.N, t.val % 16 = 0 → k0_off1 (grid0.coords t) = resOff (t.val / 16))

theorem slice_of_off {o o' : Fin 2 → ℕ} (e : o = o') (h h') :
    (hbM.slice (Rect.unit (s := S4096x2048) o S1024x2048.size h) (fun _ => rfl) : Memref sig .tc .hbm S1024x2048 .f32)
      = hbM.slice (Rect.unit (s := S4096x2048) o' S1024x2048.size h') (fun _ => rfl) := by
  subst e; rfl

/-- The first point of row block `b` copies row block `b` of the residual. -/
theorem srcA_eq (t : Fin cfg0.N) (h : t.val % 16 = 0) : srcA (grid0.coords t) ((first_iff t).mpr h) = resM (t.val / 16) :=
  slice_of_off (off_first t h) _ _

/-- The copy of row block `b` in flight: it is to deliver the block into the scratch and to give back what it was lent
    of the residual; the rest of the residual is here. -/
def inflight (c : Dev nD) (b : ℕ) : sProp 𝕄 :=
  iprop((∃ r, prngReg c r)
    ∗ Transfers.Flight countersEmb (c : Thread nD τ) (SemLoc.dma 11) () (scM.view.amount (SemLoc.dma (sig := sig) 11))
        iprop((scM.view.loc (c : Thread nD τ) ↦[scM.view.set]{fullShare} (Memref.isWhole_whole cc0_scratch0).unread (Val := Elt F) (resBlk m c b))
          ∗ (hbM.view.loc (c : Thread nD τ) ↦[(resM b).view.set]{fullShare} V m c main_arg3))
    ∗ (hbM.view.loc (c : Thread nD τ) ↦[Finset.univ \ (resM b).view.set]{fullShare} V m c main_arg3))

/-- What the kernel holds of its own before point `n`: between row blocks nothing is in flight, within one the copy of
    its residual is. -/
def inv (c : Dev nD) (n : ℕ) : sProp 𝕄 :=
  if n % 16 = 0 then Pipeline.ΦD osem spec0 HB (V m) c else inflight m c (n / 16)

/-! ## The output's buffer point by point -/

/-- What point `t` leaves in the output's buffer, given what it finds there. -/
def step (c : Dev nD) (t : Fin cfg0.N) (prev : Vec F S1024x2048 .f32) : Vec F S1024x2048 .f32 :=
  if h : t.val % 16 = 0 then
    outFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h) (not_inner_of_first t h) (not_last_of_first t h) (iblk m c 0 t) (iblk m c 1 t) (iblk m c 2 t) (V m c main_arg3)
  else if l : t.val % 16 = 15 then
    outLast c (grid0.coords t) (ms0 t) (hs0 t) (ms1 t) (hs1 t) (ms2 t) (hs2 t) (ms3 t) (hs3 t) (ms4 t) (hs4 t) (ms5 t) (hs5 t) scM (Memref.isWhole_whole _) (not_first_of_last t l) (not_inner_of_last t l) ((last_iff t).mpr l) (iblk m c 0 t) (iblk m c 1 t) (iblk m c 2 t) (iblk m c 3 t) (iblk m c 4 t) prev (resBlk m c (t.val / 16)) (V m c main_arg3) (resSet c (t.val / 16))
  else
    outInner c (grid0.coords t) (ms0 t) (hs0 t) (ms1 t) (hs1 t) (ms2 t) (hs2 t) (ms3 t) (hs3 t) (ms4 t) (hs4 t) (ms5 t) (hs5 t) scM (Memref.isWhole_whole _) (fun hh => h ((first_iff t).mp hh)) (inner_of_between t h l) (fun hh => l ((last_iff t).mp hh)) (iblk m c 0 t) (iblk m c 1 t) (iblk m c 2 t) prev

/-- What the output's buffer holds after point `n`. -/
def outsAt (c : Dev nD) : (n : ℕ) → n < cfg0.N → Vec F S1024x2048 .f32
  | 0, hn => step m c ⟨0, hn⟩ (VO.read (Elt F) VO.junk)
  | n + 1, hn => step m c ⟨n + 1, hn⟩ (outsAt c n (Nat.lt_of_succ_lt hn))

theorem step_first (c : Dev nD) (t : Fin cfg0.N) (prev : Vec F S1024x2048 .f32) (h : t.val % 16 = 0) :
    step m c t prev = outFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h) (not_inner_of_first t h) (not_last_of_first t h) (iblk m c 0 t) (iblk m c 1 t) (iblk m c 2 t) (V m c main_arg3) := by
  unfold step; rw [dif_pos h]

theorem step_last (c : Dev nD) (t : Fin cfg0.N) (prev : Vec F S1024x2048 .f32) (l : t.val % 16 = 15) :
    step m c t prev = outLast c (grid0.coords t) (ms0 t) (hs0 t) (ms1 t) (hs1 t) (ms2 t) (hs2 t) (ms3 t) (hs3 t) (ms4 t) (hs4 t) (ms5 t) (hs5 t) scM (Memref.isWhole_whole _) (not_first_of_last t l) (not_inner_of_last t l) ((last_iff t).mpr l) (iblk m c 0 t) (iblk m c 1 t) (iblk m c 2 t) (iblk m c 3 t) (iblk m c 4 t) prev (resBlk m c (t.val / 16)) (V m c main_arg3) (resSet c (t.val / 16)) := by
  unfold step; rw [dif_neg (by omega), dif_pos l]

theorem step_inner (c : Dev nD) (t : Fin cfg0.N) (prev : Vec F S1024x2048 .f32) (h : ¬t.val % 16 = 0) (l : ¬t.val % 16 = 15) :
    step m c t prev = outInner c (grid0.coords t) (ms0 t) (hs0 t) (ms1 t) (hs1 t) (ms2 t) (hs2 t) (ms3 t) (hs3 t) (ms4 t) (hs4 t) (ms5 t) (hs5 t) scM (Memref.isWhole_whole _) (fun hh => h ((first_iff t).mp hh)) (inner_of_between t h l) (fun hh => l ((last_iff t).mp hh)) (iblk m c 0 t) (iblk m c 1 t) (iblk m c 2 t) prev := by
  unfold step; rw [dif_neg h, dif_neg l]

/-- What lies in the output's buffer before point `t`, as far as it matters. -/
def prevAt (c : Dev nD) (t : Fin cfg0.N) : Vec F S1024x2048 .f32 :=
  outsAt m c (t.val - 1) (Nat.lt_of_le_of_lt (Nat.sub_le _ _) t.isLt)

theorem outsAt_first (c : Dev nD) (t : Fin cfg0.N) (h : t.val % 16 = 0) :
    outsAt m c t.val t.isLt = step m c t (VO.read (Elt F) VO.junk) := by
  refine Eq.trans ?_ ((step_first m c t (prevAt m c t) h).trans (step_first m c t _ h).symm)
  obtain ⟨n, hn⟩ := t
  cases n with
  | zero => exact (step_first m c ⟨0, hn⟩ _ h).trans (step_first m c ⟨0, hn⟩ _ h).symm
  | succ n => rfl

theorem outsAt_next (c : Dev nD) (t : Fin cfg0.N) (h : ¬t.val % 16 = 0) :
    outsAt m c t.val t.isLt = step m c t (prevAt m c t) := by
  obtain ⟨n, hn⟩ := t
  cases n with
  | zero => exact absurd (Nat.zero_mod _) h
  | succ n => rfl

/-! ## The pipeline's data -/

/-- The arrays as found, the inputs' buffers at their blocks, the output's at `outsAt`, and `inv` between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ n := inv m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before_in0 m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before_in1 m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before_in2 m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before_in3 m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before_in4 m (dats m 0 c) (A_eq m c 4) (after4 m c) t d
theorem after5 (c : Dev nD) (t : Fin cfg0.N) : (dats m 0 c).after 5 t = outsAt m c t.val t.isLt := by dsimp only [dats]
/-- After a row block's first point, the output's buffer holds what the point before left. -/
theorem before5 (c : Dev nD) (t : Fin cfg0.N) (h : ¬t.val % 16 = 0) (d) :
    (dats m 0 c).before 5 t d = prevAt m c t := by
  rw [Dat.before_out_traj _ 5 rfl (fun _ _ => rfl)
      (fun t _ hi _ => absurd ((live5 t).symm.trans hi) Bool.false_ne_true) t.val t rfl d,
    if_neg (by rw [not_fresh t h]; exact Bool.false_ne_true)]
  dsimp only [dats, prevAt]

end Cert.Kernel2Ideal.Mlp

end
-- ==== Proof.Mlp.Frame.lean ====
/-
The run of the MLP's kernel: the body at every point, the copy carried in flight from the first point of a row block to
the last, and what the whole run leaves in the arrays.
-/
module

public import proofs.«01_k».proof.Proof.Mlp.Outs
public import Idealize.ShloMosaic.Lib.Claim

@[expose] public section

set_option maxRecDepth 16384

noncomputable section

namespace Cert.Kernel2Ideal.Mlp

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The copy in flight -/

/-- The copy of the residual's rows from offset `o` on in flight, and the rest of the residual. -/
def fly (c : Dev nD) (o : Fin 2 → ℕ) (h : ∀ a, o a + S1024x2048.size a ≤ S4096x2048.size a) : sProp 𝕄 :=
  iprop(Transfers.Flight countersEmb (c : Thread nD τ) (SemLoc.dma 11) () (scM.view.amount (SemLoc.dma (sig := sig) 11))
        iprop((scM.view.loc (c : Thread nD τ) ↦[scM.view.set]{fullShare} (Memref.isWhole_whole cc0_scratch0).unread (Val := Elt F)
            ((hbM.slice (Rect.unit (s := S4096x2048) o S1024x2048.size h) (fun _ => rfl)).view.read (Elt F) (V m c main_arg3)))
          ∗ (hbM.view.loc (c : Thread nD τ) ↦[(hbM.slice (Rect.unit (s := S4096x2048) o S1024x2048.size h) (fun _ => rfl)).view.set]{fullShare} V m c main_arg3))
    ∗ (hbM.view.loc (c : Thread nD τ) ↦[Finset.univ \ (hbM.slice (Rect.unit (s := S4096x2048) o S1024x2048.size h) (fun _ => rfl)).view.set]{fullShare} V m c main_arg3))

theorem fly_congr (c : Dev nD) {o o' : Fin 2 → ℕ} (e : o = o') (h h') : fly m c o h = fly m c o' h' := by subst e; rfl

theorem inflight_eq (c : Dev nD) (b : ℕ) :
    inflight m c b = iprop((∃ r, prngReg c r) ∗ fly m c (resOff b) (resOff_inb b)) := rfl

theorem inv_between (c : Dev nD) {n : ℕ} (h : n % 16 = 0) :
    inv m c n = iprop(iprop((∃ d, owns (c : Thread nD τ) scM fullShare d)) ∗ (∃ r, prngReg c r) ∗ iprop(semVal ((c : Thread nD τ), SemLoc.dma 11) 0) ∗ iprop(hbPt c hbM (V m c main_arg3))) := by
  unfold inv; rw [if_pos h, rest_eq]

theorem inv_within (c : Dev nD) {n b : ℕ} (h : ¬n % 16 = 0) (hb : n / 16 = b) :
    inv m c n = iprop((∃ r, prngReg c r) ∗ fly m c (resOff b) (resOff_inb b)) := by
  unfold inv; rw [if_neg h, hb, inflight_eq]

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1200000 in
/-- The first point of a row block: nothing in flight before it, its copy after it. -/
theorem body_first (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_first m c t h, step_first m c t _ h, inv_between m c h,
    inv_within m c (b := t.val / 16) (by omega) (by omega), ← fly_congr m c (off_first t h) (Gen.facts.k0_off1_inb _ ((first_iff t).mpr h)) _]
  unfold outFirst fly
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply ((runFirst c (grid0.coords t) _ _ _ _ _ _ _ _ _ _ _ _ _ _ ((first_iff t).mpr h) (not_inner_of_first t h) (not_last_of_first t h) (iblk m c 0 t) (iblk m c 1 t) (iblk m c 2 t) (V m c main_arg3)).2 W _)
  isplitl [H0]; · iexact H0
  isplitl [H1]; · iexact H1
  isplitl [H2]; · iexact H2
  isplitl [H5]; · iexists _; iexact H5
  isplitl [HS]; · iexact HS
  isplitl [Hq]; · iexact Hq
  isplitl [Hh]; · iexact Hh
  isplitl [HW]; · iexact HW
  iintro ⟨H0, H1, H2, ⟨%e5, H5⟩, Hq, Hh, ⟨%W', HW'⟩⟩
  isplitl [Hg Hq Hh]
  · isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverFirst c _ _ _ _ _ _ _ _ _ _ _ _ _ _ _ _ _ _ _ _ _ _)

set_option maxHeartbeats 1200000 in
/-- A middle point: the copy stays in flight. -/
theorem body_inner (c : Dev nD) (t : Fin cfg0.N) (h : ¬t.val % 16 = 0) (l : ¬t.val % 16 = 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_next m c t h, step_inner m c t _ h l, inv_within m c (b := t.val / 16) h rfl,
    inv_within m c (b := t.val / 16) (by omega) (by omega)]
  simp only [before5 m c t h]
  unfold outInner
  iintro ⟨HI, ⟨%W, -, HW⟩, ⟨%d0, H0⟩, ⟨%d1, H1⟩, ⟨%d2, H2⟩, ⟨%d3, H3⟩, ⟨%d4, H4⟩, ⟨%d5, H5⟩⟩
  iapply ((runInner c (grid0.coords t) _ _ _ _ _ _ _ _ _ _ _ _ _ _ (fun hh => h ((first_iff t).mp hh)) (inner_of_between t h l) (fun hh => l ((last_iff t).mp hh)) (iblk m c 0 t) (iblk m c 1 t) (iblk m c 2 t) (prevAt m c t)).2 W _)
  isplitl [H0]; · iexact H0
  isplitl [H1]; · iexact H1
  isplitl [H2]; · iexact H2
  isplitl [H5]; · iexact H5
  isplitl [HW]; · iexact HW
  iintro ⟨H0, H1, H2, ⟨%e5, H5⟩, ⟨%W', HW'⟩⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverInner c _ _ _ _ _ _ _ _ _ _ _ _ _ _ _ _ _ _ _ _ _ _)

set_option maxHeartbeats 1200000 in
/-- The last point: the copy has landed and nothing is in flight any more. -/
theorem body_last (c : Dev nD) (t : Fin cfg0.N) (l : t.val % 16 = 15) :
    bodyPre m c t ⊢ wp frame (wpE (defs₀ (F := F)) Variants.none c none) Set.univ (bodyAt0 t) (fun _ => bodyPost m c t) := by
  have h : ¬t.val % 16 = 0 := by omega
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_next m c t h, step_last m c t _ l, inv_within m c (b := t.val / 16) h rfl,
    inv_between m c (show (t.val + 1) % 16 = 0 by omega)]
  simp only [before5 m c t h]
  unfold outLast fly
  iintro ⟨⟨Hg, Hq, Hh⟩, ⟨%W, -, HW⟩, ⟨%d0, H0⟩, ⟨%d1, H1⟩, ⟨%d2, H2⟩, ⟨%d3, H3⟩, ⟨%d4, H4⟩, ⟨%d5, H5⟩⟩
  iapply ((runLast c (grid0.coords t) _ _ _ _ _ _ _ _ _ _ _ _ _ _ (not_first_of_last t l) (not_inner_of_last t l) ((last_iff t).mpr l) (iblk m c 0 t) (iblk m c 1 t) (iblk m c 2 t) (iblk m c 3 t) (iblk m c 4 t) (prevAt m c t) (resBlk m c (t.val / 16)) (V m c main_arg3) (resSet c (t.val / 16))).2 W _)
  isplitl [H0]; · iexact H0
  isplitl [H1]; · iexact H1
  isplitl [H2]; · iexact H2
  isplitl [H3]; · iexact H3
  isplitl [H4]; · iexact H4
  isplitl [H5]; · iexact H5
  isplitl [Hq]; · iexact Hq
  isplitl [Hh]; · iexact Hh
  isplitl [HW]; · iexact HW
  iintro ⟨H0, H1, H2, H3, H4, ⟨%e5, H5⟩, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverLast c _ _ _ _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact body_first m c t h
  by_cases l : t.val % 16 = 15
  · exact body_last m c t l
  exact body_inner m c t h l

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

theorem inv_start (c : Dev nD) : Pipeline.ΦD osem spec0 HB (V m) c ⊢ inv m c 0 := by
  unfold inv; rw [if_pos (Nat.zero_mod _)]
theorem inv_end (c : Dev nD) {n : ℕ} (h : n = 64) : inv m c n ⊢ Pipeline.ΦD osem spec0 HB (V m) c := by
  subst h; unfold inv; rw [if_pos (by decide)]

set_option backward.isDefEq.respectTransparency.types false in
/-- Every execution ends, with the arrays as the data says, the other buffers as found and all counters at zero. -/
theorem run_counters : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := fun c => inv_start m c) (hout := fun c => inv_end m c N_0)

theorem run_main : θ_run defs (onTc (τ := τ) (main (F := F))) (s₀ m ρ) (Pipeline.FramePost cfgs (dats m) 0 (V m)) :=
  (θ_run defs _ _).mono (fun _ h => h.1) (run_counters m ρ)

/-- Every execution ends with the arguments as launched and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (dats m) (A_eq m) (run_main m ρ)) ((θ_run defs _ _).mono (fun _ h => h.2) (run_counters m ρ))

end Cert.Kernel2Ideal.Mlp

end
-- ==== Proof.Mlp.Spec.lean ====
module

public import Idealize.ShloMosaic.Lib.Pointwise
public import Idealize.ShloMosaic.Lib.IdealHost
public import Idealize.ShloMosaic.Lib.Pipeline.ValueKit

/-! # What the MLP computes, number by number

The squared positive part of the products with the first weight, their products with the second, and the norm, gate and
residual at the end, over the extended reals. Both programs are compared with these. -/

@[expose] public section

set_option maxRecDepth 16384

noncomputable section

namespace Cert.Mlp

open Idealize.ShloMosaic Idealize.ShloMosaic.TcCoe Idealize.SL.Sem

/-- A hidden entry: the square of the positive part of a token's product with a column of the first weight. -/
def hid (u w : Fin 2048 → EReal) : EReal :=
  max (∑ k : Fin 2048, u k * w k) 0 * max (∑ k : Fin 2048, u k * w k) 0

/-- The product of `K` hidden entries with a column of the second weight. -/
def mix {K : ℕ} (u : Fin 2048 → EReal) (w : Fin K → Fin 2048 → EReal) (v : Fin K → EReal) : EReal :=
  ∑ l : Fin K, hid u (w l) * v l

/-- The end of the layer: the token's row normed, gained and gated, on top of the residual. -/
def close (y g p : Fin 2048 → EReal) (x : EReal) (n : Fin 2048) : EReal :=
  x + g n * (y n * Ideal.rsqrt (Ideal.div (∑ l : Fin 2048, y l * y l) (Ideal.ofBits .f32 0x45000000#32)
    + Ideal.ofBits .f32 0x358637BD#32) * p n)

/-- The 8192 hidden entries are sixteen runs of 512. -/
theorem mix_eq_sum (u : Fin 2048 → EReal) (w : Fin 8192 → Fin 2048 → EReal) (v : Fin 8192 → EReal) :
    ∑ s : Fin 16, mix u (fun l : Fin 512 => w ⟨s.val * 512 + l.val, by omega⟩) (fun l => v ⟨s.val * 512 + l.val, by omega⟩) = mix u w v := by
  unfold mix
  exact Fin.sum_mul_add_congr fun s k hl => rfl

end Cert.Mlp

end
-- ==== Proof.Mlp.Blocks.lean ====
module

public import proofs.«01_k».proof.Proof.Mlp.Outs
public import proofs.«01_k».proof.Proof.Mlp.Spec
public import Idealize.ShloMosaic.Lib.Pipeline.ValueKit

/-! # The blocks the points work on, read off the call's arguments -/

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

variable (m : (ℓ : Loc nD τ sig) → Buf (Elt Ideal) ℓ)

abbrev bU (c : Dev nD) (t : Fin cfg0.N) : FVec Ideal S1024x2048 .bf16 := iblk m c 0 t
abbrev bW (c : Dev nD) (t : Fin cfg0.N) : FVec Ideal S2048x512 .f32 := iblk m c 1 t
abbrev bV (c : Dev nD) (t : Fin cfg0.N) : FVec Ideal S512x2048 .f32 := iblk m c 2 t
abbrev bG (c : Dev nD) (t : Fin cfg0.N) : FVec Ideal S1x1x2048 .f32 := iblk m c 3 t
abbrev bP (c : Dev nD) (t : Fin cfg0.N) : FVec Ideal S1x2048 .f32 := iblk m c 4 t
abbrev bX (c : Dev nD) (b : ℕ) : FVec Ideal S1024x2048 .f32 := resBlk m c b

abbrev aU (c : Dev nD) : FVec Ideal S4096x2048 .bf16 := m ((c : Thread nD τ).loc main_arg0)
abbrev aW (c : Dev nD) : FVec Ideal S2048x8192 .f32 := m ((c : Thread nD τ).loc main_arg1)
abbrev aV (c : Dev nD) : FVec Ideal S8192x2048 .f32 := m ((c : Thread nD τ).loc main_arg2)
abbrev aX (c : Dev nD) : FVec Ideal S4096x2048 .f32 := m ((c : Thread nD τ).loc main_arg3)
abbrev aG (c : Dev nD) : FVec Ideal S1x1x2048 .f32 := m ((c : Thread nD τ).loc main_arg4)
abbrev aP (c : Dev nD) : FVec Ideal S2048 .f32 := m ((c : Thread nD τ).loc main_arg5)

/-- Where each window stands at each grid point. -/
theorem idx : ∀ t : Fin cfg0.N, win0_0.index t = ![t.val / 16, 0] ∧ win0_1.index t = ![0, t.val % 16] ∧ win0_2.index t = ![t.val % 16, 0]
    ∧ win0_3.index t = ![0, 0, 0] ∧ win0_4.index t = ![0, 0] ∧ win0_5.index t = ![t.val / 16, 0] :=
  (by decide +kernel : ∀ t : Fin grid0.N, win0_0.index t = ![t.val / 16, 0] ∧ win0_1.index t = ![0, t.val % 16] ∧ win0_2.index t = ![t.val % 16, 0]
    ∧ win0_3.index t = ![0, 0, 0] ∧ win0_4.index t = ![0, 0] ∧ win0_5.index t = ![t.val / 16, 0])

/-- What the host code leaves in the gain's array. -/
theorem V0 (c : Dev nD) : V m c main_v0 = shapeCast S1x2048 (aP m c) shapeCasts_S2048_S1x2048 := by
  unfold V; simp only [hostOps0, List.flatten_cons, List.flatten_nil, List.append_nil, List.cons_append, List.nil_append]; after_results; try rfl

/-- The token a row of a block is. -/
theorem row_lt (t : Fin cfg0.N) (r : Fin 1024) : 1024 * (t.val / 16) + r.val < 4096 := by
  have := t.isLt; have : cfg0.N = 64 := N_0; omega

theorem bU_at (c : Dev nD) (t : Fin cfg0.N) (r : Fin 1024) (k : Fin 2048) :
    (bU m c t (ix2 r k) : EReal) = aU m c (ix2 ⟨1024 * (t.val / 16) + r.val, row_lt t r⟩ k) := by
  have e : ((win0_0.blk t).view.emb (ix2 r k)) = (ix2 ⟨1024 * (t.val / 16) + r.val, row_lt t r⟩ k : S4096x2048.Idx) := by
    blk_ext [idx t]
  show V m c main_arg0 ((win0_0.blk t).view.emb (ix2 r k)) = _
  rw [e, V_arg0]

theorem bW_at (c : Dev nD) (t : Fin cfg0.N) (k : Fin 2048) (l : Fin 512) :
    (bW m c t (ix2 k l) : EReal) = aW m c (ix2 k ⟨t.val % 16 * 512 + l.val, by omega⟩) := by
  have e : ((win0_1.blk t).view.emb (ix2 k l)) = (ix2 k ⟨t.val % 16 * 512 + l.val, by omega⟩ : S2048x8192.Idx) := by
    blk_ext [idx t]
  show V m c main_arg1 ((win0_1.blk t).view.emb (ix2 k l)) = _
  rw [e, V_arg1]

theorem bV_at (c : Dev nD) (t : Fin cfg0.N) (l : Fin 512) (n : Fin 2048) :
    (bV m c t (ix2 l n) : EReal) = aV m c (ix2 ⟨t.val % 16 * 512 + l.val, by omega⟩ n) := by
  have e : ((win0_2.blk t).view.emb (ix2 l n)) = (ix2 ⟨t.val % 16 * 512 + l.val, by omega⟩ n : S8192x2048.Idx) := by
    blk_ext [idx t]
  show V m c main_arg2 ((win0_2.blk t).view.emb (ix2 l n)) = _
  rw [e, V_arg2]

theorem bG_at (c : Dev nD) (t : Fin cfg0.N) (n : Fin 2048) : (bG m c t (ix3 0 0 n) : EReal) = aG m c (ix3 0 0 n) := by
  have e : ((win0_3.blk t).view.emb (ix3 0 0 n)) = (ix3 0 0 n : S1x1x2048.Idx) := by
    blk_ext [idx t]
  show V m c main_arg4 ((win0_3.blk t).view.emb (ix3 0 0 n)) = _
  rw [e, V_arg4]

theorem bP_at (c : Dev nD) (t : Fin cfg0.N) (n : Fin 2048) : (bP m c t (ix2 0 n) : EReal) = aP m c (ix1 n) := by
  have e : ((win0_4.blk t).view.emb (ix2 0 n)) = (ix2 0 n : S1x2048.Idx) := by
    blk_ext [idx t]
  show V m c main_v0 ((win0_4.blk t).view.emb (ix2 0 n)) = _
  rw [e, V0]
  pointwise

theorem bX_at (c : Dev nD) (t : Fin cfg0.N) (r : Fin 1024) (n : Fin 2048) :
    (bX m c (t.val / 16) (ix2 r n) : EReal) = aX m c (ix2 ⟨1024 * (t.val / 16) + r.val, row_lt t r⟩ n) := by
  have hb : t.val / 16 % 4 = t.val / 16 := Nat.mod_eq_of_lt (by have := t.isLt; have : cfg0.N = 64 := N_0; omega)
  have e : ((resM (t.val / 16)).view.emb (ix2 r n)) = (ix2 ⟨1024 * (t.val / 16) + r.val, row_lt t r⟩ n : S4096x2048.Idx) := by
    funext a
    match a with
    | ⟨0, _⟩ => exact Fin.ext (by show 1024 * (t.val / 16 % 4) + 1 * r.val = 1024 * (t.val / 16) + r.val; rw [hb, Nat.one_mul])
    | ⟨1, _⟩ => exact Fin.ext (by show 0 + 1 * n.val = n.val; omega)
  show V m c main_arg3 ((resM (t.val / 16)).view.emb (ix2 r n)) = _
  rw [e, V_arg3]

end Cert.Kernel2Ideal.Mlp

end
-- ==== Proof.Mlp.Pure.lean ====
module

public import proofs.«01_k».proof.Proof.Gen.Kernel2Ideal.Skeleton
public import proofs.«01_k».proof.Proof.Mlp.Spec

/-! # The kernel's computed values at an index -/

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

/-- One point's part of a token's products. -/
abbrev part (w : FVec Ideal S2048x512 .f32) (v : FVec Ideal S512x2048 .f32) (u : Fin 2048 → EReal) (n : Fin 2048) : EReal :=
  mix u (fun (l : Fin 512) k => w (ix2 k l)) (fun l => v (ix2 l n))

theorem pay3_at (w : FVec Ideal S2048x512 .f32) (v : FVec Ideal S512x2048 .f32) (u : FVec Ideal S512x2048 .bf16) (r : Fin 512) (n : Fin 2048) :
    (k0_pay3 (F := Ideal) w v u (ix2 r n) : EReal) = part w v (fun k => u (ix2 r k)) n := by
  pointwise [k0_pay3, k0_pay1, k0_pay2, part, mix, hid]

theorem pay4_at (w : FVec Ideal S2048x512 .f32) (v : FVec Ideal S512x2048 .f32) (u : FVec Ideal S512x2048 .bf16) (r : Fin 512) (n : Fin 2048) :
    (k0_pay4 (F := Ideal) w v u (ix2 r n) : EReal) = part w v (fun k => u (ix2 r k)) n := by
  pointwise [k0_pay4, k0_pay1, k0_pay2, part, mix, hid]

theorem pay7_at (w : FVec Ideal S2048x512 .f32) (v : FVec Ideal S512x2048 .f32) (y : FVec Ideal S512x2048 .f32) (u : FVec Ideal S512x2048 .bf16) (r : Fin 512) (n : Fin 2048) :
    (k0_pay7 (F := Ideal) w v y u (ix2 r n) : EReal) = y (ix2 r n) + part w v (fun k => u (ix2 r k)) n := by
  pointwise [k0_pay7, k0_pay5, k0_pay6, part, mix, hid]

theorem pay8_at (w : FVec Ideal S2048x512 .f32) (v : FVec Ideal S512x2048 .f32) (y : FVec Ideal S512x2048 .f32) (u : FVec Ideal S512x2048 .bf16) (r : Fin 512) (n : Fin 2048) :
    (k0_pay8 (F := Ideal) w v y u (ix2 r n) : EReal) = y (ix2 r n) + part w v (fun k => u (ix2 r k)) n := by
  pointwise [k0_pay8, k0_pay5, k0_pay6, part, mix, hid]

theorem pay9_at (w : FVec Ideal S2048x512 .f32) (v : FVec Ideal S512x2048 .f32) (y : FVec Ideal S512x2048 .f32) (u : FVec Ideal S512x2048 .bf16)
    (x : FVec Ideal S512x2048 .f32) (g : FVec Ideal S1x1x2048 .f32) (p : FVec Ideal S1x2048 .f32) (r : Fin 512) (n : Fin 2048) :
    (k0_pay9 (F := Ideal) x (k0_pay13 w v y u g p) (ix2 r n) : EReal) =
      close (fun l => y (ix2 r l) + part w v (fun k => u (ix2 r k)) l) (fun l => g (ix3 0 0 l)) (fun l => p (ix2 0 l)) (x (ix2 r n)) n := by
  pointwise [k0_pay9, k0_pay13, k0_pay11, k0_pay12, part, mix, hid, close]

theorem pay10_at (w : FVec Ideal S2048x512 .f32) (v : FVec Ideal S512x2048 .f32) (y : FVec Ideal S512x2048 .f32) (u : FVec Ideal S512x2048 .bf16)
    (x : FVec Ideal S512x2048 .f32) (g : FVec Ideal S1x1x2048 .f32) (p : FVec Ideal S1x2048 .f32) (r : Fin 512) (n : Fin 2048) :
    (k0_pay10 (F := Ideal) (k0_pay11 w) (k0_pay12 v) y u x g p (ix2 r n) : EReal) =
      close (fun l => y (ix2 r l) + part w v (fun k => u (ix2 r k)) l) (fun l => g (ix3 0 0 l)) (fun l => p (ix2 0 l)) (x (ix2 r n)) n := by
  pointwise [k0_pay10, k0_pay11, k0_pay12, part, mix, hid, close]

end Cert.Kernel2Ideal.Mlp

end
-- ==== Proof.Mlp.Cases.lean ====
module

public import proofs.«01_k».proof.Proof.Mlp.Blocks
public import proofs.«01_k».proof.Proof.Mlp.Pure
public import Idealize.ShloMosaic.Lib.Pipeline.ReadBack

/-! # What each grid point leaves in the output's buffer, at an index -/

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

variable (m : (ℓ : Loc nD τ sig) → Buf (Elt Ideal) ℓ)

/-- The part of a row's products that one point computes. -/
def partAt (c : Dev nD) (t : Fin cfg0.N) (r : Fin 1024) (n : Fin 2048) : EReal :=
  part (bW m c t) (bV m c t) (fun k => bU m c t (ix2 r k)) n

/-- The first point of a row block leaves its own part. -/
theorem out_first (c : Dev nD) (t : Fin cfg0.N) (h : t.val % 16 = 0) (r : Fin 1024) (n : Fin 2048) :
    (outsAt m c t.val t.isLt (ix2 r n) : EReal) = partAt m c t r n := by
  rw [outsAt_first m c t h, step_first m c t _ h]
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay4_at _ _ _ x0 n).trans ?_
    pointwise [partAt]
  · idx_vars x
    obtain rfl : r = ⟨x0.val, Nat.lt_trans x0.isLt (by decide)⟩ := Fin.ext q0
    obtain rfl : n = x1 := Fin.ext q1
    refine (pay3_at _ _ _ x0 n).trans ?_
    pointwise [partAt]

/-- A middle point adds its part to what it finds. -/
theorem out_inner (c : Dev nD) (t : Fin cfg0.N) (h : ¬t.val % 16 = 0) (l : ¬t.val % 16 = 15) (r : Fin 1024) (n : Fin 2048) :
    (outsAt m c t.val t.isLt (ix2 r n) : EReal) = prevAt m c t (ix2 r n) + partAt m c t r n := by
  rw [outsAt_next m c t h, step_inner m c t _ h l]
  generalize prevAt m c t = y
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay8_at _ _ _ _ x0 n).trans ?_
    pointwise [partAt]
  · idx_vars x
    obtain rfl : r = ⟨x0.val, Nat.lt_trans x0.isLt (by decide)⟩ := Fin.ext q0
    obtain rfl : n = x1 := Fin.ext q1
    refine (pay7_at _ _ _ _ x0 n).trans ?_
    pointwise [partAt]

/-- The last point adds its part, norms the sums, and puts them on top of the residual. -/
theorem out_last (c : Dev nD) (t : Fin cfg0.N) (l : t.val % 16 = 15) (r : Fin 1024) (n : Fin 2048) :
    (outsAt m c t.val t.isLt (ix2 r n) : EReal) =
      close (fun k => prevAt m c t (ix2 r k) + partAt m c t r k) (fun k => bG m c t (ix3 0 0 k)) (fun k => bP m c t (ix2 0 k))
        (bX m c (t.val / 16) (ix2 r n)) n := by
  rw [outsAt_next m c t (by omega), step_last m c t _ l]
  generalize prevAt m c t = y
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay10_at _ _ _ _ _ _ _ x0 n).trans ?_
    pointwise [partAt]
    exact congrArg (fun a => close _ _ _ a n) (congrFun ((Memref.isWhole_whole cc0_scratch0).read_unread (Val := Elt Ideal) (resBlk m c (t.val / 16))) (ix2 _ n))
  · idx_vars x
    obtain rfl : r = ⟨x0.val, Nat.lt_trans x0.isLt (by decide)⟩ := Fin.ext q0
    obtain rfl : n = x1 := Fin.ext q1
    refine (pay9_at _ _ _ _ _ _ _ x0 n).trans ?_
    pointwise [partAt]
    exact congrArg (fun a => close _ _ _ a n) (congrFun ((Memref.isWhole_whole cc0_scratch0).read_unread (Val := Elt Ideal) (resBlk m c (t.val / 16))) (ix2 _ n))

end Cert.Kernel2Ideal.Mlp

end
-- ==== Proof.Mlp.Array.lean ====
module

public import proofs.«01_k».proof.Proof.Mlp.Cases

/-! # The output's array after the call

The sixteen points of a row block add up the sixteen parts of its products; the last one closes the layer. -/

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Cert.Mlp

variable (m : (ℓ : Loc nD τ sig) → Buf (Elt Ideal) ℓ)

/-- The products summed up at point `k`, the point's own part included. -/
def accAt (c : Dev nD) (r : Fin 1024) (n : Fin 2048) (k : ℕ) (hk : k < cfg0.N) : EReal :=
  if k % 16 = 15 then prevAt m c ⟨k, hk⟩ (ix2 r n) + partAt m c ⟨k, hk⟩ r n else outsAt m c k hk (ix2 r n)

theorem accAt_first (c : Dev nD) (r : Fin 1024) (n : Fin 2048) (t : Fin cfg0.N) (h : t.val % 16 = 0) :
    accAt m c r n t.val t.isLt = 0 + partAt m c t r n := by
  unfold accAt
  rw [if_neg (by omega), zero_add]
  exact out_first m c t h r n

theorem accAt_next (c : Dev nD) (r : Fin 1024) (n : Fin 2048) (t : Fin cfg0.N) (h : ¬t.val % 16 = 0) :
    accAt m c r n t.val t.isLt = accAt m c r n (t.val - 1) (Nat.lt_of_le_of_lt (Nat.sub_le _ _) t.isLt) + partAt m c t r n := by
  have hp : accAt m c r n (t.val - 1) (Nat.lt_of_le_of_lt (Nat.sub_le _ _) t.isLt) = prevAt m c t (ix2 r n) := by
    unfold accAt prevAt
    rw [if_neg (by omega)]
  rw [hp]
  unfold accAt
  by_cases l : t.val % 16 = 15
  · rw [if_pos l]
  · rw [if_neg l]
    exact out_inner m c t h l r n

/-- The sums the last point of a row block closes with. -/
theorem total (c : Dev nD) (t : Fin cfg0.N) (l : t.val % 16 = 15) (r : Fin 1024) (n : Fin 2048) :
    prevAt m c t (ix2 r n) + partAt m c t r n =
      ∑ s : Fin 16, partAt m c ⟨16 * (t.val / 16) + s.val, Pipeline.run_point_lt_of_flush t l s⟩ r n := by
  have e := Pipeline.eq_sum_fin_of_reset_step_of_flush (accAt m c r n) 16 0 (fun t => partAt m c t r n)
    (accAt_first m c r n) (accAt_next m c r n) t l
  rw [zero_add] at e
  refine Eq.trans ?_ e
  unfold accAt
  rw [if_pos l]

/-- A token's products, of the call's arguments. -/
def prodAt (c : Dev nD) (s : Fin 4096) (n : Fin 2048) : EReal :=
  mix (fun k => aU m c (ix2 s k)) (fun (l : Fin 8192) k => aW m c (ix2 k l)) (fun l => aV m c (ix2 l n))

theorem partAt_eq (c : Dev nD) (t : Fin cfg0.N) (r : Fin 1024) (n : Fin 2048) :
    partAt m c t r n = mix (fun k => aU m c (ix2 ⟨1024 * (t.val / 16) + r.val, row_lt t r⟩ k))
      (fun (l : Fin 512) k => aW m c (ix2 k ⟨t.val % 16 * 512 + l.val, by omega⟩)) (fun l => aV m c (ix2 ⟨t.val % 16 * 512 + l.val, by omega⟩ n)) := by
  unfold partAt part
  congr 1
  · exact funext fun k => bU_at m c t r k
  · exact funext fun l => funext fun k => bW_at m c t k l
  · exact funext fun l => bV_at m c t l n

theorem total_eq (c : Dev nD) (t : Fin cfg0.N) (l : t.val % 16 = 15) (r : Fin 1024) (n : Fin 2048) :
    prevAt m c t (ix2 r n) + partAt m c t r n = prodAt m c ⟨1024 * (t.val / 16) + r.val, row_lt t r⟩ n := by
  rw [total m c t l r n]
  unfold prodAt
  rw [← mix_eq_sum]
  refine Finset.sum_congr rfl fun s _ => ?_
  rw [partAt_eq]
  have hd : (16 * (t.val / 16) + s.val) / 16 = t.val / 16 := by omega
  have hm : (16 * (t.val / 16) + s.val) % 16 = s.val := by omega
  simp only [hd, hm]

/-- The result's entries, of the call's arguments. -/
def outArr (c : Dev nD) : FVec Ideal S4096x2048 .f32 := fun y =>
  close (fun k => prodAt m c (y 0) k) (fun k => aG m c (ix3 0 0 k)) (fun k => aP m c (ix1 k)) (aX m c (ix2 (y 0) (y 1))) (y 1)

theorem out_at (c : Dev nD) (t : Fin cfg0.N) (l : t.val % 16 = 15) (r : Fin 1024) (n : Fin 2048) :
    (outsAt m c t.val t.isLt (ix2 r n) : EReal) = outArr m c (ix2 ⟨1024 * (t.val / 16) + r.val, row_lt t r⟩ n) := by
  rw [out_last m c t l r n, bX_at m c t r n]
  show _ = close (fun k => prodAt m c ⟨1024 * (t.val / 16) + r.val, row_lt t r⟩ k) (fun k => aG m c (ix3 0 0 k)) (fun k => aP m c (ix1 k))
    (aX m c (ix2 ⟨1024 * (t.val / 16) + r.val, row_lt t r⟩ n)) n
  congr 1
  · exact funext fun k => total_eq m c t l r k
  · exact funext fun k => bG_at m c t k
  · exact funext fun k => bP_at m c t k

theorem flush_iff : ∀ t : Fin cfg0.N, (cfg0.win 5).flush t = true → t.val % 16 = 15 :=
  (by decide +kernel : ∀ t : Fin grid0.N, win0_5.flush t = true → t.val % 16 = 15)

/-- The output's array when the call is over. -/
theorem final_out (c : Dev nD) : (dats m 0 c).arrAt 5 cfg0.N = outArr m c := by
  refine (dats m 0 c).arrAt_eq_of_covers 5 _ (by decide +kernel) fun t hf y => ?_
  blk_simp
  rw [after5]
  idx_vars y
  have e : ((win0_5.blk t).view.emb (ix2 y0 y1)) = (ix2 ⟨1024 * (t.val / 16) + y0.val, row_lt t y0⟩ y1 : S4096x2048.Idx) := by
    blk_ext [idx t]
  refine (out_at m c t (flush_iff t hf) y0 y1).trans ?_
  show _ = outArr m c ((win0_5.blk t).view.emb (ix2 y0 y1))
  rw [e]

end Cert.Kernel2Ideal.Mlp

end
-- ==== Proof.Mlp.Reference.lean ====
module

public import proofs.«01_k».proof.Proof.Gen.Reference2Ideal.Run
public import proofs.«01_k».proof.Proof.Mlp.Spec

/-! # What the reference computes, at an index -/

@[expose] public section

set_option maxRecDepth 16384

noncomputable section

namespace Cert.Reference2Ideal.Mlp

open Idealize.ShloMosaic Idealize.ShloMosaic.TcCoe Idealize.SL.Sem
open Cert.Reference2Ideal Cert.Reference2Ideal.Gen Cert.Mlp

/-- The positive parts of the tokens' products with the first weight. -/
def positive (u : FVec Ideal S4096x2048 .bf16) (w : FVec Ideal S2048x8192 .f32) : FVec Ideal S4096x8192 .f32 :=
  maximumf (Host.dotGeneral dot_S4096x2048_S2048x8192_S4096x8192_1_0_0_1_n_n none (extf .f32 u bitsLt_bf16_f32) w)
    (broadcastInDim S4096x8192 ![] bcast_S_S4096x8192 (constant S_ .f32 0x00000000#32))

/-- Their squares' products with the second. -/
def products (u : FVec Ideal S4096x2048 .bf16) (w : FVec Ideal S2048x8192 .f32) (v : FVec Ideal S8192x2048 .f32) : FVec Ideal S4096x2048 .f32 :=
  Host.dotGeneral dot_S4096x8192_S8192x2048_S4096x2048_1_0_0_1_n_n none (mulf (positive u w) (positive u w)) v

/-- The norm, the gain, the gate and the residual. -/
def closed (y : FVec Ideal S4096x2048 .f32) (x : FVec Ideal S4096x2048 .f32) (g : FVec Ideal S1x1x2048 .f32) (p : FVec Ideal S2048 .f32) : FVec Ideal S4096x2048 .f32 :=
  addf x (mulf (broadcastInDim S4096x2048 ![0, 1] bcast_S1x2048_S4096x2048_0_1 (shapeCast _ g shapeCasts_S1x1x2048_S1x2048))
    (mulf (mulf y (broadcastInDim S4096x2048 ![0, 1] bcast_S4096x1_S4096x2048_0_1
      (Host.rsqrt (addf (Host.divf
        (broadcastInDim S4096x1 ![0] bcast_S4096_S4096x1_0 (Host.reduceAdd (mulf y y) (constant S_ .f32 0x00000000#32) reducesTo_S4096x2048_S4096_d1 h_S_))
        (broadcastInDim S4096x1 ![] bcast_S_S4096x1 (constant S_ .f32 0x45000000#32)))
        (broadcastInDim S4096x1 ![] bcast_S_S4096x1 (constant S_ .f32 0x358637BD#32))))))
      (broadcastInDim S4096x2048 ![0, 1] bcast_S1x2048_S4096x2048_0_1 (broadcastInDim S1x2048 ![1] bcast_S2048_S1x2048_1 p))))

theorem positive_at (u : FVec Ideal S4096x2048 .bf16) (w : FVec Ideal S2048x8192 .f32) (s : Fin 4096) (l : Fin 8192) :
    (positive u w (ix2 s l) : EReal) = max (∑ k : Fin 2048, (u (ix2 s k) : EReal) * w (ix2 k l)) 0 := by
  pointwise [positive]

theorem products_at (u : FVec Ideal S4096x2048 .bf16) (w : FVec Ideal S2048x8192 .f32) (v : FVec Ideal S8192x2048 .f32) (s : Fin 4096) (n : Fin 2048) :
    (products u w v (ix2 s n) : EReal) = mix (fun k => u (ix2 s k)) (fun (l : Fin 8192) k => w (ix2 k l)) (fun l => v (ix2 l n)) := by
  pointwise [products, positive, mix, hid]

theorem closed_at (y : FVec Ideal S4096x2048 .f32) (x : FVec Ideal S4096x2048 .f32) (g : FVec Ideal S1x1x2048 .f32) (p : FVec Ideal S2048 .f32) (s : Fin 4096) (n : Fin 2048) :
    (closed y x g p (ix2 s n) : EReal) = close (fun l => y (ix2 s l)) (fun l => g (ix3 0 0 l)) (fun l => p (ix1 l)) (x (ix2 s n)) n := by
  pointwise [closed, close]

end Cert.Reference2Ideal.Mlp

end
-- ==== Proof.Mlp.Claim.lean ====
module

public import proofs.«01_k».proof.Defs
public import proofs.«01_k».proof.Proof.Gen.Kernel2
public import proofs.«01_k».proof.Proof.Mlp.Frame
public import proofs.«01_k».proof.Proof.Mlp.Array
public import proofs.«01_k».proof.Proof.Mlp.Reference
public import Idealize.ShloMosaic.Lib.Claim

/-! # The MLP equals its reference -/

@[expose] public section

set_option maxRecDepth 16384

noncomputable section

namespace Cert.Mlp

open Idealize.ShloMosaic Idealize.ShloMosaic.TcCoe Idealize.SL.Sem
open Cert.Kernel2Ideal.Mlp

variable (m : (ℓ : Loc Cert.Kernel2Ideal.nD Cert.Kernel2Ideal.τ Cert.Kernel2Ideal.sig) → Buf (Elt Ideal) ℓ) (ρ : Dev Cert.Kernel2Ideal.nD → PrngReg)

/-- The kernel's run: the result by its entries. -/
theorem kernel_run : θ_run Cert.Kernel2Ideal.defs (onTc (τ := Cert.Kernel2Ideal.τ) Cert.Kernel2Ideal.main) ⟨m, fun _ => 0, ρ⟩ fun r => ∀ c : Dev Cert.Kernel2Ideal.nD,
    r.2.mem ((c.tc : Thread Cert.Kernel2Ideal.nD Cert.Kernel2Ideal.τ).loc Cert.Kernel2Ideal.main_v1) = outArr m c :=
  (θ_run Cert.Kernel2Ideal.defs _ _).mono (fun _ h c => ((h c).1 5).trans (final_out m c)) (run_main m ρ)

theorem algebraic : Cert.algebraic_Kernel2Ideal_Reference2Ideal := by
  intro m ρ m' ρ' _ hagree
  refine ⟨fun c => outArr m c, ?_, ?_⟩
  · exact (θ_run Cert.Kernel2Ideal.defs _ _).mono (fun _ h c => ⟨h.1 c, h.2.1 c⟩)
      (θ_run_and (kernel_run m ρ) (Cert.Kernel2Ideal.Mlp.frame m ρ))
  · refine (θ_run Cert.Reference2Ideal.defs _ _).mono (fun r h c => ?_) (Cert.Reference2Ideal.Value.run (F := Ideal) m' ρ')
    obtain ⟨h0, h1, h2, h3, h4, h5⟩ := hagree c
    refine ⟨(h c).1.trans ?_, (h c).2⟩
    rw [h0, h1, h2, h3, h4, h5]
    show Cert.Reference2Ideal.Mlp.closed (Cert.Reference2Ideal.Mlp.products (aU m c) (aW m c) (aV m c)) (aX m c) (aG m c) (aP m c) = _
    funext y
    idx_vars y
    refine (Cert.Reference2Ideal.Mlp.closed_at _ _ _ _ y0 y1).trans ?_
    simp only [Cert.Reference2Ideal.Mlp.products_at]
    rfl

/-- The two programs' tables of bodies are the same text. -/
theorem bodies_eq : @Cert.Kernel2.defs₀ Bits _ _ = @Cert.Kernel2Ideal.defs₀ Bits _ _ := by
  unfold Cert.Kernel2.defs₀ Cert.Kernel2Ideal.defs₀
  refine congrArg Defs.onTc ?_
  funext l a
  match l, a with
  | 0, (t, s) => rfl

theorem tables_eq : @Cert.Kernel2.defs Bits _ _ = @Cert.Kernel2Ideal.defs Bits _ _ :=
  congrArg (Pipeline.defs Cert.Kernel2Ideal.pcfgs) bodies_eq

theorem frame_kernel : Cert.quiescent_Kernel2 := by
  intro m ρ _
  rw [tables_eq]
  exact Cert.Kernel2Ideal.Mlp.frame (F := Bits) m ρ

theorem frame_ideal : Cert.quiescent_Kernel2Ideal := fun m ρ _ => Cert.Kernel2Ideal.Mlp.frame m ρ

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Mlp

end
-- ==== Proof.OutProj.Spec.lean ====
module

public import Idealize.ShloMosaic.Lib.Pointwise
public import Idealize.ShloMosaic.Lib.IdealHost

/-! # What the output projection computes, number by number

The two mixers' rows side by side, their products with the projection's columns, the norm, gate and residual that follow,
and the modulated norm that the MLP starts from, over the extended reals. Both programs are compared with these. -/

@[expose] public section

set_option maxRecDepth 16384

noncomputable section

namespace Cert.OutProj

open Idealize.ShloMosaic Idealize.ShloMosaic.TcCoe Idealize.SL.Sem

/-- A token's two rows side by side. -/
def side (h y : Fin 1024 → EReal) (k : Fin 2048) : EReal :=
  if p : k.val < 1024 then h ⟨k.val, p⟩ else y ⟨k.val - 1024, by omega⟩

/-- Their product with one column of the projection. -/
def mixed (h y : Fin 1024 → EReal) (w : Fin 2048 → EReal) : EReal := ∑ k : Fin 2048, side h y k * w k

/-- An entry of a row divided by the root of its mean square, with a gain. -/
def normed (v p : Fin 2048 → EReal) (n : Fin 2048) : EReal :=
  v n * Ideal.rsqrt (Ideal.div (∑ l : Fin 2048, v l * v l) (Ideal.ofBits .f32 0x45000000#32) + Ideal.ofBits .f32 0x358637BD#32) * p n

/-- The stream after the mixers: the residual and the gated norm. -/
def stream (x g v p : Fin 2048 → EReal) (n : Fin 2048) : EReal := x n + g n * normed v p n

/-- The MLP's input: the stream's norm, scaled and shifted. -/
def entry (v p sc sh : Fin 2048 → EReal) (n : Fin 2048) : EReal := normed v p n * (1 + sc n) + sh n

end Cert.OutProj

end
-- ==== Proof.OutProj.Blocks.lean ====
module

public import proofs.«01_k».proof.Proof.Gen.Kernel3Ideal.Frame
public import proofs.«01_k».proof.Proof.OutProj.Spec
public import Idealize.ShloMosaic.Lib.Pipeline.ValueKit

/-! # The blocks the windows stage, read off the call's arguments -/

@[expose] public section

set_option maxRecDepth 16384

noncomputable section

namespace Cert.Kernel3Ideal.OutProj

open Idealize.ShloMosaic Idealize.ShloMosaic.TcCoe Idealize.SL.Sem
open Cert.Kernel3Ideal Cert.Kernel3Ideal.Gen Cert.OutProj

variable (m : (ℓ : Loc nD τ sig) → Buf (Elt Ideal) ℓ)

abbrev bH (c : Dev nD) (t : Fin cfg0.N) : FVec Ideal S512x1024 .bf16 := iblk m c 0 t
abbrev bY (c : Dev nD) (t : Fin cfg0.N) : FVec Ideal S512x1024 .bf16 := iblk m c 1 t
abbrev bW (c : Dev nD) (t : Fin cfg0.N) : FVec Ideal S2048x2048 .bf16 := iblk m c 2 t
abbrev bX (c : Dev nD) (t : Fin cfg0.N) : FVec Ideal S512x2048 .f32 := iblk m c 3 t
abbrev bG (c : Dev nD) (t : Fin cfg0.N) : FVec Ideal S1x1x2048 .f32 := iblk m c 4 t
abbrev bP (c : Dev nD) (t : Fin cfg0.N) : FVec Ideal S1x2048 .f32 := iblk m c 5 t
abbrev bQ (c : Dev nD) (t : Fin cfg0.N) : FVec Ideal S1x2048 .f32 := iblk m c 6 t
abbrev bSc (c : Dev nD) (t : Fin cfg0.N) : FVec Ideal S1x1x2048 .f32 := iblk m c 7 t
abbrev bSh (c : Dev nD) (t : Fin cfg0.N) : FVec Ideal S1x1x2048 .f32 := iblk m c 8 t

abbrev aH (c : Dev nD) : FVec Ideal S16x256x1024 .bf16 := m ((c : Thread nD τ).loc main_arg0)
abbrev aY (c : Dev nD) : FVec Ideal S16x256x1024 .bf16 := m ((c : Thread nD τ).loc main_arg1)
abbrev aW (c : Dev nD) : FVec Ideal S2048x2048 .f32 := m ((c : Thread nD τ).loc main_arg2)
abbrev aX (c : Dev nD) : FVec Ideal S16x256x2048 .f32 := m ((c : Thread nD τ).loc main_arg3)
abbrev aG (c : Dev nD) : FVec Ideal S1x1x2048 .f32 := m ((c : Thread nD τ).loc main_arg4)
abbrev aP (c : Dev nD) : FVec Ideal S2048 .f32 := m ((c : Thread nD τ).loc main_arg5)
abbrev aQ (c : Dev nD) : FVec Ideal S2048 .f32 := m ((c : Thread nD τ).loc main_arg6)
abbrev aSc (c : Dev nD) : FVec Ideal S1x1x2048 .f32 := m ((c : Thread nD τ).loc main_arg7)
abbrev aSh (c : Dev nD) : FVec Ideal S1x1x2048 .f32 := m ((c : Thread nD τ).loc main_arg8)

/-- Where each window stands at each grid point: three take a row block, the others all there is. -/
theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0, 0] ∧ win0_5.index t = ![0, 0] ∧ win0_6.index t = ![0, 0]
    ∧ win0_7.index t = ![0, 0, 0] ∧ win0_8.index t = ![0, 0, 0] ∧ win0_9.index t = ![t.val, 0] ∧ win0_10.index t = ![t.val, 0])

/-! ## What the host code leaves in the staged arrays -/

theorem V0 (c : Dev nD) : V m c main_v0 = shapeCast S4096x1024 (aH m c) shapeCasts_S16x256x1024_S4096x1024 := by
  unfold V; simp only [hostOps0, List.flatten_cons, List.flatten_nil, List.append_nil, List.cons_append, List.nil_append]; after_results; try rfl

theorem V1 (c : Dev nD) : V m c main_v1 = shapeCast S4096x1024 (aY m c) shapeCasts_S16x256x1024_S4096x1024 := by
  unfold V; simp only [hostOps0, List.flatten_cons, List.flatten_nil, List.append_nil, List.cons_append, List.nil_append]; after_results; try rfl

theorem V2 (c : Dev nD) : V m c main_v2 = truncf .bf16 (aW m c) bitsLt_bf16_f32 := by
  unfold V; simp only [hostOps0, List.flatten_cons, List.flatten_nil, List.append_nil, List.cons_append, List.nil_append]; after_results; try rfl

theorem V3 (c : Dev nD) : V m c main_v3 = shapeCast S4096x2048 (aX m c) shapeCasts_S16x256x2048_S4096x2048 := by
  unfold V; simp only [hostOps0, List.flatten_cons, List.flatten_nil, List.append_nil, List.cons_append, List.nil_append]; after_results; try rfl

theorem V4 (c : Dev nD) : V m c main_v4 = shapeCast S1x2048 (aP m c) shapeCasts_S2048_S1x2048 := by
  unfold V; simp only [hostOps0, List.flatten_cons, List.flatten_nil, List.append_nil, List.cons_append, List.nil_append]; after_results; try rfl

theorem V5 (c : Dev nD) : V m c main_v5 = shapeCast S1x2048 (aQ m c) shapeCasts_S2048_S1x2048 := by
  unfold V; simp only [hostOps0, List.flatten_cons, List.flatten_nil, List.append_nil, List.cons_append, List.nil_append]; after_results; try rfl

/-! ## The tokens of a block -/

theorem row_lt (t : Fin cfg0.N) (r : Fin 512) : 512 * t.val + r.val < 4096 := by
  have := t.isLt; have : cfg0.N = 8 := N_0; omega

/-- The token in row `r` of block `t`, among all. -/
abbrev tok (t : Fin cfg0.N) (r : Fin 512) : Fin 4096 := ⟨512 * t.val + r.val, row_lt t r⟩

/-- The sequence a token is in, and its place there. -/
abbrev bat (s : Fin 4096) : Fin 16 := ⟨s.val / 256, by omega⟩
abbrev pos (s : Fin 4096) : Fin 256 := ⟨s.val % 256, Nat.mod_lt _ (by decide)⟩

theorem bH_at (c : Dev nD) (t : Fin cfg0.N) (r : Fin 512) (k : Fin 1024) :
    (bH m c t (ix2 r k) : EReal) = aH m c (ix3 (bat (tok t r)) (pos (tok t r)) k) := by
  have e : ((win0_0.blk t).view.emb (ix2 r k)) = (ix2 (tok t r) k : S4096x1024.Idx) := by
    blk_ext [idx t]
  show V m c main_v0 ((win0_0.blk t).view.emb (ix2 r k)) = _
  rw [e, V0]
  pointwise

theorem bY_at (c : Dev nD) (t : Fin cfg0.N) (r : Fin 512) (k : Fin 1024) :
    (bY m c t (ix2 r k) : EReal) = aY m c (ix3 (bat (tok t r)) (pos (tok t r)) k) := by
  have e : ((win0_1.blk t).view.emb (ix2 r k)) = (ix2 (tok t r) k : S4096x1024.Idx) := by
    blk_ext [idx t]
  show V m c main_v1 ((win0_1.blk t).view.emb (ix2 r k)) = _
  rw [e, V1]
  pointwise

theorem bW_at (c : Dev nD) (t : Fin cfg0.N) (k n : Fin 2048) : (bW m c t (ix2 k n) : EReal) = aW m c (ix2 k n) := by
  have e : ((win0_2.blk t).view.emb (ix2 k n)) = (ix2 k n : S2048x2048.Idx) := by
    blk_ext [idx t]
  show V m c main_v2 ((win0_2.blk t).view.emb (ix2 k n)) = _
  rw [e, V2]
  pointwise

theorem bX_at (c : Dev nD) (t : Fin cfg0.N) (r : Fin 512) (n : Fin 2048) :
    (bX m c t (ix2 r n) : EReal) = aX m c (ix3 (bat (tok t r)) (pos (tok t r)) n) := by
  have e : ((win0_3.blk t).view.emb (ix2 r n)) = (ix2 (tok t r) n : S4096x2048.Idx) := by
    blk_ext [idx t]
  show V m c main_v3 ((win0_3.blk t).view.emb (ix2 r n)) = _
  rw [e, V3]
  pointwise

theorem bG_at (c : Dev nD) (t : Fin cfg0.N) (n : Fin 2048) : (bG m c t (ix3 0 0 n) : EReal) = aG m c (ix3 0 0 n) := by
  have e : ((win0_4.blk t).view.emb (ix3 0 0 n)) = (ix3 0 0 n : S1x1x2048.Idx) := by
    blk_ext [idx t]
  show V m c main_arg4 ((win0_4.blk t).view.emb (ix3 0 0 n)) = _
  rw [e, V_main_arg4]

theorem bP_at (c : Dev nD) (t : Fin cfg0.N) (n : Fin 2048) : (bP m c t (ix2 0 n) : EReal) = aP m c (ix1 n) := by
  have e : ((win0_5.blk t).view.emb (ix2 0 n)) = (ix2 0 n : S1x2048.Idx) := by
    blk_ext [idx t]
  show V m c main_v4 ((win0_5.blk t).view.emb (ix2 0 n)) = _
  rw [e, V4]
  pointwise

theorem bQ_at (c : Dev nD) (t : Fin cfg0.N) (n : Fin 2048) : (bQ m c t (ix2 0 n) : EReal) = aQ m c (ix1 n) := by
  have e : ((win0_6.blk t).view.emb (ix2 0 n)) = (ix2 0 n : S1x2048.Idx) := by
    blk_ext [idx t]
  show V m c main_v5 ((win0_6.blk t).view.emb (ix2 0 n)) = _
  rw [e, V5]
  pointwise

theorem bSc_at (c : Dev nD) (t : Fin cfg0.N) (n : Fin 2048) : (bSc m c t (ix3 0 0 n) : EReal) = aSc m c (ix3 0 0 n) := by
  have e : ((win0_7.blk t).view.emb (ix3 0 0 n)) = (ix3 0 0 n : S1x1x2048.Idx) := by
    blk_ext [idx t]
  show V m c main_arg7 ((win0_7.blk t).view.emb (ix3 0 0 n)) = _
  rw [e, V_main_arg7]

theorem bSh_at (c : Dev nD) (t : Fin cfg0.N) (n : Fin 2048) : (bSh m c t (ix3 0 0 n) : EReal) = aSh m c (ix3 0 0 n) := by
  have e : ((win0_8.blk t).view.emb (ix3 0 0 n)) = (ix3 0 0 n : S1x1x2048.Idx) := by
    blk_ext [idx t]
  show V m c main_arg8 ((win0_8.blk t).view.emb (ix3 0 0 n)) = _
  rw [e, V_main_arg8]

end Cert.Kernel3Ideal.OutProj

end
-- ==== Proof.OutProj.Pure.lean ====
module

public import proofs.«01_k».proof.Proof.Gen.Kernel3Ideal.Skeleton
public import proofs.«01_k».proof.Proof.OutProj.Spec

/-! # What the two halves of a block compute, at an index -/

@[expose] public section

set_option maxRecDepth 16384

noncomputable section

namespace Cert.Kernel3Ideal.OutProj

open Idealize.ShloMosaic Idealize.ShloMosaic.TcCoe Idealize.SL.Sem
open Cert.Kernel3Ideal Cert.Kernel3Ideal.Gen Cert.OutProj

variable (h y : FVec Ideal S256x1024 .bf16) (w : FVec Ideal S2048x2048 .bf16) (x : FVec Ideal S256x2048 .f32)
  (g : FVec Ideal S1x1x2048 .f32) (p q : FVec Ideal S1x2048 .f32) (sc sh : FVec Ideal S1x1x2048 .f32)

/-- A row's products with the projection. -/
abbrev rowMix (r : Fin 256) : Fin 2048 → EReal :=
  fun n => mixed (fun k => h (ix2 r k)) (fun k => y (ix2 r k)) (fun k => w (ix2 k n))

/-- A row of the stream after the mixers. -/
abbrev rowStream (r : Fin 256) : Fin 2048 → EReal :=
  stream (fun l => x (ix2 r l)) (fun l => g (ix3 0 0 l)) (rowMix h y w r) (fun l => p (ix2 0 l))

theorem products_at (r : Fin 256) (n : Fin 2048) : (k0_pay5 (F := Ideal) h y w (ix2 r n) : EReal) = rowMix h y w r n := by
  pointwise [k0_pay5, mixed, side]

theorem squares_at (r : Fin 256) : (k0_pay8 (F := Ideal) h y w (ix2 r 0) : EReal) = ∑ n : Fin 2048, rowMix h y w r n * rowMix h y w r n := by
  have e := products_at h y w r
  unfold k0_pay8
  generalize k0_pay5 (F := Ideal) h y w = z at e
  pointwise
  exact Finset.sum_congr rfl fun n _ => congrArg₂ (· * ·) (e n) (e n)

/-- The second half's part of the stream. -/
theorem stream_low_at (r : Fin 256) (n : Fin 2048) :
    (k0_pay9 (F := Ideal) (k0_pay5 h y w) (k0_pay6 x) (k0_pay7 g) (k0_pay8 h y w) p (ix2 r n) : EReal) = rowStream h y w x g p r n := by
  have e := products_at h y w r n
  have s := squares_at h y w r
  generalize k0_pay5 (F := Ideal) h y w = z at e ⊢
  generalize k0_pay8 (F := Ideal) h y w = z' at s ⊢
  pointwise [k0_pay9, k0_pay6, k0_pay7]
  rw [e, s]
  rfl

/-- The first half computes the same. -/
theorem first_eq : k0_pay1 (F := Ideal) h y w x g p = k0_pay9 (k0_pay5 h y w) (k0_pay6 x) (k0_pay7 g) (k0_pay8 h y w) p := rfl

theorem stream_high_at (r : Fin 256) (n : Fin 2048) :
    (k0_pay1 (F := Ideal) h y w x g p (ix2 r n) : EReal) = rowStream h y w x g p r n := by
  rw [first_eq]
  exact stream_low_at h y w x g p r n

/-- The first half's part of the MLP's input. -/
theorem entry_high_at (r : Fin 256) (n : Fin 2048) :
    (k0_pay4 (F := Ideal) (k0_pay1 h y w x g p) (k0_pay2 h y w x g p) k0_pay3 q sc sh (ix2 r n) : EReal)
      = entry (rowStream h y w x g p r) (fun l => q (ix2 0 l)) (fun l => sc (ix3 0 0 l)) (fun l => sh (ix3 0 0 l)) n := by
  have e := stream_high_at h y w x g p r
  unfold k0_pay2
  generalize k0_pay1 (F := Ideal) h y w x g p = z at e ⊢
  generalize rowStream h y w x g p r = v at e ⊢
  pointwise [k0_pay4, k0_pay3]
  simp only [e]
  rfl

theorem entry_low_at (r : Fin 256) (n : Fin 2048) :
    (k0_pay10 (F := Ideal) (k0_pay5 h y w) (k0_pay6 x) (k0_pay7 g) (k0_pay8 h y w) p q sc sh (ix2 r n) : EReal)
      = entry (rowStream h y w x g p r) (fun l => q (ix2 0 l)) (fun l => sc (ix3 0 0 l)) (fun l => sh (ix3 0 0 l)) n := by
  have e := stream_low_at h y w x g p r
  unfold k0_pay10
  generalize k0_pay9 (F := Ideal) (k0_pay5 h y w) (k0_pay6 x) (k0_pay7 g) (k0_pay8 h y w) p = z at e ⊢
  generalize rowStream h y w x g p r = v at e ⊢
  pointwise
  simp only [e]
  rfl

end Cert.Kernel3Ideal.OutProj

end
-- ==== Proof.OutProj.Array.lean ====
module

public import proofs.«01_k».proof.Proof.OutProj.Blocks
public import proofs.«01_k».proof.Proof.OutProj.Pure
public import Idealize.ShloMosaic.Lib.Pipeline.ReadBack

/-! # What the two result arrays hold after the run -/

@[expose] public section

set_option maxRecDepth 16384

noncomputable section

namespace Cert.Kernel3Ideal.OutProj

open Idealize.ShloMosaic Idealize.ShloMosaic.TcCoe Idealize.SL.Sem
open Cert.Kernel3Ideal Cert.Kernel3Ideal.Gen Cert.OutProj

variable (m : (ℓ : Loc nD τ sig) → Buf (Elt Ideal) ℓ)

/-- A row of a block's products. -/
def mixB (c : Dev nD) (t : Fin cfg0.N) (r : Fin 512) : Fin 2048 → EReal :=
  fun n => mixed (fun k => bH m c t (ix2 r k)) (fun k => bY m c t (ix2 r k)) (fun k => bW m c t (ix2 k n))

/-- A row of a block's stream. -/
def streamB (c : Dev nD) (t : Fin cfg0.N) (r : Fin 512) : Fin 2048 → EReal :=
  stream (fun l => bX m c t (ix2 r l)) (fun l => bG m c t (ix3 0 0 l)) (mixB m c t r) (fun l => bP m c t (ix2 0 l))

/-- A point leaves the stream of its tokens. -/
theorem stream_block (c : Dev nD) (t : Fin cfg0.N) (r : Fin 512) (n : Fin 2048) :
    ((dats m 0 c).after 9 t (ix2 r n) : EReal) = streamB m c t r n := by
  rw [after0_9]
  unfold_out out0_9
  canon_tiles x q
  · idx_vars x
    obtain rfl : r = ⟨256 + x0.val, Nat.lt_of_lt_of_le (Nat.add_lt_add_left x0.isLt 256) (by decide)⟩ := Fin.ext q0
    obtain rfl : n = x1 := Fin.ext q1
    refine (stream_low_at _ _ _ _ _ _ x0 n).trans ?_
    delta rowStream rowMix streamB mixB
    pointwise [bH, bY, bW, bX, bG, bP, bQ, bSc, bSh]
  · idx_vars x
    obtain rfl : r = ⟨x0.val, Nat.lt_trans x0.isLt (by decide)⟩ := Fin.ext q0
    obtain rfl : n = x1 := Fin.ext q1
    refine (stream_high_at _ _ _ _ _ _ x0 n).trans ?_
    delta rowStream rowMix streamB mixB
    pointwise [bH, bY, bW, bX, bG, bP, bQ, bSc, bSh]

/-- And the MLP's input of its tokens. -/
theorem entry_block (c : Dev nD) (t : Fin cfg0.N) (r : Fin 512) (n : Fin 2048) :
    ((dats m 0 c).after 10 t (ix2 r n) : EReal)
      = entry (streamB m c t r) (fun l => bQ m c t (ix2 0 l)) (fun l => bSc m c t (ix3 0 0 l)) (fun l => bSh m c t (ix3 0 0 l)) n := by
  rw [after0_10]
  unfold_out out0_10
  canon_tiles x q
  · idx_vars x
    obtain rfl : r = ⟨256 + x0.val, Nat.lt_of_lt_of_le (Nat.add_lt_add_left x0.isLt 256) (by decide)⟩ := Fin.ext q0
    obtain rfl : n = x1 := Fin.ext q1
    refine (entry_low_at _ _ _ _ _ _ _ _ _ x0 n).trans ?_
    delta rowStream rowMix streamB mixB
    pointwise [bH, bY, bW, bX, bG, bP, bQ, bSc, bSh]
  · idx_vars x
    obtain rfl : r = ⟨x0.val, Nat.lt_trans x0.isLt (by decide)⟩ := Fin.ext q0
    obtain rfl : n = x1 := Fin.ext q1
    refine (entry_high_at _ _ _ _ _ _ _ _ _ x0 n).trans ?_
    delta rowStream rowMix streamB mixB
    pointwise [bH, bY, bW, bX, bG, bP, bQ, bSc, bSh]

/-! ## From the arguments -/

/-- A token's row of the stream, of the call's arguments. -/
def streamAt (c : Dev nD) (s : Fin 4096) : Fin 2048 → EReal :=
  stream (fun l => aX m c (ix3 (bat s) (pos s) l)) (fun l => aG m c (ix3 0 0 l))
    (fun n => mixed (fun k => aH m c (ix3 (bat s) (pos s) k)) (fun k => aY m c (ix3 (bat s) (pos s) k)) (fun k => aW m c (ix2 k n)))
    (fun l => aP m c (ix1 l))

theorem streamB_eq (c : Dev nD) (t : Fin cfg0.N) (r : Fin 512) : streamB m c t r = streamAt m c (tok t r) := by
  unfold streamB streamAt mixB
  simp only [bX_at, bG_at, bP_at, bH_at, bY_at, bW_at]

def streamArr (c : Dev nD) : FVec Ideal S4096x2048 .f32 := fun i => streamAt m c (i 0) (i 1)

def entryArr (c : Dev nD) : FVec Ideal S4096x2048 .bf16 := fun i =>
  entry (streamAt m c (i 0)) (fun l => aQ m c (ix1 l)) (fun l => aSc m c (ix3 0 0 l)) (fun l => aSh m c (ix3 0 0 l)) (i 1)

/-- The first result's array when the call is over. -/
theorem final_stream (c : Dev nD) : (dats m 0 c).arrAt 9 cfg0.N = streamArr m c := by
  refine (dats m 0 c).arrAt_eq_of_covers 9 _ (by decide +kernel) fun t hf y => ?_
  blk_simp
  idx_vars y
  have e : ((win0_9.blk t).view.emb (ix2 y0 y1)) = (ix2 (tok t y0) y1 : S4096x2048.Idx) := by
    blk_ext [idx t]
  refine (stream_block m c t y0 y1).trans ?_
  show _ = streamArr m c ((win0_9.blk t).view.emb (ix2 y0 y1))
  rw [e, streamB_eq]
  rfl

/-- The second's. -/
theorem final_entry (c : Dev nD) : (dats m 0 c).arrAt 10 cfg0.N = entryArr m c := by
  refine (dats m 0 c).arrAt_eq_of_covers 10 _ (by decide +kernel) fun t hf y => ?_
  blk_simp
  idx_vars y
  have e : ((win0_10.blk t).view.emb (ix2 y0 y1)) = (ix2 (tok t y0) y1 : S4096x2048.Idx) := by
    blk_ext [idx t]
  refine (entry_block m c t y0 y1).trans ?_
  show _ = entryArr m c ((win0_10.blk t).view.emb (ix2 y0 y1))
  rw [e, streamB_eq]
  simp only [bQ_at, bSc_at, bSh_at]
  rfl

end Cert.Kernel3Ideal.OutProj

end
-- ==== Proof.OutProj.Reference.lean ====
module

public import proofs.«01_k».proof.Proof.Gen.Reference3Ideal.Run
public import proofs.«01_k».proof.Proof.OutProj.Spec

/-! # What the reference computes, at an index -/

@[expose] public section

set_option maxRecDepth 16384

noncomputable section

namespace Cert.Reference3Ideal.OutProj

open Idealize.ShloMosaic Idealize.ShloMosaic.TcCoe Idealize.SL.Sem
open Cert.Reference3Ideal Cert.Reference3Ideal.Gen Cert.OutProj

/-- The products of the mixers' rows with the projection. -/
def products (h y : FVec Ideal S16x256x1024 .bf16) (w : FVec Ideal S2048x2048 .f32) : FVec Ideal S16x256x2048 .f32 :=
  Host.dotGeneral dot_S16x256x2048_S2048x2048_S16x256x2048_2_0_01_1_n_n none
    (concatenate S16x256x2048 2 [⟨S16x256x1024, (extf .f32 h bitsLt_bf16_f32)⟩, ⟨S16x256x1024, (extf .f32 y bitsLt_bf16_f32)⟩] concatenates_S16x256x1024_S16x256x1024_S16x256x2048_d2) w

/-- The norm with its gain. -/
def norm (v : FVec Ideal S16x256x2048 .f32) (p : FVec Ideal S2048 .f32) : FVec Ideal S16x256x2048 .f32 :=
  mulf (mulf v (broadcastInDim S16x256x2048 ![0, 1, 2] bcast_S16x256x1_S16x256x2048_0_1_2
      (Host.rsqrt (addf (Host.divf
        (broadcastInDim S16x256x1 ![0, 1] bcast_S16x256_S16x256x1_0_1 (Host.reduceAdd (mulf v v) (constant S_ .f32 0x00000000#32) reducesTo_S16x256x2048_S16x256_d2 h_S_))
        (broadcastInDim S16x256x1 ![] bcast_S_S16x256x1 (constant S_ .f32 0x45000000#32)))
        (broadcastInDim S16x256x1 ![] bcast_S_S16x256x1 (constant S_ .f32 0x358637BD#32))))))
    (broadcastInDim S16x256x2048 ![0, 1, 2] bcast_S1x1x2048_S16x256x2048_0_1_2 (broadcastInDim S1x1x2048 ![2] bcast_S2048_S1x1x2048_2 p))

/-- The stream after the mixers. -/
def streamed (v x : FVec Ideal S16x256x2048 .f32) (g : FVec Ideal S1x1x2048 .f32) (p : FVec Ideal S2048 .f32) : FVec Ideal S16x256x2048 .f32 :=
  addf x (mulf (broadcastInDim S16x256x2048 ![0, 1, 2] bcast_S1x1x2048_S16x256x2048_0_1_2 g) (norm v p))

/-- The MLP's input. -/
def entered (v : FVec Ideal S16x256x2048 .f32) (q : FVec Ideal S2048 .f32) (sc sh : FVec Ideal S1x1x2048 .f32) : FVec Ideal S16x256x2048 .f32 :=
  addf (mulf (norm v q) (broadcastInDim S16x256x2048 ![0, 1, 2] bcast_S1x1x2048_S16x256x2048_0_1_2
      (addf (broadcastInDim S1x1x2048 ![] bcast_S_S1x1x2048 (constant S_ .f32 0x3F800000#32)) sc)))
    (broadcastInDim S16x256x2048 ![0, 1, 2] bcast_S1x1x2048_S16x256x2048_0_1_2 sh)

theorem products_at (h y : FVec Ideal S16x256x1024 .bf16) (w : FVec Ideal S2048x2048 .f32) (b : Fin 16) (s : Fin 256) (n : Fin 2048) :
    (products h y w (ix3 b s n) : EReal) = mixed (fun k => h (ix3 b s k)) (fun k => y (ix3 b s k)) (fun k => w (ix2 k n)) := by
  pointwise [products, mixed, side]

theorem norm_at (v : FVec Ideal S16x256x2048 .f32) (p : FVec Ideal S2048 .f32) (b : Fin 16) (s : Fin 256) (n : Fin 2048) :
    (norm v p (ix3 b s n) : EReal) = normed (fun l => v (ix3 b s l)) (fun l => p (ix1 l)) n := by
  pointwise [norm, normed]

theorem streamed_at (v x : FVec Ideal S16x256x2048 .f32) (g : FVec Ideal S1x1x2048 .f32) (p : FVec Ideal S2048 .f32) (b : Fin 16) (s : Fin 256) (n : Fin 2048) :
    (streamed v x g p (ix3 b s n) : EReal)
      = stream (fun l => x (ix3 b s l)) (fun l => g (ix3 0 0 l)) (fun l => v (ix3 b s l)) (fun l => p (ix1 l)) n := by
  have e := norm_at v p b s n
  unfold streamed
  generalize norm v p = z at e ⊢
  pointwise [stream]
  rw [e]

theorem entered_at (v : FVec Ideal S16x256x2048 .f32) (q : FVec Ideal S2048 .f32) (sc sh : FVec Ideal S1x1x2048 .f32) (b : Fin 16) (s : Fin 256) (n : Fin 2048) :
    (entered v q sc sh (ix3 b s n) : EReal)
      = entry (fun l => v (ix3 b s l)) (fun l => q (ix1 l)) (fun l => sc (ix3 0 0 l)) (fun l => sh (ix3 0 0 l)) n := by
  have e := norm_at v q b s n
  unfold entered
  generalize norm v q = z at e ⊢
  pointwise [entry]
  rw [e]

/-- The tokens in one list. -/
theorem flat_at (v : FVec Ideal S16x256x2048 .f32) (s : Fin 4096) (n : Fin 2048) :
    (shapeCast S4096x2048 v shapeCasts_S16x256x2048_S4096x2048 (ix2 s n) : EReal) = v (ix3 ⟨s.val / 256, by omega⟩ ⟨s.val % 256, Nat.mod_lt _ (by decide)⟩ n) := by
  pointwise

/-- The same, cast to the MLP's input type. -/
theorem flat_cast_at (v : FVec Ideal S16x256x2048 .f32) (s : Fin 4096) (n : Fin 2048) :
    (truncf .bf16 (shapeCast S4096x2048 v shapeCasts_S16x256x2048_S4096x2048) bitsLt_bf16_f32 (ix2 s n) : EReal)
      = v (ix3 ⟨s.val / 256, by omega⟩ ⟨s.val % 256, Nat.mod_lt _ (by decide)⟩ n) := by
  pointwise

end Cert.Reference3Ideal.OutProj

end
-- ==== Proof.OutProj.Claim.lean ====
module

public import proofs.«01_k».proof.Defs
public import proofs.«01_k».proof.Proof.OutProj.Array
public import proofs.«01_k».proof.Proof.OutProj.Reference
public import proofs.«01_k».proof.Proof.Gen.Kernel3.Frame
public import Idealize.ShloMosaic.Lib.Claim

/-! # The output projection equals its reference -/

@[expose] public section

set_option maxRecDepth 16384

noncomputable section

namespace Cert.OutProj

open Idealize.ShloMosaic Idealize.ShloMosaic.TcCoe Idealize.SL.Sem
open Cert.Kernel3Ideal.OutProj

variable (m : (ℓ : Loc Cert.Kernel3Ideal.nD Cert.Kernel3Ideal.τ Cert.Kernel3Ideal.sig) → Buf (Elt Ideal) ℓ) (ρ : Dev Cert.Kernel3Ideal.nD → PrngReg)

/-- The kernel's run: both results by their entries. -/
theorem kernel_run : θ_run Cert.Kernel3Ideal.defs (onTc (τ := Cert.Kernel3Ideal.τ) Cert.Kernel3Ideal.main) ⟨m, fun _ => 0, ρ⟩ fun r => ∀ c : Dev Cert.Kernel3Ideal.nD,
    r.2.mem ((c.tc : Thread Cert.Kernel3Ideal.nD Cert.Kernel3Ideal.τ).loc Cert.Kernel3Ideal.main_v6_0) = streamArr m c
    ∧ r.2.mem ((c.tc : Thread Cert.Kernel3Ideal.nD Cert.Kernel3Ideal.τ).loc Cert.Kernel3Ideal.main_v6_1) = entryArr m c :=
  (θ_run Cert.Kernel3Ideal.defs _ _).mono
    (fun _ h c => ⟨((h c).1 9).trans (final_stream m c), ((h c).1 10).trans (final_entry m c)⟩)
    (Cert.Kernel3Ideal.Gen.run_main m ρ)

open Cert.Reference3Ideal.OutProj in
theorem algebraic : Cert.algebraic_Kernel3Ideal_Reference3Ideal := by
  intro m ρ m' ρ' _ hagree
  refine ⟨fun c => streamArr m c, fun c => entryArr m c, ?_, ?_⟩
  · exact (θ_run Cert.Kernel3Ideal.defs _ _).mono (fun _ h c => ⟨(h.1 c).1, (h.1 c).2, h.2.1 c⟩)
      (θ_run_and (kernel_run m ρ) (Cert.Kernel3Ideal.Gen.frame m ρ))
  · refine (θ_run Cert.Reference3Ideal.defs _ _).mono (fun r h c => ?_) (Cert.Reference3Ideal.Value.run (F := Ideal) m' ρ')
    obtain ⟨h0, h1, h2, h3, h4, h5, h6, h7, h8⟩ := hagree c
    refine ⟨(h c).1.trans ?_, (h c).2.1.trans ?_, (h c).2.2⟩
    · rw [h0, h1, h2, h3, h4, h5]
      show shapeCast Cert.Reference3Ideal.S4096x2048 (streamed (products (aH m c) (aY m c) (aW m c)) (aX m c) (aG m c) (aP m c)) _ = _
      funext i
      idx_vars i
      refine (flat_at _ i0 i1).trans ((streamed_at _ _ _ _ _ _ i1).trans ?_)
      simp only [Cert.Reference3Ideal.OutProj.products_at]
      rfl
    · unfold Cert.Reference3Ideal.Value.res_main_v41
      rw [h0, h1, h2, h3, h4, h5, h6, h7, h8]
      show truncf .bf16 (shapeCast Cert.Reference3Ideal.S4096x2048 (entered (streamed (products (aH m c) (aY m c) (aW m c)) (aX m c) (aG m c) (aP m c)) (aQ m c) (aSc m c) (aSh m c)) _) _ = _
      funext i
      idx_vars i
      refine (flat_cast_at _ i0 i1).trans ((entered_at _ _ _ _ _ _ i1).trans ?_)
      simp only [Cert.Reference3Ideal.OutProj.streamed_at, Cert.Reference3Ideal.OutProj.products_at]
      rfl

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

end Cert.OutProj

end
-- ==== Proof.MlpSample.Kit.lean ====
/-
What the grid points of the MLP's kernel share: the arrays as the kernel finds them, the blocks its windows show, the
three cases of a point (first, middle and last of the sixteen steps of a row block), its scratch, its semaphore and the
array it copies from by itself.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the kernel finds them -/

/-- Core `c`'s buffers when the kernel starts: after the host's one reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host program is its operations, then the kernel. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes no argument: the kernel finds argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The host writes no argument: the kernel finds argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- What window `w` shows at point `t` of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any data with these arrays and an untouched input. -/
theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any data with these arrays and an untouched input. -/
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any data with these arrays and an untouched input. -/
theorem before_in2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, for any data with these arrays and an untouched input. -/
theorem before_in3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, for any data with these arrays and an untouched input. -/
theorem before_in4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- A run that leaves the windows' arrays and the other buffers as the data says leaves every argument as launched. -/
theorem args_kept (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).2 main_arg3 (Pipeline.mem_restRefs_of main_arg3 (by decide) (by decide))).trans (V_arg3 m c),
      ((h c).1 3).trans (((dats 0 c).arrAt_in 3 rfl _).trans ((hA c 3).trans (V_arg4 m c))),
      ((h c).2 main_arg5 (Pipeline.mem_restRefs_of main_arg5 (by decide) (by decide))).trans (V_arg5 m c)⟩) h

/-! ## The three cases of a point -/

/-- The first of a row block's sixteen points. -/
abbrev first (i : grid0.Coords) : Prop := k0_cond1 i = 1#1
/-- Neither the first nor the last. -/
abbrev inner (i : grid0.Coords) : Prop := k0_cond2 i = 1#1
/-- The last. -/
abbrev last (i : grid0.Coords) : Prop := k0_cond3 i = 1#1

theorem first_iff : ∀ t : Fin cfg0.N, first (grid0.coords t) ↔ t.val % 16 = 0 :=
  (by decide +kernel : ∀ t : Fin grid0.N, first (grid0.coords t) ↔ t.val % 16 = 0)
theorem inner_iff : ∀ t : Fin cfg0.N, inner (grid0.coords t) ↔ (1 ≤ t.val % 16 ∧ t.val % 16 ≤ 14) :=
  (by decide +kernel : ∀ t : Fin grid0.N, inner (grid0.coords t) ↔ (1 ≤ t.val % 16 ∧ t.val % 16 ≤ 14))
theorem last_iff : ∀ t : Fin cfg0.N, last (grid0.coords t) ↔ t.val % 16 = 15 :=
  (by decide +kernel : ∀ t : Fin grid0.N, last (grid0.coords t) ↔ t.val % 16 = 15)

/-- No point leaves the output window idle. -/
theorem live5 : ∀ t : Fin cfg0.N, cfg0.idle 5 (grid0.coords t) = false := by decide +kernel

/-- Whether the output's buffer holds nothing of the current row block, position by position. -/
def freshTab : ℕ → Bool
  | 0 => true
  | n + 1 => (0x8000800080008000 : ℕ).testBit n
theorem freshTab_step : ∀ t : Fin cfg0.N,
    freshTab (t.val + 1) = ((cfg0.win 5).flush t || (cfg0.idle 5 (cfg0.grid.coords t) && freshTab t.val)) := by decide +kernel
theorem fresh_eq (t : Fin cfg0.N) : cfg0.fresh 5 t.val = freshTab t.val :=
  Pipeline.Cfg.fresh_tab cfg0 5 freshTab rfl freshTab_step t.val (Nat.le_of_lt t.isLt)
/-- After a row block's first point its running sum lies in the output's buffer. -/
theorem not_fresh : ∀ t : Fin cfg0.N, ¬t.val % 16 = 0 → cfg0.fresh 5 t.val = false := by
  intro t; rw [fresh_eq t]; revert t; decide +kernel

/-! ## Buffers -/

/-- One staging buffer of the output, through which its contents are stated. -/
abbrev VO : View sig .tc .vmem S1024x2048 .f32 := (Memref.whole cc0_stg5_0 : Memref sig .tc .vmem S1024x2048 .f32).view
/-- Window 0's buffer at point `t`, a whole one. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
/-- Window 1's buffer at point `t`, a whole one. -/
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
/-- Window 2's buffer at point `t`, a whole one. -/
abbrev ms2 (t : Fin cfg0.N) : Memref sig .tc .vmem S512x2048 .f32 := win0_2.stage (cfg0.slots t 2)
abbrev hs2 (t : Fin cfg0.N) : (ms2 t).IsWhole := hstage0_2 ((cfg0.slots t 2).cast nbuf0_2)
/-- Window 3's buffer at point `t`, a whole one. -/
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
/-- Window 4's buffer at point `t`, a whole one. -/
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
/-- Window 5's buffer at point `t`, a whole one. -/
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
/-- The scratch, which the residual's row block is copied into. -/
abbrev scM : Memref sig .tc .vmem S1024x2048 .f32 := Memref.whole cc0_scratch0
/-- The residual, left in HBM. -/
abbrev hbM : Memref sig .tc .hbm S4096x2048 .f32 := Memref.whole main_arg3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own semaphore. -/
abbrev osem : Fin 1 → SemLoc sig := fun j => (![SemLoc.dma 11] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0) := by
  rw [Pipeline.ownSems0_eq_of_list c osem [0] (by decide) (by decide)]; rfl
/-- The one buffer the kernel addresses without a window. -/
def HB : Finset (Ref sig .tc) := {main_arg3}
theorem HB_sub : HB ⊆ Pipeline.restRefs sig spec0 := by decide
theorem hbPts_eq (c : Dev nD) :
    (bigSep HB (fun b => ((c : Thread nD τ).loc b) ↦{fullShare} V m c b) : sProp 𝕄) = iprop(hbPt c hbM (V m c main_arg3)) := by
  rw [BI.bigSep_eq_bigSepL_of_eq [main_arg3] (by decide) (by decide)]; rfl

/-- What the kernel holds of its own where nothing is in flight: the scratch, the generator's register, the semaphore at
    zero and the residual. -/
theorem rest_eq (c : Dev nD) :
    (Pipeline.ΦD osem spec0 HB (V m) c : sProp 𝕄)
      = iprop(iprop((∃ d, owns (c : Thread nD τ) scM fullShare d)) ∗ (∃ r, prngReg c r) ∗ iprop(semVal ((c : Thread nD τ), SemLoc.dma 11) 0) ∗ iprop(hbPt c hbM (V m c main_arg3))) := by
  rw [Pipeline.ΦD_eq, scopedRest0_eq, ownSems_eq, hbPts_eq]; simp only [scM, owns_whole]; try rfl

end Cert.Kernel4Ideal.MlpSample

end
-- ==== Proof.MlpSample.RunFirst.lean ====
/-
The first point of a row block: the copy of the residual's row block is started, and the partial product of the first
512 hidden columns goes into the output's buffer.
-/
module

public import proofs.«01_k».proof.Proof.MlpSample.Kit

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row block of the residual the first point's copy reads. -/
abbrev srcA (i : grid0.Coords) (h : first i) : Memref sig .tc .hbm S1024x2048 .f32 :=
  hbM.slice (Rect.unit (s := S4096x2048) (k0_off1 i) S1024x2048.size (Gen.facts.k0_off1_inb i h)) (fun _ => rfl)

set_option maxHeartbeats 1000000 in
/-- What the first point's stores leave in the output's buffer, with its run. -/
noncomputable def runFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : first i) (hi : ¬inner i) (hl : ¬last i)
    (x0 : Vec F S1024x2048 .bf16) (x1 : Vec F S2048x512 .f32) (x2 : Vec F S512x2048 .f32) (fh : HbBuf (F := F) c hbM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg8 fullShare d) ∗ (∃ d, owns (c : Thread nD τ) arg9 fullShare d) ∗ semVal ((c : Thread nD τ), SemLoc.dma 11) 0 ∗ hbPt c hbM fh ∗ owes (c : Thread nD τ) 0 W
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f L)
                ∗ Transfers.Flight countersEmb (c : Thread nD τ) (SemLoc.dma 11) () (arg9.view.amount (SemLoc.dma (sig := sig) 11))
                    iprop((arg9.view.loc (c : Thread nD τ) ↦[arg9.view.set]{fullShare} harg9.unread (Val := Elt F) ((srcA i hf).view.read (Elt F) fh))
                      ∗ ((srcA i hf).view.loc (c : Thread nD τ) ↦[(srcA i hf).view.set]{fullShare} fh))
                ∗ (hbM.view.loc (c : Thread nD τ) ↦[Finset.univ \ (srcA i hf).view.set]{fullShare} fh)
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    unfold owns
    iintro ⟨⟨%f0, %hf0, H0⟩, ⟨%f1, %hf1, H1⟩, ⟨%f2, %hf2, H2⟩, ⟨%d5, %f5, -, H5⟩, ⟨%ds, %fs, -, HS⟩, Hq, Hh, HW, Hk⟩
    obtain rfl := harg2.eq_unread hf0; obtain rfl := harg3.eq_unread hf1; obtain rfl := harg4.eq_unread hf2
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [Hq]
    · iapply (Transfers.Flight_mono countersEmb (c : Thread nD τ) ?hmono) $$ Hq
      case hmono =>
        iintro ⟨HA, HB⟩
        isplitl [HA]
        · rw [harg9.eq_unread (View.read_writes_whole arg9.view _ _)]
          iexact HA
        · iexact HB
    isplitl [Hh]; · iexact Hh
    iexists _; iexact HW

end Cert.Kernel4Ideal.MlpSample

end
-- ==== Proof.MlpSample.RunInner.lean ====
/-
A middle point of a row block: the partial product of the next 512 hidden columns is added to the output's buffer. The
copy in flight, its semaphore and the residual are not touched.
-/
module

public import proofs.«01_k».proof.Proof.MlpSample.RunFirst

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What a middle point's stores leave in the output's buffer, with its run. -/
noncomputable def runInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : ¬first i) (hi : inner i) (hl : ¬last i)
    (x0 : Vec F S1024x2048 .bf16) (x1 : Vec F S2048x512 .f32) (x2 : Vec F S512x2048 .f32) (xo : Vec F S1024x2048 .f32) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg8 fullShare xo ∗ owes (c : Thread nD τ) 0 W
            ∗ (iprop(owns (c : Thread nD τ) arg2 fullShare x0 ∗ owns (c : Thread nD τ) arg3 fullShare x1 ∗ owns (c : Thread nD τ) arg4 fullShare x2 ∗ (∃ f, arg8.view.loc (c : Thread nD τ) ↦[arg8.view.set]{fullShare} arg8.view.writes (Elt F) f L)
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    unfold owns
    iintro ⟨⟨%f0, %hf0, H0⟩, ⟨%f1, %hf1, H1⟩, ⟨%f2, %hf2, H2⟩, ⟨%f5, %hf5, H5⟩, HW, Hk⟩
    obtain rfl := harg2.eq_unread hf0; obtain rfl := harg3.eq_unread hf1; obtain rfl := harg4.eq_unread hf2; obtain rfl := harg8.eq_unread hf5
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    iexists _; iexact HW

end Cert.Kernel4Ideal.MlpSample

end
-- ==== Proof.MlpSample.RunLast.lean ====
/-
The last point of a row block: the copy of the residual's row block is waited for, the last partial product is added,
and the row block is normalised, gated and added to the residual.
-/
module

public import proofs.«01_k».proof.Proof.MlpSample.RunInner

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the last point's stores leave in the output's buffer, with its run: the copy in flight is to deliver `xs` into
    the scratch and to give back the elements `Sb` of the residual, which were lent to it. -/
noncomputable def runLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole)
    (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ owns (c : Thread nD τ) arg8 fullShare xo
            ∗ Transfers.Flight countersEmb (c : Thread nD τ) (SemLoc.dma 11) () (arg9.view.amount (SemLoc.dma (sig := sig) 11))
                iprop((arg9.view.loc (c : Thread nD τ) ↦[arg9.view.set]{fullShare} harg9.unread (Val := Elt F) xs)
                  ∗ (hbM.view.loc (c : Thread nD τ) ↦[Sb]{fullShare} fh))
            ∗ (hbM.view.loc (c : Thread nD τ) ↦[Finset.univ \ Sb]{fullShare} fh)
            ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L)
                ∗ (∃ d, owns (c : Thread nD τ) arg9 fullShare d) ∗ semVal ((c : Thread nD τ), SemLoc.dma 11) 0 ∗ hbPt c hbM fh
                ∗ (∃ W', owes (c : Thread nD τ) 0 W')) -∗ K ⟨⟩))
          ⊢ wp frame (wpE (defs₀ (F := F)) Variants.none c none) Set.univ (cc0_mlp i arg2 harg2 arg3 harg3 arg4 harg4 (Memref.whole main_arg3) (Memref.isWhole_whole _) arg6 harg6 arg7 harg7 arg8 harg8 arg9 harg9 cc0_scratch1) K } := by
  refine ⟨?_, fun W K => ?run⟩
  case run =>
    simp only [cc0_mlp_eq_skeleton]; unfold cc0_mlp_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hq, Hh, HW, Hk⟩
    obtain rfl := harg2.eq_unread hf0; obtain rfl := harg3.eq_unread hf1; obtain rfl := harg4.eq_unread hf2; obtain rfl := harg6.eq_unread hf3; obtain rfl := harg7.eq_unread hf4; obtain rfl := harg8.eq_unread hf5
    sl_exec (disch := first | sl_exact hf | sl_exact hi | sl_exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [Hq_dst]
    · iexists _, _; isplitr; swap; · iexact Hq_dst
      ipureintro; rfl
    isplitl [Hq]; · iexact Hq
    isplitl [Hh]; · iexact Hh
    iexists _; iexact HW

end Cert.Kernel4Ideal.MlpSample

end
-- ==== Proof.MlpSample.Outs.lean ====
/-
What the output's buffer holds after each point, the copy in flight between the first and the last point of a row
block, and the data the pipeline is run with.
-/
module

public import proofs.«01_k».proof.Proof.MlpSample.RunLast

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves in the output's buffer -/

/-- The stores of the first point cover the output's block. -/
theorem coverFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : first i) (hi : ¬inner i) (hl : ¬last i)
    (x0 : Vec F S1024x2048 .bf16) (x1 : Vec F S2048x512 .f32) (x2 : Vec F S512x2048 .f32) (fh : HbBuf (F := F) c hbM) (y : S1024x2048.Idx) :
    ∃ pc ∈ (runFirst c i arg2 harg2 arg3 harg3 arg4 harg4 arg6 harg6 arg7 harg7 arg8 harg8 arg9 harg9 hf hi hl x0 x1 x2 fh).1, y ∈ pc.1.set :=
  View.cover_of_tiledL (runFirst c i arg2 harg2 arg3 harg3 arg4 harg4 arg6 harg6 arg7 harg7 arg8 harg8 arg9 harg9 hf hi hl x0 x1 x2 fh).1 S512x2048.size (by sl_kernel_rfl) y

/-- What the first point leaves in the output's buffer. -/
def outFirst (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : first i) (hi : ¬inner i) (hl : ¬last i)
    (x0 : Vec F S1024x2048 .bf16) (x1 : Vec F S2048x512 .f32) (x2 : Vec F S512x2048 .f32) (fh : HbBuf (F := F) c hbM) : Vec F S1024x2048 .f32 :=
  VO.read (Elt F) (VO.writes (Elt F) VO.junk (runFirst c i arg2 harg2 arg3 harg3 arg4 harg4 arg6 harg6 arg7 harg7 arg8 harg8 arg9 harg9 hf hi hl x0 x1 x2 fh).1)

/-- The stores of a middle point cover the output's block. -/
theorem coverInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : inner i) (hl : ¬last i)
    (x0 : Vec F S1024x2048 .bf16) (x1 : Vec F S2048x512 .f32) (x2 : Vec F S512x2048 .f32) (xo : Vec F S1024x2048 .f32) (y : S1024x2048.Idx) :
    ∃ pc ∈ (runInner c i arg2 harg2 arg3 harg3 arg4 harg4 arg6 harg6 arg7 harg7 arg8 harg8 arg9 harg9 hf hi hl x0 x1 x2 xo).1, y ∈ pc.1.set :=
  View.cover_of_tiledL (runInner c i arg2 harg2 arg3 harg3 arg4 harg4 arg6 harg6 arg7 harg7 arg8 harg8 arg9 harg9 hf hi hl x0 x1 x2 xo).1 S512x2048.size (by sl_kernel_rfl) y

/-- What a middle point leaves in the output's buffer. -/
def outInner (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : inner i) (hl : ¬last i)
    (x0 : Vec F S1024x2048 .bf16) (x1 : Vec F S2048x512 .f32) (x2 : Vec F S512x2048 .f32) (xo : Vec F S1024x2048 .f32) : Vec F S1024x2048 .f32 :=
  VO.read (Elt F) (VO.writes (Elt F) VO.junk (runInner c i arg2 harg2 arg3 harg3 arg4 harg4 arg6 harg6 arg7 harg7 arg8 harg8 arg9 harg9 hf hi hl x0 x1 x2 xo).1)

/-- The stores of the last point cover the output's block. -/
theorem coverLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) (y : S1024x2048.Idx) :
    ∃ pc ∈ (runLast c i arg2 harg2 arg3 harg3 arg4 harg4 arg6 harg6 arg7 harg7 arg8 harg8 arg9 harg9 hf hi hl x0 x1 x2 x3 x4 xo xs fh Sb).1, y ∈ pc.1.set :=
  View.cover_of_tiledL (runLast c i arg2 harg2 arg3 harg3 arg4 harg4 arg6 harg6 arg7 harg7 arg8 harg8 arg9 harg9 hf hi hl x0 x1 x2 x3 x4 xo xs fh Sb).1 S512x2048.size (by sl_kernel_rfl) y

/-- What the last point leaves in the output's buffer. -/
def outLast (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S512x2048 .f32) (harg4 : arg4.IsWhole) (arg6 : Memref sig .tc .vmem S1x1x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .f32) (harg9 : arg9.IsWhole) (hf : ¬first i) (hi : ¬inner i) (hl : last i)
    (x0 : Vec F S1024x2048 .bf16) (x1 : Vec F S2048x512 .f32) (x2 : Vec F S512x2048 .f32) (x3 : Vec F S1x1x2048 .f32) (x4 : Vec F S1x2048 .f32) (xo : Vec F S1024x2048 .f32) (xs : Vec F S1024x2048 .f32) (fh : HbBuf (F := F) c hbM) (Sb : Finset (Idx (hbM.view.loc (c : Thread nD τ)))) : Vec F S1024x2048 .f32 :=
  VO.read (Elt F) (VO.writes (Elt F) VO.junk (runLast c i arg2 harg2 arg3 harg3 arg4 harg4 arg6 harg6 arg7 harg7 arg8 harg8 arg9 harg9 hf hi hl x0 x1 x2 x3 x4 xo xs fh Sb).1)

/-! ## The cases exclude one another -/

theorem not_inner_of_first (t : Fin cfg0.N) (h : t.val % 16 = 0) : ¬inner (grid0.coords t) := fun hh => by
  have := (inner_iff t).mp hh; omega
theorem not_last_of_first (t : Fin cfg0.N) (h : t.val % 16 = 0) : ¬last (grid0.coords t) := fun hh => by
  have := (last_iff t).mp hh; omega
theorem not_first_of_last (t : Fin cfg0.N) (h : t.val % 16 = 15) : ¬first (grid0.coords t) := fun hh => by
  have := (first_iff t).mp hh; omega
theorem not_inner_of_last (t : Fin cfg0.N) (h : t.val % 16 = 15) : ¬inner (grid0.coords t) := fun hh => by
  have := (inner_iff t).mp hh; omega
theorem inner_of_between (t : Fin cfg0.N) (h : ¬t.val % 16 = 0) (l : ¬t.val % 16 = 15) : inner (grid0.coords t) :=
  (inner_iff t).mpr (by omega)

/-! ## The residual's row blocks -/

/-- Where row block `b` of the residual starts. -/
abbrev resOff (b : ℕ) : Fin 2 → ℕ := ![1024 * (b % 4), 0]
theorem resOff_inb (b : ℕ) : ∀ a, resOff b a + S1024x2048.size a ≤ S4096x2048.size a := by
  intro a
  have hb : b % 4 < 4 := Nat.mod_lt _ (by decide)
  match a with
  | ⟨0, _⟩ => show 1024 * (b % 4) + 1024 ≤ 4096; omega
  | ⟨1, _⟩ => show 0 + 2048 ≤ 2048; omega
/-- Row block `b` of the residual, in HBM. -/
abbrev resM (b : ℕ) : Memref sig .tc .hbm S1024x2048 .f32 :=
  hbM.slice (Rect.unit (s := S4096x2048) (resOff b) S1024x2048.size (resOff_inb b)) (fun _ => rfl)
/-- The elements of the residual it consists of. -/
def resSet (c : Dev nD) (b : ℕ) : Finset (Idx (hbM.view.loc (c : Thread nD τ))) := by exact (resM b).view.set
/-- Its contents. -/
def resBlk (c : Dev nD) (b : ℕ) : Vec F S1024x2048 .f32 := (resM b).view.read (Elt F) (V m c main_arg3)

theorem off_first : ∀ t : Fin cfg0.N, t.val % 16 = 0 → k0_off1 (grid0.coords t) = resOff (t.val / 16) :=
  (by decide +kernel : ∀ t : Fin grid0.N, t.val % 16 = 0 → k0_off1 (grid0.coords t) = resOff (t.val / 16))

theorem slice_of_off {o o' : Fin 2 → ℕ} (e : o = o') (h h') :
    (hbM.slice (Rect.unit (s := S4096x2048) o S1024x2048.size h) (fun _ => rfl) : Memref sig .tc .hbm S1024x2048 .f32)
      = hbM.slice (Rect.unit (s := S4096x2048) o' S1024x2048.size h') (fun _ => rfl) := by
  subst e; rfl

/-- The first point of row block `b` copies row block `b` of the residual. -/
theorem srcA_eq (t : Fin cfg0.N) (h : t.val % 16 = 0) : srcA (grid0.coords t) ((first_iff t).mpr h) = resM (t.val / 16) :=
  slice_of_off (off_first t h) _ _

/-- The copy of row block `b` in flight: it is to deliver the block into the scratch and to give back what it was lent
    of the residual; the rest of the residual is here. -/
def inflight (c : Dev nD) (b : ℕ) : sProp 𝕄 :=
  iprop((∃ r, prngReg c r)
    ∗ Transfers.Flight countersEmb (c : Thread nD τ) (SemLoc.dma 11) () (scM.view.amount (SemLoc.dma (sig := sig) 11))
        iprop((scM.view.loc (c : Thread nD τ) ↦[scM.view.set]{fullShare} (Memref.isWhole_whole cc0_scratch0).unread (Val := Elt F) (resBlk m c b))
          ∗ (hbM.view.loc (c : Thread nD τ) ↦[(resM b).view.set]{fullShare} V m c main_arg3))
    ∗ (hbM.view.loc (c : Thread nD τ) ↦[Finset.univ \ (resM b).view.set]{fullShare} V m c main_arg3))

/-- What the kernel holds of its own before point `n`: between row blocks nothing is in flight, within one the copy of
    its residual is. -/
def inv (c : Dev nD) (n : ℕ) : sProp 𝕄 :=
  if n % 16 = 0 then Pipeline.ΦD osem spec0 HB (V m) c else inflight m c (n / 16)

/-! ## The output's buffer point by point -/

/-- What point `t` leaves in the output's buffer, given what it finds there. -/
def step (c : Dev nD) (t : Fin cfg0.N) (prev : Vec F S1024x2048 .f32) : Vec F S1024x2048 .f32 :=
  if h : t.val % 16 = 0 then
    outFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h) (not_inner_of_first t h) (not_last_of_first t h) (iblk m c 0 t) (iblk m c 1 t) (iblk m c 2 t) (V m c main_arg3)
  else if l : t.val % 16 = 15 then
    outLast c (grid0.coords t) (ms0 t) (hs0 t) (ms1 t) (hs1 t) (ms2 t) (hs2 t) (ms3 t) (hs3 t) (ms4 t) (hs4 t) (ms5 t) (hs5 t) scM (Memref.isWhole_whole _) (not_first_of_last t l) (not_inner_of_last t l) ((last_iff t).mpr l) (iblk m c 0 t) (iblk m c 1 t) (iblk m c 2 t) (iblk m c 3 t) (iblk m c 4 t) prev (resBlk m c (t.val / 16)) (V m c main_arg3) (resSet c (t.val / 16))
  else
    outInner c (grid0.coords t) (ms0 t) (hs0 t) (ms1 t) (hs1 t) (ms2 t) (hs2 t) (ms3 t) (hs3 t) (ms4 t) (hs4 t) (ms5 t) (hs5 t) scM (Memref.isWhole_whole _) (fun hh => h ((first_iff t).mp hh)) (inner_of_between t h l) (fun hh => l ((last_iff t).mp hh)) (iblk m c 0 t) (iblk m c 1 t) (iblk m c 2 t) prev

/-- What the output's buffer holds after point `n`. -/
def outsAt (c : Dev nD) : (n : ℕ) → n < cfg0.N → Vec F S1024x2048 .f32
  | 0, hn => step m c ⟨0, hn⟩ (VO.read (Elt F) VO.junk)
  | n + 1, hn => step m c ⟨n + 1, hn⟩ (outsAt c n (Nat.lt_of_succ_lt hn))

theorem step_first (c : Dev nD) (t : Fin cfg0.N) (prev : Vec F S1024x2048 .f32) (h : t.val % 16 = 0) :
    step m c t prev = outFirst c (grid0.coords t) (ms0 t) (hs0 t) (ms1 t) (hs1 t) (ms2 t) (hs2 t) (ms3 t) (hs3 t) (ms4 t) (hs4 t) (ms5 t) (hs5 t) scM (Memref.isWhole_whole _) ((first_iff t).mpr h) (not_inner_of_first t h) (not_last_of_first t h) (iblk m c 0 t) (iblk m c 1 t) (iblk m c 2 t) (V m c main_arg3) := by
  unfold step; rw [dif_pos h]

theorem step_last (c : Dev nD) (t : Fin cfg0.N) (prev : Vec F S1024x2048 .f32) (l : t.val % 16 = 15) :
    step m c t prev = outLast c (grid0.coords t) (ms0 t) (hs0 t) (ms1 t) (hs1 t) (ms2 t) (hs2 t) (ms3 t) (hs3 t) (ms4 t) (hs4 t) (ms5 t) (hs5 t) scM (Memref.isWhole_whole _) (not_first_of_last t l) (not_inner_of_last t l) ((last_iff t).mpr l) (iblk m c 0 t) (iblk m c 1 t) (iblk m c 2 t) (iblk m c 3 t) (iblk m c 4 t) prev (resBlk m c (t.val / 16)) (V m c main_arg3) (resSet c (t.val / 16)) := by
  unfold step; rw [dif_neg (by omega), dif_pos l]

theorem step_inner (c : Dev nD) (t : Fin cfg0.N) (prev : Vec F S1024x2048 .f32) (h : ¬t.val % 16 = 0) (l : ¬t.val % 16 = 15) :
    step m c t prev = outInner c (grid0.coords t) (ms0 t) (hs0 t) (ms1 t) (hs1 t) (ms2 t) (hs2 t) (ms3 t) (hs3 t) (ms4 t) (hs4 t) (ms5 t) (hs5 t) scM (Memref.isWhole_whole _) (fun hh => h ((first_iff t).mp hh)) (inner_of_between t h l) (fun hh => l ((last_iff t).mp hh)) (iblk m c 0 t) (iblk m c 1 t) (iblk m c 2 t) prev := by
  unfold step; rw [dif_neg h, dif_neg l]

/-- What lies in the output's buffer before point `t`, as far as it matters. -/
def prevAt (c : Dev nD) (t : Fin cfg0.N) : Vec F S1024x2048 .f32 :=
  outsAt m c (t.val - 1) (Nat.lt_of_le_of_lt (Nat.sub_le _ _) t.isLt)

theorem outsAt_first (c : Dev nD) (t : Fin cfg0.N) (h : t.val % 16 = 0) :
    outsAt m c t.val t.isLt = step m c t (VO.read (Elt F) VO.junk) := by
  refine Eq.trans ?_ ((step_first m c t (prevAt m c t) h).trans (step_first m c t _ h).symm)
  obtain ⟨n, hn⟩ := t
  cases n with
  | zero => exact (step_first m c ⟨0, hn⟩ _ h).trans (step_first m c ⟨0, hn⟩ _ h).symm
  | succ n => rfl

theorem outsAt_next (c : Dev nD) (t : Fin cfg0.N) (h : ¬t.val % 16 = 0) :
    outsAt m c t.val t.isLt = step m c t (prevAt m c t) := by
  obtain ⟨n, hn⟩ := t
  cases n with
  | zero => exact absurd (Nat.zero_mod _) h
  | succ n => rfl

/-! ## The pipeline's data -/

/-- The arrays as found, the inputs' buffers at their blocks, the output's at `outsAt`, and `inv` between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ n := inv m c n.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before_in0 m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before_in1 m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before_in2 m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before_in3 m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before_in4 m (dats m 0 c) (A_eq m c 4) (after4 m c) t d
theorem after5 (c : Dev nD) (t : Fin cfg0.N) : (dats m 0 c).after 5 t = outsAt m c t.val t.isLt := by dsimp only [dats]
/-- After a row block's first point, the output's buffer holds what the point before left. -/
theorem before5 (c : Dev nD) (t : Fin cfg0.N) (h : ¬t.val % 16 = 0) (d) :
    (dats m 0 c).before 5 t d = prevAt m c t := by
  rw [Dat.before_out_traj _ 5 rfl (fun _ _ => rfl)
      (fun t _ hi _ => absurd ((live5 t).symm.trans hi) Bool.false_ne_true) t.val t rfl d,
    if_neg (by rw [not_fresh t h]; exact Bool.false_ne_true)]
  dsimp only [dats, prevAt]

end Cert.Kernel4Ideal.MlpSample

end
-- ==== Proof.MlpSample.Frame.lean ====
/-
The run of the MLP's kernel: the body at every point, the copy carried in flight from the first point of a row block to
the last, and what the whole run leaves in the arrays.
-/
module

public import proofs.«01_k».proof.Proof.MlpSample.Outs
public import Idealize.ShloMosaic.Lib.Claim

@[expose] public section

set_option maxRecDepth 16384

noncomputable section

namespace Cert.Kernel4Ideal.MlpSample

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The copy in flight -/

/-- The copy of the residual's rows from offset `o` on in flight, and the rest of the residual. -/
def fly (c : Dev nD) (o : Fin 2 → ℕ) (h : ∀ a, o a + S1024x2048.size a ≤ S4096x2048.size a) : sProp 𝕄 :=
  iprop(Transfers.Flight countersEmb (c : Thread nD τ) (SemLoc.dma 11) () (scM.view.amount (SemLoc.dma (sig := sig) 11))
        iprop((scM.view.loc (c : Thread nD τ) ↦[scM.view.set]{fullShare} (Memref.isWhole_whole cc0_scratch0).unread (Val := Elt F)
            ((hbM.slice (Rect.unit (s := S4096x2048) o S1024x2048.size h) (fun _ => rfl)).view.read (Elt F) (V m c main_arg3)))
          ∗ (hbM.view.loc (c : Thread nD τ) ↦[(hbM.slice (Rect.unit (s := S4096x2048) o S1024x2048.size h) (fun _ => rfl)).view.set]{fullShare} V m c main_arg3))
    ∗ (hbM.view.loc (c : Thread nD τ) ↦[Finset.univ \ (hbM.slice (Rect.unit (s := S4096x2048) o S1024x2048.size h) (fun _ => rfl)).view.set]{fullShare} V m c main_arg3))

theorem fly_congr (c : Dev nD) {o o' : Fin 2 → ℕ} (e : o = o') (h h') : fly m c o h = fly m c o' h' := by subst e; rfl

theorem inflight_eq (c : Dev nD) (b : ℕ) :
    inflight m c b = iprop((∃ r, prngReg c r) ∗ fly m c (resOff b) (resOff_inb b)) := rfl

theorem inv_between (c : Dev nD) {n : ℕ} (h : n % 16 = 0) :
    inv m c n = iprop(iprop((∃ d, owns (c : Thread nD τ) scM fullShare d)) ∗ (∃ r, prngReg c r) ∗ iprop(semVal ((c : Thread nD τ), SemLoc.dma 11) 0) ∗ iprop(hbPt c hbM (V m c main_arg3))) := by
  unfold inv; rw [if_pos h, rest_eq]

theorem inv_within (c : Dev nD) {n b : ℕ} (h : ¬n % 16 = 0) (hb : n / 16 = b) :
    inv m c n = iprop((∃ r, prngReg c r) ∗ fly m c (resOff b) (resOff_inb b)) := by
  unfold inv; rw [if_neg h, hb, inflight_eq]

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1200000 in
/-- The first point of a row block: nothing in flight before it, its copy after it. -/
theorem body_first (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_first m c t h, step_first m c t _ h, inv_between m c h,
    inv_within m c (b := t.val / 16) (by omega) (by omega), ← fly_congr m c (off_first t h) (Gen.facts.k0_off1_inb _ ((first_iff t).mpr h)) _]
  unfold outFirst fly
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply ((runFirst c (grid0.coords t) _ _ _ _ _ _ _ _ _ _ _ _ _ _ ((first_iff t).mpr h) (not_inner_of_first t h) (not_last_of_first t h) (iblk m c 0 t) (iblk m c 1 t) (iblk m c 2 t) (V m c main_arg3)).2 W _)
  isplitl [H0]; · iexact H0
  isplitl [H1]; · iexact H1
  isplitl [H2]; · iexact H2
  isplitl [H5]; · iexists _; iexact H5
  isplitl [HS]; · iexact HS
  isplitl [Hq]; · iexact Hq
  isplitl [Hh]; · iexact Hh
  isplitl [HW]; · iexact HW
  iintro ⟨H0, H1, H2, ⟨%e5, H5⟩, Hq, Hh, ⟨%W', HW'⟩⟩
  isplitl [Hg Hq Hh]
  · isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverFirst c _ _ _ _ _ _ _ _ _ _ _ _ _ _ _ _ _ _ _ _ _ _)

set_option maxHeartbeats 1200000 in
/-- A middle point: the copy stays in flight. -/
theorem body_inner (c : Dev nD) (t : Fin cfg0.N) (h : ¬t.val % 16 = 0) (l : ¬t.val % 16 = 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_next m c t h, step_inner m c t _ h l, inv_within m c (b := t.val / 16) h rfl,
    inv_within m c (b := t.val / 16) (by omega) (by omega)]
  simp only [before5 m c t h]
  unfold outInner
  iintro ⟨HI, ⟨%W, -, HW⟩, ⟨%d0, H0⟩, ⟨%d1, H1⟩, ⟨%d2, H2⟩, ⟨%d3, H3⟩, ⟨%d4, H4⟩, ⟨%d5, H5⟩⟩
  iapply ((runInner c (grid0.coords t) _ _ _ _ _ _ _ _ _ _ _ _ _ _ (fun hh => h ((first_iff t).mp hh)) (inner_of_between t h l) (fun hh => l ((last_iff t).mp hh)) (iblk m c 0 t) (iblk m c 1 t) (iblk m c 2 t) (prevAt m c t)).2 W _)
  isplitl [H0]; · iexact H0
  isplitl [H1]; · iexact H1
  isplitl [H2]; · iexact H2
  isplitl [H5]; · iexact H5
  isplitl [HW]; · iexact HW
  iintro ⟨H0, H1, H2, ⟨%e5, H5⟩, ⟨%W', HW'⟩⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverInner c _ _ _ _ _ _ _ _ _ _ _ _ _ _ _ _ _ _ _ _ _ _)

set_option maxHeartbeats 1200000 in
/-- The last point: the copy has landed and nothing is in flight any more. -/
theorem body_last (c : Dev nD) (t : Fin cfg0.N) (l : t.val % 16 = 15) :
    bodyPre m c t ⊢ wp frame (wpE (defs₀ (F := F)) Variants.none c none) Set.univ (bodyAt0 t) (fun _ => bodyPost m c t) := by
  have h : ¬t.val % 16 = 0 := by omega
  unfold bodyPre bodyPost bodyAt0
  simp only [before0, before1, before2, before3, before4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from by
    unfold Dat.leavesExact; rw [live5 t], after5]
  rw [outsAt_next m c t h, step_last m c t _ l, inv_within m c (b := t.val / 16) h rfl,
    inv_between m c (show (t.val + 1) % 16 = 0 by omega)]
  simp only [before5 m c t h]
  unfold outLast fly
  iintro ⟨⟨Hg, Hq, Hh⟩, ⟨%W, -, HW⟩, ⟨%d0, H0⟩, ⟨%d1, H1⟩, ⟨%d2, H2⟩, ⟨%d3, H3⟩, ⟨%d4, H4⟩, ⟨%d5, H5⟩⟩
  iapply ((runLast c (grid0.coords t) _ _ _ _ _ _ _ _ _ _ _ _ _ _ (not_first_of_last t l) (not_inner_of_last t l) ((last_iff t).mpr l) (iblk m c 0 t) (iblk m c 1 t) (iblk m c 2 t) (iblk m c 3 t) (iblk m c 4 t) (prevAt m c t) (resBlk m c (t.val / 16)) (V m c main_arg3) (resSet c (t.val / 16))).2 W _)
  isplitl [H0]; · iexact H0
  isplitl [H1]; · iexact H1
  isplitl [H2]; · iexact H2
  isplitl [H3]; · iexact H3
  isplitl [H4]; · iexact H4
  isplitl [H5]; · iexact H5
  isplitl [Hq]; · iexact Hq
  isplitl [Hh]; · iexact Hh
  isplitl [HW]; · iexact HW
  iintro ⟨H0, H1, H2, H3, H4, ⟨%e5, H5⟩, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverLast c _ _ _ _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact body_first m c t h
  by_cases l : t.val % 16 = 15
  · exact body_last m c t l
  exact body_inner m c t h l

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

theorem inv_start (c : Dev nD) : Pipeline.ΦD osem spec0 HB (V m) c ⊢ inv m c 0 := by
  unfold inv; rw [if_pos (Nat.zero_mod _)]
theorem inv_end (c : Dev nD) {n : ℕ} (h : n = 64) : inv m c n ⊢ Pipeline.ΦD osem spec0 HB (V m) c := by
  subst h; unfold inv; rw [if_pos (by decide)]

set_option backward.isDefEq.respectTransparency.types false in
/-- Every execution ends, with the arrays as the data says, the other buffers as found and all counters at zero. -/
theorem run_counters : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := fun c => inv_start m c) (hout := fun c => inv_end m c N_0)

theorem run_main : θ_run defs (onTc (τ := τ) (main (F := F))) (s₀ m ρ) (Pipeline.FramePost cfgs (dats m) 0 (V m)) :=
  (θ_run defs _ _).mono (fun _ h => h.1) (run_counters m ρ)

/-- Every execution ends with the arguments as launched and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (dats m) (A_eq m) (run_main m ρ)) ((θ_run defs _ _).mono (fun _ h => h.2) (run_counters m ρ))

end Cert.Kernel4Ideal.MlpSample

end
-- ==== Proof.MlpSample.Blocks.lean ====
module

public import proofs.«01_k».proof.Proof.MlpSample.Outs
public import proofs.«01_k».proof.Proof.Mlp.Spec
public import Idealize.ShloMosaic.Lib.Pipeline.ValueKit

/-! # The blocks the points work on, read off the call's arguments -/

@[expose] public section

set_option maxRecDepth 16384

noncomputable section

namespace Cert.Kernel4Ideal.MlpSample

open Idealize.ShloMosaic Idealize.ShloMosaic.TcCoe Idealize.SL.Sem
open Cert.Kernel4Ideal Cert.Kernel4Ideal.Gen Cert.Mlp

variable (m : (ℓ : Loc nD τ sig) → Buf (Elt Ideal) ℓ)

abbrev bU (c : Dev nD) (t : Fin cfg0.N) : FVec Ideal S1024x2048 .bf16 := iblk m c 0 t
abbrev bW (c : Dev nD) (t : Fin cfg0.N) : FVec Ideal S2048x512 .f32 := iblk m c 1 t
abbrev bV (c : Dev nD) (t : Fin cfg0.N) : FVec Ideal S512x2048 .f32 := iblk m c 2 t
abbrev bG (c : Dev nD) (t : Fin cfg0.N) : FVec Ideal S1x1x2048 .f32 := iblk m c 3 t
abbrev bP (c : Dev nD) (t : Fin cfg0.N) : FVec Ideal S1x2048 .f32 := iblk m c 4 t
abbrev bX (c : Dev nD) (b : ℕ) : FVec Ideal S1024x2048 .f32 := resBlk m c b

abbrev aU (c : Dev nD) : FVec Ideal S4096x2048 .bf16 := m ((c : Thread nD τ).loc main_arg0)
abbrev aW (c : Dev nD) : FVec Ideal S2048x8192 .f32 := m ((c : Thread nD τ).loc main_arg1)
abbrev aV (c : Dev nD) : FVec Ideal S8192x2048 .f32 := m ((c : Thread nD τ).loc main_arg2)
abbrev aX (c : Dev nD) : FVec Ideal S4096x2048 .f32 := m ((c : Thread nD τ).loc main_arg3)
abbrev aG (c : Dev nD) : FVec Ideal S2x1x2048 .f32 := m ((c : Thread nD τ).loc main_arg4)
abbrev aP (c : Dev nD) : FVec Ideal S2048 .f32 := m ((c : Thread nD τ).loc main_arg5)

/-- Where each window stands at each grid point. -/
theorem idx : ∀ t : Fin cfg0.N, win0_0.index t = ![t.val / 16, 0] ∧ win0_1.index t = ![0, t.val % 16] ∧ win0_2.index t = ![t.val % 16, 0]
    ∧ win0_3.index t = ![t.val / 32, 0, 0] ∧ win0_4.index t = ![0, 0] ∧ win0_5.index t = ![t.val / 16, 0] :=
  (by decide +kernel : ∀ t : Fin grid0.N, win0_0.index t = ![t.val / 16, 0] ∧ win0_1.index t = ![0, t.val % 16] ∧ win0_2.index t = ![t.val % 16, 0]
    ∧ win0_3.index t = ![t.val / 32, 0, 0] ∧ win0_4.index t = ![0, 0] ∧ win0_5.index t = ![t.val / 16, 0])

/-- What the host code leaves in the gain's array. -/
theorem V0 (c : Dev nD) : V m c main_v0 = shapeCast S1x2048 (aP m c) shapeCasts_S2048_S1x2048 := by
  unfold V; simp only [hostOps0, List.flatten_cons, List.flatten_nil, List.append_nil, List.cons_append, List.nil_append]; after_results; try rfl

/-- The token a row of a block is. -/
theorem row_lt (t : Fin cfg0.N) (r : Fin 1024) : 1024 * (t.val / 16) + r.val < 4096 := by
  have := t.isLt; have : cfg0.N = 64 := N_0; omega

theorem bU_at (c : Dev nD) (t : Fin cfg0.N) (r : Fin 1024) (k : Fin 2048) :
    (bU m c t (ix2 r k) : EReal) = aU m c (ix2 ⟨1024 * (t.val / 16) + r.val, row_lt t r⟩ k) := by
  have e : ((win0_0.blk t).view.emb (ix2 r k)) = (ix2 ⟨1024 * (t.val / 16) + r.val, row_lt t r⟩ k : S4096x2048.Idx) := by
    blk_ext [idx t]
  show V m c main_arg0 ((win0_0.blk t).view.emb (ix2 r k)) = _
  rw [e, V_arg0]

theorem bW_at (c : Dev nD) (t : Fin cfg0.N) (k : Fin 2048) (l : Fin 512) :
    (bW m c t (ix2 k l) : EReal) = aW m c (ix2 k ⟨t.val % 16 * 512 + l.val, by omega⟩) := by
  have e : ((win0_1.blk t).view.emb (ix2 k l)) = (ix2 k ⟨t.val % 16 * 512 + l.val, by omega⟩ : S2048x8192.Idx) := by
    blk_ext [idx t]
  show V m c main_arg1 ((win0_1.blk t).view.emb (ix2 k l)) = _
  rw [e, V_arg1]

theorem bV_at (c : Dev nD) (t : Fin cfg0.N) (l : Fin 512) (n : Fin 2048) :
    (bV m c t (ix2 l n) : EReal) = aV m c (ix2 ⟨t.val % 16 * 512 + l.val, by omega⟩ n) := by
  have e : ((win0_2.blk t).view.emb (ix2 l n)) = (ix2 ⟨t.val % 16 * 512 + l.val, by omega⟩ n : S8192x2048.Idx) := by
    blk_ext [idx t]
  show V m c main_arg2 ((win0_2.blk t).view.emb (ix2 l n)) = _
  rw [e, V_arg2]

/-- The sequence a point works on. -/
theorem seq_lt (t : Fin cfg0.N) : t.val / 32 < 2 := by
  have := t.isLt; have : cfg0.N = 64 := N_0; omega

theorem bG_at (c : Dev nD) (t : Fin cfg0.N) (n : Fin 2048) : (bG m c t (ix3 0 0 n) : EReal) = aG m c (ix3 ⟨t.val / 32, seq_lt t⟩ 0 n) := by
  have e : ((win0_3.blk t).view.emb (ix3 0 0 n)) = (ix3 ⟨t.val / 32, seq_lt t⟩ 0 n : S2x1x2048.Idx) := by
    blk_ext [idx t]
  show V m c main_arg4 ((win0_3.blk t).view.emb (ix3 0 0 n)) = _
  rw [e, V_arg4]

theorem bP_at (c : Dev nD) (t : Fin cfg0.N) (n : Fin 2048) : (bP m c t (ix2 0 n) : EReal) = aP m c (ix1 n) := by
  have e : ((win0_4.blk t).view.emb (ix2 0 n)) = (ix2 0 n : S1x2048.Idx) := by
    blk_ext [idx t]
  show V m c main_v0 ((win0_4.blk t).view.emb (ix2 0 n)) = _
  rw [e, V0]
  pointwise

theorem bX_at (c : Dev nD) (t : Fin cfg0.N) (r : Fin 1024) (n : Fin 2048) :
    (bX m c (t.val / 16) (ix2 r n) : EReal) = aX m c (ix2 ⟨1024 * (t.val / 16) + r.val, row_lt t r⟩ n) := by
  have hb : t.val / 16 % 4 = t.val / 16 := Nat.mod_eq_of_lt (by have := t.isLt; have : cfg0.N = 64 := N_0; omega)
  have e : ((resM (t.val / 16)).view.emb (ix2 r n)) = (ix2 ⟨1024 * (t.val / 16) + r.val, row_lt t r⟩ n : S4096x2048.Idx) := by
    funext a
    match a with
    | ⟨0, _⟩ => exact Fin.ext (by show 1024 * (t.val / 16 % 4) + 1 * r.val = 1024 * (t.val / 16) + r.val; rw [hb, Nat.one_mul])
    | ⟨1, _⟩ => exact Fin.ext (by show 0 + 1 * n.val = n.val; omega)
  show V m c main_arg3 ((resM (t.val / 16)).view.emb (ix2 r n)) = _
  rw [e, V_arg3]

end Cert.Kernel4Ideal.MlpSample

end
-- ==== Proof.MlpSample.Pure.lean ====
module

public import proofs.«01_k».proof.Proof.Gen.Kernel4Ideal.Skeleton
public import proofs.«01_k».proof.Proof.Mlp.Spec

/-! # The kernel's computed values at an index -/

@[expose] public section

set_option maxRecDepth 16384

noncomputable section

namespace Cert.Kernel4Ideal.MlpSample

open Idealize.ShloMosaic Idealize.ShloMosaic.TcCoe Idealize.SL.Sem
open Cert.Kernel4Ideal Cert.Kernel4Ideal.Gen Cert.Mlp

/-- One point's part of a token's products. -/
abbrev part (w : FVec Ideal S2048x512 .f32) (v : FVec Ideal S512x2048 .f32) (u : Fin 2048 → EReal) (n : Fin 2048) : EReal :=
  mix u (fun (l : Fin 512) k => w (ix2 k l)) (fun l => v (ix2 l n))

theorem pay3_at (w : FVec Ideal S2048x512 .f32) (v : FVec Ideal S512x2048 .f32) (u : FVec Ideal S512x2048 .bf16) (r : Fin 512) (n : Fin 2048) :
    (k0_pay3 (F := Ideal) w v u (ix2 r n) : EReal) = part w v (fun k => u (ix2 r k)) n := by
  pointwise [k0_pay3, k0_pay1, k0_pay2, part, mix, hid]

theorem pay4_at (w : FVec Ideal S2048x512 .f32) (v : FVec Ideal S512x2048 .f32) (u : FVec Ideal S512x2048 .bf16) (r : Fin 512) (n : Fin 2048) :
    (k0_pay4 (F := Ideal) w v u (ix2 r n) : EReal) = part w v (fun k => u (ix2 r k)) n := by
  pointwise [k0_pay4, k0_pay1, k0_pay2, part, mix, hid]

theorem pay7_at (w : FVec Ideal S2048x512 .f32) (v : FVec Ideal S512x2048 .f32) (y : FVec Ideal S512x2048 .f32) (u : FVec Ideal S512x2048 .bf16) (r : Fin 512) (n : Fin 2048) :
    (k0_pay7 (F := Ideal) w v y u (ix2 r n) : EReal) = y (ix2 r n) + part w v (fun k => u (ix2 r k)) n := by
  pointwise [k0_pay7, k0_pay5, k0_pay6, part, mix, hid]

theorem pay8_at (w : FVec Ideal S2048x512 .f32) (v : FVec Ideal S512x2048 .f32) (y : FVec Ideal S512x2048 .f32) (u : FVec Ideal S512x2048 .bf16) (r : Fin 512) (n : Fin 2048) :
    (k0_pay8 (F := Ideal) w v y u (ix2 r n) : EReal) = y (ix2 r n) + part w v (fun k => u (ix2 r k)) n := by
  pointwise [k0_pay8, k0_pay5, k0_pay6, part, mix, hid]

theorem pay9_at (w : FVec Ideal S2048x512 .f32) (v : FVec Ideal S512x2048 .f32) (y : FVec Ideal S512x2048 .f32) (u : FVec Ideal S512x2048 .bf16)
    (x : FVec Ideal S512x2048 .f32) (g : FVec Ideal S1x1x2048 .f32) (p : FVec Ideal S1x2048 .f32) (r : Fin 512) (n : Fin 2048) :
    (k0_pay9 (F := Ideal) x (k0_pay13 w v y u g p) (ix2 r n) : EReal) =
      close (fun l => y (ix2 r l) + part w v (fun k => u (ix2 r k)) l) (fun l => g (ix3 0 0 l)) (fun l => p (ix2 0 l)) (x (ix2 r n)) n := by
  pointwise [k0_pay9, k0_pay13, k0_pay11, k0_pay12, part, mix, hid, close]

theorem pay10_at (w : FVec Ideal S2048x512 .f32) (v : FVec Ideal S512x2048 .f32) (y : FVec Ideal S512x2048 .f32) (u : FVec Ideal S512x2048 .bf16)
    (x : FVec Ideal S512x2048 .f32) (g : FVec Ideal S1x1x2048 .f32) (p : FVec Ideal S1x2048 .f32) (r : Fin 512) (n : Fin 2048) :
    (k0_pay10 (F := Ideal) (k0_pay11 w) (k0_pay12 v) y u x g p (ix2 r n) : EReal) =
      close (fun l => y (ix2 r l) + part w v (fun k => u (ix2 r k)) l) (fun l => g (ix3 0 0 l)) (fun l => p (ix2 0 l)) (x (ix2 r n)) n := by
  pointwise [k0_pay10, k0_pay11, k0_pay12, part, mix, hid, close]

end Cert.Kernel4Ideal.MlpSample

end
-- ==== Proof.MlpSample.Cases.lean ====
module

public import proofs.«01_k».proof.Proof.MlpSample.Blocks
public import proofs.«01_k».proof.Proof.MlpSample.Pure
public import Idealize.ShloMosaic.Lib.Pipeline.ReadBack

/-! # What each grid point leaves in the output's buffer, at an index -/

@[expose] public section

set_option maxRecDepth 16384

noncomputable section

namespace Cert.Kernel4Ideal.MlpSample

open Idealize.ShloMosaic Idealize.ShloMosaic.TcCoe Idealize.SL.Sem
open Cert.Kernel4Ideal Cert.Kernel4Ideal.Gen Cert.Mlp

variable (m : (ℓ : Loc nD τ sig) → Buf (Elt Ideal) ℓ)

/-- The part of a row's products that one point computes. -/
def partAt (c : Dev nD) (t : Fin cfg0.N) (r : Fin 1024) (n : Fin 2048) : EReal :=
  part (bW m c t) (bV m c t) (fun k => bU m c t (ix2 r k)) n

/-- The first point of a row block leaves its own part. -/
theorem out_first (c : Dev nD) (t : Fin cfg0.N) (h : t.val % 16 = 0) (r : Fin 1024) (n : Fin 2048) :
    (outsAt m c t.val t.isLt (ix2 r n) : EReal) = partAt m c t r n := by
  rw [outsAt_first m c t h, step_first m c t _ h]
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay4_at _ _ _ x0 n).trans ?_
    pointwise [partAt]
  · idx_vars x
    obtain rfl : r = ⟨x0.val, Nat.lt_trans x0.isLt (by decide)⟩ := Fin.ext q0
    obtain rfl : n = x1 := Fin.ext q1
    refine (pay3_at _ _ _ x0 n).trans ?_
    pointwise [partAt]

/-- A middle point adds its part to what it finds. -/
theorem out_inner (c : Dev nD) (t : Fin cfg0.N) (h : ¬t.val % 16 = 0) (l : ¬t.val % 16 = 15) (r : Fin 1024) (n : Fin 2048) :
    (outsAt m c t.val t.isLt (ix2 r n) : EReal) = prevAt m c t (ix2 r n) + partAt m c t r n := by
  rw [outsAt_next m c t h, step_inner m c t _ h l]
  generalize prevAt m c t = y
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay8_at _ _ _ _ x0 n).trans ?_
    pointwise [partAt]
  · idx_vars x
    obtain rfl : r = ⟨x0.val, Nat.lt_trans x0.isLt (by decide)⟩ := Fin.ext q0
    obtain rfl : n = x1 := Fin.ext q1
    refine (pay7_at _ _ _ _ x0 n).trans ?_
    pointwise [partAt]

/-- The last point adds its part, norms the sums, and puts them on top of the residual. -/
theorem out_last (c : Dev nD) (t : Fin cfg0.N) (l : t.val % 16 = 15) (r : Fin 1024) (n : Fin 2048) :
    (outsAt m c t.val t.isLt (ix2 r n) : EReal) =
      close (fun k => prevAt m c t (ix2 r k) + partAt m c t r k) (fun k => bG m c t (ix3 0 0 k)) (fun k => bP m c t (ix2 0 k))
        (bX m c (t.val / 16) (ix2 r n)) n := by
  rw [outsAt_next m c t (by omega), step_last m c t _ l]
  generalize prevAt m c t = y
  frame_out
  canon_tiles x q
  · idx_vars x
    obtain rfl : r = ⟨512 + x0.val, Nat.lt_of_lt_of_le (Nat.add_lt_add_left x0.isLt 512) (by decide)⟩ := Fin.ext q0
    obtain rfl : n = x1 := Fin.ext q1
    refine (pay10_at _ _ _ _ _ _ _ x0 n).trans ?_
    pointwise [partAt]
    exact congrArg (fun a => close _ _ _ a n) (congrFun ((Memref.isWhole_whole cc0_scratch0).read_unread (Val := Elt Ideal) (resBlk m c (t.val / 16))) (ix2 _ n))
  · idx_vars x
    obtain rfl : r = ⟨x0.val, Nat.lt_trans x0.isLt (by decide)⟩ := Fin.ext q0
    obtain rfl : n = x1 := Fin.ext q1
    refine (pay9_at _ _ _ _ _ _ _ x0 n).trans ?_
    pointwise [partAt]
    exact congrArg (fun a => close _ _ _ a n) (congrFun ((Memref.isWhole_whole cc0_scratch0).read_unread (Val := Elt Ideal) (resBlk m c (t.val / 16))) (ix2 _ n))

end Cert.Kernel4Ideal.MlpSample

end
-- ==== Proof.MlpSample.Array.lean ====
module

public import proofs.«01_k».proof.Proof.MlpSample.Cases

/-! # The output's array after the call

The sixteen points of a row block add up the sixteen parts of its products; the last one closes the layer. -/

@[expose] public section

set_option maxRecDepth 16384

noncomputable section

namespace Cert.Kernel4Ideal.MlpSample

open Idealize.ShloMosaic Idealize.ShloMosaic.TcCoe Idealize.SL.Sem
open Cert.Kernel4Ideal Cert.Kernel4Ideal.Gen Cert.Mlp

variable (m : (ℓ : Loc nD τ sig) → Buf (Elt Ideal) ℓ)

/-- The products summed up at point `k`, the point's own part included. -/
def accAt (c : Dev nD) (r : Fin 1024) (n : Fin 2048) (k : ℕ) (hk : k < cfg0.N) : EReal :=
  if k % 16 = 15 then prevAt m c ⟨k, hk⟩ (ix2 r n) + partAt m c ⟨k, hk⟩ r n else outsAt m c k hk (ix2 r n)

theorem accAt_first (c : Dev nD) (r : Fin 1024) (n : Fin 2048) (t : Fin cfg0.N) (h : t.val % 16 = 0) :
    accAt m c r n t.val t.isLt = 0 + partAt m c t r n := by
  unfold accAt
  rw [if_neg (by omega), zero_add]
  exact out_first m c t h r n

theorem accAt_next (c : Dev nD) (r : Fin 1024) (n : Fin 2048) (t : Fin cfg0.N) (h : ¬t.val % 16 = 0) :
    accAt m c r n t.val t.isLt = accAt m c r n (t.val - 1) (Nat.lt_of_le_of_lt (Nat.sub_le _ _) t.isLt) + partAt m c t r n := by
  have hp : accAt m c r n (t.val - 1) (Nat.lt_of_le_of_lt (Nat.sub_le _ _) t.isLt) = prevAt m c t (ix2 r n) := by
    unfold accAt prevAt
    rw [if_neg (by omega)]
  rw [hp]
  unfold accAt
  by_cases l : t.val % 16 = 15
  · rw [if_pos l]
  · rw [if_neg l]
    exact out_inner m c t h l r n

/-- The sums the last point of a row block closes with. -/
theorem total (c : Dev nD) (t : Fin cfg0.N) (l : t.val % 16 = 15) (r : Fin 1024) (n : Fin 2048) :
    prevAt m c t (ix2 r n) + partAt m c t r n =
      ∑ s : Fin 16, partAt m c ⟨16 * (t.val / 16) + s.val, Pipeline.run_point_lt_of_flush t l s⟩ r n := by
  have e := Pipeline.eq_sum_fin_of_reset_step_of_flush (accAt m c r n) 16 0 (fun t => partAt m c t r n)
    (accAt_first m c r n) (accAt_next m c r n) t l
  rw [zero_add] at e
  refine Eq.trans ?_ e
  unfold accAt
  rw [if_pos l]

/-- A token's products, of the call's arguments. -/
def prodAt (c : Dev nD) (s : Fin 4096) (n : Fin 2048) : EReal :=
  mix (fun k => aU m c (ix2 s k)) (fun (l : Fin 8192) k => aW m c (ix2 k l)) (fun l => aV m c (ix2 l n))

theorem partAt_eq (c : Dev nD) (t : Fin cfg0.N) (r : Fin 1024) (n : Fin 2048) :
    partAt m c t r n = mix (fun k => aU m c (ix2 ⟨1024 * (t.val / 16) + r.val, row_lt t r⟩ k))
      (fun (l : Fin 512) k => aW m c (ix2 k ⟨t.val % 16 * 512 + l.val, by omega⟩)) (fun l => aV m c (ix2 ⟨t.val % 16 * 512 + l.val, by omega⟩ n)) := by
  unfold partAt part
  congr 1
  · exact funext fun k => bU_at m c t r k
  · exact funext fun l => funext fun k => bW_at m c t k l
  · exact funext fun l => bV_at m c t l n

theorem total_eq (c : Dev nD) (t : Fin cfg0.N) (l : t.val % 16 = 15) (r : Fin 1024) (n : Fin 2048) :
    prevAt m c t (ix2 r n) + partAt m c t r n = prodAt m c ⟨1024 * (t.val / 16) + r.val, row_lt t r⟩ n := by
  rw [total m c t l r n]
  unfold prodAt
  rw [← mix_eq_sum]
  refine Finset.sum_congr rfl fun s _ => ?_
  rw [partAt_eq]
  have hd : (16 * (t.val / 16) + s.val) / 16 = t.val / 16 := by omega
  have hm : (16 * (t.val / 16) + s.val) % 16 = s.val := by omega
  simp only [hd, hm]

/-- The sequence of a token. -/
abbrev seqOf (s : Fin 4096) : Fin 2 := ⟨s.val / 2048, by omega⟩

/-- The result's entries, of the call's arguments. -/
def outArr (c : Dev nD) : FVec Ideal S4096x2048 .f32 := fun y =>
  close (fun k => prodAt m c (y 0) k) (fun k => aG m c (ix3 (seqOf (y 0)) 0 k)) (fun k => aP m c (ix1 k)) (aX m c (ix2 (y 0) (y 1))) (y 1)

theorem out_at (c : Dev nD) (t : Fin cfg0.N) (l : t.val % 16 = 15) (r : Fin 1024) (n : Fin 2048) :
    (outsAt m c t.val t.isLt (ix2 r n) : EReal) = outArr m c (ix2 ⟨1024 * (t.val / 16) + r.val, row_lt t r⟩ n) := by
  rw [out_last m c t l r n, bX_at m c t r n]
  show _ = close (fun k => prodAt m c ⟨1024 * (t.val / 16) + r.val, row_lt t r⟩ k) (fun k => aG m c (ix3 (seqOf ⟨1024 * (t.val / 16) + r.val, row_lt t r⟩) 0 k)) (fun k => aP m c (ix1 k))
    (aX m c (ix2 ⟨1024 * (t.val / 16) + r.val, row_lt t r⟩ n)) n
  congr 1
  · exact funext fun k => total_eq m c t l r k
  · have hs : (⟨t.val / 32, seq_lt t⟩ : Fin 2) = seqOf ⟨1024 * (t.val / 16) + r.val, row_lt t r⟩ :=
      Fin.ext (by show t.val / 32 = (1024 * (t.val / 16) + r.val) / 2048; omega)
    exact funext fun k => (bG_at m c t k).trans (by rw [hs])
  · exact funext fun k => bP_at m c t k

theorem flush_iff : ∀ t : Fin cfg0.N, (cfg0.win 5).flush t = true → t.val % 16 = 15 :=
  (by decide +kernel : ∀ t : Fin grid0.N, win0_5.flush t = true → t.val % 16 = 15)

/-- The output's array when the call is over. -/
theorem final_out (c : Dev nD) : (dats m 0 c).arrAt 5 cfg0.N = outArr m c := by
  refine (dats m 0 c).arrAt_eq_of_covers 5 _ (by decide +kernel) fun t hf y => ?_
  blk_simp
  rw [after5]
  idx_vars y
  have e : ((win0_5.blk t).view.emb (ix2 y0 y1)) = (ix2 ⟨1024 * (t.val / 16) + y0.val, row_lt t y0⟩ y1 : S4096x2048.Idx) := by
    blk_ext [idx t]
  refine (out_at m c t (flush_iff t hf) y0 y1).trans ?_
  show _ = outArr m c ((win0_5.blk t).view.emb (ix2 y0 y1))
  rw [e]

end Cert.Kernel4Ideal.MlpSample

end
-- ==== Proof.MlpSample.Reference.lean ====
module

public import proofs.«01_k».proof.Proof.Gen.Reference4Ideal.Run
public import proofs.«01_k».proof.Proof.Mlp.Spec

/-! # What the reference computes, at an index -/

@[expose] public section

set_option maxRecDepth 16384

noncomputable section

namespace Cert.Reference4Ideal.MlpSample

open Idealize.ShloMosaic Idealize.ShloMosaic.TcCoe Idealize.SL.Sem
open Cert.Reference4Ideal Cert.Reference4Ideal.Gen Cert.Mlp

/-- The positive parts of the tokens' products with the first weight. -/
def positive (u : FVec Ideal S4096x2048 .bf16) (w : FVec Ideal S2048x8192 .f32) : FVec Ideal S2x2048x8192 .f32 :=
  maximumf (Host.dotGeneral dot_S2x2048x2048_S2048x8192_S2x2048x8192_2_0_01_1_n_n none
    (shapeCast S2x2048x2048 (extf .f32 u bitsLt_bf16_f32) shapeCasts_S4096x2048_S2x2048x2048) w)
    (broadcastInDim S2x2048x8192 ![] bcast_S_S2x2048x8192 (constant S_ .f32 0x00000000#32))

/-- Their squares' products with the second. -/
def products (u : FVec Ideal S4096x2048 .bf16) (w : FVec Ideal S2048x8192 .f32) (v : FVec Ideal S8192x2048 .f32) : FVec Ideal S2x2048x2048 .f32 :=
  Host.dotGeneral dot_S2x2048x8192_S8192x2048_S2x2048x2048_2_0_01_1_n_n none (mulf (positive u w) (positive u w)) v

/-- The norm, the gain, the gate and the residual. -/
def closed (y : FVec Ideal S2x2048x2048 .f32) (x : FVec Ideal S4096x2048 .f32) (g : FVec Ideal S2x1x2048 .f32) (p : FVec Ideal S2048 .f32) : FVec Ideal S2x2048x2048 .f32 :=
  addf (shapeCast S2x2048x2048 x shapeCasts_S4096x2048_S2x2048x2048) (mulf (broadcastInDim S2x2048x2048 ![0, 1, 2] bcast_S2x1x2048_S2x2048x2048_0_1_2 g)
    (mulf (mulf y (broadcastInDim S2x2048x2048 ![0, 1, 2] bcast_S2x2048x1_S2x2048x2048_0_1_2
      (Host.rsqrt (addf (Host.divf
        (broadcastInDim S2x2048x1 ![0, 1] bcast_S2x2048_S2x2048x1_0_1 (Host.reduceAdd (mulf y y) (constant S_ .f32 0x00000000#32) reducesTo_S2x2048x2048_S2x2048_d2 h_S_))
        (broadcastInDim S2x2048x1 ![] bcast_S_S2x2048x1 (constant S_ .f32 0x45000000#32)))
        (broadcastInDim S2x2048x1 ![] bcast_S_S2x2048x1 (constant S_ .f32 0x358637BD#32))))))
      (broadcastInDim S2x2048x2048 ![0, 1, 2] bcast_S1x1x2048_S2x2048x2048_0_1_2 (broadcastInDim S1x1x2048 ![2] bcast_S2048_S1x1x2048_2 p))))

/-- The call's result: the tokens of both sequences in one row. -/
def result (u : FVec Ideal S4096x2048 .bf16) (w : FVec Ideal S2048x8192 .f32) (v : FVec Ideal S8192x2048 .f32)
    (x : FVec Ideal S4096x2048 .f32) (g : FVec Ideal S2x1x2048 .f32) (p : FVec Ideal S2048 .f32) : FVec Ideal S4096x2048 .f32 :=
  shapeCast S4096x2048 (closed (products u w v) x g p) shapeCasts_S2x2048x2048_S4096x2048

/-- The token at a place of a sequence. -/
abbrev tokenOf (b : Fin 2) (s : Fin 2048) : Fin 4096 := ⟨b.val * 2048 + s.val, by omega⟩

theorem split_at (x : FVec Ideal S4096x2048 .f32) (b : Fin 2) (s n : Fin 2048) :
    (shapeCast S2x2048x2048 x shapeCasts_S4096x2048_S2x2048x2048 (ix3 b s n) : EReal) = x (ix2 (tokenOf b s) n) := by
  pointwise
  try rfl

theorem positive_at (u : FVec Ideal S4096x2048 .bf16) (w : FVec Ideal S2048x8192 .f32) (b : Fin 2) (s : Fin 2048) (l : Fin 8192) :
    (positive u w (ix3 b s l) : EReal) = max (∑ k : Fin 2048, (u (ix2 (tokenOf b s) k) : EReal) * w (ix2 k l)) 0 := by
  pointwise [positive]

theorem products_at (u : FVec Ideal S4096x2048 .bf16) (w : FVec Ideal S2048x8192 .f32) (v : FVec Ideal S8192x2048 .f32) (b : Fin 2) (s n : Fin 2048) :
    (products u w v (ix3 b s n) : EReal) = mix (fun k => u (ix2 (tokenOf b s) k)) (fun (l : Fin 8192) k => w (ix2 k l)) (fun l => v (ix2 l n)) := by
  pointwise [products, mix, hid]
  simp only [positive_at]

theorem closed_at (y : FVec Ideal S2x2048x2048 .f32) (x : FVec Ideal S4096x2048 .f32) (g : FVec Ideal S2x1x2048 .f32) (p : FVec Ideal S2048 .f32) (b : Fin 2) (s n : Fin 2048) :
    (closed y x g p (ix3 b s n) : EReal) =
      close (fun l => y (ix3 b s l)) (fun l => g (ix3 b 0 l)) (fun l => p (ix1 l)) (x (ix2 (tokenOf b s) n)) n := by
  pointwise [closed, close]

theorem result_at (u : FVec Ideal S4096x2048 .bf16) (w : FVec Ideal S2048x8192 .f32) (v : FVec Ideal S8192x2048 .f32)
    (x : FVec Ideal S4096x2048 .f32) (g : FVec Ideal S2x1x2048 .f32) (p : FVec Ideal S2048 .f32) (s : Fin 4096) (n : Fin 2048) :
    (result u w v x g p (ix2 s n) : EReal) =
      close (fun k => mix (fun k => u (ix2 s k)) (fun (l : Fin 8192) k => w (ix2 k l)) (fun l => v (ix2 l k)))
        (fun k => g (ix3 ⟨s.val / 2048, by omega⟩ 0 k)) (fun k => p (ix1 k)) (x (ix2 s n)) n := by
  have hs : tokenOf ⟨s.val / 2048, by omega⟩ ⟨s.val % 2048, by omega⟩ = s := Fin.ext (by show s.val / 2048 * 2048 + s.val % 2048 = s.val; omega)
  have e : (result u w v x g p (ix2 s n) : EReal) = closed (products u w v) x g p (ix3 ⟨s.val / 2048, by omega⟩ ⟨s.val % 2048, by omega⟩ n) := by
    unfold result
    generalize closed (products u w v) x g p = z
    pointwise
  rw [e, closed_at]
  simp only [products_at, hs]

end Cert.Reference4Ideal.MlpSample

end
-- ==== Proof.MlpSample.Claim.lean ====
module

public import proofs.«01_k».proof.Defs
public import proofs.«01_k».proof.Proof.Gen.Kernel4
public import proofs.«01_k».proof.Proof.MlpSample.Frame
public import proofs.«01_k».proof.Proof.MlpSample.Array
public import proofs.«01_k».proof.Proof.MlpSample.Reference
public import Idealize.ShloMosaic.Lib.Claim

/-! # The sample's MLP equals its reference -/

@[expose] public section

set_option maxRecDepth 16384

noncomputable section

namespace Cert.MlpSample

open Idealize.ShloMosaic Idealize.ShloMosaic.TcCoe Idealize.SL.Sem
open Cert.Kernel4Ideal.MlpSample

variable (m : (ℓ : Loc Cert.Kernel4Ideal.nD Cert.Kernel4Ideal.τ Cert.Kernel4Ideal.sig) → Buf (Elt Ideal) ℓ) (ρ : Dev Cert.Kernel4Ideal.nD → PrngReg)

/-- The kernel's run: the result by its entries. -/
theorem kernel_run : θ_run Cert.Kernel4Ideal.defs (onTc (τ := Cert.Kernel4Ideal.τ) Cert.Kernel4Ideal.main) ⟨m, fun _ => 0, ρ⟩ fun r => ∀ c : Dev Cert.Kernel4Ideal.nD,
    r.2.mem ((c.tc : Thread Cert.Kernel4Ideal.nD Cert.Kernel4Ideal.τ).loc Cert.Kernel4Ideal.main_v1) = outArr m c :=
  (θ_run Cert.Kernel4Ideal.defs _ _).mono (fun _ h c => ((h c).1 5).trans (final_out m c)) (run_main m ρ)

theorem algebraic : Cert.algebraic_Kernel4Ideal_Reference4Ideal := by
  intro m ρ m' ρ' _ hagree
  refine ⟨fun c => outArr m c, ?_, ?_⟩
  · exact (θ_run Cert.Kernel4Ideal.defs _ _).mono (fun _ h c => ⟨h.1 c, h.2.1 c⟩)
      (θ_run_and (kernel_run m ρ) (Cert.Kernel4Ideal.MlpSample.frame m ρ))
  · refine (θ_run Cert.Reference4Ideal.defs _ _).mono (fun r h c => ?_) (Cert.Reference4Ideal.Value.run (F := Ideal) m' ρ')
    obtain ⟨h0, h1, h2, h3, h4, h5⟩ := hagree c
    refine ⟨(h c).1.trans ?_, (h c).2⟩
    rw [h0, h1, h2, h3, h4, h5]
    show Cert.Reference4Ideal.MlpSample.result (aU m c) (aW m c) (aV m c) (aX m c) (aG m c) (aP m c) = _
    funext y
    idx_vars y
    refine (Cert.Reference4Ideal.MlpSample.result_at _ _ _ _ _ _ y0 y1).trans ?_
    rfl

/-- The two programs' tables of bodies are the same text. -/
theorem bodies_eq : @Cert.Kernel4.defs₀ Bits _ _ = @Cert.Kernel4Ideal.defs₀ Bits _ _ := by
  unfold Cert.Kernel4.defs₀ Cert.Kernel4Ideal.defs₀
  refine congrArg Defs.onTc ?_
  funext l a
  match l, a with
  | 0, (t, s) => rfl

theorem tables_eq : @Cert.Kernel4.defs Bits _ _ = @Cert.Kernel4Ideal.defs Bits _ _ :=
  congrArg (Pipeline.defs Cert.Kernel4Ideal.pcfgs) bodies_eq

theorem frame_kernel : Cert.quiescent_Kernel4 := by
  intro m ρ _
  rw [tables_eq]
  exact Cert.Kernel4Ideal.MlpSample.frame (F := Bits) m ρ

theorem frame_ideal : Cert.quiescent_Kernel4Ideal := fun m ρ _ => Cert.Kernel4Ideal.MlpSample.frame m ρ

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.MlpSample

end
-- ==== Proof.Modulate.Spec.lean ====
module

public import proofs.«01_k».proof.Proof.InProj.Spec

/-! # What the modulation computes, number by number -/

@[expose] public section

set_option maxRecDepth 16384

noncomputable section

namespace Cert.Modulate

open Idealize.ShloMosaic Idealize.ShloMosaic.TcCoe Idealize.SL.Sem
open Cert.InProj (silu lin)

/-- One entry of a modulation: the activated condition against one column, and the bias. -/
def modAt (x w : Fin 2048 → EReal) (b : EReal) : EReal := lin (fun k => silu (x k)) w + b

end Cert.Modulate

end
-- ==== Proof.Modulate.Array.lean ====
module

public import proofs.«01_k».proof.Proof.Gen.Kernel5Ideal.Frame
public import proofs.«01_k».proof.Proof.Modulate.Spec
public import Idealize.ShloMosaic.Lib.Pipeline.ValueKit
public import Idealize.ShloMosaic.Lib.Pipeline.ReadBack
public import Idealize.ShloMosaic.Lib.Routing.OpsOne

/-! # The conditions' rows and the two results of the modulation's program -/

@[expose] public section

set_option maxRecDepth 16384

noncomputable section

namespace Cert.Kernel5Ideal.Modulate

open Idealize.ShloMosaic Idealize.ShloMosaic.TcCoe Idealize.SL.Sem Idealize.ShloMosaic.Routing
open Cert.Kernel5Ideal Cert.Kernel5Ideal.Gen Cert.Modulate
open Cert.InProj (silu lin)

variable (m : (ℓ : Loc nD τ sig) → Buf (Elt Ideal) ℓ)

abbrev bC (c : Dev nD) (t : Fin cfg0.N) : FVec Ideal S8x2048 .f32 := iblk m c 0 t
abbrev bW (c : Dev nD) (t : Fin cfg0.N) : FVec Ideal S2048x1024 .f32 := iblk m c 1 t
abbrev bB (c : Dev nD) (t : Fin cfg0.N) : FVec Ideal S1x1024 .f32 := iblk m c 2 t

abbrev aC (c : Dev nD) : FVec Ideal S2x2048 .f32 := m ((c : Thread nD τ).loc main_arg0)
abbrev aX (c : Dev nD) : FVec Ideal S2048 .f32 := m ((c : Thread nD τ).loc main_arg1)
abbrev aW (c : Dev nD) : FVec Ideal S2048x12288 .f32 := m ((c : Thread nD τ).loc main_arg2)
abbrev aB (c : Dev nD) : FVec Ideal S12288 .f32 := m ((c : Thread nD τ).loc main_arg3)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, win0_0.index t = ![0, 0] ∧ win0_1.index t = ![0, t.val] ∧ win0_2.index t = ![0, t.val]
    ∧ win0_3.index t = ![0, t.val])

/-! ## The conditions: the context's in row 0, the sample's in rows 1 and 2 -/

/-- The context's condition in an array of eight rows. -/
def withContext (x : FVec Ideal S2048 .f32) : FVec Ideal S8x2048 .f32 :=
  Host.scatter scatter_S8x2048_S1_S2048_0_0_0_0 (fun _ b => b) (broadcastInDim S8x2048 ![] bcast_S_S8x2048 (constant S_ .f32 0x00000000#32))
    (broadcastInDim S1 ![] bcast_S_S1 (constantI S_ 32 0#32)) x

/-- The sample's after it. -/
def conditions (c : FVec Ideal S2x2048 .f32) (x : FVec Ideal S2048 .f32) : FVec Ideal S8x2048 .f32 :=
  Host.scatter scatter_S8x2048_S1_S2x2048_01_n_0_0 (fun _ b => b) (withContext x) (broadcastInDim S1 ![] bcast_S_S1 (constantI S_ 32 1#32)) c

/-- Where an entry of the context's condition lands. -/
theorem context_lands (j : Fin 2048) (r : Fin 8) (k : Fin 2048) :
    scatter_S8x2048_S1_S2048_0_0_0_0.resultIdx? (ix1 j) (broadcastInDim S1 ![] bcast_S_S1 (constantI S_ 32 0#32) : IVec S1 32) = some (ix2 r k)
      ↔ r.val = 0 ∧ k = j := by
  refine (resultIdx?_ix2 (R := 8) (C := 2048) scatter_S8x2048_S1_S2048_0_0_0_0 (ix1 j) _ r k).trans ?_
  show (0 : Int) + ((0 : ℕ) : Int) = _ ∧ (0 : Int) + ((j.val : ℕ) : Int) = _ ↔ _
  rw [Fin.ext_iff]
  omega

/-- Where an entry of the sample's conditions lands. -/
theorem sample_lands (q : Fin 2) (j : Fin 2048) (r : Fin 8) (k : Fin 2048) :
    scatter_S8x2048_S1_S2x2048_01_n_0_0.resultIdx? (ix2 q j) (broadcastInDim S1 ![] bcast_S_S1 (constantI S_ 32 1#32) : IVec S1 32) = some (ix2 r k)
      ↔ r.val = q.val + 1 ∧ k = j := by
  refine (resultIdx?_ix2 (R := 8) (C := 2048) scatter_S8x2048_S1_S2x2048_01_n_0_0 (ix2 q j) _ r k).trans ?_
  show (1 : Int) + ((q.val : ℕ) : Int) = _ ∧ (0 : Int) + ((j.val : ℕ) : Int) = _ ↔ _
  rw [Fin.ext_iff]
  omega

theorem conditions_context (c : FVec Ideal S2x2048 .f32) (x : FVec Ideal S2048 .f32) (k : Fin 2048) :
    conditions c x (ix2 0 k) = x (ix1 k) := by
  unfold conditions
  refine (scatter_set_miss _ _ _ _ _ fun j h => ?_).trans ?_
  · idx_vars j
    have := ((sample_lands j0 j1 0 k).1 h).1
    exact absurd this (by simp)
  · unfold withContext
    refine scatter_set_hit _ _ _ _ _ _ (fun j h => ?_) (ix1 k) ((context_lands k 0 k).2 ⟨rfl, rfl⟩)
    idx_vars j
    rw [((context_lands j0 0 k).1 h).2]

theorem conditions_sample (c : FVec Ideal S2x2048 .f32) (x : FVec Ideal S2048 .f32) (q : Fin 2) (k : Fin 2048) :
    conditions c x (ix2 ⟨q.val + 1, by omega⟩ k) = c (ix2 q k) := by
  unfold conditions
  refine scatter_set_hit _ _ _ _ _ _ (fun j h => ?_) (ix2 q k) ((sample_lands q k ⟨q.val + 1, by omega⟩ k).2 ⟨rfl, rfl⟩)
  idx_vars j
  obtain ⟨h0, h1⟩ := (sample_lands j0 j1 ⟨q.val + 1, by omega⟩ k).1 h
  have e : j0 = q := Fin.ext (by have : q.val + 1 = j0.val + 1 := h0; omega)
  rw [e, h1]

theorem V4 (c : Dev nD) : V m c main_v4 = conditions (aC m c) (aX m c) := by
  unfold V V0; simp only [hostOps0, List.flatten_cons, List.flatten_nil, List.append_nil, List.cons_append, List.nil_append]; after_results; try rfl

theorem V5 (c : Dev nD) : V m c main_v5 = shapeCast S1x12288 (aB m c) shapeCasts_S12288_S1x12288 := by
  unfold V V0; simp only [hostOps0, List.flatten_cons, List.flatten_nil, List.append_nil, List.cons_append, List.nil_append]; after_results; try rfl

/-! ## The blocks -/

theorem col_lt (t : Fin cfg0.N) (n : Fin 1024) : 1024 * t.val + n.val < 12288 := by
  have := t.isLt; have : cfg0.N = 12 := N_0; omega

/-- Column `n` of block `t`, among all. -/
abbrev col (t : Fin cfg0.N) (n : Fin 1024) : Fin 12288 := ⟨1024 * t.val + n.val, col_lt t n⟩

theorem bC_at (c : Dev nD) (t : Fin cfg0.N) (r : Fin 8) (k : Fin 2048) : (bC m c t (ix2 r k) : EReal) = conditions (aC m c) (aX m c) (ix2 r k) := by
  have e : ((win0_0.blk t).view.emb (ix2 r k)) = (ix2 r k : S8x2048.Idx) := by
    blk_ext [idx t]
  show V m c main_v4 ((win0_0.blk t).view.emb (ix2 r k)) = _
  rw [e, V4]

theorem bW_at (c : Dev nD) (t : Fin cfg0.N) (k : Fin 2048) (n : Fin 1024) : (bW m c t (ix2 k n) : EReal) = aW m c (ix2 k (col t n)) := by
  have e : ((win0_1.blk t).view.emb (ix2 k n)) = (ix2 k (col t n) : S2048x12288.Idx) := by
    blk_ext [idx t]
  show V m c main_arg2 ((win0_1.blk t).view.emb (ix2 k n)) = _
  rw [e, V_main_arg2]

theorem bB_at (c : Dev nD) (t : Fin cfg0.N) (n : Fin 1024) : (bB m c t (ix2 0 n) : EReal) = aB m c (ix1 (col t n)) := by
  have e : ((win0_2.blk t).view.emb (ix2 0 n)) = (ix2 0 (col t n) : S1x12288.Idx) := by
    blk_ext [idx t]
  show V m c main_v5 ((win0_2.blk t).view.emb (ix2 0 n)) = _
  rw [e, V5]
  pointwise

/-! ## The call's result -/

/-- What the body computes, at an index. -/
theorem body_at (x : FVec Ideal S8x2048 .f32) (w : FVec Ideal S2048x1024 .f32) (b : FVec Ideal S1x1024 .f32) (r : Fin 8) (n : Fin 1024) :
    (k0_pay1 (F := Ideal) x w b (ix2 r n) : EReal) = modAt (fun k => x (ix2 r k)) (fun k => w (ix2 k n)) (b (ix2 0 n)) := by
  pointwise [k0_pay1, modAt, lin]
  refine congrArg (· + _) (Finset.sum_congr rfl fun k _ => congrArg (· * _) ?_)
  exact Cert.InProj.div_eq_silu _

theorem block_at (c : Dev nD) (t : Fin cfg0.N) (r : Fin 8) (n : Fin 1024) :
    ((dats m 0 c).after 3 t (ix2 r n) : EReal) = modAt (fun k => bC m c t (ix2 r k)) (fun k => bW m c t (ix2 k n)) (bB m c t (ix2 0 n)) := by
  rw [after0_3]
  unfold out0_3
  canon_tiles x q
  idx_vars x
  obtain rfl : r = x0 := Fin.ext q0
  obtain rfl : n = x1 := Fin.ext q1
  refine (body_at _ _ _ r n).trans ?_
  pointwise [bC, bW, bB]

/-- The call's result, of the program's arguments. -/
def modArr (c : Dev nD) : FVec Ideal S8x12288 .f32 := fun i =>
  modAt (fun k => conditions (aC m c) (aX m c) (ix2 (i 0) k)) (fun k => aW m c (ix2 k (i 1))) (aB m c (ix1 (i 1)))

theorem final_mod (c : Dev nD) : (dats m 0 c).arrAt 3 cfg0.N = modArr m c := by
  refine (dats m 0 c).arrAt_eq_of_covers 3 _ (by decide +kernel) fun t hf y => ?_
  blk_simp
  idx_vars y
  have e : ((win0_3.blk t).view.emb (ix2 y0 y1)) = (ix2 y0 (col t y1) : S8x12288.Idx) := by
    blk_ext [idx t]
  refine (block_at m c t y0 y1).trans ?_
  show _ = modArr m c ((win0_3.blk t).view.emb (ix2 y0 y1))
  rw [e]
  simp only [bC_at, bW_at, bB_at]
  rfl

/-! ## The rows that are used -/

/-- The context's modulation. -/
def contextArr (c : Dev nD) : FVec Ideal S1x12288 .f32 := fun i =>
  modAt (fun k => aX m c (ix1 k)) (fun k => aW m c (ix2 k (i 1))) (aB m c (ix1 (i 1)))

/-- The sample's. -/
def sampleArr (c : Dev nD) : FVec Ideal S2x12288 .f32 := fun i =>
  modAt (fun k => aC m c (ix2 (i 0) k)) (fun k => aW m c (ix2 k (i 1))) (aB m c (ix1 (i 1)))

theorem context_rows (c : Dev nD) : extractStridedSlice S1x12288 ![0, 0] (modArr m c) slices_S8x12288_S1x12288_0_0 = contextArr m c := by
  funext i
  idx_vars i
  show (_ : EReal) = _
  pointwise
  obtain rfl : i0 = 0 := Subsingleton.elim _ _
  have e := fun k => conditions_context (aC m c) (aX m c) k
  unfold modArr contextArr
  refine congrArg (fun f => modAt f _ _) (funext fun k => ?_)
  exact e k

theorem sample_rows (c : Dev nD) : extractStridedSlice S2x12288 ![1, 0] (modArr m c) slices_S8x12288_S2x12288_1_0 = sampleArr m c := by
  funext i
  idx_vars i
  show (_ : EReal) = _
  pointwise
  have e := fun k => conditions_sample (aC m c) (aX m c) i0 k
  unfold modArr sampleArr
  refine congrArg (fun f => modAt f _ _) (funext fun k => ?_)
  exact (congrArg (fun r : Fin 8 => conditions (aC m c) (aX m c) (ix2 r k)) (Fin.ext (Nat.add_comm 1 _))).trans (e k)

/-- The array the call leaves, where the lines after it read it. -/
theorem left (c : Dev nD) : Pipeline.withArrays (cfgs 0).spec c (V0 m c) (fun w => (dats m 0 c).arrAt w (cfgs 0).N) (Proc.devRef .tc main_v6) = modArr m c :=
  (Pipeline.withArrays_arr spec0 (by decide) c (V0 m c) (fun w => (dats m 0 c).arrAt w cfg0.N) 3).trans (final_mod m c)

theorem tail_context (c : Dev nD) : Pipeline.afterTail₀ cfgs (dats m) 0 (V0 m) [hostOps1] c main_v7 = contextArr m c := by
  unfold Pipeline.afterTail₀
  simp only [hostOps1, List.flatten_cons, List.flatten_nil, List.append_nil, List.cons_append, List.nil_append]
  after_results
  rw [left]
  exact context_rows m c

theorem tail_sample (c : Dev nD) : Pipeline.afterTail₀ cfgs (dats m) 0 (V0 m) [hostOps1] c main_v8 = sampleArr m c := by
  unfold Pipeline.afterTail₀
  simp only [hostOps1, List.flatten_cons, List.flatten_nil, List.append_nil, List.cons_append, List.nil_append]
  after_results
  rw [left]
  exact sample_rows m c

end Cert.Kernel5Ideal.Modulate

end
-- ==== Proof.Modulate.Claim.lean ====
module

public import proofs.«01_k».proof.Defs
public import proofs.«01_k».proof.Proof.Modulate.Array
public import proofs.«01_k».proof.Proof.Gen.Reference5Ideal.Run
public import proofs.«01_k».proof.Proof.Gen.Kernel5.Frame
public import Idealize.ShloMosaic.Lib.Claim

/-! # The modulation equals its reference -/

@[expose] public section

set_option maxRecDepth 16384

noncomputable section

namespace Cert.Modulate

open Idealize.ShloMosaic Idealize.ShloMosaic.TcCoe Idealize.SL.Sem
open Cert.Kernel5Ideal.Modulate

section Reference

open Cert.Reference5Ideal Cert.Reference5Ideal.Gen
open Cert.InProj (silu sgm lin)

/-- The reference's term for the context. -/
def contextTerm (x : FVec Ideal S2048 .f32) (w : FVec Ideal S2048x12288 .f32) (b : FVec Ideal S12288 .f32) : FVec Ideal S1x12288 .f32 :=
  addf (Host.dotGeneral dot_S1x2048_S2048x12288_S1x12288_1_0_0_1_n_n none (mulf (broadcastInDim S1x2048 ![1] bcast_S2048_S1x2048_1 x)
      (Host.divf (broadcastInDim S1x2048 ![] bcast_S_S1x2048 (constant S_ .f32 0x3F800000#32))
        (addf (broadcastInDim S1x2048 ![] bcast_S_S1x2048 (constant S_ .f32 0x3F800000#32)) (Host.exp (Host.negf (broadcastInDim S1x2048 ![1] bcast_S2048_S1x2048_1 x)))))) w)
    (broadcastInDim S1x12288 ![1] bcast_S12288_S1x12288_1 b)

/-- And for the sample. -/
def sampleTerm (x : FVec Ideal S2x2048 .f32) (w : FVec Ideal S2048x12288 .f32) (b : FVec Ideal S12288 .f32) : FVec Ideal S2x12288 .f32 :=
  addf (Host.dotGeneral dot_S2x2048_S2048x12288_S2x12288_1_0_0_1_n_n none (mulf x
      (Host.divf (broadcastInDim S2x2048 ![] bcast_S_S2x2048 (constant S_ .f32 0x3F800000#32))
        (addf (broadcastInDim S2x2048 ![] bcast_S_S2x2048 (constant S_ .f32 0x3F800000#32)) (Host.exp (Host.negf x))))) w)
    (broadcastInDim S2x12288 ![0, 1] bcast_S1x12288_S2x12288_0_1 (broadcastInDim S1x12288 ![1] bcast_S12288_S1x12288_1 b))

theorem contextTerm_at (x : FVec Ideal S2048 .f32) (w : FVec Ideal S2048x12288 .f32) (b : FVec Ideal S12288 .f32) (r : Fin 1) (n : Fin 12288) :
    (contextTerm x w b (ix2 r n) : EReal) = modAt (fun k => x (ix1 k)) (fun k => w (ix2 k n)) (b (ix1 n)) := by
  pointwise [contextTerm, modAt, lin, silu, sgm]

theorem sampleTerm_at (x : FVec Ideal S2x2048 .f32) (w : FVec Ideal S2048x12288 .f32) (b : FVec Ideal S12288 .f32) (r : Fin 2) (n : Fin 12288) :
    (sampleTerm x w b (ix2 r n) : EReal) = modAt (fun k => x (ix2 r k)) (fun k => w (ix2 k n)) (b (ix1 n)) := by
  pointwise [sampleTerm, modAt, lin, silu, sgm]

end Reference

variable (m : (ℓ : Loc Cert.Kernel5Ideal.nD Cert.Kernel5Ideal.τ Cert.Kernel5Ideal.sig) → Buf (Elt Ideal) ℓ) (ρ : Dev Cert.Kernel5Ideal.nD → PrngReg)

/-- The kernel's run: both results by their entries. -/
theorem kernel_run : θ_run Cert.Kernel5Ideal.defs (onTc (τ := Cert.Kernel5Ideal.τ) Cert.Kernel5Ideal.main) ⟨m, fun _ => 0, ρ⟩ fun r => ∀ c : Dev Cert.Kernel5Ideal.nD,
    r.2.mem ((c.tc : Thread Cert.Kernel5Ideal.nD Cert.Kernel5Ideal.τ).loc Cert.Kernel5Ideal.main_v7) = contextArr m c
    ∧ r.2.mem ((c.tc : Thread Cert.Kernel5Ideal.nD Cert.Kernel5Ideal.τ).loc Cert.Kernel5Ideal.main_v8) = sampleArr m c :=
  (θ_run Cert.Kernel5Ideal.defs _ _).mono
    (fun _ h c => ⟨((h c).2 Cert.Kernel5Ideal.main_v7 (by decide)).trans (tail_context m c), ((h c).2 Cert.Kernel5Ideal.main_v8 (by decide)).trans (tail_sample m c)⟩)
    (Cert.Kernel5Ideal.Gen.run_main m ρ)

theorem algebraic : Cert.algebraic_Kernel5Ideal_Reference5Ideal := by
  intro m ρ m' ρ' _ hagree
  refine ⟨fun c => contextArr m c, fun c => sampleArr m c, ?_, ?_⟩
  · exact (θ_run Cert.Kernel5Ideal.defs _ _).mono (fun _ h c => ⟨(h.1 c).1, (h.1 c).2, h.2.1 c⟩)
      (θ_run_and (kernel_run m ρ) (Cert.Kernel5Ideal.Gen.frame m ρ))
  · refine (θ_run Cert.Reference5Ideal.defs _ _).mono (fun r h c => ?_) (Cert.Reference5Ideal.Value.run (F := Ideal) m' ρ')
    obtain ⟨h0, h1, h2, h3⟩ := hagree c
    refine ⟨(h c).1.trans ?_, (h c).2.1.trans ?_, (h c).2.2⟩
    · rw [h1, h2, h3]
      show contextTerm (aX m c) (aW m c) (aB m c) = _
      funext i
      idx_vars i
      exact contextTerm_at _ _ _ i0 i1
    · rw [h0, h2, h3]
      show sampleTerm (aC m c) (aW m c) (aB m c) = _
      funext i
      idx_vars i
      exact sampleTerm_at _ _ _ i0 i1

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

end Cert.Modulate

end
-- ==== Proof.GridConv.Spec.lean ====
module

public import proofs.«01_k».proof.Proof.InProj.Spec

/-! # What the grid convolution computes, number by number

The tokens of one batch row lie on a grid of 32 rows of 64; a channel of them is a function of the token. -/

@[expose] public section

set_option maxRecDepth 16384

noncomputable section

namespace Cert.GridConv

open Idealize.ShloMosaic Idealize.ShloMosaic.TcCoe Idealize.SL.Sem

/-- Three taps along a grid row around token `s`, zero beyond its ends. -/
def row3 (x : Fin 2048 → EReal) (w : Fin 3 → EReal) (s : Fin 2048) : EReal :=
  w 0 * (if s.val % 64 = 0 then 0 else x ⟨(s.val + 2048 - 1) % 2048, Nat.mod_lt _ (by decide)⟩)
    + w 1 * x s
    + w 2 * (if s.val % 64 = 63 then 0 else x ⟨(s.val + 2048 - 2047) % 2048, Nat.mod_lt _ (by decide)⟩)

/-- The nine taps and the bias: the token's own grid row, the one above and the one below. -/
def convAt (x : Fin 2048 → EReal) (w : Fin 3 → Fin 3 → EReal) (b : EReal) (s : Fin 2048) : EReal :=
  row3 x (w 1) s + b
    + (if 64 ≤ s.val then row3 x (w 0) ⟨(s.val + 2048 - 64) % 2048, Nat.mod_lt _ (by decide)⟩ else 0)
    + (if s.val < 1984 then row3 x (w 2) ⟨(s.val + 2048 - 1984) % 2048, Nat.mod_lt _ (by decide)⟩ else 0)

/-- The grid with a border of zeros, its rows and columns counted from the border. -/
def cell (x : Fin 2048 → EReal) (i j : ℕ) : EReal :=
  if h : 1 ≤ i ∧ i < 33 ∧ 1 ≤ j ∧ j < 65 then x ⟨64 * (i - 1) + (j - 1), by omega⟩ else 0

theorem at_eq (x : Fin 2048 → EReal) (i j : ℕ) (hi : i < 2048) (hj : j < 2048) (h : i = j) : x ⟨i, hi⟩ = x ⟨j, hj⟩ := by
  subst h
  rfl

theorem row_cells (x : Fin 2048 → EReal) (w : Fin 3 → EReal) (i j : ℕ) (hj : j < 64) (h : 1 ≤ i ∧ i < 33) :
    w 0 * cell x i j + w 1 * cell x i (j + 1) + w 2 * cell x i (j + 2) = row3 x w ⟨64 * (i - 1) + j, by omega⟩ := by
  unfold row3
  refine congrArg₂ (· + ·) (congrArg₂ (· + ·) (congrArg (w 0 * ·) ?_) (congrArg (w 1 * ·) ?_)) (congrArg (w 2 * ·) ?_) <;> unfold cell
  · by_cases a : j = 0
    · rw [dif_neg (by omega), if_pos (by show (64 * (i - 1) + j) % 64 = 0; omega)]
    · rw [dif_pos (by omega), if_neg (by show ¬ (64 * (i - 1) + j) % 64 = 0; omega)]
      exact at_eq x _ _ _ _ (by show _ = (64 * (i - 1) + j + 2048 - 1) % 2048; omega)
  · rw [dif_pos (by omega)]
    exact at_eq x _ _ _ _ (by omega)
  · by_cases a : j = 63
    · rw [dif_neg (by omega), if_pos (by show (64 * (i - 1) + j) % 64 = 63; omega)]
    · rw [dif_pos (by omega), if_neg (by show ¬ (64 * (i - 1) + j) % 64 = 63; omega)]
      exact at_eq x _ _ _ _ (by show _ = (64 * (i - 1) + j + 2048 - 2047) % 2048; omega)

theorem row_border (x : Fin 2048 → EReal) (w : Fin 3 → EReal) (i j : ℕ) (h : ¬ (1 ≤ i ∧ i < 33)) :
    w 0 * cell x i j + w 1 * cell x i (j + 1) + w 2 * cell x i (j + 2) = 0 := by
  unfold cell
  rw [dif_neg (by omega), dif_neg (by omega), dif_neg (by omega)]
  simp only [mul_zero, add_zero]

/-- The bias after all nine, or after the middle three. -/
theorem regroup (a0 a1 a2 b0 b1 b2 c0 c1 c2 b : EReal) :
    a0 + a1 + a2 + b0 + b1 + b2 + c0 + c1 + c2 + b = b0 + b1 + b2 + b + (a0 + a1 + a2) + (c0 + c1 + c2) := by
  ac_rfl

/-- The nine taps over the bordered grid, and the bias. -/
theorem nine_cells (x : Fin 2048 → EReal) (w : Fin 3 → Fin 3 → EReal) (b : EReal) (s : Fin 2048) :
    w 0 0 * cell x (s.val / 64) (s.val % 64) + w 0 1 * cell x (s.val / 64) (s.val % 64 + 1) + w 0 2 * cell x (s.val / 64) (s.val % 64 + 2)
      + w 1 0 * cell x (s.val / 64 + 1) (s.val % 64) + w 1 1 * cell x (s.val / 64 + 1) (s.val % 64 + 1) + w 1 2 * cell x (s.val / 64 + 1) (s.val % 64 + 2)
      + w 2 0 * cell x (s.val / 64 + 2) (s.val % 64) + w 2 1 * cell x (s.val / 64 + 2) (s.val % 64 + 1) + w 2 2 * cell x (s.val / 64 + 2) (s.val % 64 + 2)
      + b = convAt x w b s := by
  have hs := s.isLt
  have e0 : w 0 0 * cell x (s.val / 64) (s.val % 64) + w 0 1 * cell x (s.val / 64) (s.val % 64 + 1) + w 0 2 * cell x (s.val / 64) (s.val % 64 + 2)
      = if 64 ≤ s.val then row3 x (w 0) ⟨(s.val + 2048 - 64) % 2048, Nat.mod_lt _ (by decide)⟩ else 0 := by
    by_cases h : 64 ≤ s.val
    · rw [if_pos h, row_cells x (w 0) _ _ (Nat.mod_lt _ (by decide)) (by omega)]
      exact congrArg (row3 x (w 0)) (Fin.ext (by show 64 * (s.val / 64 - 1) + s.val % 64 = (s.val + 2048 - 64) % 2048; omega))
    · rw [if_neg h, row_border x (w 0) _ _ (by omega)]
  have e1 : w 1 0 * cell x (s.val / 64 + 1) (s.val % 64) + w 1 1 * cell x (s.val / 64 + 1) (s.val % 64 + 1) + w 1 2 * cell x (s.val / 64 + 1) (s.val % 64 + 2)
      = row3 x (w 1) s := by
    rw [row_cells x (w 1) _ _ (Nat.mod_lt _ (by decide)) (by omega)]
    exact congrArg (row3 x (w 1)) (Fin.ext (by show 64 * (s.val / 64 + 1 - 1) + s.val % 64 = s.val; omega))
  have e2 : w 2 0 * cell x (s.val / 64 + 2) (s.val % 64) + w 2 1 * cell x (s.val / 64 + 2) (s.val % 64 + 1) + w 2 2 * cell x (s.val / 64 + 2) (s.val % 64 + 2)
      = if s.val < 1984 then row3 x (w 2) ⟨(s.val + 2048 - 1984) % 2048, Nat.mod_lt _ (by decide)⟩ else 0 := by
    by_cases h : s.val < 1984
    · rw [if_pos h, row_cells x (w 2) _ _ (Nat.mod_lt _ (by decide)) (by omega)]
      exact congrArg (row3 x (w 2)) (Fin.ext (by show 64 * (s.val / 64 + 2 - 1) + s.val % 64 = (s.val + 2048 - 1984) % 2048; omega))
    · rw [if_neg h, row_border x (w 2) _ _ (by omega)]
  unfold convAt
  refine Eq.trans ?_ (congrArg₂ (· + ·) (congrArg₂ (· + ·) (congrArg (· + b) e1) e0) e2)
  exact regroup _ _ _ _ _ _ _ _ _ _

end Cert.GridConv

end
-- ==== Proof.GridConv.Pure.lean ====
module

public import proofs.«01_k».proof.Proof.Gen.Kernel6Ideal.Skeleton
public import proofs.«01_k».proof.Proof.GridConv.Spec

/-! # What the convolution's body computes, at an index -/

@[expose] public section

set_option maxRecDepth 16384

noncomputable section

namespace Cert.Kernel6Ideal.GridConv

open Idealize.ShloMosaic Idealize.ShloMosaic.TcCoe Idealize.SL.Sem
open Cert.Kernel6Ideal Cert.Kernel6Ideal.Gen Cert.GridConv
open Cert.InProj (silu)

theorem left_edge (r : Fin 2048) (a : EReal) :
    Scalar.select (IntOp.cmpi CmpIPredicate.sge (IntOp.andi (BitVec.ofNat 32 ↑r) 63#32) 1#32) a 0 = if r.val % 64 = 0 then 0 else a := by
  have e : ∀ r : Fin 2048, IntOp.cmpi CmpIPredicate.sge (IntOp.andi (BitVec.ofNat 32 ↑r) 63#32) 1#32 = if r.val % 64 = 0 then 0#1 else 1#1 := by
    decide +kernel
  rw [e r]
  split <;> rfl

theorem right_edge (r : Fin 2048) (a : EReal) :
    Scalar.select (IntOp.cmpi CmpIPredicate.sle (IntOp.andi (BitVec.ofNat 32 ↑r) 63#32) 62#32) a 0 = if r.val % 64 = 63 then 0 else a := by
  have e : ∀ r : Fin 2048, IntOp.cmpi CmpIPredicate.sle (IntOp.andi (BitVec.ofNat 32 ↑r) 63#32) 62#32 = if r.val % 64 = 63 then 0#1 else 1#1 := by
    decide +kernel
  rw [e r]
  split <;> rfl

theorem top_edge (r : Fin 2048) (a : EReal) :
    Scalar.select (IntOp.cmpi CmpIPredicate.sge (IntOp.andi (BitVec.ofNat 32 ↑r) 2047#32) 64#32) a 0 = if 64 ≤ r.val then a else 0 := by
  have e : ∀ r : Fin 2048, IntOp.cmpi CmpIPredicate.sge (IntOp.andi (BitVec.ofNat 32 ↑r) 2047#32) 64#32 = if 64 ≤ r.val then 1#1 else 0#1 := by
    decide +kernel
  rw [e r]
  split <;> rfl

theorem bottom_edge (r : Fin 2048) (a : EReal) :
    Scalar.select (IntOp.cmpi CmpIPredicate.slt (IntOp.andi (BitVec.ofNat 32 ↑r) 2047#32) 1984#32) a 0 = if r.val < 1984 then a else 0 := by
  have e : ∀ r : Fin 2048, IntOp.cmpi CmpIPredicate.slt (IntOp.andi (BitVec.ofNat 32 ↑r) 2047#32) 1984#32 = if r.val < 1984 then 1#1 else 0#1 := by
    decide +kernel
  rw [e r]
  split <;> rfl

/-- The left neighbour's number. -/
theorem left_at (x : FVec Ideal S2048x256 .f32) (r : Fin 2048) (n : Fin 256) :
    (k0_pay2 (F := Ideal) x (ix2 r n) : EReal) = if r.val % 64 = 0 then 0 else x (ix2 ⟨(r.val + 2048 - 1) % 2048, Nat.mod_lt _ (by decide)⟩ n) := by
  pointwise [k0_pay2, k0_pay1, left_edge]

/-- The right neighbour's. -/
theorem right_at (x : FVec Ideal S2048x256 .f32) (r : Fin 2048) (n : Fin 256) :
    (k0_pay3 (F := Ideal) x (ix2 r n) : EReal) = if r.val % 64 = 63 then 0 else x (ix2 ⟨(r.val + 2048 - 2047) % 2048, Nat.mod_lt _ (by decide)⟩ n) := by
  pointwise [k0_pay3, k0_pay1, right_edge]

/-- The nine taps of a channel, from the nine rows of them. -/
def tapsOf (w0 w1 w2 w3 w4 w5 w6 w7 w8 : EReal) : Fin 3 → Fin 3 → EReal := ![![w0, w1, w2], ![w3, w4, w5], ![w6, w7, w8]]

/-- The middle grid row and the bias. -/
theorem middle_at (x : FVec Ideal S2048x256 .f32) (w3 w4 w5 b : FVec Ideal S1x256 .f32) (r : Fin 2048) (n : Fin 256) :
    (k0_pay4 (F := Ideal) x w3 w4 w5 b (ix2 r n) : EReal)
      = row3 (fun s => x (ix2 s n)) ![w3 (ix2 0 n), w4 (ix2 0 n), w5 (ix2 0 n)] r + b (ix2 0 n) := by
  have el := left_at x r n
  have er := right_at x r n
  pointwise [k0_pay4, row3, el, er]
  try rfl

/-- The body's result. -/
theorem body_at (x : FVec Ideal S2048x256 .f32) (w0 w1 w2 w3 w4 w5 w6 w7 w8 b : FVec Ideal S1x256 .f32) (r : Fin 2048) (n : Fin 256) :
    (k0_pay7 (F := Ideal) x (k0_pay2 x) (k0_pay3 x) (k0_pay4 x w3 w4 w5 b) k0_pay5 k0_pay6 w0 w1 w2 w6 w7 w8 (ix2 r n) : EReal)
      = silu (convAt (fun s => x (ix2 s n)) (tapsOf (w0 (ix2 0 n)) (w1 (ix2 0 n)) (w2 (ix2 0 n)) (w3 (ix2 0 n)) (w4 (ix2 0 n)) (w5 (ix2 0 n))
          (w6 (ix2 0 n)) (w7 (ix2 0 n)) (w8 (ix2 0 n))) (b (ix2 0 n)) r) := by
  have el := fun r => left_at x r n
  have er := fun r => right_at x r n
  have em := middle_at x w3 w4 w5 b r n
  generalize k0_pay2 (F := Ideal) x = L at *
  generalize k0_pay3 (F := Ideal) x = R at *
  generalize k0_pay4 (F := Ideal) x w3 w4 w5 b = M at *
  pointwise [k0_pay7, k0_pay5, k0_pay6, top_edge, bottom_edge, el, er, em]
  exact Cert.InProj.div_eq_silu _

end Cert.Kernel6Ideal.GridConv

end
-- ==== Proof.GridConv.Array.lean ====
module

public import proofs.«01_k».proof.Proof.Gen.Kernel6Ideal.Frame
public import proofs.«01_k».proof.Proof.GridConv.Pure
public import Idealize.ShloMosaic.Lib.Pipeline.ValueKit
public import Idealize.ShloMosaic.Lib.Pipeline.ReadBack

/-! # What the convolution's result array holds after the run -/

@[expose] public section

set_option maxRecDepth 16384

noncomputable section

namespace Cert.Kernel6Ideal.GridConv

open Idealize.ShloMosaic Idealize.ShloMosaic.TcCoe Idealize.SL.Sem
open Cert.Kernel6Ideal Cert.Kernel6Ideal.Gen Cert.GridConv
open Cert.InProj (silu)

variable (m : (ℓ : Loc nD τ sig) → Buf (Elt Ideal) ℓ)

abbrev bP (c : Dev nD) (t : Fin cfg0.N) : FVec Ideal S2048x256 .f32 := iblk m c 0 t
abbrev bT (c : Dev nD) (t : Fin cfg0.N) : FVec Ideal S9x256 .f32 := iblk m c 1 t
abbrev bB (c : Dev nD) (t : Fin cfg0.N) : FVec Ideal S1x256 .f32 := iblk m c 2 t

abbrev aP (c : Dev nD) : FVec Ideal S4096x6144 .f32 := m ((c : Thread nD τ).loc main_arg0)
abbrev aT (c : Dev nD) : FVec Ideal S3x3x2048 .f32 := m ((c : Thread nD τ).loc main_arg1)
abbrev aB (c : Dev nD) : FVec Ideal S2048 .f32 := m ((c : Thread nD τ).loc main_arg2)

theorem idx : ∀ t : Fin cfg0.N, win0_0.index t = ![t.val / 8, 16 + t.val % 8] ∧ win0_1.index t = ![0, t.val % 8] ∧ win0_2.index t = ![0, t.val % 8]
    ∧ win0_3.index t = ![t.val / 8, t.val % 8] :=
  (by decide +kernel : ∀ t : Fin grid0.N, win0_0.index t = ![t.val / 8, 16 + t.val % 8] ∧ win0_1.index t = ![0, t.val % 8] ∧ win0_2.index t = ![0, t.val % 8]
    ∧ win0_3.index t = ![t.val / 8, t.val % 8])

theorem V0 (c : Dev nD) : V m c main_v0 = shapeCast S9x2048 (aT m c) shapeCasts_S3x3x2048_S9x2048 := by
  unfold V; simp only [hostOps0, List.flatten_cons, List.flatten_nil, List.append_nil, List.cons_append, List.nil_append]; after_results; try rfl

theorem V1 (c : Dev nD) : V m c main_v1 = shapeCast S1x2048 (aB m c) shapeCasts_S2048_S1x2048 := by
  unfold V; simp only [hostOps0, List.flatten_cons, List.flatten_nil, List.append_nil, List.cons_append, List.nil_append]; after_results; try rfl

theorem tok_lt (t : Fin cfg0.N) (s : Fin 2048) : t.val / 8 * 2048 + s.val < 4096 := by
  have := t.isLt; have : cfg0.N = 16 := N_0; omega

/-- Token `s` of block `t`, among all. -/
abbrev tok (t : Fin cfg0.N) (s : Fin 2048) : Fin 4096 := ⟨t.val / 8 * 2048 + s.val, tok_lt t s⟩

/-- Channel `n` of block `t`, among all. -/
abbrev chan (t : Fin cfg0.N) (n : Fin 256) : Fin 2048 := ⟨t.val % 8 * 256 + n.val, by omega⟩

theorem bP_at (c : Dev nD) (t : Fin cfg0.N) (s : Fin 2048) (n : Fin 256) :
    (bP m c t (ix2 s n) : EReal) = aP m c (ix2 (tok t s) ⟨4096 + (chan t n).val, by omega⟩) := by
  have e : ((win0_0.blk t).view.emb (ix2 s n)) = (ix2 (tok t s) ⟨4096 + (chan t n).val, by omega⟩ : S4096x6144.Idx) := by
    blk_ext [idx t]
  show V m c main_arg0 ((win0_0.blk t).view.emb (ix2 s n)) = _
  rw [e, V_main_arg0]

theorem bT_at (c : Dev nD) (t : Fin cfg0.N) (q : Fin 9) (n : Fin 256) :
    (bT m c t (ix2 q n) : EReal) = aT m c (ix3 ⟨q.val / 3, by omega⟩ ⟨q.val % 3, by omega⟩ (chan t n)) := by
  have e : ((win0_1.blk t).view.emb (ix2 q n)) = (ix2 q (chan t n) : S9x2048.Idx) := by
    blk_ext [idx t]
  show V m c main_v0 ((win0_1.blk t).view.emb (ix2 q n)) = _
  rw [e, V0]
  pointwise

theorem bB_at (c : Dev nD) (t : Fin cfg0.N) (n : Fin 256) : (bB m c t (ix2 0 n) : EReal) = aB m c (ix1 (chan t n)) := by
  have e : ((win0_2.blk t).view.emb (ix2 0 n)) = (ix2 0 (chan t n) : S1x2048.Idx) := by
    blk_ext [idx t]
  show V m c main_v1 ((win0_2.blk t).view.emb (ix2 0 n)) = _
  rw [e, V1]
  pointwise

/-- A point leaves the activated convolution of its block. -/
theorem block_at (c : Dev nD) (t : Fin cfg0.N) (s : Fin 2048) (n : Fin 256) :
    ((dats m 0 c).after 3 t (ix2 s n) : EReal) = silu (convAt (fun r => bP m c t (ix2 r n))
      (tapsOf (bT m c t (ix2 0 n)) (bT m c t (ix2 1 n)) (bT m c t (ix2 2 n)) (bT m c t (ix2 3 n)) (bT m c t (ix2 4 n)) (bT m c t (ix2 5 n))
        (bT m c t (ix2 6 n)) (bT m c t (ix2 7 n)) (bT m c t (ix2 8 n))) (bB m c t (ix2 0 n)) s) := by
  rw [after0_3]
  unfold out0_3
  canon_tiles x q
  idx_vars x
  obtain rfl : s = x0 := Fin.ext q0
  obtain rfl : n = x1 := Fin.ext q1
  refine (body_at _ _ _ _ _ _ _ _ _ _ _ s n).trans ?_
  pointwise [bP, bT, bB]

theorem taps_eta (f : Fin 3 → Fin 3 → EReal) : tapsOf (f 0 0) (f 0 1) (f 0 2) (f 1 0) (f 1 1) (f 1 2) (f 2 0) (f 2 1) (f 2 2) = f := by
  funext i j
  fin_cases i <;> fin_cases j <;> rfl

theorem block_args (c : Dev nD) (t : Fin cfg0.N) (s : Fin 2048) (n : Fin 256) :
    ((dats m 0 c).after 3 t (ix2 s n) : EReal) = silu (convAt (fun r => aP m c (ix2 (tok t r) ⟨4096 + (chan t n).val, by omega⟩))
      (fun i j => aT m c (ix3 i j (chan t n))) (aB m c (ix1 (chan t n))) s) := by
  refine (block_at m c t s n).trans ?_
  simp only [bP_at, bT_at, bB_at]
  exact congrArg (fun w => silu (convAt (fun r => aP m c (ix2 (tok t r) ⟨4096 + (chan t n).val, by omega⟩)) w (aB m c (ix1 (chan t n))) s))
    (taps_eta fun i j => aT m c (ix3 i j (chan t n)))

/-- The result, of the program's arguments. -/
def convArr (c : Dev nD) : FVec Ideal S4096x2048 .f32 := fun i =>
  silu (convAt (fun s => aP m c (ix2 ⟨(i 0).val / 2048 * 2048 + s.val, by have : (i 0).val < 4096 := (i 0).isLt; omega⟩ ⟨4096 + (i 1).val, by have : (i 1).val < 2048 := (i 1).isLt; omega⟩))
    (fun a b => aT m c (ix3 a b (i 1))) (aB m c (ix1 (i 1))) ⟨(i 0).val % 2048, Nat.mod_lt _ (by decide)⟩)

theorem convArr_block (c : Dev nD) (t : Fin cfg0.N) (s : Fin 2048) (n : Fin 256) :
    (convArr m c (ix2 (tok t s) (chan t n)) : EReal) = silu (convAt (fun r => aP m c (ix2 (tok t r) ⟨4096 + (chan t n).val, by omega⟩))
      (fun i j => aT m c (ix3 i j (chan t n))) (aB m c (ix1 (chan t n))) s) := by
  have hs := s.isLt
  have e : (⟨(tok t s).val % 2048, Nat.mod_lt _ (by decide)⟩ : Fin 2048) = s := Fin.ext (by show (t.val / 8 * 2048 + s.val) % 2048 = s.val; omega)
  have er : ∀ r : Fin 2048, (⟨(tok t s).val / 2048 * 2048 + r.val, by have := (tok t s).isLt; omega⟩ : Fin 4096) = tok t r := fun r =>
    Fin.ext (by show (t.val / 8 * 2048 + s.val) / 2048 * 2048 + r.val = t.val / 8 * 2048 + r.val; omega)
  refine congrArg silu (congrArg₂ (fun f r => convAt f _ _ r) (funext fun r => ?_) e)
  exact congrArg (fun k : Fin 4096 => aP m c (ix2 k _)) (er r)

theorem final_conv (c : Dev nD) : (dats m 0 c).arrAt 3 cfg0.N = convArr m c := by
  refine (dats m 0 c).arrAt_eq_of_covers 3 _ (by decide +kernel) fun t hf y => ?_
  blk_simp
  idx_vars y
  have e : ((win0_3.blk t).view.emb (ix2 y0 y1)) = (ix2 (tok t y0) (chan t y1) : S4096x2048.Idx) := by
    blk_ext [idx t]
  refine (block_args m c t y0 y1).trans ?_
  show _ = convArr m c ((win0_3.blk t).view.emb (ix2 y0 y1))
  rw [e, convArr_block]

end Cert.Kernel6Ideal.GridConv

end
-- ==== Proof.GridConv.Reference.lean ====
module

public import proofs.«01_k».proof.Proof.Gen.Reference6Ideal.Run
public import proofs.«01_k».proof.Proof.GridConv.Spec

/-! # What the reference computes, at an index -/

@[expose] public section

set_option maxRecDepth 16384

noncomputable section

namespace Cert.Reference6Ideal.GridConv

open Idealize.ShloMosaic Idealize.ShloMosaic.TcCoe Idealize.SL.Sem
open Cert.Reference6Ideal Cert.Reference6Ideal.Gen Cert.GridConv
open Cert.InProj (silu sgm)

/-- The convolution's input with a border of zeros around each grid. -/
def padded (p : FVec Ideal S4096x6144 .f32) : FVec Ideal S2x34x66x2048 .f32 :=
  pad S2x34x66x2048 ![0, 1, 1, 0] ![0, 1, 1, 0] ![0, 0, 0, 0]
    (shapeCast _ (shapeCast _ (extractStridedSlice S4096x2048 ![0, 4096] p slices_S4096x6144_S4096x2048_0_4096) shapeCasts_S4096x2048_S2x2048x2048 : FVec Ideal S2x2048x2048 .f32)
      shapeCasts_S2x2048x2048_S2x32x64x2048)
    (sitofp .f32 (constantI S_ 32 0#32)) pads_S2x32x64x2048_S2x34x66x2048_000_110_110_000 h_S_

/-- Its nine shifted copies. -/
def stacked (p : FVec Ideal S4096x6144 .f32) : FVec Ideal S9x2x32x64x2048 .f32 :=
  concatenate S9x2x32x64x2048 0 [
    ⟨S1x2x32x64x2048, broadcastInDim S1x2x32x64x2048 ![1, 2, 3, 4] bcast_S2x32x64x2048_S1x2x32x64x2048_1_2_3_4 (extractStridedSlice S2x32x64x2048 ![0, 0, 0, 0] (padded p) slices_S2x34x66x2048_S2x32x64x2048_0_0_0_0)⟩,
    ⟨S1x2x32x64x2048, broadcastInDim S1x2x32x64x2048 ![1, 2, 3, 4] bcast_S2x32x64x2048_S1x2x32x64x2048_1_2_3_4 (extractStridedSlice S2x32x64x2048 ![0, 0, 1, 0] (padded p) slices_S2x34x66x2048_S2x32x64x2048_0_0_1_0)⟩,
    ⟨S1x2x32x64x2048, broadcastInDim S1x2x32x64x2048 ![1, 2, 3, 4] bcast_S2x32x64x2048_S1x2x32x64x2048_1_2_3_4 (extractStridedSlice S2x32x64x2048 ![0, 0, 2, 0] (padded p) slices_S2x34x66x2048_S2x32x64x2048_0_0_2_0)⟩,
    ⟨S1x2x32x64x2048, broadcastInDim S1x2x32x64x2048 ![1, 2, 3, 4] bcast_S2x32x64x2048_S1x2x32x64x2048_1_2_3_4 (extractStridedSlice S2x32x64x2048 ![0, 1, 0, 0] (padded p) slices_S2x34x66x2048_S2x32x64x2048_0_1_0_0)⟩,
    ⟨S1x2x32x64x2048, broadcastInDim S1x2x32x64x2048 ![1, 2, 3, 4] bcast_S2x32x64x2048_S1x2x32x64x2048_1_2_3_4 (extractStridedSlice S2x32x64x2048 ![0, 1, 1, 0] (padded p) slices_S2x34x66x2048_S2x32x64x2048_0_1_1_0)⟩,
    ⟨S1x2x32x64x2048, broadcastInDim S1x2x32x64x2048 ![1, 2, 3, 4] bcast_S2x32x64x2048_S1x2x32x64x2048_1_2_3_4 (extractStridedSlice S2x32x64x2048 ![0, 1, 2, 0] (padded p) slices_S2x34x66x2048_S2x32x64x2048_0_1_2_0)⟩,
    ⟨S1x2x32x64x2048, broadcastInDim S1x2x32x64x2048 ![1, 2, 3, 4] bcast_S2x32x64x2048_S1x2x32x64x2048_1_2_3_4 (extractStridedSlice S2x32x64x2048 ![0, 2, 0, 0] (padded p) slices_S2x34x66x2048_S2x32x64x2048_0_2_0_0)⟩,
    ⟨S1x2x32x64x2048, broadcastInDim S1x2x32x64x2048 ![1, 2, 3, 4] bcast_S2x32x64x2048_S1x2x32x64x2048_1_2_3_4 (extractStridedSlice S2x32x64x2048 ![0, 2, 1, 0] (padded p) slices_S2x34x66x2048_S2x32x64x2048_0_2_1_0)⟩,
    ⟨S1x2x32x64x2048, broadcastInDim S1x2x32x64x2048 ![1, 2, 3, 4] bcast_S2x32x64x2048_S1x2x32x64x2048_1_2_3_4 (extractStridedSlice S2x32x64x2048 ![0, 2, 2, 0] (padded p) slices_S2x34x66x2048_S2x32x64x2048_0_2_2_0)⟩]
    concatenates_S1x2x32x64x2048_S1x2x32x64x2048_S1x2x32x64x2048_S1x2x32x64x2048_S1x2x32x64x2048_S1x2x32x64x2048_S1x2x32x64x2048_S1x2x32x64x2048_S1x2x32x64x2048_S9x2x32x64x2048_d0

/-- The convolution with its bias. -/
def convolved (p : FVec Ideal S4096x6144 .f32) (T : FVec Ideal S3x3x2048 .f32) (B : FVec Ideal S2048 .f32) : FVec Ideal S2x2048x2048 .f32 :=
  addf (shapeCast _ (Host.reduceAdd (mulf (stacked p)
      (broadcastInDim S9x2x32x64x2048 ![0, 1, 2, 3, 4] bcast_S9x1x1x1x2048_S9x2x32x64x2048_0_1_2_3_4 (shapeCast _ T shapeCasts_S3x3x2048_S9x1x1x1x2048)))
      (constant S_ .f32 0x00000000#32) reducesTo_S9x2x32x64x2048_S2x32x64x2048_d0 h_S_) shapeCasts_S2x32x64x2048_S2x2048x2048)
    (broadcastInDim S2x2048x2048 ![0, 1, 2] bcast_S1x1x2048_S2x2048x2048_0_1_2 (broadcastInDim S1x1x2048 ![2] bcast_S2048_S1x1x2048_2 B))

/-- And its activation. -/
def activated (z : FVec Ideal S2x2048x2048 .f32) : FVec Ideal S4096x2048 .f32 :=
  shapeCast _ (mulf z (Host.divf (broadcastInDim S2x2048x2048 ![] bcast_S_S2x2048x2048 (constant S_ .f32 0x3F800000#32))
    (addf (broadcastInDim S2x2048x2048 ![] bcast_S_S2x2048x2048 (constant S_ .f32 0x3F800000#32)) (Host.exp (Host.negf z))))) shapeCasts_S2x2048x2048_S4096x2048

/-- A channel of one batch row's tokens. -/
abbrev channel (p : FVec Ideal S4096x6144 .f32) (b : Fin 2) (n : Fin 2048) : Fin 2048 → EReal :=
  fun s => p (ix2 ⟨b.val * 2048 + s.val, by omega⟩ ⟨4096 + n.val, by omega⟩)

theorem padded_at (p : FVec Ideal S4096x6144 .f32) (b : Fin 2) (i : Fin 34) (j : Fin 66) (n : Fin 2048) :
    (padded p (ix4 b i j n) : EReal) = cell (channel p b n) i.val j.val := by
  pointwise [padded]
  have hz : (FloatOps.sitofp (F := Ideal) FTy.f32 0#32 : EReal) = 0 := by
    show (((0#32).toInt : ℝ) : EReal) = 0
    simp
  rw [hz]
  have hi := i.isLt
  have hj := j.isLt
  unfold cell channel
  by_cases h : 1 ≤ i.val ∧ i.val < 33 ∧ 1 ≤ j.val ∧ j.val < 65
  · rw [dif_pos h, dif_pos (by omega)]
    refine congrArg (fun r : Fin 4096 => p (ix2 r _)) (Fin.ext ?_)
    show _ = b.val * 2048 + (64 * (i.val - 1) + (j.val - 1))
    simp only []
    omega
  · rw [dif_neg h, dif_neg (by omega)]

theorem stacked_at (p : FVec Ideal S4096x6144 .f32) (q : Fin 9) (b : Fin 2) (i : Fin 32) (j : Fin 64) (n : Fin 2048) :
    (stacked p (ix5 q b i j n) : EReal) = padded p (ix4 b ⟨i.val + q.val / 3, by omega⟩ ⟨j.val + q.val % 3, by omega⟩ n) := by
  pointwise [stacked]
  have hq := q.isLt
  split_ifs <;> (congr 2 <;> apply Fin.ext <;> simp only [Fin.isValue, Fin.val_zero, Fin.val_one, Fin.val_two] <;> omega)

theorem tap_at (p : FVec Ideal S4096x6144 .f32) (q : Fin 9) (b : Fin 2) (i : Fin 32) (j : Fin 64) (n : Fin 2048) (t : EReal) :
    (stacked p (ix5 q b i j n) * t : EReal) = t * cell (channel p b n) (i.val + q.val / 3) (j.val + q.val % 3) := by
  rw [stacked_at, padded_at, mul_comm]

theorem sum_nine (f : Fin 9 → EReal) : ∑ q, f q = f 0 + f 1 + f 2 + f 3 + f 4 + f 5 + f 6 + f 7 + f 8 := by
  rw [Fin.sum_univ_castSucc, Fin.sum_univ_eight]
  rfl

theorem flat_at (z : FVec Ideal S2x32x64x2048 .f32) (b : Fin 2) (s n : Fin 2048) :
    (shapeCast S2x2048x2048 z shapeCasts_S2x32x64x2048_S2x2048x2048 (ix3 b s n) : EReal) = z (ix4 b ⟨s.val / 64, by omega⟩ ⟨s.val % 64, by omega⟩ n) := by
  pointwise

theorem taps_at (T : FVec Ideal S3x3x2048 .f32) (q : Fin 9) (b : Fin 2) (i : Fin 32) (j : Fin 64) (n : Fin 2048) :
    (broadcastInDim S9x2x32x64x2048 ![0, 1, 2, 3, 4] bcast_S9x1x1x1x2048_S9x2x32x64x2048_0_1_2_3_4 (shapeCast _ T shapeCasts_S3x3x2048_S9x1x1x1x2048) (ix5 q b i j n) : EReal)
      = T (ix3 ⟨q.val / 3, by omega⟩ ⟨q.val % 3, by omega⟩ n) := by
  pointwise

theorem sum_at (z : FVec Ideal S9x2x32x64x2048 .f32) (b : Fin 2) (i : Fin 32) (j : Fin 64) (n : Fin 2048) :
    (Host.reduceAdd z (constant S_ .f32 0x00000000#32) reducesTo_S9x2x32x64x2048_S2x32x64x2048_d0 h_S_ (ix4 b i j n) : EReal) = ∑ q : Fin 9, z (ix5 q b i j n) := by
  pointwise

theorem bias_at (B : FVec Ideal S2048 .f32) (b : Fin 2) (s n : Fin 2048) :
    (broadcastInDim S2x2048x2048 ![0, 1, 2] bcast_S1x1x2048_S2x2048x2048_0_1_2 (broadcastInDim S1x1x2048 ![2] bcast_S2048_S1x1x2048_2 B) (ix3 b s n) : EReal) = B (ix1 n) := by
  pointwise

/-- The nine taps at one token. -/
theorem taps_sum (p : FVec Ideal S4096x6144 .f32) (T : FVec Ideal S3x3x2048 .f32) (b : Fin 2) (i : Fin 32) (j : Fin 64) (n : Fin 2048) :
    (Host.reduceAdd (mulf (stacked p)
      (broadcastInDim S9x2x32x64x2048 ![0, 1, 2, 3, 4] bcast_S9x1x1x1x2048_S9x2x32x64x2048_0_1_2_3_4 (shapeCast _ T shapeCasts_S3x3x2048_S9x1x1x1x2048)))
      (constant S_ .f32 0x00000000#32) reducesTo_S9x2x32x64x2048_S2x32x64x2048_d0 h_S_ (ix4 b i j n) : EReal)
      = ∑ q : Fin 9, (T (ix3 ⟨q.val / 3, by omega⟩ ⟨q.val % 3, by omega⟩ n) : EReal) * cell (channel p b n) (i.val + q.val / 3) (j.val + q.val % 3) := by
  refine (sum_at _ b i j n).trans (Finset.sum_congr rfl fun q _ => ?_)
  exact (congrArg (stacked p (ix5 q b i j n) * ·) (taps_at T q b i j n)).trans (tap_at p q b i j n _)

theorem add_at (a b : FVec Ideal S2x2048x2048 .f32) (i : S2x2048x2048.Idx) : (addf a b i : EReal) = a i + b i := rfl

theorem nine_taps (x : Fin 2048 → EReal) (w : Fin 3 → Fin 3 → EReal) (b : EReal) (s : Fin 2048) :
    (∑ q : Fin 9, w ⟨q.val / 3, by omega⟩ ⟨q.val % 3, by omega⟩ * cell x (s.val / 64 + q.val / 3) (s.val % 64 + q.val % 3)) + b = convAt x w b s := by
  rw [sum_nine]
  exact nine_cells x w b s

theorem convolved_at (p : FVec Ideal S4096x6144 .f32) (T : FVec Ideal S3x3x2048 .f32) (B : FVec Ideal S2048 .f32) (b : Fin 2) (s n : Fin 2048) :
    (convolved p T B (ix3 b s n) : EReal) = convAt (channel p b n) (fun i j => T (ix3 i j n)) (B (ix1 n)) s := by
  unfold convolved
  rw [add_at, flat_at, taps_sum, bias_at]
  exact nine_taps (channel p b n) (fun i j => T (ix3 i j n)) (B (ix1 n)) s

theorem activated_at (z : FVec Ideal S2x2048x2048 .f32) (r : Fin 4096) (n : Fin 2048) :
    (activated z (ix2 r n) : EReal) = silu (z (ix3 ⟨r.val / 2048, by omega⟩ ⟨r.val % 2048, by omega⟩ n)) := by
  pointwise [activated, silu, sgm]

variable (m : (ℓ : Loc nD τ sig) → Buf (Elt Ideal) ℓ)

theorem term (c : Dev nD) : Value.res_main_v32 m c
    = activated (convolved (m ((c.tc : Thread nD τ).loc main_arg0)) (m ((c.tc : Thread nD τ).loc main_arg1)) (m ((c.tc : Thread nD τ).loc main_arg2))) := rfl

end Cert.Reference6Ideal.GridConv

end
-- ==== Proof.GridConv.Claim.lean ====
module

public import proofs.«01_k».proof.Defs
public import proofs.«01_k».proof.Proof.GridConv.Array
public import proofs.«01_k».proof.Proof.GridConv.Reference
public import proofs.«01_k».proof.Proof.Gen.Kernel6.Frame
public import Idealize.ShloMosaic.Lib.Claim

/-! # The grid convolution equals its reference -/

@[expose] public section

set_option maxRecDepth 16384

noncomputable section

namespace Cert.GridConv

open Idealize.ShloMosaic Idealize.ShloMosaic.TcCoe Idealize.SL.Sem
open Cert.Kernel6Ideal.GridConv

variable (m : (ℓ : Loc Cert.Kernel6Ideal.nD Cert.Kernel6Ideal.τ Cert.Kernel6Ideal.sig) → Buf (Elt Ideal) ℓ) (ρ : Dev Cert.Kernel6Ideal.nD → PrngReg)

/-- The kernel's run: its result by its entries. -/
theorem kernel_run : θ_run Cert.Kernel6Ideal.defs (onTc (τ := Cert.Kernel6Ideal.τ) Cert.Kernel6Ideal.main) ⟨m, fun _ => 0, ρ⟩ fun r => ∀ c : Dev Cert.Kernel6Ideal.nD,
    r.2.mem ((c.tc : Thread Cert.Kernel6Ideal.nD Cert.Kernel6Ideal.τ).loc Cert.Kernel6Ideal.main_v2) = convArr m c :=
  (θ_run Cert.Kernel6Ideal.defs _ _).mono (fun _ h c => ((h c).1 3).trans (final_conv m c)) (Cert.Kernel6Ideal.Gen.run_main m ρ)

theorem algebraic : Cert.algebraic_Kernel6Ideal_Reference6Ideal := by
  intro m ρ m' ρ' _ hagree
  refine ⟨fun c => convArr m c, ?_, ?_⟩
  · exact (θ_run Cert.Kernel6Ideal.defs _ _).mono (fun _ h c => ⟨h.1 c, h.2.1 c⟩)
      (θ_run_and (kernel_run m ρ) (Cert.Kernel6Ideal.Gen.frame m ρ))
  · refine (θ_run Cert.Reference6Ideal.defs _ _).mono (fun r h c => ?_) (Cert.Reference6Ideal.Value.run (F := Ideal) m' ρ')
    obtain ⟨h0, h1, h2⟩ := hagree c
    refine ⟨(h c).1.trans ?_, (h c).2⟩
    rw [Cert.Reference6Ideal.GridConv.term, h0, h1, h2]
    funext i
    idx_vars i
    refine (Cert.Reference6Ideal.GridConv.activated_at _ i0 i1).trans ?_
    rw [Cert.Reference6Ideal.GridConv.convolved_at]
    rfl

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.GridConv

end
-- ==== Proof.Gates.Chunk.lean ====
module

public import proofs.«01_k».proof.Proof.Gen.Kernel7Ideal.Frame
public import Idealize.ShloMosaic.Lib.Pipeline.ValueKit

/-! # One chunk of the gate scans' body

The body runs the same lines for each of its eight chunks of 128 tokens. -/

@[expose] public section

set_option maxRecDepth 16384

noncomputable section

namespace Cert.Kernel7Ideal.Gates

open Idealize.ShloMosaic Idealize.ShloMosaic.TcCoe Idealize.SL.Sem
open Cert.Kernel7Ideal Cert.Kernel7Ideal.Gen

abbrev lanes : IVec S128x128 32 := iota .tc S128x128 32 [1] iota_S128x128_d1_w32
abbrev times : IVec S128x128 32 := iota .tc S128x128 32 [0] iota_S128x128_d0_w32

/-- The running sums, the units' ones moved to the units' lanes, and what is maximised. -/
def sumsV (a : Vec Ideal S1x128 .f32) (g : Vec Ideal S128x128 .f32) (b : Vec Ideal S1x128 .f32) : FVec Ideal S128x128 .f32 :=
  k0_pay14 k0_pay2 k0_pay3 lanes k0_pay4 k0_pay7 k0_pay8 a g b
def unitsV (a : Vec Ideal S1x128 .f32) (g : Vec Ideal S128x128 .f32) (b : Vec Ideal S1x128 .f32) : FVec Ideal S128x128 .f32 :=
  dynamicRotate 1 120#32 none (sumsV a g b) rotates_S128x128_d1
def startV (a : Vec Ideal S1x128 .f32) (g : Vec Ideal S128x128 .f32) (b : Vec Ideal S1x128 .f32) : FVec Ideal S128x128 .f32 :=
  subf (k0_pay11 g b) (unitsV a g b)

/-- One step of the running maxima: against the maxima `k` tokens before, or after. -/
def stepV (k l : BitVec 32) (x : FVec Ideal S128x128 .f32) : FVec Ideal S128x128 .f32 :=
  maximumf x (select k0_pay4
    (select (cmpi .slt times (broadcast S128x128 l)) (dynamicRotate 0 l none x rotates_S128x128_d0) (broadcast S128x128 (Scalar.ofBits .f32 0xFF800000#32)))
    (select (cmpi .sge times (broadcast S128x128 k)) (dynamicRotate 0 k none x rotates_S128x128_d0) (broadcast S128x128 (Scalar.ofBits .f32 0xFF800000#32))))

def maxV (x : FVec Ideal S128x128 .f32) : FVec Ideal S128x128 .f32 :=
  stepV 64#32 64#32 (stepV 32#32 96#32 (stepV 16#32 112#32 (stepV 8#32 120#32 (stepV 4#32 124#32 (stepV 2#32 126#32 (stepV 1#32 127#32 x))))))

def colV (a : Vec Ideal S1x128 .f32) (g : Vec Ideal S128x128 .f32) (b : Vec Ideal S1x128 .f32) : FVec Ideal S128x128 .f32 :=
  select k0_pay6 (maxV (startV a g b)) (sumsV a g b)

def rowV (a : Vec Ideal S1x128 .f32) (g : Vec Ideal S128x128 .f32) (b : Vec Ideal S1x128 .f32) : FVec Ideal S128x128 .f32 :=
  k0_pay25 lanes k0_pay6 (k0_pay9 lanes k0_pay8) (k0_pay13 g b) (sumsV a g b) (unitsV a g b) (startV a g b) (maxV (startV a g b)) (k0_pay23 k0_pay5 (sumsV a g b))

theorem out_units (x0 : Vec Ideal S1024x128 .f32) (x1 x2 : Vec Ideal S1x128 .f32) : out0_4 (F := Ideal) x0 x1 x2 = View.canon [
    ⟨r0_8, unitsV (View.ld x2 r0_0) (View.ld x0 r0_8) (View.ld x1 r0_0)⟩, ⟨r0_7, unitsV (View.ld x2 r0_0) (View.ld x0 r0_7) (View.ld x1 r0_0)⟩,
    ⟨r0_6, unitsV (View.ld x2 r0_0) (View.ld x0 r0_6) (View.ld x1 r0_0)⟩, ⟨r0_5, unitsV (View.ld x2 r0_0) (View.ld x0 r0_5) (View.ld x1 r0_0)⟩,
    ⟨r0_4, unitsV (View.ld x2 r0_0) (View.ld x0 r0_4) (View.ld x1 r0_0)⟩, ⟨r0_3, unitsV (View.ld x2 r0_0) (View.ld x0 r0_3) (View.ld x1 r0_0)⟩,
    ⟨r0_2, unitsV (View.ld x2 r0_0) (View.ld x0 r0_2) (View.ld x1 r0_0)⟩, ⟨r0_1, unitsV (View.ld x2 r0_0) (View.ld x0 r0_1) (View.ld x1 r0_0)⟩] := rfl

theorem out_col (x0 : Vec Ideal S1024x128 .f32) (x1 x2 : Vec Ideal S1x128 .f32) : out0_3 (F := Ideal) x0 x1 x2 = View.canon [
    ⟨r0_8, colV (View.ld x2 r0_0) (View.ld x0 r0_8) (View.ld x1 r0_0)⟩, ⟨r0_7, colV (View.ld x2 r0_0) (View.ld x0 r0_7) (View.ld x1 r0_0)⟩,
    ⟨r0_6, colV (View.ld x2 r0_0) (View.ld x0 r0_6) (View.ld x1 r0_0)⟩, ⟨r0_5, colV (View.ld x2 r0_0) (View.ld x0 r0_5) (View.ld x1 r0_0)⟩,
    ⟨r0_4, colV (View.ld x2 r0_0) (View.ld x0 r0_4) (View.ld x1 r0_0)⟩, ⟨r0_3, colV (View.ld x2 r0_0) (View.ld x0 r0_3) (View.ld x1 r0_0)⟩,
    ⟨r0_2, colV (View.ld x2 r0_0) (View.ld x0 r0_2) (View.ld x1 r0_0)⟩, ⟨r0_1, colV (View.ld x2 r0_0) (View.ld x0 r0_1) (View.ld x1 r0_0)⟩] := rfl

theorem out_row (x0 : Vec Ideal S1024x128 .f32) (x1 x2 : Vec Ideal S1x128 .f32) : out0_5 (F := Ideal) x0 x1 x2 = View.canon [
    ⟨r0_8, rowV (View.ld x2 r0_0) (View.ld x0 r0_8) (View.ld x1 r0_0)⟩, ⟨r0_7, rowV (View.ld x2 r0_0) (View.ld x0 r0_7) (View.ld x1 r0_0)⟩,
    ⟨r0_6, rowV (View.ld x2 r0_0) (View.ld x0 r0_6) (View.ld x1 r0_0)⟩, ⟨r0_5, rowV (View.ld x2 r0_0) (View.ld x0 r0_5) (View.ld x1 r0_0)⟩,
    ⟨r0_4, rowV (View.ld x2 r0_0) (View.ld x0 r0_4) (View.ld x1 r0_0)⟩, ⟨r0_3, rowV (View.ld x2 r0_0) (View.ld x0 r0_3) (View.ld x1 r0_0)⟩,
    ⟨r0_2, rowV (View.ld x2 r0_0) (View.ld x0 r0_2) (View.ld x1 r0_0)⟩, ⟨r0_1, rowV (View.ld x2 r0_0) (View.ld x0 r0_1) (View.ld x1 r0_0)⟩] := rfl

end Cert.Kernel7Ideal.Gates

end
-- ==== Proof.Gates.Spec.lean ====
module

public import proofs.«01_k».proof.Proof.InProj.Spec

/-! # What the gate scans compute, number by number

A gate of one chunk is a function of the token in it; `back` says that the recurrence it belongs to runs backward. -/

@[expose] public section

set_option maxRecDepth 16384

noncomputable section

namespace Cert.Gates

open Idealize.ShloMosaic Idealize.ShloMosaic.TcCoe Idealize.SL.Sem

def soft (x : EReal) : EReal := Ideal.log1p (Ideal.exp (-(FloatOps.absf (F := Ideal) (φ := .f32) x : EReal)))

/-- The step size, by its gate. -/
def rate (x : EReal) : EReal := max x 0 + soft x

/-- The log of the forget gate. -/
def logsig (x : EReal) : EReal := min x 0 - soft x

/-- Token `s` enters at token `t`. -/
def sees (back : Bool) (t s : Fin 128) : Prop := (back = true ∧ t ≤ s) ∨ (back = false ∧ s ≤ t)

instance (back : Bool) (t s : Fin 128) : Decidable (sees back t s) := by unfold sees; infer_instance

def sumOf (back : Bool) (f : Fin 128 → EReal) (t : Fin 128) : EReal := ∑ s, if sees back t s then f s else 0

def maxOf (back : Bool) (f : Fin 128 → EReal) (t : Fin 128) : EReal := Finset.univ.sup fun s => if sees back t s then f s else ⊥

def bS (back : Bool) (f : Fin 128 → EReal) : Fin 128 → EReal := sumOf back fun s => logsig (f s)

def uS (back : Bool) (i f : Fin 128 → EReal) (t : Fin 128) : EReal := i t - bS back f t

def cuS (back : Bool) (i f : Fin 128 → EReal) : Fin 128 → EReal := maxOf back (uS back i f)

def csS (back : Bool) (a : EReal) (d : Fin 128 → EReal) : Fin 128 → EReal := sumOf back fun s => rate (d s) * -Ideal.exp a

def wkS (back : Bool) (a : EReal) (d : Fin 128 → EReal) (t : Fin 128) : EReal :=
  Ideal.exp ((if back = true then csS back a d 0 else csS back a d 127) - csS back a d t) * rate (d t)

def qS (back : Bool) (a : EReal) (d : Fin 128 → EReal) (t : Fin 128) : EReal := csS back a d t - Ideal.log (rate (d t))

/-! ## The softplus and the log of the sigmoid -/

theorem absf_neg (x : EReal) : (FloatOps.absf (F := Ideal) (φ := .f32) (-x) : EReal) = FloatOps.absf (F := Ideal) (φ := .f32) x := by
  show max (-x) (- -x) = max x (-x)
  rw [neg_neg, max_comm]

theorem exp_nonneg (x : EReal) : 0 ≤ Ideal.exp x := by
  unfold Ideal.exp
  split
  · exact le_refl _
  · exact le_top
  · exact EReal.coe_nonneg.mpr (Real.exp_pos _).le

theorem log_ne_bot (x : EReal) (h : 1 ≤ x) : Ideal.log x ≠ ⊥ := by
  unfold Ideal.log
  split
  · exact absurd h (by show ¬ (1 : EReal) ≤ ⊥; exact not_le.mpr (EReal.bot_lt_coe 1))
  · exact top_ne_bot
  · rename_i r
    have hr : (1 : ℝ) ≤ r := EReal.coe_le_coe_iff.mp h
    rw [if_neg (by linarith)]
    exact EReal.coe_ne_bot _

theorem soft_ne_bot (x : EReal) : soft x ≠ ⊥ := by
  unfold soft Ideal.log1p
  exact log_ne_bot _ (le_add_of_nonneg_right (exp_nonneg _))

/-- The log of the sigmoid is the softplus of the negated gate, negated. -/
theorem neg_rate_neg (x : EReal) : -rate (-x) = logsig x := by
  have e : soft (-x) = soft x := by unfold soft; rw [absf_neg]
  unfold rate logsig
  rw [e, EReal.neg_add (Or.inl ?_) (Or.inr (soft_ne_bot x))]
  · refine congrArg (· - soft x) ?_
    rcases le_total x 0 with h | h
    · rw [min_eq_left h, max_eq_left (by simpa using h), neg_neg]
    · rw [min_eq_right h, max_eq_right (by simpa using h), neg_zero]
  · exact ne_of_gt (lt_of_lt_of_le EReal.bot_lt_zero (le_max_right _ _))

/-! ## Running maxima in steps -/

/-- The maximum over the last, or next, `k` tokens. -/
def win (back : Bool) (k : ℕ) (f : Fin 128 → EReal) (t : Fin 128) : EReal :=
  Finset.univ.sup fun s => if sees back t s ∧ t.val < s.val + k ∧ s.val < t.val + k then f s else ⊥

theorem win_le (back : Bool) (k : ℕ) (f : Fin 128 → EReal) (t : Fin 128) (c : EReal)
    (h : ∀ s, sees back t s → t.val < s.val + k → s.val < t.val + k → f s ≤ c) : win back k f t ≤ c := by
  refine Finset.sup_le fun s _ => ?_
  by_cases hs : sees back t s ∧ t.val < s.val + k ∧ s.val < t.val + k
  · rw [if_pos hs]; exact h s hs.1 hs.2.1 hs.2.2
  · rw [if_neg hs]; exact bot_le

theorem le_win (back : Bool) (k : ℕ) (f : Fin 128 → EReal) (t s : Fin 128)
    (h : sees back t s) (h1 : t.val < s.val + k) (h2 : s.val < t.val + k) : f s ≤ win back k f t := by
  refine le_trans ?_ (Finset.le_sup (f := fun s : Fin 128 => if sees back t s ∧ t.val < s.val + k ∧ s.val < t.val + k then f s else ⊥) (Finset.mem_univ s))
  show f s ≤ if sees back t s ∧ t.val < s.val + k ∧ s.val < t.val + k then f s else ⊥
  rw [if_pos ⟨h, h1, h2⟩]

theorem sees_iff (back : Bool) (t s : Fin 128) : sees back t s ↔ (back = true ∧ t.val ≤ s.val) ∨ (back = false ∧ s.val ≤ t.val) := Iff.rfl

theorem win_one (back : Bool) (f : Fin 128 → EReal) : win back 1 f = f := by
  funext t
  refine le_antisymm (win_le _ _ _ _ _ fun s _ h1 h2 => ?_) (le_win _ _ _ _ _ ?_ (by omega) (by omega))
  · obtain rfl : s = t := Fin.ext (by omega)
    exact le_refl _
  · rw [sees_iff]; cases back <;> simp

theorem win_all (back : Bool) (f : Fin 128 → EReal) : win back 128 f = maxOf back f := by
  funext t
  refine Finset.sup_congr rfl fun s _ => ?_
  have := s.isLt
  have := t.isLt
  exact if_congr ⟨fun h => h.1, fun h => ⟨h, by omega, by omega⟩⟩ rfl rfl

/-- One step doubles the window. -/
theorem win_step (back : Bool) (k : ℕ) (hk : k ≤ 64) (f : Fin 128 → EReal) (t : Fin 128) :
    max (win back k f t) (if back = true then (if t.val < 128 - k then win back k f ⟨(t.val + 128 - (128 - k)) % 128, Nat.mod_lt _ (by decide)⟩ else ⊥)
      else (if k ≤ t.val then win back k f ⟨(t.val + 128 - k) % 128, Nat.mod_lt _ (by decide)⟩ else ⊥)) = win back (2 * k) f t := by
  have ht := t.isLt
  refine le_antisymm (max_le (win_le _ _ _ _ _ fun s h h1 h2 => le_win _ _ _ _ _ h (by omega) (by omega)) ?_) (win_le _ _ _ _ _ fun s h h1 h2 => ?_)
  · cases back
    · rw [if_neg (by decide)]
      by_cases a : k ≤ t.val
      · rw [if_pos a]
        refine win_le _ _ _ _ _ fun s h h1 h2 => le_win _ _ _ _ _ ?_ ?_ ?_ <;> simp only [sees_iff, Bool.false_eq_true, false_and, false_or, true_and] at * <;> omega
      · rw [if_neg a]; exact bot_le
    · rw [if_pos rfl]
      by_cases a : t.val < 128 - k
      · rw [if_pos a]
        refine win_le _ _ _ _ _ fun s h h1 h2 => le_win _ _ _ _ _ ?_ ?_ ?_ <;> simp only [sees_iff, Bool.true_eq_false, false_and, or_false, true_and] at * <;> omega
      · rw [if_neg a]; exact bot_le
  · have hs := s.isLt
    by_cases near : t.val < s.val + k ∧ s.val < t.val + k
    · exact le_trans (le_win _ k _ _ _ h near.1 near.2) (le_max_left _ _)
    · refine le_trans ?_ (le_max_right _ _)
      cases back
      · simp only [sees_iff, Bool.false_eq_true, false_and, false_or, true_and] at h
        rw [if_neg (by decide), if_pos (by omega)]
        refine le_win _ _ _ _ _ ?_ ?_ ?_ <;> simp only [sees_iff, Bool.false_eq_true, false_and, false_or, true_and] <;> omega
      · simp only [sees_iff, Bool.true_eq_false, false_and, or_false, true_and] at h
        rw [if_pos rfl, if_pos (by omega)]
        refine le_win _ _ _ _ _ ?_ ?_ ?_ <;> simp only [sees_iff, Bool.true_eq_false, false_and, or_false, true_and] <;> omega

end Cert.Gates

end
-- ==== Proof.Gates.Pure.lean ====
module

public import proofs.«01_k».proof.Proof.Gates.Chunk
public import proofs.«01_k».proof.Proof.Gates.Spec

/-! # What one chunk of the body computes, at an index -/

@[expose] public section

set_option maxRecDepth 16384

noncomputable section

namespace Cert.Kernel7Ideal.Gates

open Idealize.ShloMosaic Idealize.ShloMosaic.TcCoe Idealize.SL.Sem
open Cert.Kernel7Ideal Cert.Kernel7Ideal.Gen Cert.Gates

/-- The lanes whose recurrence runs backward. -/
def backLane (l : Fin 128) : Bool := decide ((l.val < 16 ∧ 4 ≤ l.val % 8) ∨ (32 ≤ l.val ∧ l.val < 48))

theorem backMask (t l : Fin 128) : k0_pay4 (ix2 t l) = if backLane l = true then 1#1 else 0#1 := by
  have e : ∀ l : Fin 128, IntOp.ori (IntOp.andi (IntOp.cmpi CmpIPredicate.slt (BitVec.ofNat 32 ↑l) 16#32)
        (IntOp.cmpi CmpIPredicate.sge (IntOp.andi (BitVec.ofNat 32 ↑l) 7#32) 4#32))
      (IntOp.andi (IntOp.cmpi CmpIPredicate.sge (BitVec.ofNat 32 ↑l) 32#32)
        (IntOp.cmpi CmpIPredicate.slt (BitVec.ofNat 32 ↑l) 48#32)) = if backLane l = true then 1#1 else 0#1 := by
    decide +kernel
  pointwise [k0_pay4]
  exact e l

theorem backMask1 (l : Fin 128) : k0_pay5 (ix2 0 l) = if backLane l = true then 1#1 else 0#1 := by
  refine Eq.trans ?_ (backMask 0 l)
  pointwise [k0_pay4, k0_pay5]

theorem inMask (t l : Fin 128) : k0_pay6 (ix2 t l) = if l.val < 8 then 1#1 else 0#1 := by
  have e : ∀ l : Fin 128, IntOp.cmpi CmpIPredicate.slt (BitVec.ofNat 32 ↑l) 8#32 = if l.val < 8 then 1#1 else 0#1 := by decide +kernel
  pointwise [k0_pay6]
  exact e l

theorem forgetMask (t l : Fin 128) : k0_pay7 (ix2 t l) = if 8 ≤ l.val ∧ l.val < 16 then 1#1 else 0#1 := by
  have e : ∀ l : Fin 128, IntOp.andi (IntOp.cmpi CmpIPredicate.sge (BitVec.ofNat 32 ↑l) 8#32) (IntOp.cmpi CmpIPredicate.slt (BitVec.ofNat 32 ↑l) 16#32)
      = if 8 ≤ l.val ∧ l.val < 16 then 1#1 else 0#1 := by decide +kernel
  pointwise [k0_pay7]
  exact e l

theorem stepMask (t l : Fin 128) : k0_pay9 lanes k0_pay8 (ix2 t l) = if 16 ≤ l.val ∧ l.val < 48 then 1#1 else 0#1 := by
  have e : ∀ l : Fin 128, IntOp.andi (IntOp.cmpi CmpIPredicate.sge (BitVec.ofNat 32 ↑l) 16#32) (IntOp.cmpi CmpIPredicate.slt (BitVec.ofNat 32 ↑l) 48#32)
      = if 16 ≤ l.val ∧ l.val < 48 then 1#1 else 0#1 := by decide +kernel
  pointwise [k0_pay9, k0_pay8, lanes]
  exact e l

theorem select_if (p : Prop) [Decidable p] (a b : EReal) : Scalar.select (if p then 1#1 else 0#1) a b = if p then a else b := by
  by_cases h : p
  · rw [if_pos h, if_pos h]; rfl
  · rw [if_neg h, if_neg h]; rfl

theorem lower_at (t s : Fin 128) : (k0_pay2 (F := Ideal) (ix2 t s) : EReal) = if s ≤ t then 1 else 0 := by
  have e : ∀ t s : Fin 128, IntOp.cmpi CmpIPredicate.sge (BitVec.ofNat 32 ↑t) (BitVec.ofNat 32 ↑s) = if s ≤ t then 1#1 else 0#1 := by decide +kernel
  pointwise [k0_pay2]
  rw [e t s]
  by_cases h : s ≤ t
  · rw [if_pos h, if_pos h]
    show (((1#32).toInt : ℝ) : EReal) = 1
    have : (1#32).toInt = 1 := by decide
    rw [this]; simp
  · rw [if_neg h, if_neg h]
    show (((0#32).toInt : ℝ) : EReal) = 0
    have : (0#32).toInt = 0 := by decide
    rw [this]; simp

theorem upper_at (t s : Fin 128) : (k0_pay3 (F := Ideal) (ix2 t s) : EReal) = if t ≤ s then 1 else 0 := by
  refine Eq.trans ?_ (lower_at s t)
  have e : ∀ t s : Fin 128, IntOp.cmpi CmpIPredicate.sle (BitVec.ofNat 32 ↑t) (BitVec.ofNat 32 ↑s)
      = IntOp.cmpi CmpIPredicate.sge (BitVec.ofNat 32 ↑s) (BitVec.ofNat 32 ↑t) := by decide +kernel
  pointwise [k0_pay2, k0_pay3]
  rw [e t s]

variable (a : Vec Ideal S1x128 .f32) (g : Vec Ideal S128x128 .f32) (b : Vec Ideal S1x128 .f32)

/-- A lane's gate with its bias. -/
abbrev gate (l : Fin 128) : Fin 128 → EReal := fun t => (g (ix2 t l) : EReal) + (b (ix2 0 l) : EReal)

/-- What a lane sums. -/
def termAt (l s : Fin 128) : EReal :=
  if 8 ≤ l.val ∧ l.val < 16 then logsig (gate g b l s)
  else if 16 ≤ l.val ∧ l.val < 48 then rate (gate g b l s) * -Ideal.exp (a (ix2 0 l) : EReal) else 0

theorem gate_at (t l : Fin 128) : (k0_pay11 (F := Ideal) g b (ix2 t l) : EReal) = gate g b l t := by
  pointwise [k0_pay11]

theorem soft_at (t l : Fin 128) : (k0_pay12 (F := Ideal) g b (ix2 t l) : EReal) = soft (gate g b l t) := by
  pointwise [k0_pay12, gate_at, soft, zero_sub]

theorem rate_at (t l : Fin 128) : (k0_pay13 (F := Ideal) g b (ix2 t l) : EReal) = rate (gate g b l t) := by
  pointwise [k0_pay13, gate_at, soft_at, rate]

theorem decay_at (l : Fin 128) : (k0_pay10 (F := Ideal) a (ix2 0 l) : EReal) = -Ideal.exp (a (ix2 0 l) : EReal) := by
  pointwise [k0_pay10, zero_sub]

theorem sums_at (t l : Fin 128) : (sumsV a g b (ix2 t l) : EReal) = sumOf (backLane l) (termAt a g b l) t := by
  pointwise [sumsV, k0_pay14, backMask, forgetMask, stepMask, select_if, lower_at, upper_at, gate_at, soft_at, rate_at, decay_at]
  unfold sumOf
  cases hb : backLane l
  · rw [if_neg (by decide)]
    refine Finset.sum_congr rfl fun s _ => ?_
    rw [ite_mul, one_mul, zero_mul]
    refine if_congr ?_ rfl rfl
    simp [sees]
  · rw [if_pos rfl]
    refine Finset.sum_congr rfl fun s _ => ?_
    rw [ite_mul, one_mul, zero_mul]
    refine if_congr ?_ rfl rfl
    simp [sees]

theorem ninf : Ideal.ofBits FTy.f32 4286578688#32 = ⊥ := by
  rfl

/-- A step's masks. -/
theorem step_at (k l : ℕ) (hk : k ≤ 64) (hl : l = 128 - k) (h0 : 0 < k) (x : FVec Ideal S128x128 .f32) (t n : Fin 128)
    (e : (stepV (BitVec.ofNat 32 k) (BitVec.ofNat 32 l) x (ix2 t n) : EReal)
      = max (x (ix2 t n)) (if backLane n = true then (if t.val < l then x (ix2 ⟨(t.val + 128 - l) % 128, Nat.mod_lt _ (by decide)⟩ n) else ⊥)
        else (if k ≤ t.val then x (ix2 ⟨(t.val + 128 - k) % 128, Nat.mod_lt _ (by decide)⟩ n) else ⊥)))
    (f : Fin 128 → EReal) (hx : ∀ s, (x (ix2 s n) : EReal) = win (backLane n) k f s) :
    (stepV (BitVec.ofNat 32 k) (BitVec.ofNat 32 l) x (ix2 t n) : EReal) = win (backLane n) (2 * k) f t := by
  subst hl
  rw [e]
  simp only [hx]
  exact win_step _ k hk f t

theorem below (k : BitVec 32) (j : ℕ) (e : ∀ t : Fin 128, IntOp.cmpi CmpIPredicate.slt (BitVec.ofNat 32 ↑t) k = if t.val < j then 1#1 else 0#1) (t : Fin 128) (x y : EReal) :
    Scalar.select (IntOp.cmpi CmpIPredicate.slt (BitVec.ofNat 32 ↑t) k) x y = if t.val < j then x else y := by
  rw [e t, select_if]

theorem above (k : BitVec 32) (j : ℕ) (e : ∀ t : Fin 128, IntOp.cmpi CmpIPredicate.sge (BitVec.ofNat 32 ↑t) k = if j ≤ t.val then 1#1 else 0#1) (t : Fin 128) (x y : EReal) :
    Scalar.select (IntOp.cmpi CmpIPredicate.sge (BitVec.ofNat 32 ↑t) k) x y = if j ≤ t.val then x else y := by
  rw [e t, select_if]

section Steps

variable (x : FVec Ideal S128x128 .f32) (n : Fin 128) (f : Fin 128 → EReal)

theorem step1 (hx : ∀ s, (x (ix2 s n) : EReal) = win (backLane n) 1 f s) (t : Fin 128) : (stepV 1#32 127#32 x (ix2 t n) : EReal) = win (backLane n) 2 f t :=
  step_at 1 127 (by decide) rfl (by decide) x t n
    (by pointwise [stepV, backMask, select_if, ninf, below 127#32 127 (by decide +kernel), above 1#32 1 (by decide +kernel)]) f hx

theorem step2 (hx : ∀ s, (x (ix2 s n) : EReal) = win (backLane n) 2 f s) (t : Fin 128) : (stepV 2#32 126#32 x (ix2 t n) : EReal) = win (backLane n) 4 f t :=
  step_at 2 126 (by decide) rfl (by decide) x t n
    (by pointwise [stepV, backMask, select_if, ninf, below 126#32 126 (by decide +kernel), above 2#32 2 (by decide +kernel)]) f hx

theorem step4 (hx : ∀ s, (x (ix2 s n) : EReal) = win (backLane n) 4 f s) (t : Fin 128) : (stepV 4#32 124#32 x (ix2 t n) : EReal) = win (backLane n) 8 f t :=
  step_at 4 124 (by decide) rfl (by decide) x t n
    (by pointwise [stepV, backMask, select_if, ninf, below 124#32 124 (by decide +kernel), above 4#32 4 (by decide +kernel)]) f hx

theorem step8 (hx : ∀ s, (x (ix2 s n) : EReal) = win (backLane n) 8 f s) (t : Fin 128) : (stepV 8#32 120#32 x (ix2 t n) : EReal) = win (backLane n) 16 f t :=
  step_at 8 120 (by decide) rfl (by decide) x t n
    (by pointwise [stepV, backMask, select_if, ninf, below 120#32 120 (by decide +kernel), above 8#32 8 (by decide +kernel)]) f hx

theorem step16 (hx : ∀ s, (x (ix2 s n) : EReal) = win (backLane n) 16 f s) (t : Fin 128) : (stepV 16#32 112#32 x (ix2 t n) : EReal) = win (backLane n) 32 f t :=
  step_at 16 112 (by decide) rfl (by decide) x t n
    (by pointwise [stepV, backMask, select_if, ninf, below 112#32 112 (by decide +kernel), above 16#32 16 (by decide +kernel)]) f hx

theorem step32 (hx : ∀ s, (x (ix2 s n) : EReal) = win (backLane n) 32 f s) (t : Fin 128) : (stepV 32#32 96#32 x (ix2 t n) : EReal) = win (backLane n) 64 f t :=
  step_at 32 96 (by decide) rfl (by decide) x t n
    (by pointwise [stepV, backMask, select_if, ninf, below 96#32 96 (by decide +kernel), above 32#32 32 (by decide +kernel)]) f hx

theorem step64 (hx : ∀ s, (x (ix2 s n) : EReal) = win (backLane n) 64 f s) (t : Fin 128) : (stepV 64#32 64#32 x (ix2 t n) : EReal) = win (backLane n) 128 f t :=
  step_at 64 64 (by decide) rfl (by decide) x t n
    (by pointwise [stepV, backMask, select_if, ninf, below 64#32 64 (by decide +kernel), above 64#32 64 (by decide +kernel)]) f hx

end Steps

/-- The seven steps leave the running maxima. -/
theorem max_at (x : FVec Ideal S128x128 .f32) (t n : Fin 128) : (maxV x (ix2 t n) : EReal) = maxOf (backLane n) (fun s => x (ix2 s n)) t := by
  unfold maxV
  rw [← win_all]
  refine step64 _ n _ (step32 _ n _ (step16 _ n _ (step8 _ n _ (step4 _ n _ (step2 _ n _ (step1 _ n _ fun s => ?_)))))) t
  rw [win_one]

abbrev laneI (n : Fin 8) : Fin 128 := ⟨n.val, by omega⟩
abbrev laneF (n : Fin 8) : Fin 128 := ⟨8 + n.val, by omega⟩
abbrev laneD (h : Fin 32) : Fin 128 := ⟨16 + h.val, by omega⟩

abbrev unitBack (n : Fin 8) : Bool := decide (4 ≤ n.val)
abbrev headBack (h : Fin 32) : Bool := decide (16 ≤ h.val)

theorem back_I : ∀ n : Fin 8, backLane (laneI n) = unitBack n := by decide
theorem back_F : ∀ n : Fin 8, backLane (laneF n) = unitBack n := by decide
theorem back_D : ∀ h : Fin 32, backLane (laneD h) = headBack h := by decide

theorem sums_F (t : Fin 128) (n : Fin 8) : (sumsV a g b (ix2 t (laneF n)) : EReal) = bS (unitBack n) (gate g b (laneF n)) t := by
  rw [sums_at, back_F]
  unfold bS
  refine congrArg (fun f => sumOf _ f t) (funext fun s => ?_)
  unfold termAt
  rw [if_pos ⟨by show 8 ≤ 8 + n.val; omega, by show 8 + n.val < 16; omega⟩]

theorem sums_D (t : Fin 128) (h : Fin 32) : (sumsV a g b (ix2 t (laneD h)) : EReal) = csS (headBack h) (a (ix2 0 (laneD h))) (gate g b (laneD h)) t := by
  rw [sums_at, back_D]
  unfold csS
  refine congrArg (fun f => sumOf _ f t) (funext fun s => ?_)
  unfold termAt
  rw [if_neg (by show ¬ (8 ≤ 16 + h.val ∧ 16 + h.val < 16); omega), if_pos ⟨by show 16 ≤ 16 + h.val; omega, by show 16 + h.val < 48; omega⟩]

theorem units_at (t : Fin 128) (n : Fin 8) : (unitsV a g b (ix2 t (laneI n)) : EReal) = bS (unitBack n) (gate g b (laneF n)) t := by
  refine Eq.trans ?_ (sums_F a g b t n)
  pointwise [unitsV]
  exact congrArg (fun l => sumsV a g b (ix2 t l)) (Fin.ext (by show (n.val + 128 - 120) % 128 = 8 + n.val; omega))

theorem start_at (t : Fin 128) (n : Fin 8) : (startV a g b (ix2 t (laneI n)) : EReal) = uS (unitBack n) (gate g b (laneI n)) (gate g b (laneF n)) t := by
  refine (show (startV a g b (ix2 t (laneI n)) : EReal) = k0_pay11 g b (ix2 t (laneI n)) - unitsV a g b (ix2 t (laneI n)) from rfl).trans ?_
  rw [units_at, gate_at]
  rfl

theorem maxima_at (t : Fin 128) (n : Fin 8) : (maxV (startV a g b) (ix2 t (laneI n)) : EReal) = cuS (unitBack n) (gate g b (laneI n)) (gate g b (laneF n)) t := by
  rw [max_at, back_I]
  unfold cuS
  exact congrArg (fun f => maxOf _ f t) (funext fun s => start_at a g b s n)

/-! ## The packed results -/

theorem col_at (t l : Fin 128) : (colV a g b (ix2 t l) : EReal) = if l.val < 8 then (maxV (startV a g b) (ix2 t l) : EReal) else sumsV a g b (ix2 t l) := by
  pointwise [colV, inMask, select_if]

/-- The rows' lanes. -/
theorem row_at (l t : Fin 128) : (rowV a g b (ix2 l t) : EReal) =
    if l.val < 8 then (startV a g b (ix2 t l) : EReal)
    else if 16 ≤ l.val ∧ l.val < 48 then (sumsV a g b (ix2 t l) : EReal) - Ideal.log (rate (gate g b l t))
    else if l.val < 80 then
      Ideal.exp ((if backLane ⟨(l.val + 128 - 32) % 128, Nat.mod_lt _ (by decide)⟩ = true then (sumsV a g b (ix2 0 ⟨(l.val + 128 - 32) % 128, Nat.mod_lt _ (by decide)⟩) : EReal)
          else sumsV a g b (ix2 127 ⟨(l.val + 128 - 32) % 128, Nat.mod_lt _ (by decide)⟩)) - sumsV a g b (ix2 t ⟨(l.val + 128 - 32) % 128, Nat.mod_lt _ (by decide)⟩))
        * rate (gate g b ⟨(l.val + 128 - 32) % 128, Nat.mod_lt _ (by decide)⟩ t)
    else if l.val < 88 then (maxV (startV a g b) (ix2 t ⟨(l.val + 128 - 80) % 128, Nat.mod_lt _ (by decide)⟩) : EReal)
    else unitsV a g b (ix2 t ⟨(l.val + 128 - 88) % 128, Nat.mod_lt _ (by decide)⟩) := by
  generalize hu : unitsV a g b = U
  pointwise [rowV, hu, k0_pay25, k0_pay23, inMask, stepMask, backMask1, select_if, rate_at, below 80#32 80 (by decide +kernel), below 88#32 88 (by decide +kernel)]

theorem col_cu (t : Fin 128) (n : Fin 8) : (colV a g b (ix2 t (laneI n)) : EReal) = cuS (unitBack n) (gate g b (laneI n)) (gate g b (laneF n)) t := by
  rw [col_at, if_pos (by show n.val < 8; omega), maxima_at]

theorem col_b (t : Fin 128) (n : Fin 8) : (colV a g b (ix2 t (laneF n)) : EReal) = bS (unitBack n) (gate g b (laneF n)) t := by
  rw [col_at, if_neg (by show ¬ 8 + n.val < 8; omega), sums_F]

theorem col_cs (t : Fin 128) (h : Fin 32) : (colV a g b (ix2 t (laneD h)) : EReal) = csS (headBack h) (a (ix2 0 (laneD h))) (gate g b (laneD h)) t := by
  rw [col_at, if_neg (by show ¬ 16 + h.val < 8; omega), sums_D]

theorem row_u (t : Fin 128) (n : Fin 8) : (rowV a g b (ix2 (laneI n) t) : EReal) = uS (unitBack n) (gate g b (laneI n)) (gate g b (laneF n)) t := by
  rw [row_at, if_pos (by show n.val < 8; omega), start_at]

theorem row_q (t : Fin 128) (h : Fin 32) : (rowV a g b (ix2 (laneD h) t) : EReal) = qS (headBack h) (a (ix2 0 (laneD h))) (gate g b (laneD h)) t := by
  rw [row_at, if_neg (by show ¬ 16 + h.val < 8; omega), if_pos ⟨by show 16 ≤ 16 + h.val; omega, by show 16 + h.val < 48; omega⟩, sums_D]
  rfl

theorem row_wk (t : Fin 128) (h : Fin 32) : (rowV a g b (ix2 ⟨48 + h.val, by omega⟩ t) : EReal) = wkS (headBack h) (a (ix2 0 (laneD h))) (gate g b (laneD h)) t := by
  have e : (⟨(48 + h.val + 128 - 32) % 128, Nat.mod_lt _ (by decide)⟩ : Fin 128) = laneD h := Fin.ext (by show (48 + h.val + 128 - 32) % 128 = 16 + h.val; omega)
  rw [row_at, if_neg (by show ¬ 48 + h.val < 8; omega), if_neg (by show ¬ (16 ≤ 48 + h.val ∧ 48 + h.val < 48); omega), if_pos (by show 48 + h.val < 80; omega)]
  simp only [e, back_D, sums_D]
  rfl

theorem row_cu (t : Fin 128) (n : Fin 8) : (rowV a g b (ix2 ⟨80 + n.val, by omega⟩ t) : EReal) = cuS (unitBack n) (gate g b (laneI n)) (gate g b (laneF n)) t := by
  have e : (⟨(80 + n.val + 128 - 80) % 128, Nat.mod_lt _ (by decide)⟩ : Fin 128) = laneI n := Fin.ext (by show (80 + n.val + 128 - 80) % 128 = n.val; omega)
  rw [row_at, if_neg (by show ¬ 80 + n.val < 8; omega), if_neg (by show ¬ (16 ≤ 80 + n.val ∧ 80 + n.val < 48); omega), if_neg (by show ¬ 80 + n.val < 80; omega),
    if_pos (by show 80 + n.val < 88; omega), ← maxima_at a g b t n]
  exact congrArg (fun l => maxV (startV a g b) (ix2 t l)) e

theorem row_b (t : Fin 128) (n : Fin 8) : (rowV a g b (ix2 ⟨88 + n.val, by omega⟩ t) : EReal) = bS (unitBack n) (gate g b (laneF n)) t := by
  have e : (⟨(88 + n.val + 128 - 88) % 128, Nat.mod_lt _ (by decide)⟩ : Fin 128) = laneI n := Fin.ext (by show (88 + n.val + 128 - 88) % 128 = n.val; omega)
  rw [row_at, if_neg (by show ¬ 88 + n.val < 8; omega), if_neg (by show ¬ (16 ≤ 88 + n.val ∧ 88 + n.val < 48); omega), if_neg (by show ¬ 88 + n.val < 80; omega),
    if_neg (by show ¬ 88 + n.val < 88; omega), ← units_at a g b t n]
  exact congrArg (fun l => unitsV a g b (ix2 t l)) e

end Cert.Kernel7Ideal.Gates

end
-- ==== Proof.Gates.Block.lean ====
module

public import proofs.«01_k».proof.Proof.Gates.Pure
public import Idealize.ShloMosaic.Lib.Pipeline.ValueKit
public import Idealize.ShloMosaic.Lib.Pipeline.ReadBack

/-! # A block's eight chunks -/

@[expose] public section

set_option maxRecDepth 16384

noncomputable section

namespace Cert.Kernel7Ideal.Gates

open Idealize.ShloMosaic Idealize.ShloMosaic.TcCoe Idealize.SL.Sem
open Cert.Kernel7Ideal Cert.Kernel7Ideal.Gen Cert.Gates

/-- Chunk `c` of a block. -/
def piece (x : Vec Ideal S1024x128 .f32) (c : Fin 8) : Vec Ideal S128x128 .f32 := fun i =>
  x (ix2 ⟨128 * c.val + (i 0).val, by have : (i 0).val < 128 := (i 0).isLt; omega⟩ (i 1))

theorem ld_row (x : Vec Ideal S1x128 .f32) : View.ld x r0_0 = x := by
  funext i
  idx_vars i
  obtain rfl : i0 = 0 := Subsingleton.elim _ _
  exact congrArg x (by blk_ext []; all_goals (show _ + _ * _ = _; first | simp | (simp; omega)))

theorem ld1 (x : Vec Ideal S1024x128 .f32) : View.ld x r0_1 = piece x 0 := by
  funext i; idx_vars i; exact congrArg x (by blk_ext []; all_goals (show _ + _ * _ = _; first | simp | (simp; omega)))
theorem ld2 (x : Vec Ideal S1024x128 .f32) : View.ld x r0_2 = piece x 1 := by
  funext i; idx_vars i; exact congrArg x (by blk_ext []; all_goals (show _ + _ * _ = _; first | simp | (simp; omega)))
theorem ld3 (x : Vec Ideal S1024x128 .f32) : View.ld x r0_3 = piece x 2 := by
  funext i; idx_vars i; exact congrArg x (by blk_ext []; all_goals (show _ + _ * _ = _; first | simp | (simp; omega)))
theorem ld4 (x : Vec Ideal S1024x128 .f32) : View.ld x r0_4 = piece x 3 := by
  funext i; idx_vars i; exact congrArg x (by blk_ext []; all_goals (show _ + _ * _ = _; first | simp | (simp; omega)))
theorem ld5 (x : Vec Ideal S1024x128 .f32) : View.ld x r0_5 = piece x 4 := by
  funext i; idx_vars i; exact congrArg x (by blk_ext []; all_goals (show _ + _ * _ = _; first | simp | (simp; omega)))
theorem ld6 (x : Vec Ideal S1024x128 .f32) : View.ld x r0_6 = piece x 5 := by
  funext i; idx_vars i; exact congrArg x (by blk_ext []; all_goals (show _ + _ * _ = _; first | simp | (simp; omega)))
theorem ld7 (x : Vec Ideal S1024x128 .f32) : View.ld x r0_7 = piece x 6 := by
  funext i; idx_vars i; exact congrArg x (by blk_ext []; all_goals (show _ + _ * _ = _; first | simp | (simp; omega)))
theorem ld8 (x : Vec Ideal S1024x128 .f32) : View.ld x r0_8 = piece x 7 := by
  funext i; idx_vars i; exact congrArg x (by blk_ext []; all_goals (show _ + _ * _ = _; first | simp | (simp; omega)))

/-- Where a row of a block lies among its chunks. -/
theorem at_chunk (v : Fin 8 → Vec Ideal S128x128 .f32) (c : Fin 8) (r : Fin 1024) (l k n : Fin 128) (hr : r.val = 128 * c.val + k.val) (hl : l.val = n.val) :
    v c (ix2 k n) = v ⟨r.val / 128, by omega⟩ (ix2 ⟨r.val % 128, by omega⟩ l) := by
  obtain rfl : l = n := Fin.ext hl
  rw [show (⟨r.val / 128, by omega⟩ : Fin 8) = c from Fin.ext (by show r.val / 128 = c.val; omega),
    show (⟨r.val % 128, by omega⟩ : Fin 128) = k from Fin.ext (by show r.val % 128 = k.val; omega)]

theorem canon8 (v : Fin 8 → Vec Ideal S128x128 .f32) (r : Fin 1024) (l : Fin 128) :
    (View.canon (s := S1024x128) [⟨r0_8, v 7⟩, ⟨r0_7, v 6⟩, ⟨r0_6, v 5⟩, ⟨r0_5, v 4⟩, ⟨r0_4, v 3⟩, ⟨r0_3, v 2⟩, ⟨r0_2, v 1⟩, ⟨r0_1, v 0⟩] (ix2 r l) : EReal)
      = v ⟨r.val / 128, by omega⟩ (ix2 ⟨r.val % 128, by omega⟩ l) := by
  canon_tiles x q <;> idx_vars x
  · exact at_chunk v 7 r l x0 x1 q0 q1
  · exact at_chunk v 6 r l x0 x1 q0 q1
  · exact at_chunk v 5 r l x0 x1 q0 q1
  · exact at_chunk v 4 r l x0 x1 q0 q1
  · exact at_chunk v 3 r l x0 x1 q0 q1
  · exact at_chunk v 2 r l x0 x1 q0 q1
  · exact at_chunk v 1 r l x0 x1 q0 q1
  · exact at_chunk v 0 r l x0 x1 (q0.trans (by simp)) q1

variable (x0 : Vec Ideal S1024x128 .f32) (x1 x2 : Vec Ideal S1x128 .f32) (r : Fin 1024) (l : Fin 128)

theorem col_block : (out0_3 (F := Ideal) x0 x1 x2 (ix2 r l) : EReal) = colV x2 (piece x0 ⟨r.val / 128, by omega⟩) x1 (ix2 ⟨r.val % 128, by omega⟩ l) := by
  rw [out_col, ld_row, ld_row, ld1, ld2, ld3, ld4, ld5, ld6, ld7, ld8]
  exact canon8 (fun c => colV x2 (piece x0 c) x1) r l

theorem units_block : (out0_4 (F := Ideal) x0 x1 x2 (ix2 r l) : EReal) = unitsV x2 (piece x0 ⟨r.val / 128, by omega⟩) x1 (ix2 ⟨r.val % 128, by omega⟩ l) := by
  rw [out_units, ld_row, ld_row, ld1, ld2, ld3, ld4, ld5, ld6, ld7, ld8]
  exact canon8 (fun c => unitsV x2 (piece x0 c) x1) r l

theorem row_block : (out0_5 (F := Ideal) x0 x1 x2 (ix2 r l) : EReal) = rowV x2 (piece x0 ⟨r.val / 128, by omega⟩) x1 (ix2 ⟨r.val % 128, by omega⟩ l) := by
  rw [out_row, ld_row, ld_row, ld1, ld2, ld3, ld4, ld5, ld6, ld7, ld8]
  exact canon8 (fun c => rowV x2 (piece x0 c) x1) r l

end Cert.Kernel7Ideal.Gates

end
-- ==== Proof.Gates.Array.lean ====
module

public import proofs.«01_k».proof.Proof.Gates.Block

/-! # The gates' packed rows and the call's result arrays -/

@[expose] public section

set_option maxRecDepth 16384

noncomputable section

namespace Cert.Kernel7Ideal.Gates

open Idealize.ShloMosaic Idealize.ShloMosaic.TcCoe Idealize.SL.Sem
open Cert.Kernel7Ideal Cert.Kernel7Ideal.Gen Cert.Gates

variable (m : (ℓ : Loc nD τ sig) → Buf (Elt Ideal) ℓ)

abbrev bG (c : Dev nD) (t : Fin cfg0.N) : Vec Ideal S1024x128 .f32 := iblk m c 0 t
abbrev bB (c : Dev nD) (t : Fin cfg0.N) : Vec Ideal S1x128 .f32 := iblk m c 1 t
abbrev bA (c : Dev nD) (t : Fin cfg0.N) : Vec Ideal S1x128 .f32 := iblk m c 2 t

abbrev aG (c : Dev nD) : FVec Ideal S4096x128 .f32 := m ((c : Thread nD τ).loc main_arg0)
abbrev aI (c : Dev nD) : FVec Ideal S2x4 .f32 := m ((c : Thread nD τ).loc main_arg1)
abbrev aF (c : Dev nD) : FVec Ideal S2x4 .f32 := m ((c : Thread nD τ).loc main_arg2)
abbrev aD (c : Dev nD) : FVec Ideal S2x16 .f32 := m ((c : Thread nD τ).loc main_arg3)
abbrev aA (c : Dev nD) : FVec Ideal S2x16 .f32 := m ((c : Thread nD τ).loc main_arg4)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

/-! ## The packed rows -/

/-- Three vectors end to end, filled up with zeros. -/
def packed (x y : FVec Ideal S8 .f32) (z : FVec Ideal S32 .f32) : FVec Ideal S1x128 .f32 :=
  shapeCast S1x128 (pad S128 ![0] ![80] ![0] (concatenate S48 0 [⟨S8, x⟩, ⟨S8, y⟩, ⟨S32, z⟩] concatenates_S8_S8_S32_S48_d0 : FVec Ideal S48 .f32)
    (sitofp .f32 (constantI S_ 32 0#32)) pads_S48_S128_0800 h_S_ : FVec Ideal S128 .f32) shapeCasts_S128_S1x128

def biases (i f : FVec Ideal S2x4 .f32) (d : FVec Ideal S2x16 .f32) : FVec Ideal S1x128 .f32 :=
  packed (shapeCast S8 i shapeCasts_S2x4_S8) (shapeCast S8 f shapeCasts_S2x4_S8) (shapeCast S32 d shapeCasts_S2x16_S32)

def rates (a : FVec Ideal S2x16 .f32) : FVec Ideal S1x128 .f32 :=
  packed (broadcastInDim S8 ![] bcast_S_S8 (constant S_ .f32 0x00000000#32)) (broadcastInDim S8 ![] bcast_S_S8 (constant S_ .f32 0x00000000#32))
    (shapeCast S32 a shapeCasts_S2x16_S32)

theorem V6 (c : Dev nD) : V m c main_v6 = biases (aI m c) (aF m c) (aD m c) := by
  unfold V V0; simp only [hostOps0, hostOps0_1, hostOps0_2, hostOps0_3, hostOps0_4, List.flatten_cons, List.flatten_nil, List.append_nil, List.cons_append, List.nil_append]
  after_results; try rfl

theorem V10 (c : Dev nD) : V m c main_v10 = rates (aA m c) := by
  unfold V V0; simp only [hostOps0, hostOps0_1, hostOps0_2, hostOps0_3, hostOps0_4, List.flatten_cons, List.flatten_nil, List.append_nil, List.cons_append, List.nil_append]
  after_results; try rfl

theorem packed_at (x y : FVec Ideal S8 .f32) (z : FVec Ideal S32 .f32) (l : Fin 128) : (packed x y z (ix2 0 l) : EReal) =
    if h : l.val < 48 then
      if h1 : l.val < 8 then (x (ix1 ⟨l.val, h1⟩) : EReal)
      else if h2 : l.val - 8 < 8 then (y (ix1 ⟨l.val - 8, h2⟩) : EReal) else z (ix1 ⟨l.val - 8 - 8, by omega⟩)
    else (FloatOps.sitofp (F := Ideal) FTy.f32 0#32 : EReal) := by
  pointwise [packed]

theorem packed_I (x y : FVec Ideal S8 .f32) (z : FVec Ideal S32 .f32) (n : Fin 8) : (packed x y z (ix2 0 (laneI n)) : EReal) = x (ix1 n) := by
  have := n.isLt
  refine (packed_at x y z _).trans ((dif_pos (by show n.val < 48; omega)).trans ((dif_pos (by show n.val < 8; omega)).trans ?_))
  rfl

theorem packed_F (x y : FVec Ideal S8 .f32) (z : FVec Ideal S32 .f32) (n : Fin 8) : (packed x y z (ix2 0 (laneF n)) : EReal) = y (ix1 n) := by
  have := n.isLt
  refine (packed_at x y z _).trans ((dif_pos (by show 8 + n.val < 48; omega)).trans ((dif_neg (by show ¬ 8 + n.val < 8; omega)).trans
    ((dif_pos (by show 8 + n.val - 8 < 8; omega)).trans ?_)))
  exact congrArg (fun k : Fin 8 => y (ix1 k)) (Fin.ext (by show 8 + n.val - 8 = n.val; omega))

theorem packed_D (x y : FVec Ideal S8 .f32) (z : FVec Ideal S32 .f32) (h : Fin 32) : (packed x y z (ix2 0 (laneD h)) : EReal) = z (ix1 h) := by
  have := h.isLt
  refine (packed_at x y z _).trans ((dif_pos (by show 16 + h.val < 48; omega)).trans ((dif_neg (by show ¬ 16 + h.val < 8; omega)).trans
    ((dif_neg (by show ¬ 16 + h.val - 8 < 8; omega)).trans ?_)))
  exact congrArg (fun k : Fin 32 => z (ix1 k)) (Fin.ext (by show 16 + h.val - 8 - 8 = h.val; omega))

theorem biases_I (i f : FVec Ideal S2x4 .f32) (d : FVec Ideal S2x16 .f32) (n : Fin 8) :
    (biases i f d (ix2 0 (laneI n)) : EReal) = i (ix2 ⟨n.val / 4, by omega⟩ ⟨n.val % 4, by omega⟩) := by
  unfold biases; rw [packed_I]; pointwise

theorem biases_F (i f : FVec Ideal S2x4 .f32) (d : FVec Ideal S2x16 .f32) (n : Fin 8) :
    (biases i f d (ix2 0 (laneF n)) : EReal) = f (ix2 ⟨n.val / 4, by omega⟩ ⟨n.val % 4, by omega⟩) := by
  unfold biases; rw [packed_F]; pointwise

theorem biases_D (i f : FVec Ideal S2x4 .f32) (d : FVec Ideal S2x16 .f32) (h : Fin 32) :
    (biases i f d (ix2 0 (laneD h)) : EReal) = d (ix2 ⟨h.val / 16, by omega⟩ ⟨h.val % 16, by omega⟩) := by
  unfold biases; rw [packed_D]; pointwise

theorem rates_D (a : FVec Ideal S2x16 .f32) (h : Fin 32) :
    (rates a (ix2 0 (laneD h)) : EReal) = a (ix2 ⟨h.val / 16, by omega⟩ ⟨h.val % 16, by omega⟩) := by
  unfold rates; rw [packed_D]; pointwise

/-! ## The blocks -/

theorem row_lt (t : Fin cfg0.N) (r : Fin 1024) : 1024 * t.val + r.val < 4096 := by
  have := t.isLt; have : cfg0.N = 4 := N_0; omega

theorem bG_at (c : Dev nD) (t : Fin cfg0.N) (r : Fin 1024) (l : Fin 128) : (bG m c t (ix2 r l) : EReal) = aG m c (ix2 ⟨1024 * t.val + r.val, row_lt t r⟩ l) := by
  have e : ((win0_0.blk t).view.emb (ix2 r l)) = (ix2 ⟨1024 * t.val + r.val, row_lt t r⟩ l : S4096x128.Idx) := by
    blk_ext [idx t]
  show V m c main_arg0 ((win0_0.blk t).view.emb (ix2 r l)) = _
  rw [e, V_main_arg0]

theorem bB_eq (c : Dev nD) (t : Fin cfg0.N) : bB m c t = biases (aI m c) (aF m c) (aD m c) := by
  funext i
  idx_vars i
  have e : ((win0_1.blk t).view.emb (ix2 i0 i1)) = (ix2 i0 i1 : S1x128.Idx) := by
    blk_ext [idx t]
  show V m c main_v6 ((win0_1.blk t).view.emb (ix2 i0 i1)) = _
  rw [e, V6]

theorem bA_eq (c : Dev nD) (t : Fin cfg0.N) : bA m c t = rates (aA m c) := by
  funext i
  idx_vars i
  have e : ((win0_2.blk t).view.emb (ix2 i0 i1)) = (ix2 i0 i1 : S1x128.Idx) := by
    blk_ext [idx t]
  show V m c main_v10 ((win0_2.blk t).view.emb (ix2 i0 i1)) = _
  rw [e, V10]

/-- Chunk `p` of the whole sequence. -/
def chunk (G : FVec Ideal S4096x128 .f32) (p : Fin 32) : Vec Ideal S128x128 .f32 := fun i =>
  G (ix2 ⟨128 * p.val + (i 0).val, by have : (i 0).val < 128 := (i 0).isLt; omega⟩ (i 1))

theorem chunk_lt (t : Fin cfg0.N) (q : Fin 8) : 8 * t.val + q.val < 32 := by
  have := t.isLt; have : cfg0.N = 4 := N_0; omega

theorem piece_eq (c : Dev nD) (t : Fin cfg0.N) (q : Fin 8) : piece (bG m c t) q = chunk (aG m c) ⟨8 * t.val + q.val, chunk_lt t q⟩ := by
  funext i
  idx_vars i
  refine (bG_at m c t _ i1).trans ?_
  exact congrArg (fun k : Fin 4096 => aG m c (ix2 k i1)) (Fin.ext (by show 1024 * t.val + (128 * q.val + i0.val) = 128 * (8 * t.val + q.val) + i0.val; omega))

/-! ## The call's result arrays -/

/-- The array whose chunks are `f`'s. -/
def byChunk (f : Fin 32 → FVec Ideal S128x128 .f32) : FVec Ideal S4096x128 .f32 := fun i =>
  f ⟨(i 0).val / 128, by have : (i 0).val < 4096 := (i 0).isLt; omega⟩ (ix2 ⟨(i 0).val % 128, Nat.mod_lt _ (by decide)⟩ (i 1))

theorem byChunk_block (f : Fin 32 → FVec Ideal S128x128 .f32) (t : Fin cfg0.N) (r : Fin 1024) (l : Fin 128) :
    byChunk f (ix2 ⟨1024 * t.val + r.val, row_lt t r⟩ l) = f ⟨8 * t.val + r.val / 128, chunk_lt t ⟨r.val / 128, by omega⟩⟩ (ix2 ⟨r.val % 128, by omega⟩ l) := by
  refine congrArg₂ (fun (p : Fin 32) (k : Fin 128) => f p (ix2 k l)) (Fin.ext ?_) (Fin.ext ?_)
  · show (1024 * t.val + r.val) / 128 = 8 * t.val + r.val / 128
    omega
  · show (1024 * t.val + r.val) % 128 = r.val % 128
    omega

abbrev cols (c : Dev nD) (p : Fin 32) : FVec Ideal S128x128 .f32 := colV (rates (aA m c)) (chunk (aG m c) p) (biases (aI m c) (aF m c) (aD m c))
abbrev units (c : Dev nD) (p : Fin 32) : FVec Ideal S128x128 .f32 := unitsV (rates (aA m c)) (chunk (aG m c) p) (biases (aI m c) (aF m c) (aD m c))
abbrev rows (c : Dev nD) (p : Fin 32) : FVec Ideal S128x128 .f32 := rowV (rates (aA m c)) (chunk (aG m c) p) (biases (aI m c) (aF m c) (aD m c))

theorem final_col (c : Dev nD) : (dats m 0 c).arrAt 3 cfg0.N = byChunk (cols m c) := by
  refine (dats m 0 c).arrAt_eq_of_covers 3 _ (by decide +kernel) fun t hf y => ?_
  blk_simp
  idx_vars y
  have e : ((win0_3.blk t).view.emb (ix2 y0 y1)) = (ix2 ⟨1024 * t.val + y0.val, row_lt t y0⟩ y1 : S4096x128.Idx) := by
    blk_ext [idx t]
  show _ = byChunk (cols m c) ((win0_3.blk t).view.emb (ix2 y0 y1))
  rw [e, byChunk_block, after0_3]
  refine (col_block (bG m c t) (bB m c t) (bA m c t) y0 y1).trans ?_
  rw [piece_eq, bB_eq, bA_eq]

theorem final_units (c : Dev nD) : (dats m 0 c).arrAt 4 cfg0.N = byChunk (units m c) := by
  refine (dats m 0 c).arrAt_eq_of_covers 4 _ (by decide +kernel) fun t hf y => ?_
  blk_simp
  idx_vars y
  have e : ((win0_4.blk t).view.emb (ix2 y0 y1)) = (ix2 ⟨1024 * t.val + y0.val, row_lt t y0⟩ y1 : S4096x128.Idx) := by
    blk_ext [idx t]
  show _ = byChunk (units m c) ((win0_4.blk t).view.emb (ix2 y0 y1))
  rw [e, byChunk_block, after0_4]
  refine (units_block (bG m c t) (bB m c t) (bA m c t) y0 y1).trans ?_
  rw [piece_eq, bB_eq, bA_eq]

theorem final_row (c : Dev nD) : (dats m 0 c).arrAt 5 cfg0.N = byChunk (rows m c) := by
  refine (dats m 0 c).arrAt_eq_of_covers 5 _ (by decide +kernel) fun t hf y => ?_
  blk_simp
  idx_vars y
  have e : ((win0_5.blk t).view.emb (ix2 y0 y1)) = (ix2 ⟨1024 * t.val + y0.val, row_lt t y0⟩ y1 : S4096x128.Idx) := by
    blk_ext [idx t]
  show _ = byChunk (rows m c) ((win0_5.blk t).view.emb (ix2 y0 y1))
  rw [e, byChunk_block, after0_5]
  refine (row_block (bG m c t) (bB m c t) (bA m c t) y0 y1).trans ?_
  rw [piece_eq, bB_eq, bA_eq]

theorem left_col (c : Dev nD) : Pipeline.withArrays (cfgs 0).spec c (V0 m c) (fun w => (dats m 0 c).arrAt w (cfgs 0).N) (Proc.devRef .tc main_v11_0) = byChunk (cols m c) :=
  (Pipeline.withArrays_arr spec0 (by decide) c (V0 m c) (fun w => (dats m 0 c).arrAt w cfg0.N) 3).trans (final_col m c)

theorem left_units (c : Dev nD) : Pipeline.withArrays (cfgs 0).spec c (V0 m c) (fun w => (dats m 0 c).arrAt w (cfgs 0).N) (Proc.devRef .tc main_v11_1) = byChunk (units m c) :=
  (Pipeline.withArrays_arr spec0 (by decide) c (V0 m c) (fun w => (dats m 0 c).arrAt w cfg0.N) 4).trans (final_units m c)

theorem left_row (c : Dev nD) : Pipeline.withArrays (cfgs 0).spec c (V0 m c) (fun w => (dats m 0 c).arrAt w (cfgs 0).N) (Proc.devRef .tc main_v11_2) = byChunk (rows m c) :=
  (Pipeline.withArrays_arr spec0 (by decide) c (V0 m c) (fun w => (dats m 0 c).arrAt w cfg0.N) 5).trans (final_row m c)

/-! ## The gates' logits -/

/-- The input gate of a unit over a chunk, the forget gate and the step size. -/
def inG (c : Dev nD) (p : Fin 32) (n : Fin 8) (t : Fin 128) : EReal :=
  (aG m c (ix2 ⟨128 * p.val + t.val, by omega⟩ ⟨n.val, by omega⟩) : EReal) + (aI m c (ix2 ⟨n.val / 4, by omega⟩ ⟨n.val % 4, by omega⟩) : EReal)

def forgetG (c : Dev nD) (p : Fin 32) (n : Fin 8) (t : Fin 128) : EReal :=
  (aG m c (ix2 ⟨128 * p.val + t.val, by omega⟩ ⟨8 + n.val, by omega⟩) : EReal) + (aF m c (ix2 ⟨n.val / 4, by omega⟩ ⟨n.val % 4, by omega⟩) : EReal)

def stepG (c : Dev nD) (p : Fin 32) (h : Fin 32) (t : Fin 128) : EReal :=
  (aG m c (ix2 ⟨128 * p.val + t.val, by omega⟩ ⟨16 + h.val, by omega⟩) : EReal) + (aD m c (ix2 ⟨h.val / 16, by omega⟩ ⟨h.val % 16, by omega⟩) : EReal)

/-- A head's rate before the exponential. -/
def rateG (c : Dev nD) (h : Fin 32) : EReal := aA m c (ix2 ⟨h.val / 16, by omega⟩ ⟨h.val % 16, by omega⟩)

theorem gate_I (c : Dev nD) (p : Fin 32) (n : Fin 8) : gate (chunk (aG m c) p) (biases (aI m c) (aF m c) (aD m c)) (laneI n) = inG m c p n := by
  funext t
  unfold gate inG
  rw [biases_I]
  rfl

theorem gate_F (c : Dev nD) (p : Fin 32) (n : Fin 8) : gate (chunk (aG m c) p) (biases (aI m c) (aF m c) (aD m c)) (laneF n) = forgetG m c p n := by
  funext t
  unfold gate forgetG
  rw [biases_F]
  rfl

theorem gate_D (c : Dev nD) (p : Fin 32) (h : Fin 32) : gate (chunk (aG m c) p) (biases (aI m c) (aF m c) (aD m c)) (laneD h) = stepG m c p h := by
  funext t
  unfold gate stepG
  rw [biases_D]
  rfl

/-! ## The results, of the program's arguments -/

def colArr (c : Dev nD) : FVec Ideal S4096x48 .f32 := fun i =>
  let p : Fin 32 := ⟨(i 0).val / 128, by have : (i 0).val < 4096 := (i 0).isLt; omega⟩
  let t : Fin 128 := ⟨(i 0).val % 128, Nat.mod_lt _ (by decide)⟩
  if h : (i 1).val < 8 then cuS (unitBack ⟨(i 1).val, h⟩) (inG m c p ⟨(i 1).val, h⟩) (forgetG m c p ⟨(i 1).val, h⟩) t
  else if h : (i 1).val < 16 then bS (unitBack ⟨(i 1).val - 8, by omega⟩) (forgetG m c p ⟨(i 1).val - 8, by omega⟩) t
  else csS (headBack ⟨(i 1).val - 16, by have : (i 1).val < 48 := (i 1).isLt; omega⟩) (rateG m c ⟨(i 1).val - 16, by have : (i 1).val < 48 := (i 1).isLt; omega⟩)
    (stepG m c p ⟨(i 1).val - 16, by have : (i 1).val < 48 := (i 1).isLt; omega⟩) t

def unitArr (c : Dev nD) : FVec Ideal S4096x8 .f32 := fun i =>
  bS (unitBack (i 1)) (forgetG m c ⟨(i 0).val / 128, by have : (i 0).val < 4096 := (i 0).isLt; omega⟩ (i 1)) ⟨(i 0).val % 128, Nat.mod_lt _ (by decide)⟩

def startArr (c : Dev nD) : FVec Ideal S32x8x128 .f32 := fun i => uS (unitBack (i 1)) (inG m c (i 0) (i 1)) (forgetG m c (i 0) (i 1)) (i 2)

def rowArr (c : Dev nD) : FVec Ideal S32x80x128 .f32 := fun i =>
  if h : (i 1).val < 32 then qS (headBack ⟨(i 1).val, h⟩) (rateG m c ⟨(i 1).val, h⟩) (stepG m c (i 0) ⟨(i 1).val, h⟩) (i 2)
  else if h : (i 1).val < 64 then wkS (headBack ⟨(i 1).val - 32, by omega⟩) (rateG m c ⟨(i 1).val - 32, by omega⟩) (stepG m c (i 0) ⟨(i 1).val - 32, by omega⟩) (i 2)
  else if h : (i 1).val < 72 then cuS (unitBack ⟨(i 1).val - 64, by omega⟩) (inG m c (i 0) ⟨(i 1).val - 64, by omega⟩) (forgetG m c (i 0) ⟨(i 1).val - 64, by omega⟩) (i 2)
  else bS (unitBack ⟨(i 1).val - 72, by have : (i 1).val < 80 := (i 1).isLt; omega⟩) (forgetG m c (i 0) ⟨(i 1).val - 72, by have : (i 1).val < 80 := (i 1).isLt; omega⟩) (i 2)

theorem col_cut (f : Fin 32 → FVec Ideal S128x128 .f32) (r : Fin 4096) (l : Fin 48) :
    (extractStridedSlice S4096x48 ![0, 0] (byChunk f) slices_S4096x128_S4096x48_0_0 (ix2 r l) : EReal)
      = f ⟨r.val / 128, by omega⟩ (ix2 ⟨r.val % 128, by omega⟩ ⟨l.val, by omega⟩) := by
  pointwise
  rfl

theorem unit_cut (f : Fin 32 → FVec Ideal S128x128 .f32) (r : Fin 4096) (n : Fin 8) :
    (extractStridedSlice S4096x8 ![0, 0] (byChunk f) slices_S4096x128_S4096x8_0_0 (ix2 r n) : EReal)
      = f ⟨r.val / 128, by omega⟩ (ix2 ⟨r.val % 128, by omega⟩ (laneI n)) := by
  pointwise
  rfl

theorem stack_at (f : Fin 32 → FVec Ideal S128x128 .f32) (p : Fin 32) (l t : Fin 128) :
    (byChunk f (ix2 ⟨p.val * 128 + l.val, by omega⟩ t) : EReal) = f p (ix2 l t) := by
  refine congrArg₂ (fun (q : Fin 32) (k : Fin 128) => f q (ix2 k t)) (Fin.ext ?_) (Fin.ext ?_)
  · show (p.val * 128 + l.val) / 128 = p.val
    omega
  · show (p.val * 128 + l.val) % 128 = l.val
    omega

theorem start_cut (f : Fin 32 → FVec Ideal S128x128 .f32) (p : Fin 32) (n : Fin 8) (t : Fin 128) :
    (extractStridedSlice S32x8x128 ![0, 0, 0] (shapeCast S32x128x128 (byChunk f) shapeCasts_S4096x128_S32x128x128) slices_S32x128x128_S32x8x128_0_0_0 (ix3 p n t) : EReal)
      = f p (ix2 (laneI n) t) := by
  pointwise
  exact stack_at f p (laneI n) t

theorem row_cut (f : Fin 32 → FVec Ideal S128x128 .f32) (p : Fin 32) (l : Fin 80) (t : Fin 128) :
    (extractStridedSlice S32x80x128 ![0, 16, 0] (shapeCast S32x128x128 (byChunk f) shapeCasts_S4096x128_S32x128x128) slices_S32x128x128_S32x80x128_0_16_0 (ix3 p l t) : EReal)
      = f p (ix2 ⟨16 + l.val, by omega⟩ t) := by
  pointwise
  exact stack_at f p ⟨16 + l.val, by omega⟩ t

theorem col_result (c : Dev nD) : extractStridedSlice S4096x48 ![0, 0] (byChunk (cols m c)) slices_S4096x128_S4096x48_0_0 = colArr m c := by
  funext i
  idx_vars i
  refine (col_cut _ i0 i1).trans ?_
  by_cases h1 : i1.val < 8
  · refine Eq.trans ?_ (dif_pos h1).symm
    refine (col_cu _ _ _ _ ⟨i1.val, h1⟩).trans ?_
    rw [gate_I, gate_F]
    rfl
  refine Eq.trans ?_ (dif_neg h1).symm
  by_cases h2 : i1.val < 16
  · refine Eq.trans ?_ (dif_pos h2).symm
    refine Eq.trans (congrArg (fun k : Fin 128 => (cols m c ⟨i0.val / 128, by omega⟩ (ix2 ⟨i0.val % 128, by omega⟩ k) : EReal)) (Fin.ext ?_)) ((col_b _ _ _ _ ⟨i1.val - 8, by omega⟩).trans ?_)
    · show i1.val = 8 + (i1.val - 8)
      omega
    · rw [gate_F]
      rfl
  refine Eq.trans ?_ (dif_neg h2).symm
  refine Eq.trans (congrArg (fun k : Fin 128 => (cols m c ⟨i0.val / 128, by omega⟩ (ix2 ⟨i0.val % 128, by omega⟩ k) : EReal)) (Fin.ext ?_)) ((col_cs _ _ _ _ ⟨i1.val - 16, by omega⟩).trans ?_)
  · show i1.val = 16 + (i1.val - 16)
    omega
  · rw [gate_D, rates_D]
    rfl

theorem unit_result (c : Dev nD) : extractStridedSlice S4096x8 ![0, 0] (byChunk (units m c)) slices_S4096x128_S4096x8_0_0 = unitArr m c := by
  funext i
  idx_vars i
  refine (unit_cut _ i0 i1).trans ((units_at _ _ _ _ i1).trans ?_)
  rw [gate_F]
  rfl

theorem start_result (c : Dev nD) :
    extractStridedSlice S32x8x128 ![0, 0, 0] (shapeCast S32x128x128 (byChunk (rows m c)) shapeCasts_S4096x128_S32x128x128) slices_S32x128x128_S32x8x128_0_0_0 = startArr m c := by
  funext i
  idx_vars i
  refine (start_cut _ i0 i1 i2).trans ((row_u _ _ _ i2 i1).trans ?_)
  rw [gate_I, gate_F]
  rfl

theorem row_result (c : Dev nD) :
    extractStridedSlice S32x80x128 ![0, 16, 0] (shapeCast S32x128x128 (byChunk (rows m c)) shapeCasts_S4096x128_S32x128x128) slices_S32x128x128_S32x80x128_0_16_0 = rowArr m c := by
  funext i
  idx_vars i
  refine (row_cut _ i0 i1 i2).trans ?_
  by_cases h1 : i1.val < 32
  · refine Eq.trans ?_ (dif_pos h1).symm
    refine (row_q _ _ _ i2 ⟨i1.val, h1⟩).trans ?_
    rw [gate_D, rates_D]
    rfl
  refine Eq.trans ?_ (dif_neg h1).symm
  by_cases h2 : i1.val < 64
  · refine Eq.trans ?_ (dif_pos h2).symm
    refine Eq.trans (congrArg (fun k : Fin 128 => (rows m c i0 (ix2 k i2) : EReal)) (Fin.ext ?_)) ((row_wk _ _ _ i2 ⟨i1.val - 32, by omega⟩).trans ?_)
    · show 16 + i1.val = 48 + (i1.val - 32)
      omega
    · rw [gate_D, rates_D]
      rfl
  refine Eq.trans ?_ (dif_neg h2).symm
  by_cases h3 : i1.val < 72
  · refine Eq.trans ?_ (dif_pos h3).symm
    refine Eq.trans (congrArg (fun k : Fin 128 => (rows m c i0 (ix2 k i2) : EReal)) (Fin.ext ?_)) ((row_cu _ _ _ i2 ⟨i1.val - 64, by omega⟩).trans ?_)
    · show 16 + i1.val = 80 + (i1.val - 64)
      omega
    · rw [gate_I, gate_F]
      rfl
  refine Eq.trans ?_ (dif_neg h3).symm
  refine Eq.trans (congrArg (fun k : Fin 128 => (rows m c i0 (ix2 k i2) : EReal)) (Fin.ext ?_)) ((row_b _ _ _ i2 ⟨i1.val - 72, by omega⟩).trans ?_)
  · show 16 + i1.val = 88 + (i1.val - 72)
    omega
  · rw [gate_F]
    rfl

theorem tail_col (c : Dev nD) : Pipeline.afterTail₀ cfgs (dats m) 0 (V0 m) [hostOps1] c main_v13 = colArr m c := by
  unfold Pipeline.afterTail₀
  simp only [hostOps1, List.flatten_cons, List.flatten_nil, List.append_nil, List.cons_append, List.nil_append]
  after_results
  rw [left_col]
  exact col_result m c

theorem tail_unit (c : Dev nD) : Pipeline.afterTail₀ cfgs (dats m) 0 (V0 m) [hostOps1] c main_v14 = unitArr m c := by
  unfold Pipeline.afterTail₀
  simp only [hostOps1, List.flatten_cons, List.flatten_nil, List.append_nil, List.cons_append, List.nil_append]
  after_results
  rw [left_units]
  exact unit_result m c

theorem tail_start (c : Dev nD) : Pipeline.afterTail₀ cfgs (dats m) 0 (V0 m) [hostOps1] c main_v15 = startArr m c := by
  unfold Pipeline.afterTail₀
  simp only [hostOps1, List.flatten_cons, List.flatten_nil, List.append_nil, List.cons_append, List.nil_append]
  after_results
  rw [left_row]
  exact start_result m c

theorem tail_row (c : Dev nD) : Pipeline.afterTail₀ cfgs (dats m) 0 (V0 m) [hostOps1] c main_v16 = rowArr m c := by
  unfold Pipeline.afterTail₀
  simp only [hostOps1, List.flatten_cons, List.flatten_nil, List.append_nil, List.cons_append, List.nil_append]
  after_results
  rw [left_row]
  exact row_result m c

end Cert.Kernel7Ideal.Gates

end
-- ==== Proof.Gates.Reference.lean ====
module

public import proofs.«01_k».proof.Proof.Gen.Reference7Ideal.Run
public import proofs.«01_k».proof.Proof.Gates.Spec

/-! # What the reference computes, at an index -/

@[expose] public section

set_option maxRecDepth 16384

noncomputable section

namespace Cert.Reference7Ideal.Gates

open Idealize.ShloMosaic Idealize.ShloMosaic.TcCoe Idealize.SL.Sem
open Cert.Reference7Ideal Cert.Reference7Ideal.Gen Cert.Gates

/-! ## The operations, in pieces -/

def inputs (G : FVec Ideal S4096x128 .f32) (B : FVec Ideal S2x4 .f32) : FVec Ideal S32x128x8 .f32 :=
  addf (extractStridedSlice S32x128x8 ![0, 0, 0] (shapeCast _ G shapeCasts_S4096x128_S32x128x128) slices_S32x128x128_S32x128x8_0_0_0)
    (broadcastInDim S32x128x8 ![0, 1, 2] bcast_S1x1x8_S32x128x8_0_1_2 (broadcastInDim S1x1x8 ![2] bcast_S8_S1x1x8_2 (shapeCast _ B shapeCasts_S2x4_S8)))

def forgets (G : FVec Ideal S4096x128 .f32) (B : FVec Ideal S2x4 .f32) : FVec Ideal S32x128x8 .f32 :=
  addf (extractStridedSlice S32x128x8 ![0, 0, 8] (shapeCast _ G shapeCasts_S4096x128_S32x128x128) slices_S32x128x128_S32x128x8_0_0_8)
    (broadcastInDim S32x128x8 ![0, 1, 2] bcast_S1x1x8_S32x128x8_0_1_2 (broadcastInDim S1x1x8 ![2] bcast_S8_S1x1x8_2 (shapeCast _ B shapeCasts_S2x4_S8)))

def steps (G : FVec Ideal S4096x128 .f32) (B : FVec Ideal S2x16 .f32) : FVec Ideal S32x128x32 .f32 :=
  addf (extractStridedSlice S32x128x32 ![0, 0, 16] (shapeCast _ G shapeCasts_S4096x128_S32x128x128) slices_S32x128x128_S32x128x32_0_0_16)
    (broadcastInDim S32x128x32 ![0, 1, 2] bcast_S1x1x32_S32x128x32_0_1_2 (broadcastInDim S1x1x32 ![2] bcast_S32_S1x1x32_2 (shapeCast _ B shapeCasts_S2x16_S32)))

abbrev zero8 : FVec Ideal S32x128x8 .f32 := broadcastInDim S32x128x8 ![] bcast_S_S32x128x8 (constant S_ .f32 0x00000000#32)
abbrev zero32 : FVec Ideal S32x128x32 .f32 := broadcastInDim S32x128x32 ![] bcast_S_S32x128x32 (constant S_ .f32 0x00000000#32)

def softplus8 (x : FVec Ideal S32x128x8 .f32) : FVec Ideal S32x128x8 .f32 :=
  select (cmpf .une (subf x zero8) (subf x zero8)) (addf x zero8)
    (addf (maximumf x zero8) (Host.log1p (Host.exp (Host.negf (Host.absf (subf x zero8))))))

def softplus32 (x : FVec Ideal S32x128x32 .f32) : FVec Ideal S32x128x32 .f32 :=
  select (cmpf .une (subf x zero32) (subf x zero32)) (addf x zero32)
    (addf (maximumf x zero32) (Host.log1p (Host.exp (Host.negf (Host.absf (subf x zero32))))))

def before : IVec S128x128 1 :=
  cmpi .sge (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

def behind : IVec S128x128 1 :=
  cmpi .sle (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

def kept4 (M : IVec S128x128 1) (x : FVec Ideal S32x128x4 .f32) (v : FVec Ideal S_ .f32) : FVec Ideal S32x128x128x4 .f32 :=
  select (broadcastInDim S32x128x128x4 ![0, 1, 2, 3] bcast_S1x128x128x1_S32x128x128x4_0_1_2_3 (broadcastInDim S1x128x128x1 ![1, 2] bcast_S128x128_S1x128x128x1_1_2 M))
    (broadcastInDim S32x128x128x4 ![0, 1, 2, 3] bcast_S32x1x128x4_S32x128x128x4_0_1_2_3 (broadcastInDim S32x1x128x4 ![0, 2, 3] bcast_S32x128x4_S32x1x128x4_0_2_3 x))
    (broadcastInDim S32x128x128x4 ![] bcast_S_S32x128x128x4 v)

def kept16 (M : IVec S128x128 1) (x : FVec Ideal S32x128x16 .f32) (v : FVec Ideal S_ .f32) : FVec Ideal S32x128x128x16 .f32 :=
  select (broadcastInDim S32x128x128x16 ![0, 1, 2, 3] bcast_S1x128x128x1_S32x128x128x16_0_1_2_3 (broadcastInDim S1x128x128x1 ![1, 2] bcast_S128x128_S1x128x128x1_1_2 M))
    (broadcastInDim S32x128x128x16 ![0, 1, 2, 3] bcast_S32x1x128x16_S32x128x128x16_0_1_2_3 (broadcastInDim S32x1x128x16 ![0, 2, 3] bcast_S32x128x16_S32x1x128x16_0_2_3 x))
    (broadcastInDim S32x128x128x16 ![] bcast_S_S32x128x128x16 v)

def sum4 (M : IVec S128x128 1) (x : FVec Ideal S32x128x4 .f32) : FVec Ideal S32x128x4 .f32 :=
  Host.reduceAdd (kept4 M x (constant S_ .f32 0x00000000#32)) (constant S_ .f32 0x00000000#32) reducesTo_S32x128x128x4_S32x128x4_d2 h_S_

def max4 (M : IVec S128x128 1) (x : FVec Ideal S32x128x4 .f32) : FVec Ideal S32x128x4 .f32 :=
  Host.reduce (FloatOps.maximumf (F := Ideal) (φ := .f32)) (kept4 M x (constant S_ .f32 0xFF800000#32)) (constant (F := Ideal) S_ .f32 0xFF800000#32)
    reducesTo_S32x128x128x4_S32x128x4_d2 h_S_

def sum16 (M : IVec S128x128 1) (x : FVec Ideal S32x128x16 .f32) : FVec Ideal S32x128x16 .f32 :=
  Host.reduceAdd (kept16 M x (constant S_ .f32 0x00000000#32)) (constant S_ .f32 0x00000000#32) reducesTo_S32x128x128x16_S32x128x16_d2 h_S_

def join8 (x y : FVec Ideal S32x128x4 .f32) : FVec Ideal S32x128x8 .f32 :=
  concatenate S32x128x8 2 [⟨S32x128x4, x⟩, ⟨S32x128x4, y⟩] concatenates_S32x128x4_S32x128x4_S32x128x8_d2

def join32 (x y : FVec Ideal S32x128x16 .f32) : FVec Ideal S32x128x32 .f32 :=
  concatenate S32x128x32 2 [⟨S32x128x16, x⟩, ⟨S32x128x16, y⟩] concatenates_S32x128x16_S32x128x16_S32x128x32_d2

def sums8 (x : FVec Ideal S32x128x8 .f32) : FVec Ideal S32x128x8 .f32 :=
  join8 (sum4 before (extractStridedSlice S32x128x4 ![0, 0, 0] x slices_S32x128x8_S32x128x4_0_0_0))
    (sum4 behind (extractStridedSlice S32x128x4 ![0, 0, 4] x slices_S32x128x8_S32x128x4_0_0_4))

def maxima8 (x : FVec Ideal S32x128x8 .f32) : FVec Ideal S32x128x8 .f32 :=
  join8 (max4 before (extractStridedSlice S32x128x4 ![0, 0, 0] x slices_S32x128x8_S32x128x4_0_0_0))
    (max4 behind (extractStridedSlice S32x128x4 ![0, 0, 4] x slices_S32x128x8_S32x128x4_0_0_4))

def sums32 (x : FVec Ideal S32x128x32 .f32) : FVec Ideal S32x128x32 .f32 :=
  join32 (sum16 before (extractStridedSlice S32x128x16 ![0, 0, 0] x slices_S32x128x32_S32x128x16_0_0_0))
    (sum16 behind (extractStridedSlice S32x128x16 ![0, 0, 16] x slices_S32x128x32_S32x128x16_0_0_16))

def bR (f : FVec Ideal S32x128x8 .f32) : FVec Ideal S32x128x8 .f32 := sums8 (Host.negf (softplus8 (Host.negf f)))

def uR (i f : FVec Ideal S32x128x8 .f32) : FVec Ideal S32x128x8 .f32 := subf i (bR f)

def cuR (i f : FVec Ideal S32x128x8 .f32) : FVec Ideal S32x128x8 .f32 := maxima8 (uR i f)

def csR (A : FVec Ideal S2x16 .f32) (d : FVec Ideal S32x128x32 .f32) : FVec Ideal S32x128x32 .f32 :=
  sums32 (mulf (softplus32 d) (broadcastInDim S32x128x32 ![0, 1, 2] bcast_S1x1x32_S32x128x32_0_1_2
    (broadcastInDim S1x1x32 ![2] bcast_S32_S1x1x32_2 (Host.negf (Host.exp (shapeCast _ A shapeCasts_S2x16_S32))))))

def totals (x : FVec Ideal S32x128x32 .f32) : FVec Ideal S32x128x32 .f32 :=
  broadcastInDim S32x128x32 ![0, 1, 2] bcast_S32x1x32_S32x128x32_0_1_2
    (concatenate S32x1x32 2 [⟨S32x1x16, extractStridedSlice S32x1x16 ![0, 127, 0] x slices_S32x128x32_S32x1x16_0_127_0⟩,
      ⟨S32x1x16, extractStridedSlice S32x1x16 ![0, 0, 16] x slices_S32x128x32_S32x1x16_0_0_16⟩] concatenates_S32x1x16_S32x1x16_S32x1x32_d2)

def wkR (cs d : FVec Ideal S32x128x32 .f32) : FVec Ideal S32x128x32 .f32 := mulf (Host.exp (subf (totals cs) cs)) (softplus32 d)

def qR (cs d : FVec Ideal S32x128x32 .f32) : FVec Ideal S32x128x32 .f32 := subf cs (Host.log (softplus32 d))

def colR (cu b : FVec Ideal S32x128x8 .f32) (cs : FVec Ideal S32x128x32 .f32) : FVec Ideal S4096x48 .f32 :=
  shapeCast _ (concatenate S32x128x48 2 [⟨S32x128x8, cu⟩, ⟨S32x128x8, b⟩, ⟨S32x128x32, cs⟩] concatenates_S32x128x8_S32x128x8_S32x128x32_S32x128x48_d2 : FVec Ideal S32x128x48 .f32)
    shapeCasts_S32x128x48_S4096x48

def unitsR (b : FVec Ideal S32x128x8 .f32) : FVec Ideal S4096x8 .f32 := shapeCast _ b shapeCasts_S32x128x8_S4096x8

def startR (u : FVec Ideal S32x128x8 .f32) : FVec Ideal S32x8x128 .f32 := transpose S32x8x128 [0, 2, 1] u transposes_S32x128x8_S32x8x128_0_2_1

def rowR (q wk : FVec Ideal S32x128x32 .f32) (cu b : FVec Ideal S32x128x8 .f32) : FVec Ideal S32x80x128 .f32 :=
  transpose S32x80x128 [0, 2, 1] (concatenate S32x128x80 2 [⟨S32x128x32, q⟩, ⟨S32x128x32, wk⟩, ⟨S32x128x8, cu⟩, ⟨S32x128x8, b⟩]
    concatenates_S32x128x32_S32x128x32_S32x128x8_S32x128x8_S32x128x80_d2 : FVec Ideal S32x128x80 .f32) transposes_S32x128x80_S32x80x128_0_2_1

variable (m : (ℓ : Loc nD τ sig) → Buf (Elt Ideal) ℓ)

abbrev cI (c : Dev nD) : FVec Ideal S32x128x8 .f32 := inputs (m ((c.tc : Thread nD τ).loc main_arg0)) (m ((c.tc : Thread nD τ).loc main_arg1))
abbrev cF (c : Dev nD) : FVec Ideal S32x128x8 .f32 := forgets (m ((c.tc : Thread nD τ).loc main_arg0)) (m ((c.tc : Thread nD τ).loc main_arg2))
abbrev cD (c : Dev nD) : FVec Ideal S32x128x32 .f32 := steps (m ((c.tc : Thread nD τ).loc main_arg0)) (m ((c.tc : Thread nD τ).loc main_arg3))
abbrev cS (c : Dev nD) : FVec Ideal S32x128x32 .f32 := csR (m ((c.tc : Thread nD τ).loc main_arg4)) (cD m c)

theorem term_col (c : Dev nD) : Value.res_main_v102 m c = colR (cuR (cI m c) (cF m c)) (bR (cF m c)) (cS m c) := rfl
theorem term_units (c : Dev nD) : Value.res_main_v103 m c = unitsR (bR (cF m c)) := rfl
theorem term_start (c : Dev nD) : Value.res_main_v104 m c = startR (uR (cI m c) (cF m c)) := rfl
theorem term_row (c : Dev nD) : Value.res_main_v105 m c = rowR (qR (cS m c) (cD m c)) (wkR (cS m c) (cD m c)) (cuR (cI m c) (cF m c)) (bR (cF m c)) := rfl

/-! ## At an index -/

/-- Token `t` of chunk `p`, among all. -/
abbrev tok (p : Fin 32) (t : Fin 128) : Fin 4096 := ⟨128 * p.val + t.val, by omega⟩

theorem inputs_at (G : FVec Ideal S4096x128 .f32) (B : FVec Ideal S2x4 .f32) (p : Fin 32) (t : Fin 128) (n : Fin 8) :
    (inputs G B (ix3 p t n) : EReal) = (G (ix2 (tok p t) ⟨n.val, by omega⟩) : EReal) + (B (ix2 ⟨n.val / 4, by omega⟩ ⟨n.val % 4, by omega⟩) : EReal) := by
  pointwise [inputs]
  refine congrArg (· + _) (congrArg (fun k : Fin 4096 => G (ix2 k _)) (Fin.ext ?_))
  show p.val * 128 + t.val = 128 * p.val + t.val
  omega

theorem forgets_at (G : FVec Ideal S4096x128 .f32) (B : FVec Ideal S2x4 .f32) (p : Fin 32) (t : Fin 128) (n : Fin 8) :
    (forgets G B (ix3 p t n) : EReal) = (G (ix2 (tok p t) ⟨8 + n.val, by omega⟩) : EReal) + (B (ix2 ⟨n.val / 4, by omega⟩ ⟨n.val % 4, by omega⟩) : EReal) := by
  pointwise [forgets]
  refine congrArg (· + _) (congrArg (fun k : Fin 4096 => G (ix2 k _)) (Fin.ext ?_))
  show p.val * 128 + t.val = 128 * p.val + t.val
  omega

theorem steps_at (G : FVec Ideal S4096x128 .f32) (B : FVec Ideal S2x16 .f32) (p : Fin 32) (t : Fin 128) (h : Fin 32) :
    (steps G B (ix3 p t h) : EReal) = (G (ix2 (tok p t) ⟨16 + h.val, by omega⟩) : EReal) + (B (ix2 ⟨h.val / 16, by omega⟩ ⟨h.val % 16, by omega⟩) : EReal) := by
  pointwise [steps]
  refine congrArg (· + _) (congrArg (fun k : Fin 4096 => G (ix2 k _)) (Fin.ext ?_))
  show p.val * 128 + t.val = 128 * p.val + t.val
  omega

theorem never (x a b : EReal) : Scalar.select (BitVec.ofBool (decide (x ≠ x))) a b = b := by
  have : decide (x ≠ x) = false := by simp
  rw [this]; rfl

theorem softplus8_at (x : FVec Ideal S32x128x8 .f32) (p : Fin 32) (t : Fin 128) (n : Fin 8) : (softplus8 x (ix3 p t n) : EReal) = rate (x (ix3 p t n)) := by
  pointwise [softplus8, rate, soft, never, sub_zero]

theorem softplus32_at (x : FVec Ideal S32x128x32 .f32) (p : Fin 32) (t : Fin 128) (n : Fin 32) : (softplus32 x (ix3 p t n) : EReal) = rate (x (ix3 p t n)) := by
  pointwise [softplus32, rate, soft, never, sub_zero]

theorem before_at (t s : Fin 128) : before (ix2 t s) = if s ≤ t then 1#1 else 0#1 := by
  have e : ∀ t s : Fin 128, IntOp.cmpi CmpIPredicate.sge (BitVec.ofNat 32 ↑t) (BitVec.ofNat 32 ↑s) = if s ≤ t then 1#1 else 0#1 := by decide +kernel
  pointwise [before]
  exact e t s

theorem behind_at (t s : Fin 128) : behind (ix2 t s) = if t ≤ s then 1#1 else 0#1 := by
  have e : ∀ t s : Fin 128, IntOp.cmpi CmpIPredicate.sle (BitVec.ofNat 32 ↑t) (BitVec.ofNat 32 ↑s) = if t ≤ s then 1#1 else 0#1 := by decide +kernel
  pointwise [behind]
  exact e t s

theorem kept4_at (M : IVec S128x128 1) (x : FVec Ideal S32x128x4 .f32) (v : FVec Ideal S_ .f32) (p : Fin 32) (t s : Fin 128) (n : Fin 4) :
    (kept4 M x v (ix4 p t s n) : EReal) = Scalar.select (M (ix2 t s)) (x (ix3 p s n)) (v ix0) := by
  pointwise [kept4]

theorem kept16_at (M : IVec S128x128 1) (x : FVec Ideal S32x128x16 .f32) (v : FVec Ideal S_ .f32) (p : Fin 32) (t s : Fin 128) (n : Fin 16) :
    (kept16 M x v (ix4 p t s n) : EReal) = Scalar.select (M (ix2 t s)) (x (ix3 p s n)) (v ix0) := by
  pointwise [kept16]

theorem sum4_at (M : IVec S128x128 1) (x : FVec Ideal S32x128x4 .f32) (p : Fin 32) (t : Fin 128) (n : Fin 4) :
    (sum4 M x (ix3 p t n) : EReal) = ∑ s : Fin 128, Scalar.select (M (ix2 t s)) (x (ix3 p s n) : EReal) 0 := by
  pointwise [sum4, kept4_at]

theorem sum16_at (M : IVec S128x128 1) (x : FVec Ideal S32x128x16 .f32) (p : Fin 32) (t : Fin 128) (n : Fin 16) :
    (sum16 M x (ix3 p t n) : EReal) = ∑ s : Fin 128, Scalar.select (M (ix2 t s)) (x (ix3 p s n) : EReal) 0 := by
  pointwise [sum16, kept16_at]

theorem ninf : Ideal.ofBits FTy.f32 4286578688#32 = ⊥ := by
  rfl

theorem max4_at (M : IVec S128x128 1) (x : FVec Ideal S32x128x4 .f32) (p : Fin 32) (t : Fin 128) (n : Fin 4) :
    (max4 M x (ix3 p t n) : EReal) = Finset.univ.sup fun s : Fin 128 => Scalar.select (M (ix2 t s)) (x (ix3 p s n) : EReal) ⊥ := by
  pointwise [max4, kept4_at, ninf]
  rfl

theorem select_if (p : Prop) [Decidable p] (a b : EReal) : Scalar.select (if p then 1#1 else 0#1) a b = if p then a else b := by
  by_cases h : p
  · rw [if_pos h, if_pos h]; rfl
  · rw [if_neg h, if_neg h]; rfl

theorem kept_before (t s : Fin 128) (a b : EReal) : Scalar.select (before (ix2 t s)) a b = if sees false t s then a else b := by
  rw [before_at, select_if]
  exact if_congr (by simp [sees]) rfl rfl

theorem kept_behind (t s : Fin 128) (a b : EReal) : Scalar.select (behind (ix2 t s)) a b = if sees true t s then a else b := by
  rw [behind_at, select_if]
  exact if_congr (by simp [sees]) rfl rfl

theorem join8_at (x y : FVec Ideal S32x128x4 .f32) (p : Fin 32) (t : Fin 128) (n : Fin 8) :
    (join8 x y (ix3 p t n) : EReal) = if h : n.val < 4 then (x (ix3 p t ⟨n.val, h⟩) : EReal) else y (ix3 p t ⟨n.val - 4, by omega⟩) := by
  pointwise [join8]

theorem join32_at (x y : FVec Ideal S32x128x16 .f32) (p : Fin 32) (t : Fin 128) (n : Fin 32) :
    (join32 x y (ix3 p t n) : EReal) = if h : n.val < 16 then (x (ix3 p t ⟨n.val, h⟩) : EReal) else y (ix3 p t ⟨n.val - 16, by omega⟩) := by
  pointwise [join32]

theorem low4 (x : FVec Ideal S32x128x8 .f32) (p : Fin 32) (s : Fin 128) (n : Fin 4) :
    (extractStridedSlice S32x128x4 ![0, 0, 0] x slices_S32x128x8_S32x128x4_0_0_0 (ix3 p s n) : EReal) = x (ix3 p s ⟨n.val, by omega⟩) := by
  pointwise

theorem high4 (x : FVec Ideal S32x128x8 .f32) (p : Fin 32) (s : Fin 128) (n : Fin 4) :
    (extractStridedSlice S32x128x4 ![0, 0, 4] x slices_S32x128x8_S32x128x4_0_0_4 (ix3 p s n) : EReal) = x (ix3 p s ⟨4 + n.val, by omega⟩) := by
  pointwise

theorem low16 (x : FVec Ideal S32x128x32 .f32) (p : Fin 32) (s : Fin 128) (n : Fin 16) :
    (extractStridedSlice S32x128x16 ![0, 0, 0] x slices_S32x128x32_S32x128x16_0_0_0 (ix3 p s n) : EReal) = x (ix3 p s ⟨n.val, by omega⟩) := by
  pointwise

theorem high16 (x : FVec Ideal S32x128x32 .f32) (p : Fin 32) (s : Fin 128) (n : Fin 16) :
    (extractStridedSlice S32x128x16 ![0, 0, 16] x slices_S32x128x32_S32x128x16_0_0_16 (ix3 p s n) : EReal) = x (ix3 p s ⟨16 + n.val, by omega⟩) := by
  pointwise

abbrev unitBack (n : Fin 8) : Bool := decide (4 ≤ n.val)
abbrev headBack (h : Fin 32) : Bool := decide (16 ≤ h.val)

theorem sums8_at (x : FVec Ideal S32x128x8 .f32) (p : Fin 32) (t : Fin 128) (n : Fin 8) :
    (sums8 x (ix3 p t n) : EReal) = sumOf (unitBack n) (fun s => x (ix3 p s n)) t := by
  unfold sums8 sumOf
  rw [join8_at]
  by_cases h : n.val < 4
  · rw [dif_pos h, sum4_at, show unitBack n = false from decide_eq_false (by omega)]
    exact Finset.sum_congr rfl fun s _ => by rw [kept_before, low4]
  · rw [dif_neg h, sum4_at, show unitBack n = true from decide_eq_true (by omega)]
    refine Finset.sum_congr rfl fun s _ => ?_
    rw [kept_behind, high4]
    exact congrArg (fun k : Fin 8 => if sees true t s then (x (ix3 p s k) : EReal) else 0) (Fin.ext (by show 4 + (n.val - 4) = n.val; omega))

theorem maxima8_at (x : FVec Ideal S32x128x8 .f32) (p : Fin 32) (t : Fin 128) (n : Fin 8) :
    (maxima8 x (ix3 p t n) : EReal) = maxOf (unitBack n) (fun s => x (ix3 p s n)) t := by
  unfold maxima8 maxOf
  rw [join8_at]
  by_cases h : n.val < 4
  · rw [dif_pos h, max4_at, show unitBack n = false from decide_eq_false (by omega)]
    exact Finset.sup_congr rfl fun s _ => by rw [kept_before, low4]
  · rw [dif_neg h, max4_at, show unitBack n = true from decide_eq_true (by omega)]
    refine Finset.sup_congr rfl fun s _ => ?_
    rw [kept_behind, high4]
    exact congrArg (fun k : Fin 8 => if sees true t s then (x (ix3 p s k) : EReal) else ⊥) (Fin.ext (by show 4 + (n.val - 4) = n.val; omega))

theorem sums32_at (x : FVec Ideal S32x128x32 .f32) (p : Fin 32) (t : Fin 128) (n : Fin 32) :
    (sums32 x (ix3 p t n) : EReal) = sumOf (headBack n) (fun s => x (ix3 p s n)) t := by
  unfold sums32 sumOf
  rw [join32_at]
  by_cases h : n.val < 16
  · rw [dif_pos h, sum16_at, show headBack n = false from decide_eq_false (by omega)]
    exact Finset.sum_congr rfl fun s _ => by rw [kept_before, low16]
  · rw [dif_neg h, sum16_at, show headBack n = true from decide_eq_true (by omega)]
    refine Finset.sum_congr rfl fun s _ => ?_
    rw [kept_behind, high16]
    exact congrArg (fun k : Fin 32 => if sees true t s then (x (ix3 p s k) : EReal) else 0) (Fin.ext (by show 16 + (n.val - 16) = n.val; omega))

theorem logsig_at (f : FVec Ideal S32x128x8 .f32) (p : Fin 32) (t : Fin 128) (n : Fin 8) :
    (Host.negf (softplus8 (Host.negf f)) (ix3 p t n) : EReal) = logsig (f (ix3 p t n)) := by
  refine Eq.trans ?_ (neg_rate_neg _)
  pointwise [softplus8_at]

theorem bR_at (f : FVec Ideal S32x128x8 .f32) (p : Fin 32) (t : Fin 128) (n : Fin 8) :
    (bR f (ix3 p t n) : EReal) = bS (unitBack n) (fun s => f (ix3 p s n)) t := by
  unfold bR bS
  rw [sums8_at]
  exact congrArg (fun g => sumOf _ g t) (funext fun s => logsig_at f p s n)

theorem uR_at (i f : FVec Ideal S32x128x8 .f32) (p : Fin 32) (t : Fin 128) (n : Fin 8) :
    (uR i f (ix3 p t n) : EReal) = uS (unitBack n) (fun s => i (ix3 p s n)) (fun s => f (ix3 p s n)) t := by
  refine (show (uR i f (ix3 p t n) : EReal) = i (ix3 p t n) - bR f (ix3 p t n) from rfl).trans ?_
  rw [bR_at]
  rfl

theorem cuR_at (i f : FVec Ideal S32x128x8 .f32) (p : Fin 32) (t : Fin 128) (n : Fin 8) :
    (cuR i f (ix3 p t n) : EReal) = cuS (unitBack n) (fun s => i (ix3 p s n)) (fun s => f (ix3 p s n)) t := by
  unfold cuR cuS
  rw [maxima8_at]
  exact congrArg (fun g => maxOf _ g t) (funext fun s => uR_at i f p s n)

theorem decay_at (A : FVec Ideal S2x16 .f32) (d : FVec Ideal S32x128x32 .f32) (p : Fin 32) (s : Fin 128) (h : Fin 32) :
    (mulf (softplus32 d) (broadcastInDim S32x128x32 ![0, 1, 2] bcast_S1x1x32_S32x128x32_0_1_2
      (broadcastInDim S1x1x32 ![2] bcast_S32_S1x1x32_2 (Host.negf (Host.exp (shapeCast _ A shapeCasts_S2x16_S32))))) (ix3 p s h) : EReal)
      = rate (d (ix3 p s h)) * -Ideal.exp (A (ix2 ⟨h.val / 16, by omega⟩ ⟨h.val % 16, by omega⟩)) := by
  pointwise [softplus32_at]

theorem csR_at (A : FVec Ideal S2x16 .f32) (d : FVec Ideal S32x128x32 .f32) (p : Fin 32) (t : Fin 128) (h : Fin 32) :
    (csR A d (ix3 p t h) : EReal) = csS (headBack h) (A (ix2 ⟨h.val / 16, by omega⟩ ⟨h.val % 16, by omega⟩)) (fun s => d (ix3 p s h)) t := by
  unfold csR csS
  rw [sums32_at]
  exact congrArg (fun g => sumOf _ g t) (funext fun s => decay_at A d p s h)

theorem totals_at (x : FVec Ideal S32x128x32 .f32) (p : Fin 32) (t : Fin 128) (h : Fin 32) :
    (totals x (ix3 p t h) : EReal) = if headBack h = true then (x (ix3 p 0 h) : EReal) else x (ix3 p 127 h) := by
  have e : (totals x (ix3 p t h) : EReal) = if h.val < 16 then (x (ix3 p 127 h) : EReal) else x (ix3 p 0 ⟨16 + (h.val - 16), by omega⟩) := by
    pointwise [totals]
    rfl
  rw [e]
  by_cases a : h.val < 16
  · rw [if_pos a, if_neg (by simp only [decide_eq_true_eq]; omega)]
  · rw [if_neg a, if_pos (by simp only [decide_eq_true_eq]; omega)]
    exact congrArg (fun k : Fin 32 => x (ix3 p 0 k)) (Fin.ext (by show 16 + (h.val - 16) = h.val; omega))

theorem wkR_at (A : FVec Ideal S2x16 .f32) (d : FVec Ideal S32x128x32 .f32) (p : Fin 32) (t : Fin 128) (h : Fin 32) :
    (wkR (csR A d) d (ix3 p t h) : EReal) = wkS (headBack h) (A (ix2 ⟨h.val / 16, by omega⟩ ⟨h.val % 16, by omega⟩)) (fun s => d (ix3 p s h)) t := by
  refine (show (wkR (csR A d) d (ix3 p t h) : EReal) = Ideal.exp (totals (csR A d) (ix3 p t h) - csR A d (ix3 p t h)) * softplus32 d (ix3 p t h) from rfl).trans ?_
  rw [totals_at, softplus32_at, csR_at, csR_at, csR_at]
  rfl

theorem qR_at (A : FVec Ideal S2x16 .f32) (d : FVec Ideal S32x128x32 .f32) (p : Fin 32) (t : Fin 128) (h : Fin 32) :
    (qR (csR A d) d (ix3 p t h) : EReal) = qS (headBack h) (A (ix2 ⟨h.val / 16, by omega⟩ ⟨h.val % 16, by omega⟩)) (fun s => d (ix3 p s h)) t := by
  refine (show (qR (csR A d) d (ix3 p t h) : EReal) = csR A d (ix3 p t h) - Ideal.log (softplus32 d (ix3 p t h)) from rfl).trans ?_
  rw [softplus32_at, csR_at]
  rfl

/-! ## The packed results -/

theorem colR_at (cu b : FVec Ideal S32x128x8 .f32) (cs : FVec Ideal S32x128x32 .f32) (r : Fin 4096) (l : Fin 48) :
    (colR cu b cs (ix2 r l) : EReal) = if h : l.val < 8 then (cu (ix3 ⟨r.val / 128, by omega⟩ ⟨r.val % 128, by omega⟩ ⟨l.val, h⟩) : EReal)
      else if h : l.val < 16 then (b (ix3 ⟨r.val / 128, by omega⟩ ⟨r.val % 128, by omega⟩ ⟨l.val - 8, by omega⟩) : EReal)
      else cs (ix3 ⟨r.val / 128, by omega⟩ ⟨r.val % 128, by omega⟩ ⟨l.val - 16, by omega⟩) := by
  pointwise [colR]
  by_cases h1 : l.val < 8
  · refine (dif_pos h1).trans (Eq.trans ?_ (dif_pos h1).symm)
    rfl
  refine (dif_neg h1).trans (Eq.trans ?_ (dif_neg h1).symm)
  by_cases h2 : l.val < 16
  · refine (dif_pos (by omega)).trans (Eq.trans ?_ (dif_pos h2).symm)
    rfl
  refine (dif_neg (by omega)).trans (Eq.trans ?_ (dif_neg h2).symm)
  exact congrArg (fun k : Fin 32 => cs (ix3 _ _ k)) (Fin.ext (by show l.val - 8 - 8 = l.val - 16; omega))

theorem unitsR_at (b : FVec Ideal S32x128x8 .f32) (r : Fin 4096) (n : Fin 8) :
    (unitsR b (ix2 r n) : EReal) = b (ix3 ⟨r.val / 128, by omega⟩ ⟨r.val % 128, by omega⟩ n) := by
  pointwise [unitsR]

theorem startR_at (u : FVec Ideal S32x128x8 .f32) (p : Fin 32) (n : Fin 8) (t : Fin 128) : (startR u (ix3 p n t) : EReal) = u (ix3 p t n) := by
  pointwise [startR]

theorem rowR_at (q wk : FVec Ideal S32x128x32 .f32) (cu b : FVec Ideal S32x128x8 .f32) (p : Fin 32) (l : Fin 80) (t : Fin 128) :
    (rowR q wk cu b (ix3 p l t) : EReal) = if h : l.val < 32 then (q (ix3 p t ⟨l.val, h⟩) : EReal)
      else if h : l.val < 64 then (wk (ix3 p t ⟨l.val - 32, by omega⟩) : EReal)
      else if h : l.val < 72 then (cu (ix3 p t ⟨l.val - 64, by omega⟩) : EReal)
      else b (ix3 p t ⟨l.val - 72, by omega⟩) := by
  pointwise [rowR]
  by_cases h1 : l.val < 32
  · refine (dif_pos h1).trans (Eq.trans ?_ (dif_pos h1).symm)
    rfl
  refine (dif_neg h1).trans (Eq.trans ?_ (dif_neg h1).symm)
  by_cases h2 : l.val < 64
  · refine (dif_pos (by omega)).trans (Eq.trans ?_ (dif_pos h2).symm)
    rfl
  refine (dif_neg (by omega)).trans (Eq.trans ?_ (dif_neg h2).symm)
  by_cases h3 : l.val < 72
  · refine (dif_pos (by omega)).trans (Eq.trans ?_ (dif_pos h3).symm)
    exact congrArg (fun k : Fin 8 => cu (ix3 p t k)) (Fin.ext (by show l.val - 32 - 32 = l.val - 64; omega))
  refine (dif_neg (by omega)).trans (Eq.trans ?_ (dif_neg h3).symm)
  exact congrArg (fun k : Fin 8 => b (ix3 p t k)) (Fin.ext (by show l.val - 32 - 32 - 8 = l.val - 72; omega))

end Cert.Reference7Ideal.Gates

end
-- ==== Proof.Gates.Claim.lean ====
module

public import proofs.«01_k».proof.Defs
public import proofs.«01_k».proof.Proof.Gates.Array
public import proofs.«01_k».proof.Proof.Gates.Reference
public import proofs.«01_k».proof.Proof.Gen.Kernel7.Frame
public import Idealize.ShloMosaic.Lib.Claim

/-! # The gates' scans equal their reference -/

@[expose] public section

set_option maxRecDepth 16384

noncomputable section

namespace Cert.Gates

open Idealize.ShloMosaic Idealize.ShloMosaic.TcCoe Idealize.SL.Sem
open Cert.Kernel7Ideal.Gates
open Cert.Reference7Ideal.Gates (inputs forgets steps bR uR cuR csR wkR qR colR unitsR startR rowR inputs_at forgets_at steps_at
  bR_at uR_at cuR_at csR_at wkR_at qR_at colR_at unitsR_at startR_at rowR_at term_col term_units term_start term_row)

variable (m : (ℓ : Loc Cert.Kernel7Ideal.nD Cert.Kernel7Ideal.τ Cert.Kernel7Ideal.sig) → Buf (Elt Ideal) ℓ) (ρ : Dev Cert.Kernel7Ideal.nD → PrngReg)

section Reference

variable (c : Dev Cert.Kernel7Ideal.nD)

abbrev rI : FVec Ideal Cert.Reference7Ideal.S32x128x8 .f32 := inputs (aG m c) (aI m c)
abbrev rF : FVec Ideal Cert.Reference7Ideal.S32x128x8 .f32 := forgets (aG m c) (aF m c)
abbrev rD : FVec Ideal Cert.Reference7Ideal.S32x128x32 .f32 := steps (aG m c) (aD m c)
abbrev rC : FVec Ideal Cert.Reference7Ideal.S32x128x32 .f32 := csR (aA m c) (rD m c)

theorem rI_eq (p : Fin 32) (n : Fin 8) : (fun s => (rI m c (ix3 p s n) : EReal)) = inG m c p n := funext fun s => inputs_at _ _ p s n
theorem rF_eq (p : Fin 32) (n : Fin 8) : (fun s => (rF m c (ix3 p s n) : EReal)) = forgetG m c p n := funext fun s => forgets_at _ _ p s n
theorem rD_eq (p : Fin 32) (h : Fin 32) : (fun s => (rD m c (ix3 p s h) : EReal)) = stepG m c p h := funext fun s => steps_at _ _ p s h

theorem b_eq (p : Fin 32) (t : Fin 128) (n : Fin 8) : (bR (rF m c) (ix3 p t n) : EReal) = bS (unitBack n) (forgetG m c p n) t := by
  rw [bR_at, rF_eq]

theorem u_eq (p : Fin 32) (t : Fin 128) (n : Fin 8) : (uR (rI m c) (rF m c) (ix3 p t n) : EReal) = uS (unitBack n) (inG m c p n) (forgetG m c p n) t := by
  rw [uR_at, rI_eq, rF_eq]

theorem cu_eq (p : Fin 32) (t : Fin 128) (n : Fin 8) : (cuR (rI m c) (rF m c) (ix3 p t n) : EReal) = cuS (unitBack n) (inG m c p n) (forgetG m c p n) t := by
  rw [cuR_at, rI_eq, rF_eq]

theorem cs_eq (p : Fin 32) (t : Fin 128) (h : Fin 32) : (rC m c (ix3 p t h) : EReal) = csS (headBack h) (rateG m c h) (stepG m c p h) t := by
  refine (csR_at _ _ p t h).trans ?_
  rw [rD_eq]
  rfl

theorem wk_eq (p : Fin 32) (t : Fin 128) (h : Fin 32) : (wkR (rC m c) (rD m c) (ix3 p t h) : EReal) = wkS (headBack h) (rateG m c h) (stepG m c p h) t := by
  rw [wkR_at, rD_eq]
  rfl

theorem q_eq (p : Fin 32) (t : Fin 128) (h : Fin 32) : (qR (rC m c) (rD m c) (ix3 p t h) : EReal) = qS (headBack h) (rateG m c h) (stepG m c p h) t := by
  rw [qR_at, rD_eq]
  rfl

theorem ref_col : colR (cuR (rI m c) (rF m c)) (bR (rF m c)) (rC m c) = colArr m c := by
  funext i
  idx_vars i
  refine (colR_at _ _ _ i0 i1).trans ?_
  simp only [cu_eq, b_eq, cs_eq]
  rfl

theorem ref_unit : unitsR (bR (rF m c)) = unitArr m c := by
  funext i
  idx_vars i
  refine (unitsR_at _ i0 i1).trans ((b_eq m c _ _ _).trans ?_)
  rfl

theorem ref_start : startR (uR (rI m c) (rF m c)) = startArr m c := by
  funext i
  idx_vars i
  refine (startR_at _ i0 i1 i2).trans ((u_eq m c _ _ _).trans ?_)
  rfl

theorem ref_row : rowR (qR (rC m c) (rD m c)) (wkR (rC m c) (rD m c)) (cuR (rI m c) (rF m c)) (bR (rF m c)) = rowArr m c := by
  funext i
  idx_vars i
  refine (rowR_at _ _ _ _ i0 i1 i2).trans ?_
  simp only [q_eq, wk_eq, cu_eq, b_eq]
  rfl

end Reference

/-- The kernel's run: the four results by their entries. -/
theorem kernel_run : θ_run Cert.Kernel7Ideal.defs (onTc (τ := Cert.Kernel7Ideal.τ) Cert.Kernel7Ideal.main) ⟨m, fun _ => 0, ρ⟩ fun r => ∀ c : Dev Cert.Kernel7Ideal.nD,
    r.2.mem ((c.tc : Thread Cert.Kernel7Ideal.nD Cert.Kernel7Ideal.τ).loc Cert.Kernel7Ideal.main_v13) = colArr m c
    ∧ r.2.mem ((c.tc : Thread Cert.Kernel7Ideal.nD Cert.Kernel7Ideal.τ).loc Cert.Kernel7Ideal.main_v14) = unitArr m c
    ∧ r.2.mem ((c.tc : Thread Cert.Kernel7Ideal.nD Cert.Kernel7Ideal.τ).loc Cert.Kernel7Ideal.main_v15) = startArr m c
    ∧ r.2.mem ((c.tc : Thread Cert.Kernel7Ideal.nD Cert.Kernel7Ideal.τ).loc Cert.Kernel7Ideal.main_v16) = rowArr m c :=
  (θ_run Cert.Kernel7Ideal.defs _ _).mono
    (fun _ h c => ⟨((h c).2 Cert.Kernel7Ideal.main_v13 (by decide)).trans (tail_col m c), ((h c).2 Cert.Kernel7Ideal.main_v14 (by decide)).trans (tail_unit m c),
      ((h c).2 Cert.Kernel7Ideal.main_v15 (by decide)).trans (tail_start m c), ((h c).2 Cert.Kernel7Ideal.main_v16 (by decide)).trans (tail_row m c)⟩)
    (Cert.Kernel7Ideal.Gen.run_main m ρ)

theorem algebraic : Cert.algebraic_Kernel7Ideal_Reference7Ideal := by
  intro m ρ m' ρ' _ hagree
  refine ⟨fun c => colArr m c, fun c => unitArr m c, fun c => startArr m c, fun c => rowArr m c, ?_, ?_⟩
  · exact (θ_run Cert.Kernel7Ideal.defs _ _).mono (fun _ h c => ⟨(h.1 c).1, (h.1 c).2.1, (h.1 c).2.2.1, (h.1 c).2.2.2, h.2.1 c⟩)
      (θ_run_and (kernel_run m ρ) (Cert.Kernel7Ideal.Gen.frame m ρ))
  · refine (θ_run Cert.Reference7Ideal.defs _ _).mono (fun r h c => ?_) (Cert.Reference7Ideal.Value.run (F := Ideal) m' ρ')
    obtain ⟨h0, h1, h2, h3, h4⟩ := hagree c
    refine ⟨((h c).1.trans (term_col m' c)).trans ?_, ((h c).2.1.trans (term_units m' c)).trans ?_, ((h c).2.2.1.trans (term_start m' c)).trans ?_,
      ((h c).2.2.2.1.trans (term_row m' c)).trans ?_, (h c).2.2.2.2⟩
    · dsimp only [Cert.Reference7Ideal.Gates.cI, Cert.Reference7Ideal.Gates.cF, Cert.Reference7Ideal.Gates.cS, Cert.Reference7Ideal.Gates.cD]
      rw [h0, h1, h2, h3, h4]
      exact ref_col m c
    · dsimp only [Cert.Reference7Ideal.Gates.cF]
      rw [h0, h2]
      exact ref_unit m c
    · dsimp only [Cert.Reference7Ideal.Gates.cI, Cert.Reference7Ideal.Gates.cF]
      rw [h0, h1, h2]
      exact ref_start m c
    · dsimp only [Cert.Reference7Ideal.Gates.cI, Cert.Reference7Ideal.Gates.cF, Cert.Reference7Ideal.Gates.cS, Cert.Reference7Ideal.Gates.cD]
      rw [h0, h1, h2, h3, h4]
      exact ref_row m c

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

end Cert.Gates

end
-- ==== Proof.OutProjSample.Blocks.lean ====
module

public import proofs.«01_k».proof.Proof.Gen.Kernel8Ideal.Frame
public import proofs.«01_k».proof.Proof.OutProj.Spec
public import Idealize.ShloMosaic.Lib.Pipeline.ValueKit

/-! # The blocks the windows stage, read off the call's arguments -/

@[expose] public section

set_option maxRecDepth 16384

noncomputable section

namespace Cert.Kernel8Ideal.OutProjSample

open Idealize.ShloMosaic Idealize.ShloMosaic.TcCoe Idealize.SL.Sem
open Cert.Kernel8Ideal Cert.Kernel8Ideal.Gen Cert.OutProj

variable (m : (ℓ : Loc nD τ sig) → Buf (Elt Ideal) ℓ)

abbrev bH (c : Dev nD) (t : Fin cfg0.N) : FVec Ideal S512x1024 .bf16 := iblk m c 0 t
abbrev bY (c : Dev nD) (t : Fin cfg0.N) : FVec Ideal S512x1024 .bf16 := iblk m c 1 t
abbrev bW (c : Dev nD) (t : Fin cfg0.N) : FVec Ideal S2048x2048 .bf16 := iblk m c 2 t
abbrev bX (c : Dev nD) (t : Fin cfg0.N) : FVec Ideal S512x2048 .f32 := iblk m c 3 t
abbrev bG (c : Dev nD) (t : Fin cfg0.N) : FVec Ideal S1x1x2048 .f32 := iblk m c 4 t
abbrev bP (c : Dev nD) (t : Fin cfg0.N) : FVec Ideal S1x2048 .f32 := iblk m c 5 t
abbrev bQ (c : Dev nD) (t : Fin cfg0.N) : FVec Ideal S1x2048 .f32 := iblk m c 6 t
abbrev bSc (c : Dev nD) (t : Fin cfg0.N) : FVec Ideal S1x1x2048 .f32 := iblk m c 7 t
abbrev bSh (c : Dev nD) (t : Fin cfg0.N) : FVec Ideal S1x1x2048 .f32 := iblk m c 8 t

abbrev aH (c : Dev nD) : FVec Ideal S2x2048x1024 .bf16 := m ((c : Thread nD τ).loc main_arg0)
abbrev aY (c : Dev nD) : FVec Ideal S2x2048x1024 .bf16 := m ((c : Thread nD τ).loc main_arg1)
abbrev aW (c : Dev nD) : FVec Ideal S2048x2048 .f32 := m ((c : Thread nD τ).loc main_arg2)
abbrev aX (c : Dev nD) : FVec Ideal S2x2048x2048 .f32 := m ((c : Thread nD τ).loc main_arg3)
abbrev aG (c : Dev nD) : FVec Ideal S2x1x2048 .f32 := m ((c : Thread nD τ).loc main_arg4)
abbrev aP (c : Dev nD) : FVec Ideal S2048 .f32 := m ((c : Thread nD τ).loc main_arg5)
abbrev aQ (c : Dev nD) : FVec Ideal S2048 .f32 := m ((c : Thread nD τ).loc main_arg6)
abbrev aSc (c : Dev nD) : FVec Ideal S2x1x2048 .f32 := m ((c : Thread nD τ).loc main_arg7)
abbrev aSh (c : Dev nD) : FVec Ideal S2x1x2048 .f32 := m ((c : Thread nD τ).loc main_arg8)

/-- Where each window stands at each grid point: three take a row block, three the modulation of its sequence, the others all there is. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 4, 0, 0] ∧ win0_5.index t = ![0, 0] ∧ win0_6.index t = ![0, 0]
    ∧ win0_7.index t = ![t.val / 4, 0, 0] ∧ win0_8.index t = ![t.val / 4, 0, 0] ∧ win0_9.index t = ![t.val, 0] ∧ win0_10.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val / 4, 0, 0] ∧ win0_5.index t = ![0, 0] ∧ win0_6.index t = ![0, 0]
    ∧ win0_7.index t = ![t.val / 4, 0, 0] ∧ win0_8.index t = ![t.val / 4, 0, 0] ∧ win0_9.index t = ![t.val, 0] ∧ win0_10.index t = ![t.val, 0])

/-! ## What the host code leaves in the staged arrays -/

theorem V0 (c : Dev nD) : V m c main_v0 = shapeCast S4096x1024 (aH m c) shapeCasts_S2x2048x1024_S4096x1024 := by
  unfold V; simp only [hostOps0, List.flatten_cons, List.flatten_nil, List.append_nil, List.cons_append, List.nil_append]; after_results; try rfl

theorem V1 (c : Dev nD) : V m c main_v1 = shapeCast S4096x1024 (aY m c) shapeCasts_S2x2048x1024_S4096x1024 := by
  unfold V; simp only [hostOps0, List.flatten_cons, List.flatten_nil, List.append_nil, List.cons_append, List.nil_append]; after_results; try rfl

theorem V2 (c : Dev nD) : V m c main_v2 = truncf .bf16 (aW m c) bitsLt_bf16_f32 := by
  unfold V; simp only [hostOps0, List.flatten_cons, List.flatten_nil, List.append_nil, List.cons_append, List.nil_append]; after_results; try rfl

theorem V3 (c : Dev nD) : V m c main_v3 = shapeCast S4096x2048 (aX m c) shapeCasts_S2x2048x2048_S4096x2048 := by
  unfold V; simp only [hostOps0, List.flatten_cons, List.flatten_nil, List.append_nil, List.cons_append, List.nil_append]; after_results; try rfl

theorem V4 (c : Dev nD) : V m c main_v4 = shapeCast S1x2048 (aP m c) shapeCasts_S2048_S1x2048 := by
  unfold V; simp only [hostOps0, List.flatten_cons, List.flatten_nil, List.append_nil, List.cons_append, List.nil_append]; after_results; try rfl

theorem V5 (c : Dev nD) : V m c main_v5 = shapeCast S1x2048 (aQ m c) shapeCasts_S2048_S1x2048 := by
  unfold V; simp only [hostOps0, List.flatten_cons, List.flatten_nil, List.append_nil, List.cons_append, List.nil_append]; after_results; try rfl

/-! ## The tokens of a block -/

theorem row_lt (t : Fin cfg0.N) (r : Fin 512) : 512 * t.val + r.val < 4096 := by
  have := t.isLt; have : cfg0.N = 8 := N_0; omega

/-- The token in row `r` of block `t`, among all. -/
abbrev tok (t : Fin cfg0.N) (r : Fin 512) : Fin 4096 := ⟨512 * t.val + r.val, row_lt t r⟩

/-- The sequence a token is in, and its place there. -/
abbrev bat (s : Fin 4096) : Fin 2 := ⟨s.val / 2048, by omega⟩
abbrev pos (s : Fin 4096) : Fin 2048 := ⟨s.val % 2048, Nat.mod_lt _ (by decide)⟩

/-- All rows of a block are in one sequence. -/
theorem bat_tok (t : Fin cfg0.N) (r : Fin 512) : bat (tok t 0) = bat (tok t r) := by
  apply Fin.ext
  show (512 * t.val + 0) / 2048 = (512 * t.val + r.val) / 2048
  omega

theorem bH_at (c : Dev nD) (t : Fin cfg0.N) (r : Fin 512) (k : Fin 1024) :
    (bH m c t (ix2 r k) : EReal) = aH m c (ix3 (bat (tok t r)) (pos (tok t r)) k) := by
  have e : ((win0_0.blk t).view.emb (ix2 r k)) = (ix2 (tok t r) k : S4096x1024.Idx) := by
    blk_ext [idx t]
  show V m c main_v0 ((win0_0.blk t).view.emb (ix2 r k)) = _
  rw [e, V0]
  pointwise

theorem bY_at (c : Dev nD) (t : Fin cfg0.N) (r : Fin 512) (k : Fin 1024) :
    (bY m c t (ix2 r k) : EReal) = aY m c (ix3 (bat (tok t r)) (pos (tok t r)) k) := by
  have e : ((win0_1.blk t).view.emb (ix2 r k)) = (ix2 (tok t r) k : S4096x1024.Idx) := by
    blk_ext [idx t]
  show V m c main_v1 ((win0_1.blk t).view.emb (ix2 r k)) = _
  rw [e, V1]
  pointwise

theorem bW_at (c : Dev nD) (t : Fin cfg0.N) (k n : Fin 2048) : (bW m c t (ix2 k n) : EReal) = aW m c (ix2 k n) := by
  have e : ((win0_2.blk t).view.emb (ix2 k n)) = (ix2 k n : S2048x2048.Idx) := by
    blk_ext [idx t]
  show V m c main_v2 ((win0_2.blk t).view.emb (ix2 k n)) = _
  rw [e, V2]
  pointwise

theorem bX_at (c : Dev nD) (t : Fin cfg0.N) (r : Fin 512) (n : Fin 2048) :
    (bX m c t (ix2 r n) : EReal) = aX m c (ix3 (bat (tok t r)) (pos (tok t r)) n) := by
  have e : ((win0_3.blk t).view.emb (ix2 r n)) = (ix2 (tok t r) n : S4096x2048.Idx) := by
    blk_ext [idx t]
  show V m c main_v3 ((win0_3.blk t).view.emb (ix2 r n)) = _
  rw [e, V3]
  pointwise

theorem bG_at (c : Dev nD) (t : Fin cfg0.N) (n : Fin 2048) : (bG m c t (ix3 0 0 n) : EReal) = aG m c (ix3 (bat (tok t 0)) 0 n) := by
  have e : ((win0_4.blk t).view.emb (ix3 0 0 n)) = (ix3 (bat (tok t 0)) 0 n : S2x1x2048.Idx) := by
    blk_ext [idx t]
  show V m c main_arg4 ((win0_4.blk t).view.emb (ix3 0 0 n)) = _
  rw [e, V_main_arg4]

theorem bP_at (c : Dev nD) (t : Fin cfg0.N) (n : Fin 2048) : (bP m c t (ix2 0 n) : EReal) = aP m c (ix1 n) := by
  have e : ((win0_5.blk t).view.emb (ix2 0 n)) = (ix2 0 n : S1x2048.Idx) := by
    blk_ext [idx t]
  show V m c main_v4 ((win0_5.blk t).view.emb (ix2 0 n)) = _
  rw [e, V4]
  pointwise

theorem bQ_at (c : Dev nD) (t : Fin cfg0.N) (n : Fin 2048) : (bQ m c t (ix2 0 n) : EReal) = aQ m c (ix1 n) := by
  have e : ((win0_6.blk t).view.emb (ix2 0 n)) = (ix2 0 n : S1x2048.Idx) := by
    blk_ext [idx t]
  show V m c main_v5 ((win0_6.blk t).view.emb (ix2 0 n)) = _
  rw [e, V5]
  pointwise

theorem bSc_at (c : Dev nD) (t : Fin cfg0.N) (n : Fin 2048) : (bSc m c t (ix3 0 0 n) : EReal) = aSc m c (ix3 (bat (tok t 0)) 0 n) := by
  have e : ((win0_7.blk t).view.emb (ix3 0 0 n)) = (ix3 (bat (tok t 0)) 0 n : S2x1x2048.Idx) := by
    blk_ext [idx t]
  show V m c main_arg7 ((win0_7.blk t).view.emb (ix3 0 0 n)) = _
  rw [e, V_main_arg7]

theorem bSh_at (c : Dev nD) (t : Fin cfg0.N) (n : Fin 2048) : (bSh m c t (ix3 0 0 n) : EReal) = aSh m c (ix3 (bat (tok t 0)) 0 n) := by
  have e : ((win0_8.blk t).view.emb (ix3 0 0 n)) = (ix3 (bat (tok t 0)) 0 n : S2x1x2048.Idx) := by
    blk_ext [idx t]
  show V m c main_arg8 ((win0_8.blk t).view.emb (ix3 0 0 n)) = _
  rw [e, V_main_arg8]

end Cert.Kernel8Ideal.OutProjSample

end
-- ==== Proof.OutProjSample.Pure.lean ====
module

public import proofs.«01_k».proof.Proof.Gen.Kernel8Ideal.Skeleton
public import proofs.«01_k».proof.Proof.OutProj.Spec

/-! # What the two halves of a block compute, at an index -/

@[expose] public section

set_option maxRecDepth 16384

noncomputable section

namespace Cert.Kernel8Ideal.OutProjSample

open Idealize.ShloMosaic Idealize.ShloMosaic.TcCoe Idealize.SL.Sem
open Cert.Kernel8Ideal Cert.Kernel8Ideal.Gen Cert.OutProj

variable (h y : FVec Ideal S256x1024 .bf16) (w : FVec Ideal S2048x2048 .bf16) (x : FVec Ideal S256x2048 .f32)
  (g : FVec Ideal S1x1x2048 .f32) (p q : FVec Ideal S1x2048 .f32) (sc sh : FVec Ideal S1x1x2048 .f32)

/-- A row's products with the projection. -/
abbrev rowMix (r : Fin 256) : Fin 2048 → EReal :=
  fun n => mixed (fun k => h (ix2 r k)) (fun k => y (ix2 r k)) (fun k => w (ix2 k n))

/-- A row of the stream after the mixers. -/
abbrev rowStream (r : Fin 256) : Fin 2048 → EReal :=
  stream (fun l => x (ix2 r l)) (fun l => g (ix3 0 0 l)) (rowMix h y w r) (fun l => p (ix2 0 l))

theorem products_at (r : Fin 256) (n : Fin 2048) : (k0_pay5 (F := Ideal) h y w (ix2 r n) : EReal) = rowMix h y w r n := by
  pointwise [k0_pay5, mixed, side]

theorem squares_at (r : Fin 256) : (k0_pay8 (F := Ideal) h y w (ix2 r 0) : EReal) = ∑ n : Fin 2048, rowMix h y w r n * rowMix h y w r n := by
  have e := products_at h y w r
  unfold k0_pay8
  generalize k0_pay5 (F := Ideal) h y w = z at e
  pointwise
  exact Finset.sum_congr rfl fun n _ => congrArg₂ (· * ·) (e n) (e n)

/-- The second half's part of the stream. -/
theorem stream_low_at (r : Fin 256) (n : Fin 2048) :
    (k0_pay9 (F := Ideal) (k0_pay5 h y w) (k0_pay6 x) (k0_pay7 g) (k0_pay8 h y w) p (ix2 r n) : EReal) = rowStream h y w x g p r n := by
  have e := products_at h y w r n
  have s := squares_at h y w r
  generalize k0_pay5 (F := Ideal) h y w = z at e ⊢
  generalize k0_pay8 (F := Ideal) h y w = z' at s ⊢
  pointwise [k0_pay9, k0_pay6, k0_pay7]
  rw [e, s]
  rfl

/-- The first half computes the same. -/
theorem first_eq : k0_pay1 (F := Ideal) h y w x g p = k0_pay9 (k0_pay5 h y w) (k0_pay6 x) (k0_pay7 g) (k0_pay8 h y w) p := rfl

theorem stream_high_at (r : Fin 256) (n : Fin 2048) :
    (k0_pay1 (F := Ideal) h y w x g p (ix2 r n) : EReal) = rowStream h y w x g p r n := by
  rw [first_eq]
  exact stream_low_at h y w x g p r n

/-- The first half's part of the MLP's input. -/
theorem entry_high_at (r : Fin 256) (n : Fin 2048) :
    (k0_pay4 (F := Ideal) (k0_pay1 h y w x g p) (k0_pay2 h y w x g p) k0_pay3 q sc sh (ix2 r n) : EReal)
      = entry (rowStream h y w x g p r) (fun l => q (ix2 0 l)) (fun l => sc (ix3 0 0 l)) (fun l => sh (ix3 0 0 l)) n := by
  have e := stream_high_at h y w x g p r
  unfold k0_pay2
  generalize k0_pay1 (F := Ideal) h y w x g p = z at e ⊢
  generalize rowStream h y w x g p r = v at e ⊢
  pointwise [k0_pay4, k0_pay3]
  simp only [e]
  rfl

theorem entry_low_at (r : Fin 256) (n : Fin 2048) :
    (k0_pay10 (F := Ideal) (k0_pay5 h y w) (k0_pay6 x) (k0_pay7 g) (k0_pay8 h y w) p q sc sh (ix2 r n) : EReal)
      = entry (rowStream h y w x g p r) (fun l => q (ix2 0 l)) (fun l => sc (ix3 0 0 l)) (fun l => sh (ix3 0 0 l)) n := by
  have e := stream_low_at h y w x g p r
  unfold k0_pay10
  generalize k0_pay9 (F := Ideal) (k0_pay5 h y w) (k0_pay6 x) (k0_pay7 g) (k0_pay8 h y w) p = z at e ⊢
  generalize rowStream h y w x g p r = v at e ⊢
  pointwise
  simp only [e]
  rfl

end Cert.Kernel8Ideal.OutProjSample

end
-- ==== Proof.OutProjSample.Array.lean ====
module

public import proofs.«01_k».proof.Proof.OutProjSample.Blocks
public import proofs.«01_k».proof.Proof.OutProjSample.Pure
public import Idealize.ShloMosaic.Lib.Pipeline.ReadBack

/-! # What the two result arrays hold after the run -/

@[expose] public section

set_option maxRecDepth 16384

noncomputable section

namespace Cert.Kernel8Ideal.OutProjSample

open Idealize.ShloMosaic Idealize.ShloMosaic.TcCoe Idealize.SL.Sem
open Cert.Kernel8Ideal Cert.Kernel8Ideal.Gen Cert.OutProj

variable (m : (ℓ : Loc nD τ sig) → Buf (Elt Ideal) ℓ)

/-- A row of a block's products. -/
def mixB (c : Dev nD) (t : Fin cfg0.N) (r : Fin 512) : Fin 2048 → EReal :=
  fun n => mixed (fun k => bH m c t (ix2 r k)) (fun k => bY m c t (ix2 r k)) (fun k => bW m c t (ix2 k n))

/-- A row of a block's stream. -/
def streamB (c : Dev nD) (t : Fin cfg0.N) (r : Fin 512) : Fin 2048 → EReal :=
  stream (fun l => bX m c t (ix2 r l)) (fun l => bG m c t (ix3 0 0 l)) (mixB m c t r) (fun l => bP m c t (ix2 0 l))

/-- A point leaves the stream of its tokens. -/
theorem stream_block (c : Dev nD) (t : Fin cfg0.N) (r : Fin 512) (n : Fin 2048) :
    ((dats m 0 c).after 9 t (ix2 r n) : EReal) = streamB m c t r n := by
  rw [after0_9]
  unfold_out out0_9
  canon_tiles x q
  · idx_vars x
    obtain rfl : r = ⟨256 + x0.val, Nat.lt_of_lt_of_le (Nat.add_lt_add_left x0.isLt 256) (by decide)⟩ := Fin.ext q0
    obtain rfl : n = x1 := Fin.ext q1
    refine (stream_low_at _ _ _ _ _ _ x0 n).trans ?_
    delta rowStream rowMix streamB mixB
    pointwise [bH, bY, bW, bX, bG, bP, bQ, bSc, bSh]
  · idx_vars x
    obtain rfl : r = ⟨x0.val, Nat.lt_trans x0.isLt (by decide)⟩ := Fin.ext q0
    obtain rfl : n = x1 := Fin.ext q1
    refine (stream_high_at _ _ _ _ _ _ x0 n).trans ?_
    delta rowStream rowMix streamB mixB
    pointwise [bH, bY, bW, bX, bG, bP, bQ, bSc, bSh]

/-- And the MLP's input of its tokens. -/
theorem entry_block (c : Dev nD) (t : Fin cfg0.N) (r : Fin 512) (n : Fin 2048) :
    ((dats m 0 c).after 10 t (ix2 r n) : EReal)
      = entry (streamB m c t r) (fun l => bQ m c t (ix2 0 l)) (fun l => bSc m c t (ix3 0 0 l)) (fun l => bSh m c t (ix3 0 0 l)) n := by
  rw [after0_10]
  unfold_out out0_10
  canon_tiles x q
  · idx_vars x
    obtain rfl : r = ⟨256 + x0.val, Nat.lt_of_lt_of_le (Nat.add_lt_add_left x0.isLt 256) (by decide)⟩ := Fin.ext q0
    obtain rfl : n = x1 := Fin.ext q1
    refine (entry_low_at _ _ _ _ _ _ _ _ _ x0 n).trans ?_
    delta rowStream rowMix streamB mixB
    pointwise [bH, bY, bW, bX, bG, bP, bQ, bSc, bSh]
  · idx_vars x
    obtain rfl : r = ⟨x0.val, Nat.lt_trans x0.isLt (by decide)⟩ := Fin.ext q0
    obtain rfl : n = x1 := Fin.ext q1
    refine (entry_high_at _ _ _ _ _ _ _ _ _ x0 n).trans ?_
    delta rowStream rowMix streamB mixB
    pointwise [bH, bY, bW, bX, bG, bP, bQ, bSc, bSh]

/-! ## From the arguments -/

/-- A token's row of the stream, of the call's arguments. -/
def streamAt (c : Dev nD) (s : Fin 4096) : Fin 2048 → EReal :=
  stream (fun l => aX m c (ix3 (bat s) (pos s) l)) (fun l => aG m c (ix3 (bat s) 0 l))
    (fun n => mixed (fun k => aH m c (ix3 (bat s) (pos s) k)) (fun k => aY m c (ix3 (bat s) (pos s) k)) (fun k => aW m c (ix2 k n)))
    (fun l => aP m c (ix1 l))

theorem streamB_eq (c : Dev nD) (t : Fin cfg0.N) (r : Fin 512) : streamB m c t r = streamAt m c (tok t r) := by
  unfold streamB streamAt mixB
  simp only [bX_at, bG_at, bP_at, bH_at, bY_at, bW_at, bat_tok t r]

def streamArr (c : Dev nD) : FVec Ideal S4096x2048 .f32 := fun i => streamAt m c (i 0) (i 1)

def entryArr (c : Dev nD) : FVec Ideal S4096x2048 .bf16 := fun i =>
  entry (streamAt m c (i 0)) (fun l => aQ m c (ix1 l)) (fun l => aSc m c (ix3 (bat (i 0)) 0 l)) (fun l => aSh m c (ix3 (bat (i 0)) 0 l)) (i 1)

/-- The first result's array when the call is over. -/
theorem final_stream (c : Dev nD) : (dats m 0 c).arrAt 9 cfg0.N = streamArr m c := by
  refine (dats m 0 c).arrAt_eq_of_covers 9 _ (by decide +kernel) fun t hf y => ?_
  blk_simp
  idx_vars y
  have e : ((win0_9.blk t).view.emb (ix2 y0 y1)) = (ix2 (tok t y0) y1 : S4096x2048.Idx) := by
    blk_ext [idx t]
  refine (stream_block m c t y0 y1).trans ?_
  show _ = streamArr m c ((win0_9.blk t).view.emb (ix2 y0 y1))
  rw [e, streamB_eq]
  rfl

/-- The second's. -/
theorem final_entry (c : Dev nD) : (dats m 0 c).arrAt 10 cfg0.N = entryArr m c := by
  refine (dats m 0 c).arrAt_eq_of_covers 10 _ (by decide +kernel) fun t hf y => ?_
  blk_simp
  idx_vars y
  have e : ((win0_10.blk t).view.emb (ix2 y0 y1)) = (ix2 (tok t y0) y1 : S4096x2048.Idx) := by
    blk_ext [idx t]
  refine (entry_block m c t y0 y1).trans ?_
  show _ = entryArr m c ((win0_10.blk t).view.emb (ix2 y0 y1))
  rw [e, streamB_eq]
  simp only [bQ_at, bSc_at, bSh_at, bat_tok t y0]
  rfl

end Cert.Kernel8Ideal.OutProjSample

end
-- ==== Proof.OutProjSample.Reference.lean ====
module

public import proofs.«01_k».proof.Proof.Gen.Reference8Ideal.Run
public import proofs.«01_k».proof.Proof.OutProj.Spec

/-! # What the reference computes, at an index -/

@[expose] public section

set_option maxRecDepth 16384

noncomputable section

namespace Cert.Reference8Ideal.OutProjSample

open Idealize.ShloMosaic Idealize.ShloMosaic.TcCoe Idealize.SL.Sem
open Cert.Reference8Ideal Cert.Reference8Ideal.Gen Cert.OutProj

/-- The products of the mixers' rows with the projection. -/
def products (h y : FVec Ideal S2x2048x1024 .bf16) (w : FVec Ideal S2048x2048 .f32) : FVec Ideal S2x2048x2048 .f32 :=
  Host.dotGeneral dot_S2x2048x2048_S2048x2048_S2x2048x2048_2_0_01_1_n_n none
    (concatenate S2x2048x2048 2 [⟨S2x2048x1024, (extf .f32 h bitsLt_bf16_f32)⟩, ⟨S2x2048x1024, (extf .f32 y bitsLt_bf16_f32)⟩] concatenates_S2x2048x1024_S2x2048x1024_S2x2048x2048_d2) w

/-- The norm with its gain. -/
def norm (v : FVec Ideal S2x2048x2048 .f32) (p : FVec Ideal S2048 .f32) : FVec Ideal S2x2048x2048 .f32 :=
  mulf (mulf v (broadcastInDim S2x2048x2048 ![0, 1, 2] bcast_S2x2048x1_S2x2048x2048_0_1_2
      (Host.rsqrt (addf (Host.divf
        (broadcastInDim S2x2048x1 ![0, 1] bcast_S2x2048_S2x2048x1_0_1 (Host.reduceAdd (mulf v v) (constant S_ .f32 0x00000000#32) reducesTo_S2x2048x2048_S2x2048_d2 h_S_))
        (broadcastInDim S2x2048x1 ![] bcast_S_S2x2048x1 (constant S_ .f32 0x45000000#32)))
        (broadcastInDim S2x2048x1 ![] bcast_S_S2x2048x1 (constant S_ .f32 0x358637BD#32))))))
    (broadcastInDim S2x2048x2048 ![0, 1, 2] bcast_S1x1x2048_S2x2048x2048_0_1_2 (broadcastInDim S1x1x2048 ![2] bcast_S2048_S1x1x2048_2 p))

/-- The stream after the mixers. -/
def streamed (v x : FVec Ideal S2x2048x2048 .f32) (g : FVec Ideal S2x1x2048 .f32) (p : FVec Ideal S2048 .f32) : FVec Ideal S2x2048x2048 .f32 :=
  addf x (mulf (broadcastInDim S2x2048x2048 ![0, 1, 2] bcast_S2x1x2048_S2x2048x2048_0_1_2 g) (norm v p))

/-- The MLP's input. -/
def entered (v : FVec Ideal S2x2048x2048 .f32) (q : FVec Ideal S2048 .f32) (sc sh : FVec Ideal S2x1x2048 .f32) : FVec Ideal S2x2048x2048 .f32 :=
  addf (mulf (norm v q) (broadcastInDim S2x2048x2048 ![0, 1, 2] bcast_S2x1x2048_S2x2048x2048_0_1_2
      (addf (broadcastInDim S2x1x2048 ![] bcast_S_S2x1x2048 (constant S_ .f32 0x3F800000#32)) sc)))
    (broadcastInDim S2x2048x2048 ![0, 1, 2] bcast_S2x1x2048_S2x2048x2048_0_1_2 sh)

theorem products_at (h y : FVec Ideal S2x2048x1024 .bf16) (w : FVec Ideal S2048x2048 .f32) (b : Fin 2) (s : Fin 2048) (n : Fin 2048) :
    (products h y w (ix3 b s n) : EReal) = mixed (fun k => h (ix3 b s k)) (fun k => y (ix3 b s k)) (fun k => w (ix2 k n)) := by
  pointwise [products, mixed, side]

theorem norm_at (v : FVec Ideal S2x2048x2048 .f32) (p : FVec Ideal S2048 .f32) (b : Fin 2) (s : Fin 2048) (n : Fin 2048) :
    (norm v p (ix3 b s n) : EReal) = normed (fun l => v (ix3 b s l)) (fun l => p (ix1 l)) n := by
  pointwise [norm, normed]

theorem streamed_at (v x : FVec Ideal S2x2048x2048 .f32) (g : FVec Ideal S2x1x2048 .f32) (p : FVec Ideal S2048 .f32) (b : Fin 2) (s : Fin 2048) (n : Fin 2048) :
    (streamed v x g p (ix3 b s n) : EReal)
      = stream (fun l => x (ix3 b s l)) (fun l => g (ix3 b 0 l)) (fun l => v (ix3 b s l)) (fun l => p (ix1 l)) n := by
  have e := norm_at v p b s n
  unfold streamed
  generalize norm v p = z at e ⊢
  pointwise [stream]
  rw [e]

theorem entered_at (v : FVec Ideal S2x2048x2048 .f32) (q : FVec Ideal S2048 .f32) (sc sh : FVec Ideal S2x1x2048 .f32) (b : Fin 2) (s : Fin 2048) (n : Fin 2048) :
    (entered v q sc sh (ix3 b s n) : EReal)
      = entry (fun l => v (ix3 b s l)) (fun l => q (ix1 l)) (fun l => sc (ix3 b 0 l)) (fun l => sh (ix3 b 0 l)) n := by
  have e := norm_at v q b s n
  unfold entered
  generalize norm v q = z at e ⊢
  pointwise [entry]
  rw [e]

/-- The tokens in one list. -/
theorem flat_at (v : FVec Ideal S2x2048x2048 .f32) (s : Fin 4096) (n : Fin 2048) :
    (shapeCast S4096x2048 v shapeCasts_S2x2048x2048_S4096x2048 (ix2 s n) : EReal) = v (ix3 ⟨s.val / 2048, by omega⟩ ⟨s.val % 2048, Nat.mod_lt _ (by decide)⟩ n) := by
  pointwise

/-- The same, cast to the MLP's input type. -/
theorem flat_cast_at (v : FVec Ideal S2x2048x2048 .f32) (s : Fin 4096) (n : Fin 2048) :
    (truncf .bf16 (shapeCast S4096x2048 v shapeCasts_S2x2048x2048_S4096x2048) bitsLt_bf16_f32 (ix2 s n) : EReal)
      = v (ix3 ⟨s.val / 2048, by omega⟩ ⟨s.val % 2048, Nat.mod_lt _ (by decide)⟩ n) := by
  pointwise

end Cert.Reference8Ideal.OutProjSample

end
-- ==== Proof.OutProjSample.Claim.lean ====
module

public import proofs.«01_k».proof.Defs
public import proofs.«01_k».proof.Proof.OutProjSample.Array
public import proofs.«01_k».proof.Proof.OutProjSample.Reference
public import proofs.«01_k».proof.Proof.Gen.Kernel8.Frame
public import Idealize.ShloMosaic.Lib.Claim

/-! # The sample's output projection equals its reference -/

@[expose] public section

set_option maxRecDepth 16384

noncomputable section

namespace Cert.OutProjSample

open Idealize.ShloMosaic Idealize.ShloMosaic.TcCoe Idealize.SL.Sem
open Cert.OutProj Cert.Kernel8Ideal.OutProjSample

variable (m : (ℓ : Loc Cert.Kernel8Ideal.nD Cert.Kernel8Ideal.τ Cert.Kernel8Ideal.sig) → Buf (Elt Ideal) ℓ) (ρ : Dev Cert.Kernel8Ideal.nD → PrngReg)

/-- The kernel's run: both results by their entries. -/
theorem kernel_run : θ_run Cert.Kernel8Ideal.defs (onTc (τ := Cert.Kernel8Ideal.τ) Cert.Kernel8Ideal.main) ⟨m, fun _ => 0, ρ⟩ fun r => ∀ c : Dev Cert.Kernel8Ideal.nD,
    r.2.mem ((c.tc : Thread Cert.Kernel8Ideal.nD Cert.Kernel8Ideal.τ).loc Cert.Kernel8Ideal.main_v6_0) = streamArr m c
    ∧ r.2.mem ((c.tc : Thread Cert.Kernel8Ideal.nD Cert.Kernel8Ideal.τ).loc Cert.Kernel8Ideal.main_v6_1) = entryArr m c :=
  (θ_run Cert.Kernel8Ideal.defs _ _).mono
    (fun _ h c => ⟨((h c).1 9).trans (final_stream m c), ((h c).1 10).trans (final_entry m c)⟩)
    (Cert.Kernel8Ideal.Gen.run_main m ρ)

open Cert.Reference8Ideal.OutProjSample in
theorem algebraic : Cert.algebraic_Kernel8Ideal_Reference8Ideal := by
  intro m ρ m' ρ' _ hagree
  refine ⟨fun c => streamArr m c, fun c => entryArr m c, ?_, ?_⟩
  · exact (θ_run Cert.Kernel8Ideal.defs _ _).mono (fun _ h c => ⟨(h.1 c).1, (h.1 c).2, h.2.1 c⟩)
      (θ_run_and (kernel_run m ρ) (Cert.Kernel8Ideal.Gen.frame m ρ))
  · refine (θ_run Cert.Reference8Ideal.defs _ _).mono (fun r h c => ?_) (Cert.Reference8Ideal.Value.run (F := Ideal) m' ρ')
    obtain ⟨h0, h1, h2, h3, h4, h5, h6, h7, h8⟩ := hagree c
    refine ⟨(h c).1.trans ?_, (h c).2.1.trans ?_, (h c).2.2⟩
    · rw [h0, h1, h2, h3, h4, h5]
      show shapeCast Cert.Reference8Ideal.S4096x2048 (streamed (products (aH m c) (aY m c) (aW m c)) (aX m c) (aG m c) (aP m c)) _ = _
      funext i
      idx_vars i
      refine (flat_at _ i0 i1).trans ((streamed_at _ _ _ _ _ _ i1).trans ?_)
      simp only [Cert.Reference8Ideal.OutProjSample.products_at]
      rfl
    · unfold Cert.Reference8Ideal.Value.res_main_v41
      rw [h0, h1, h2, h3, h4, h5, h6, h7, h8]
      show truncf .bf16 (shapeCast Cert.Reference8Ideal.S4096x2048 (entered (streamed (products (aH m c) (aY m c) (aW m c)) (aX m c) (aG m c) (aP m c)) (aQ m c) (aSc m c) (aSh m c)) _) _ = _
      funext i
      idx_vars i
      refine (flat_cast_at _ i0 i1).trans ((entered_at _ _ _ _ _ _ i1).trans ?_)
      simp only [Cert.Reference8Ideal.OutProjSample.streamed_at, Cert.Reference8Ideal.OutProjSample.products_at]
      rfl

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

end Cert.OutProjSample

end
-- ==== Proof.InProjSample.Blocks.lean ====
module

public import proofs.«01_k».proof.Proof.Gen.Kernel9Ideal.Frame
public import proofs.«01_k».proof.Proof.InProj.Spec
public import Idealize.ShloMosaic.Lib.Pipeline.ValueKit

/-! # The blocks the windows stage, read off the call's arguments -/

@[expose] public section

set_option maxRecDepth 16384

noncomputable section

namespace Cert.Kernel9Ideal.InProjSample

open Idealize.ShloMosaic Idealize.ShloMosaic.TcCoe Idealize.SL.Sem
open Cert.Kernel9Ideal Cert.Kernel9Ideal.Gen Cert.InProj

variable (m : (ℓ : Loc nD τ sig) → Buf (Elt Ideal) ℓ)

abbrev bX (c : Dev nD) (t : Fin cfg0.N) : FVec Ideal S1024x2048 .f32 := iblk m c 0 t
abbrev bSc (c : Dev nD) (t : Fin cfg0.N) : FVec Ideal S1x1x2048 .f32 := iblk m c 1 t
abbrev bSh (c : Dev nD) (t : Fin cfg0.N) : FVec Ideal S1x1x2048 .f32 := iblk m c 2 t
abbrev bG (c : Dev nD) (t : Fin cfg0.N) : FVec Ideal S1x2048 .f32 := iblk m c 3 t
abbrev bW (c : Dev nD) (t : Fin cfg0.N) : FVec Ideal S1024x2048 .bf16 := iblk m c 4 t
abbrev bGate (c : Dev nD) (t : Fin cfg0.N) : FVec Ideal S128x2048 .bf16 := iblk m c 5 t

abbrev aX (c : Dev nD) : FVec Ideal S2x2048x2048 .f32 := m ((c : Thread nD τ).loc main_arg0)
abbrev aSh (c : Dev nD) : FVec Ideal S2x1x2048 .f32 := m ((c : Thread nD τ).loc main_arg1)
abbrev aSc (c : Dev nD) : FVec Ideal S2x1x2048 .f32 := m ((c : Thread nD τ).loc main_arg2)
abbrev aG (c : Dev nD) : FVec Ideal S2048 .f32 := m ((c : Thread nD τ).loc main_arg3)
abbrev aW (c : Dev nD) : FVec Ideal S2048x6192 .f32 := m ((c : Thread nD τ).loc main_arg4)

/-- Where each window stands at each grid point. -/
theorem idx : ∀ t : Fin cfg0.N, win0_0.index t = ![t.val / 6, 0] ∧ win0_1.index t = ![t.val / 12, 0, 0] ∧ win0_2.index t = ![t.val / 12, 0, 0]
    ∧ win0_3.index t = ![0, 0] ∧ win0_4.index t = ![1024 * (t.val % 6) + (if 3 ≤ t.val % 6 then 16 else 0), 0] ∧ win0_5.index t = ![0, 0]
    ∧ win0_6.index t = ![t.val / 6, t.val % 6] ∧ win0_7.index t = ![t.val / 6, 0] :=
  (by decide +kernel : ∀ t : Fin grid0.N, win0_0.index t = ![t.val / 6, 0] ∧ win0_1.index t = ![t.val / 12, 0, 0] ∧ win0_2.index t = ![t.val / 12, 0, 0]
    ∧ win0_3.index t = ![0, 0] ∧ win0_4.index t = ![1024 * (t.val % 6) + (if 3 ≤ t.val % 6 then 16 else 0), 0] ∧ win0_5.index t = ![0, 0]
    ∧ win0_6.index t = ![t.val / 6, t.val % 6] ∧ win0_7.index t = ![t.val / 6, 0])

/-! ## What the host code leaves in the staged arrays -/

theorem V6 (c : Dev nD) : V m c main_v6 = shapeCast S4096x2048 (aX m c) shapeCasts_S2x2048x2048_S4096x2048 := by
  unfold V; simp only [hostOps0, hostOps0_1, hostOps0_2, List.flatten_cons, List.flatten_nil, List.append_nil, List.cons_append, List.nil_append]; after_results; try rfl

theorem V1 (c : Dev nD) : V m c main_v1 = truncf .bf16 (transpose S6192x2048 [1, 0] (aW m c) transposes_S2048x6192_S6192x2048_1_0) bitsLt_bf16_f32 := by
  unfold V; simp only [hostOps0, hostOps0_1, hostOps0_2, List.flatten_cons, List.flatten_nil, List.append_nil, List.cons_append, List.nil_append]; after_results; try rfl

theorem V7 (c : Dev nD) : V m c main_v7 = shapeCast S1x2048 (aG m c) shapeCasts_S2048_S1x2048 := by
  unfold V; simp only [hostOps0, hostOps0_1, hostOps0_2, List.flatten_cons, List.flatten_nil, List.append_nil, List.cons_append, List.nil_append]; after_results; try rfl

/-- The gates' rows of the weight: two runs of columns, then rows of the padding's number. -/
def gateRows (w : FVec Ideal S2048x6192 .f32) : FVec Ideal S128x2048 .bf16 :=
  let wt : FVec Ideal S6192x2048 .bf16 := truncf .bf16 (transpose S6192x2048 [1, 0] w transposes_S2048x6192_S6192x2048_1_0) bitsLt_bf16_f32
  pad S128x2048 ![0, 0] ![80, 0] ![0, 0]
    (concatenate S48x2048 0 [⟨S16x2048, extractStridedSlice S16x2048 ![3072, 0] wt slices_S6192x2048_S16x2048_3072_0⟩,
      ⟨S32x2048, extractStridedSlice S32x2048 ![6160, 0] wt slices_S6192x2048_S32x2048_6160_0⟩] concatenates_S16x2048_S32x2048_S48x2048_d0)
    (sitofp .bf16 (constantI S_ 32 0#32)) pads_S48x2048_S128x2048_0800_000 h_S_

theorem V5 (c : Dev nD) : V m c main_v5 = gateRows (aW m c) := by
  unfold V; simp only [hostOps0, hostOps0_1, hostOps0_2, List.flatten_cons, List.flatten_nil, List.append_nil, List.cons_append, List.nil_append]; after_results; try rfl

theorem gateRows_at (w : FVec Ideal S2048x6192 .f32) (n : Fin 128) (l : Fin 2048) :
    (gateRows w (ix2 n l) : EReal) = if h : n.val < 48 then w (ix2 l ⟨gateCol n.val, gateCol_lt h⟩) else 0 := by
  pointwise [gateRows]
  split
  · split
    · congr 3
      unfold gateCol
      rw [if_pos ‹_›]
    · congr 3
      unfold gateCol
      rw [if_neg ‹_›]
      omega
  · show (((0#32).toInt : ℝ) : EReal) = 0
    simp

/-! ## The blocks -/

/-- The sequence of a point's tokens. -/
abbrev seqOf (t : Fin cfg0.N) : Fin 2 := ⟨t.val / 12, by have := t.isLt; have : cfg0.N = 24 := N_0; omega⟩

theorem bX_at (c : Dev nD) (t : Fin cfg0.N) (r : Fin 1024) (l : Fin 2048) :
    (bX m c t (ix2 r l) : EReal) = aX m c (ix3 ⟨(1024 * (t.val / 6) + r.val) / 2048, by have := t.isLt; have : cfg0.N = 24 := N_0; omega⟩ ⟨(1024 * (t.val / 6) + r.val) % 2048, by omega⟩ l) := by
  show (_ : EReal) = _
  have e : ((win0_0.blk t).view.emb (ix2 r l)) = (ix2 ⟨1024 * (t.val / 6) + r.val, by have := t.isLt; have : cfg0.N = 24 := N_0; omega⟩ l : S4096x2048.Idx) := by
    blk_ext [idx t]
  show V m c main_v6 ((win0_0.blk t).view.emb (ix2 r l)) = _
  rw [e, V6]
  pointwise

theorem bSc_at (c : Dev nD) (t : Fin cfg0.N) (l : Fin 2048) :
    (bSc m c t (ix3 0 0 l) : EReal) = aSc m c (ix3 (seqOf t) 0 l) := by
  show (_ : EReal) = _
  have e : ((win0_1.blk t).view.emb (ix3 0 0 l)) = (ix3 (seqOf t) 0 l : S2x1x2048.Idx) := by
    blk_ext [idx t]
  show V m c main_arg2 ((win0_1.blk t).view.emb (ix3 0 0 l)) = _
  rw [e, V_main_arg2]

theorem bSh_at (c : Dev nD) (t : Fin cfg0.N) (l : Fin 2048) :
    (bSh m c t (ix3 0 0 l) : EReal) = aSh m c (ix3 (seqOf t) 0 l) := by
  show (_ : EReal) = _
  have e : ((win0_2.blk t).view.emb (ix3 0 0 l)) = (ix3 (seqOf t) 0 l : S2x1x2048.Idx) := by
    blk_ext [idx t]
  show V m c main_arg1 ((win0_2.blk t).view.emb (ix3 0 0 l)) = _
  rw [e, V_main_arg1]

theorem bG_at (c : Dev nD) (t : Fin cfg0.N) (l : Fin 2048) :
    (bG m c t (ix2 0 l) : EReal) = aG m c (ix1 l) := by
  show (_ : EReal) = _
  have e : ((win0_3.blk t).view.emb (ix2 0 l)) = (ix2 0 l : S1x2048.Idx) := by
    blk_ext [idx t]
  show V m c main_v7 ((win0_3.blk t).view.emb (ix2 0 l)) = _
  rw [e, V7]
  pointwise

/-- The first weight row of a point's window: the element offset of the window. -/
def firstRow (j : ℕ) : ℕ := 1024 * j + (if 3 ≤ j then 16 else 0)

theorem firstRow_lt {j n : ℕ} (hj : j < 6) (hn : n < 1024) : firstRow j + n < 6192 := by
  unfold firstRow; split <;> omega

theorem bW_at (c : Dev nD) (t : Fin cfg0.N) (n : Fin 1024) (l : Fin 2048) :
    (bW m c t (ix2 n l) : EReal) = aW m c (ix2 l ⟨firstRow (t.val % 6) + n.val, firstRow_lt (Nat.mod_lt _ (by decide)) n.isLt⟩) := by
  show (_ : EReal) = _
  have e : ((win0_4.blk t).view.emb (ix2 n l)) = (ix2 ⟨firstRow (t.val % 6) + n.val, firstRow_lt (Nat.mod_lt _ (by decide)) n.isLt⟩ l : S6192x2048.Idx) := by
    have i4 := (idx t).2.2.2.2.1
    have h0 : win0_4.index t (0 : Fin 2) = firstRow (t.val % 6) := congrFun i4 (0 : Fin 2)
    have h1 : win0_4.index t (1 : Fin 2) = 0 := congrFun i4 (1 : Fin 2)
    funext a
    apply Fin.ext
    match a with
    | ⟨0, _⟩ =>
      show win0_4.index t (0 : Fin 2) + 1 * n.val = _
      rw [h0, one_mul]
      rfl
    | ⟨1, _⟩ =>
      show win0_4.index t (1 : Fin 2) + 1 * l.val = _
      rw [h1, one_mul, zero_add]
      rfl
  show V m c main_v1 ((win0_4.blk t).view.emb (ix2 n l)) = _
  rw [e, V1]
  pointwise

theorem bGate_at (c : Dev nD) (t : Fin cfg0.N) (n : Fin 128) (l : Fin 2048) :
    (bGate m c t (ix2 n l) : EReal) = gateRows (aW m c) (ix2 n l) := by
  show (_ : EReal) = _
  have e : ((win0_5.blk t).view.emb (ix2 n l)) = (ix2 n l : S128x2048.Idx) := by
    blk_ext [idx t]
  show V m c main_v5 ((win0_5.blk t).view.emb (ix2 n l)) = _
  rw [e, V5]

end Cert.Kernel9Ideal.InProjSample

end
-- ==== Proof.InProjSample.Pure.lean ====
module

public import proofs.«01_k».proof.Proof.Gen.Kernel9Ideal.Skeleton
public import proofs.«01_k».proof.Proof.InProj.Spec

/-! # What one block of the projection's body computes, at an index -/

@[expose] public section

set_option maxRecDepth 16384

noncomputable section

namespace Cert.Kernel9Ideal.InProjSample

open Idealize.ShloMosaic Idealize.ShloMosaic.TcCoe Idealize.SL.Sem
open Cert.Kernel9Ideal Cert.Kernel9Ideal.Gen Cert.InProj

/-- The gates' block: products of the kept rows with the gate rows. -/
theorem gates_at (u : FVec Ideal S1024x2048 .bf16) (w : FVec Ideal S128x2048 .bf16) (r : Fin 1024) (n : Fin 128) :
    (k0_pay6 (F := Ideal) u w (ix2 r n) : EReal) = lin (fun k => u (ix2 r k)) (fun k => w (ix2 n k)) := by
  pointwise [k0_pay6, lin]

/-- A plain block: products of the kept rows with the weight rows. -/
theorem plain_at (u : FVec Ideal S1024x2048 .bf16) (w : FVec Ideal S1024x2048 .bf16) (r : Fin 1024) (n : Fin 1024) :
    (k0_pay4 (F := Ideal) u w (ix2 r n) : EReal) = lin (fun k => u (ix2 r k)) (fun k => w (ix2 n k)) := by
  pointwise [k0_pay4, lin]

/-- The output gate's block (column 2 of the grid): the logistic of the products. -/
theorem act2_at (i : grid0.Coords) (hi : (i 1).val = 2) (u : FVec Ideal S1024x2048 .bf16) (w : FVec Ideal S1024x2048 .bf16) (r : Fin 1024) (n : Fin 1024) :
    (k0_pay5 (F := Ideal) i u w (ix2 r n) : EReal) = sgm (lin (fun k => u (ix2 r k)) (fun k => w (ix2 n k))) := by
  pointwise [k0_pay5, lin, sgm]
  rw [hi]
  simp only [sub_eq_add_neg, zero_add]
  rfl

/-- The other gate's block (column 3 of the grid): the products times their logistic. -/
theorem act3_at (i : grid0.Coords) (hi : (i 1).val = 3) (u : FVec Ideal S1024x2048 .bf16) (w : FVec Ideal S1024x2048 .bf16) (r : Fin 1024) (n : Fin 1024) :
    (k0_pay5 (F := Ideal) i u w (ix2 r n) : EReal) = silu (lin (fun k => u (ix2 r k)) (fun k => w (ix2 n k))) := by
  pointwise [k0_pay5, lin, silu, sgm]
  rw [hi]
  simp only [sub_eq_add_neg, zero_add]
  rfl

/-- A row of the first quarter of a block after the norm. -/
theorem pay8_at (x : FVec Ideal S256x2048 .f32) (g : FVec Ideal S1x2048 .f32) (sc sh : FVec Ideal S1x1x2048 .f32) (r : Fin 256) (k : Fin 2048) :
    (k0_pay8 (F := Ideal) x g sc sh (ix2 r k) : EReal) =
      unorm (fun l => x (ix2 r l)) (fun l => g (ix2 0 l)) (fun l => sc (ix3 0 0 l)) (fun l => sh (ix3 0 0 l)) k := by
  pointwise [k0_pay8, k0_pay7, unorm]

theorem pay11_at (x : FVec Ideal S256x2048 .f32) (g : FVec Ideal S1x2048 .f32) (sc sh : FVec Ideal S1x1x2048 .f32) (r : Fin 256) (k : Fin 2048) :
    (k0_pay11 (F := Ideal) x g sc sh (ix2 r k) : EReal) =
      unorm (fun l => x (ix2 r l)) (fun l => g (ix2 0 l)) (fun l => sc (ix3 0 0 l)) (fun l => sh (ix3 0 0 l)) k := by
  pointwise [k0_pay11, k0_pay10, unorm]

theorem pay16_at (x : FVec Ideal S256x2048 .f32) (g : FVec Ideal S1x2048 .f32) (sc sh : FVec Ideal S1x1x2048 .f32) (r : Fin 256) (k : Fin 2048) :
    (k0_pay16 (F := Ideal) (k0_pay13 x) (k0_pay14 x) g sc sh (ix2 r k) : EReal) =
      unorm (fun l => x (ix2 r l)) (fun l => g (ix2 0 l)) (fun l => sc (ix3 0 0 l)) (fun l => sh (ix3 0 0 l)) k := by
  pointwise [k0_pay16, k0_pay15, k0_pay13, k0_pay14, unorm]

theorem pay2_at (x : FVec Ideal S256x2048 .f32) (g : FVec Ideal S1x2048 .f32) (sc sh : FVec Ideal S1x1x2048 .f32) (r : Fin 256) (k : Fin 2048) :
    (k0_pay2 (F := Ideal) (k0_pay18 x) (k0_pay19 x) (FloatOps.ofBits FTy.f32 1157627904#32) g sc sh (ix2 r k) : EReal) =
      unorm (fun l => x (ix2 r l)) (fun l => g (ix2 0 l)) (fun l => sc (ix3 0 0 l)) (fun l => sh (ix3 0 0 l)) k := by
  pointwise [k0_pay2, k0_pay1, k0_pay18, k0_pay19, unorm]

/-- The first block column, computed along with the norm, quarter by quarter. -/
theorem pay9_at (x : FVec Ideal S256x2048 .f32) (g : FVec Ideal S1x2048 .f32) (sc sh : FVec Ideal S1x1x2048 .f32) (w : FVec Ideal S1024x2048 .bf16) (r : Fin 256) (n : Fin 1024) :
    (k0_pay9 (F := Ideal) x g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay9, k0_pay7, unorm, lin]

theorem pay12_at (x : FVec Ideal S256x2048 .f32) (g : FVec Ideal S1x2048 .f32) (sc sh : FVec Ideal S1x1x2048 .f32) (w : FVec Ideal S1024x2048 .bf16) (r : Fin 256) (n : Fin 1024) :
    (k0_pay12 (F := Ideal) x g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay12, k0_pay10, unorm, lin]

theorem pay17_at (x : FVec Ideal S256x2048 .f32) (g : FVec Ideal S1x2048 .f32) (sc sh : FVec Ideal S1x1x2048 .f32) (w : FVec Ideal S1024x2048 .bf16) (r : Fin 256) (n : Fin 1024) :
    (k0_pay17 (F := Ideal) (k0_pay13 x) (k0_pay14 x) g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay17, k0_pay15, k0_pay13, k0_pay14, unorm, lin]

theorem pay3_at (x : FVec Ideal S256x2048 .f32) (g : FVec Ideal S1x2048 .f32) (sc sh : FVec Ideal S1x1x2048 .f32) (w : FVec Ideal S1024x2048 .bf16) (r : Fin 256) (n : Fin 1024) :
    (k0_pay3 (F := Ideal) (k0_pay18 x) (k0_pay19 x) (FloatOps.ofBits FTy.f32 1157627904#32) g sc sh w (ix2 r n) : EReal) =
      lin (unorm (fun l => x (ix2 r l)) (fun l => g (ix2 0 l)) (fun l => sc (ix3 0 0 l)) (fun l => sh (ix3 0 0 l))) (fun k => w (ix2 n k)) := by
  pointwise [k0_pay3, k0_pay1, k0_pay18, k0_pay19, unorm, lin]

end Cert.Kernel9Ideal.InProjSample

end
-- ==== Proof.InProjSample.Cases.lean ====
module

public import proofs.«01_k».proof.Proof.InProjSample.Blocks
public import proofs.«01_k».proof.Proof.InProjSample.Pure
public import Idealize.ShloMosaic.Lib.Pipeline.ReadBack

/-! # What each grid point leaves in the outputs and in the kept rows -/

@[expose] public section

set_option maxRecDepth 16384

noncomputable section

namespace Cert.Kernel9Ideal.InProjSample

open Idealize.ShloMosaic Idealize.ShloMosaic.TcCoe Idealize.SL.Sem
open Cert.Kernel9Ideal Cert.Kernel9Ideal.Gen Cert.InProj

variable (m : (ℓ : Loc nD τ sig) → Buf (Elt Ideal) ℓ)

/-- The rows kept between the points, after point `n`. -/
abbrev kept (c : Dev nD) (n : ℕ) (h : n < cfg0.N) : FVec Ideal S1024x2048 .bf16 := (outsAt0 m c n h).2.2

theorem pred_lt (t : Fin cfg0.N) : t.val - 1 < cfg0.N := Nat.lt_of_le_of_lt (Nat.sub_le _ _) t.isLt

/-- The normalised rows of a point's block of tokens. -/
def urows (c : Dev nD) (t : Fin cfg0.N) (r : Fin 1024) : Fin 2048 → EReal :=
  unorm (fun l => bX m c t (ix2 r l)) (fun l => bG m c t (ix2 0 l)) (fun l => bSc m c t (ix3 0 0 l)) (fun l => bSh m c t (ix3 0 0 l))

/-- The first point of a block of tokens keeps its normalised rows. -/
theorem kept_first (c : Dev nD) (t : Fin cfg0.N) (h : t.val % 6 = 0) (r : Fin 1024) (k : Fin 2048) :
    (kept m c t.val t.isLt (ix2 r k) : EReal) = urows m c t r k := by
  unfold kept
  rw [outsAt0_A m c t (by omega) (by omega) (by omega) (by omega)]
  frame_out
  canon_tiles x q
  · idx_vars x
    obtain rfl : r = ⟨768 + x0.val, Nat.lt_of_lt_of_le (Nat.add_lt_add_left x0.isLt 768) (by decide)⟩ := Fin.ext q0
    obtain rfl : k = x1 := Fin.ext q1
    refine (pay2_at _ _ _ _ x0 k).trans ?_
    pointwise [urows]
  · idx_vars x
    obtain rfl : r = ⟨512 + x0.val, Nat.lt_of_lt_of_le (Nat.add_lt_add_left x0.isLt 512) (by decide)⟩ := Fin.ext q0
    obtain rfl : k = x1 := Fin.ext q1
    refine (pay16_at _ _ _ _ x0 k).trans ?_
    pointwise [urows]
  · idx_vars x
    obtain rfl : r = ⟨256 + x0.val, Nat.lt_of_lt_of_le (Nat.add_lt_add_left x0.isLt 256) (by decide)⟩ := Fin.ext q0
    obtain rfl : k = x1 := Fin.ext q1
    refine (pay11_at _ _ _ _ x0 k).trans ?_
    pointwise [urows]
  · idx_vars x
    obtain rfl : r = ⟨x0.val, Nat.lt_trans x0.isLt (by decide)⟩ := Fin.ext q0
    obtain rfl : k = x1 := Fin.ext q1
    refine (pay8_at _ _ _ _ x0 k).trans ?_
    pointwise [urows]

/-- The first point of a block of tokens: the products of its rows with the first weight rows. -/
theorem out_first (c : Dev nD) (t : Fin cfg0.N) (h : t.val % 6 = 0) (r : Fin 1024) (n : Fin 1024) :
    ((outsAt0 m c t.val t.isLt).1 (ix2 r n) : EReal) = lin (urows m c t r) (fun l => bW m c t (ix2 n l)) := by
  rw [outsAt0_A m c t (by omega) (by omega) (by omega) (by omega)]
  frame_out
  canon_tiles x q
  · idx_vars x
    obtain rfl : r = ⟨768 + x0.val, Nat.lt_of_lt_of_le (Nat.add_lt_add_left x0.isLt 768) (by decide)⟩ := Fin.ext q0
    obtain rfl : n = x1 := Fin.ext q1
    refine (pay3_at _ _ _ _ _ x0 n).trans ?_
    pointwise [urows]
  · idx_vars x
    obtain rfl : r = ⟨512 + x0.val, Nat.lt_of_lt_of_le (Nat.add_lt_add_left x0.isLt 512) (by decide)⟩ := Fin.ext q0
    obtain rfl : n = x1 := Fin.ext q1
    refine (pay17_at _ _ _ _ _ x0 n).trans ?_
    pointwise [urows]
  · idx_vars x
    obtain rfl : r = ⟨256 + x0.val, Nat.lt_of_lt_of_le (Nat.add_lt_add_left x0.isLt 256) (by decide)⟩ := Fin.ext q0
    obtain rfl : n = x1 := Fin.ext q1
    refine (pay12_at _ _ _ _ _ x0 n).trans ?_
    pointwise [urows]
  · idx_vars x
    obtain rfl : r = ⟨x0.val, Nat.lt_trans x0.isLt (by decide)⟩ := Fin.ext q0
    obtain rfl : n = x1 := Fin.ext q1
    refine (pay9_at _ _ _ _ _ x0 n).trans ?_
    pointwise [urows]

/-- The other points keep the rows as they were. -/
theorem kept_next (c : Dev nD) (t : Fin cfg0.N) (h : t.val % 6 ≠ 0) : kept m c t.val t.isLt = kept m c (t.val - 1) (pred_lt t) := by
  unfold kept
  by_cases h1 : t.val % 6 = 5
  · rw [outsAt0_D m c t (by omega) (by omega) (by omega) (by omega)]
    rfl
  by_cases h2 : t.val % 6 = 1 ∨ t.val % 6 = 4
  · rw [outsAt0_B m c t (by omega) (by omega) (by omega) (by omega)]
    rfl
  · rw [outsAt0_C m c t (by omega) (by omega) (by omega) (by omega)]
    rfl

/-- The second column of the grid. -/
theorem out_1 (c : Dev nD) (t : Fin cfg0.N) (h : t.val % 6 = 1) (r : Fin 1024) (n : Fin 1024) :
    ((outsAt0 m c t.val t.isLt).1 (ix2 r n) : EReal) = lin (fun k => kept m c (t.val - 1) (pred_lt t) (ix2 r k)) (fun l => bW m c t (ix2 n l)) := by
  rw [outsAt0_B m c t (by omega) (by omega) (by omega) (by omega)]
  frame_out
  rw [read_unread_whole]
  exact plain_at _ _ r n

theorem coord_1 : ∀ t : Fin cfg0.N, (grid0.coords t (1 : Fin 2)).val = t.val % 6 :=
  (by decide +kernel : ∀ t : Fin grid0.N, (grid0.coords t (1 : Fin 2)).val = t.val % 6)

/-- The third column of the grid: the output gate. -/
theorem out_2 (c : Dev nD) (t : Fin cfg0.N) (h : t.val % 6 = 2) (r : Fin 1024) (n : Fin 1024) :
    ((outsAt0 m c t.val t.isLt).1 (ix2 r n) : EReal) = sgm (lin (fun k => kept m c (t.val - 1) (pred_lt t) (ix2 r k)) (fun l => bW m c t (ix2 n l))) := by
  rw [outsAt0_C m c t (by omega) (by omega) (by omega) (by omega)]
  frame_out
  rw [read_unread_whole]
  exact act2_at _ ((coord_1 t).trans h) _ _ r n

/-- The fourth column of the grid: the other gate. -/
theorem out_3 (c : Dev nD) (t : Fin cfg0.N) (h : t.val % 6 = 3) (r : Fin 1024) (n : Fin 1024) :
    ((outsAt0 m c t.val t.isLt).1 (ix2 r n) : EReal) = silu (lin (fun k => kept m c (t.val - 1) (pred_lt t) (ix2 r k)) (fun l => bW m c t (ix2 n l))) := by
  rw [outsAt0_C m c t (by omega) (by omega) (by omega) (by omega)]
  frame_out
  rw [read_unread_whole]
  exact act3_at _ ((coord_1 t).trans h) _ _ r n

/-- The last two columns of the grid: plain products, the convolution being another call's. -/
theorem out_45 (c : Dev nD) (t : Fin cfg0.N) (h : 4 ≤ t.val % 6) (r : Fin 1024) (n : Fin 1024) :
    ((outsAt0 m c t.val t.isLt).1 (ix2 r n) : EReal) = lin (fun k => kept m c (t.val - 1) (pred_lt t) (ix2 r k)) (fun l => bW m c t (ix2 n l)) := by
  by_cases h5 : t.val % 6 = 5
  · rw [outsAt0_D m c t (by omega) (by omega) (by omega) (by omega)]
    frame_out
    rw [read_unread_whole]
    exact plain_at _ _ r n
  · rw [outsAt0_B m c t (by omega) (by omega) (by omega) (by omega)]
    frame_out
    rw [read_unread_whole]
    exact plain_at _ _ r n

/-- The gates, written at the last point of a block of tokens. -/
theorem gates_last (c : Dev nD) (t : Fin cfg0.N) (h : t.val % 6 = 5) (r : Fin 1024) (n : Fin 128) :
    ((outsAt0 m c t.val t.isLt).2.1 (ix2 r n) : EReal) = lin (fun k => kept m c (t.val - 1) (pred_lt t) (ix2 r k)) (fun l => bGate m c t (ix2 n l)) := by
  rw [outsAt0_D m c t (by omega) (by omega) (by omega) (by omega)]
  frame_out
  rw [read_unread_whole]
  exact gates_at _ _ r n

end Cert.Kernel9Ideal.InProjSample

end
-- ==== Proof.InProjSample.Spec.lean ====
module

public import proofs.«01_k».proof.Proof.InProj.Spec

/-! # The entries of the sample's input projection

`P b s n` is the product of token `s` of sequence `b` with column `n` of the projection. -/

@[expose] public section

noncomputable section

namespace Cert.InProjSample

open Idealize.ShloMosaic Cert.InProj

/-- The main result's entry: three plain parts, two gates, and two plain parts again. -/
def plainAt (P : Fin 2 → Fin 2048 → Fin 6192 → EReal) (b : Fin 2) (s : Fin 2048) (n : Fin 6144) : EReal :=
  if h0 : n.val < 2048 then P b s ⟨n.val, by omega⟩
  else if h1 : n.val < 3072 then sgm (P b s ⟨n.val, by omega⟩)
  else if h2 : n.val < 4096 then silu (P b s ⟨n.val + 16, by omega⟩)
  else P b s ⟨n.val + 16, by omega⟩

/-- The gates' entry: 48 columns, and zeros to the width of a register. -/
def gatesAt (P : Fin 2 → Fin 2048 → Fin 6192 → EReal) (b : Fin 2) (s : Fin 2048) (n : Fin 128) : EReal :=
  if h : n.val < 48 then P b s ⟨gateCol n.val, gateCol_lt h⟩ else 0

end Cert.InProjSample

end
-- ==== Proof.InProjSample.Array.lean ====
module

public import proofs.«01_k».proof.Proof.InProjSample.Cases
public import proofs.«01_k».proof.Proof.InProjSample.Spec

/-! # What the two result arrays hold after the run -/

@[expose] public section

set_option maxRecDepth 16384

noncomputable section

namespace Cert.Kernel9Ideal.InProjSample

open Idealize.ShloMosaic Idealize.ShloMosaic.TcCoe Idealize.SL.Sem
open Cert.Kernel9Ideal Cert.Kernel9Ideal.Gen Cert.InProj Cert.InProjSample

variable (m : (ℓ : Loc nD τ sig) → Buf (Elt Ideal) ℓ)

/-- A token's normalised row, from the arguments. -/
def tokenRow (c : Dev nD) (b : Fin 2) (s : Fin 2048) : Fin 2048 → EReal :=
  unorm (fun l => aX m c (ix3 b s l)) (fun l => aG m c (ix1 l)) (fun l => aSc m c (ix3 b 0 l)) (fun l => aSh m c (ix3 b 0 l))

/-- The products of the tokens' rows with the projection's columns, from the arguments. -/
def prod (c : Dev nD) (b : Fin 2) (s : Fin 2048) (n : Fin 6192) : EReal := lin (tokenRow m c b s) (fun k => aW m c (ix2 k n))

theorem batch_lt {q r : ℕ} (h : q < 24) (hr : r < 1024) : (1024 * (q / 6) + r) / 2048 < 2 := by omega

abbrev bat (t : Fin cfg0.N) (r : Fin 1024) : Fin 2 := ⟨(1024 * (t.val / 6) + r.val) / 2048, batch_lt (lt_of_lt_of_eq t.isLt N_0) r.isLt⟩
abbrev pos (t : Fin cfg0.N) (r : Fin 1024) : Fin 2048 := ⟨(1024 * (t.val / 6) + r.val) % 2048, Nat.mod_lt _ (by decide)⟩

theorem urows_at (c : Dev nD) (t : Fin cfg0.N) (r : Fin 1024) : urows m c t r = tokenRow m c (bat t r) (pos t r) := by
  have hb : seqOf t = bat t r := Fin.ext (by show t.val / 12 = (1024 * (t.val / 6) + r.val) / 2048; omega)
  unfold urows tokenRow
  simp only [bX_at, bG_at, bSc_at, bSh_at, hb]

/-- The kept rows after any point of a block of tokens are the block's normalised rows. -/
theorem kept_at (c : Dev nD) (n : ℕ) : ∀ (h : n < cfg0.N) (r : Fin 1024) (k : Fin 2048),
    (kept m c n h (ix2 r k) : EReal) = tokenRow m c (bat ⟨n, h⟩ r) (pos ⟨n, h⟩ r) k := by
  induction n with
  | zero => exact fun h r k => (kept_first m c ⟨0, h⟩ rfl r k).trans (congrFun (urows_at m c ⟨0, h⟩ r) k)
  | succ n ih =>
    intro h r k
    by_cases h0 : (n + 1) % 6 = 0
    · exact (kept_first m c ⟨n + 1, h⟩ h0 r k).trans (congrFun (urows_at m c ⟨n + 1, h⟩ r) k)
    · have e := congrFun (kept_next m c ⟨n + 1, h⟩ h0) (ix2 r k)
      have hd : (n + 1) / 6 = n / 6 := by omega
      refine Eq.trans e ((ih (Nat.lt_of_succ_lt h) r k).trans ?_)
      simp only [bat, pos, hd]

/-- The rows a later point of the block finds. -/
theorem kept_before (c : Dev nD) (t : Fin cfg0.N) (h : t.val % 6 ≠ 0) (r : Fin 1024) (k : Fin 2048) :
    (kept m c (t.val - 1) (pred_lt t) (ix2 r k) : EReal) = tokenRow m c (bat t r) (pos t r) k := by
  refine (kept_at m c (t.val - 1) (pred_lt t) r k).trans ?_
  have hd : (t.val - 1) / 6 = t.val / 6 := by omega
  simp only [bat, pos, hd]

theorem lin_before (c : Dev nD) (t : Fin cfg0.N) (h : t.val % 6 ≠ 0) (r n : Fin 1024) :
    lin (fun k => kept m c (t.val - 1) (pred_lt t) (ix2 r k)) (fun l => bW m c t (ix2 n l))
      = prod m c (bat t r) (pos t r) ⟨firstRow (t.val % 6) + n.val, firstRow_lt (Nat.mod_lt _ (by decide)) n.isLt⟩ := by
  unfold prod
  simp only [kept_before m c t h, bW_at]

/-- The block of the main result that a point leaves. -/
theorem out_at (c : Dev nD) (t : Fin cfg0.N) (r n : Fin 1024) :
    ((outsAt0 m c t.val t.isLt).1 (ix2 r n) : EReal)
      = plainAt (prod m c) (bat t r) (pos t r) ⟨1024 * (t.val % 6) + n.val, by omega⟩ := by
  have hn := n.isLt
  unfold plainAt
  by_cases h0 : t.val % 6 = 0
  · rw [dif_pos (by show 1024 * (t.val % 6) + n.val < 2048; omega)]
    refine (out_first m c t h0 r n).trans ?_
    unfold prod
    rw [urows_at]
    simp only [bW_at, firstRow, h0]
    rfl
  by_cases h1 : t.val % 6 = 1
  · rw [dif_pos (by show 1024 * (t.val % 6) + n.val < 2048; omega)]
    refine (out_1 m c t h1 r n).trans ((lin_before m c t h0 r n).trans ?_)
    simp only [firstRow, h1]
    rfl
  rw [dif_neg (by show ¬ 1024 * (t.val % 6) + n.val < 2048; omega)]
  by_cases h2 : t.val % 6 = 2
  · rw [dif_pos (by show 1024 * (t.val % 6) + n.val < 3072; omega)]
    refine (out_2 m c t h2 r n).trans (congrArg sgm ((lin_before m c t h0 r n).trans ?_))
    simp only [firstRow, h2]
    rfl
  rw [dif_neg (by show ¬ 1024 * (t.val % 6) + n.val < 3072; omega)]
  by_cases h3 : t.val % 6 = 3
  · rw [dif_pos (by show 1024 * (t.val % 6) + n.val < 4096; omega)]
    refine (out_3 m c t h3 r n).trans (congrArg silu ((lin_before m c t h0 r n).trans (congrArg (prod m c (bat t r) (pos t r)) (Fin.ext ?_))))
    show firstRow (t.val % 6) + n.val = 1024 * (t.val % 6) + n.val + 16
    unfold firstRow
    rw [if_pos (by omega)]
    omega
  rw [dif_neg (by show ¬ 1024 * (t.val % 6) + n.val < 4096; omega)]
  refine (out_45 m c t (by omega) r n).trans ((lin_before m c t h0 r n).trans (congrArg (prod m c (bat t r) (pos t r)) (Fin.ext ?_)))
  show firstRow (t.val % 6) + n.val = 1024 * (t.val % 6) + n.val + 16
  unfold firstRow
  rw [if_pos (by omega)]
  omega

theorem lin_zero (u : Fin 2048 → EReal) : lin u (fun _ => 0) = 0 := by
  unfold lin
  simp only [mul_zero, Finset.sum_const_zero]

/-- The block of the gates that a block of tokens' last point leaves. -/
theorem gate_at (c : Dev nD) (t : Fin cfg0.N) (h : t.val % 6 = 5) (r : Fin 1024) (n : Fin 128) :
    ((outsAt0 m c t.val t.isLt).2.1 (ix2 r n) : EReal) = gatesAt (prod m c) (bat t r) (pos t r) n := by
  refine (gates_last m c t h r n).trans ?_
  unfold gatesAt
  simp only [kept_before m c t (by omega), bGate_at, gateRows_at]
  by_cases hn : n.val < 48
  · simp only [dif_pos hn]
    rfl
  · simp only [dif_neg hn]
    exact lin_zero _

/-- The main result as an array. -/
def mainArr (c : Dev nD) : FVec Ideal S4096x6144 .f32 := fun y =>
  plainAt (prod m c) ⟨(y (0 : Fin 2)).val / 2048, by have : (y (0 : Fin 2)).val < 4096 := (y (0 : Fin 2)).isLt; omega⟩
    ⟨(y (0 : Fin 2)).val % 2048, Nat.mod_lt _ (by decide)⟩ (y (1 : Fin 2))

/-- The gates as an array. -/
def gateArr (c : Dev nD) : FVec Ideal S4096x128 .f32 := fun y =>
  gatesAt (prod m c) ⟨(y (0 : Fin 2)).val / 2048, by have : (y (0 : Fin 2)).val < 4096 := (y (0 : Fin 2)).isLt; omega⟩
    ⟨(y (0 : Fin 2)).val % 2048, Nat.mod_lt _ (by decide)⟩ (y (1 : Fin 2))

theorem final_main (c : Dev nD) : (dats m 0 c).arrAt 6 cfg0.N = mainArr m c := by
  refine (dats m 0 c).arrAt_eq_of_covers 6 _ (by decide +kernel) fun t hf y => ?_
  blk_simp
  rw [after0_6]
  idx_vars y
  have e : ((win0_6.blk t).view.emb (ix2 y0 y1)) = (ix2 ⟨1024 * (t.val / 6) + y0.val, by have : t.val < 24 := lt_of_lt_of_eq t.isLt N_0; omega⟩ ⟨1024 * (t.val % 6) + y1.val, by omega⟩ : S4096x6144.Idx) := by
    blk_ext [idx t]
  refine (out_at m c t y0 y1).trans ?_
  show _ = mainArr m c ((win0_6.blk t).view.emb (ix2 y0 y1))
  rw [e]
  rfl

theorem final_gates (c : Dev nD) : (dats m 0 c).arrAt 7 cfg0.N = gateArr m c := by
  refine (dats m 0 c).arrAt_eq_of_covers 7 _ (by decide +kernel) fun t hf y => ?_
  blk_simp
  rw [after0_7]
  idx_vars y
  have e : ((win0_7.blk t).view.emb (ix2 y0 y1)) = (ix2 ⟨1024 * (t.val / 6) + y0.val, by have : t.val < 24 := lt_of_lt_of_eq t.isLt N_0; omega⟩ y1 : S4096x128.Idx) := by
    blk_ext [idx t]
  refine (gate_at m c t ((flush0_7 t).mp hf) y0 y1).trans ?_
  show _ = gateArr m c ((win0_7.blk t).view.emb (ix2 y0 y1))
  rw [e]
  rfl

end Cert.Kernel9Ideal.InProjSample

end
-- ==== Proof.InProjSample.Reference.lean ====
module

public import proofs.«01_k».proof.Proof.Gen.Reference9Ideal.Run
public import proofs.«01_k».proof.Proof.InProjSample.Spec

/-! # What the reference computes, at an index -/

@[expose] public section

set_option maxRecDepth 16384

noncomputable section

namespace Cert.Reference9Ideal.InProjSample

open Idealize.ShloMosaic Idealize.ShloMosaic.TcCoe Idealize.SL.Sem
open Cert.Reference9Ideal Cert.Reference9Ideal.Gen Cert.InProj Cert.InProjSample

/-- The products of the normalised tokens with the projection. -/
def products (x : FVec Ideal S2x2048x2048 .f32) (sh sc : FVec Ideal S2x1x2048 .f32) (g : FVec Ideal S2048 .f32)
    (w : FVec Ideal S2048x6192 .f32) : FVec Ideal S2x2048x6192 .f32 :=
  Host.dotGeneral dot_S2x2048x2048_S2048x6192_S2x2048x6192_2_0_01_1_n_n none
    (addf (mulf (mulf (mulf x
      (broadcastInDim S2x2048x2048 ![0, 1, 2] bcast_S2x2048x1_S2x2048x2048_0_1_2
        (Host.rsqrt (addf (Host.divf
          (broadcastInDim S2x2048x1 ![0, 1] bcast_S2x2048_S2x2048x1_0_1 (Host.reduceAdd (mulf x x) (constant S_ .f32 0x00000000#32) reducesTo_S2x2048x2048_S2x2048_d2 h_S_))
          (broadcastInDim S2x2048x1 ![] bcast_S_S2x2048x1 (constant S_ .f32 0x45000000#32)))
          (broadcastInDim S2x2048x1 ![] bcast_S_S2x2048x1 (constant S_ .f32 0x358637BD#32))))))
      (broadcastInDim S2x2048x2048 ![0, 1, 2] bcast_S1x1x2048_S2x2048x2048_0_1_2 (broadcastInDim S1x1x2048 ![2] bcast_S2048_S1x1x2048_2 g)))
      (broadcastInDim S2x2048x2048 ![0, 1, 2] bcast_S2x1x2048_S2x2048x2048_0_1_2 (addf (broadcastInDim S2x1x2048 ![] bcast_S_S2x1x2048 (constant S_ .f32 0x3F800000#32)) sc)))
      (broadcastInDim S2x2048x2048 ![0, 1, 2] bcast_S2x1x2048_S2x2048x2048_0_1_2 sh)) w

/-- The logistic of a part of the products, 1024 columns wide. -/
def gateOf (z : FVec Ideal S2x2048x1024 .f32) : FVec Ideal S2x2048x1024 .f32 :=
  Host.divf (broadcastInDim S2x2048x1024 ![] bcast_S_S2x2048x1024 (constant S_ .f32 0x3F800000#32))
    (addf (broadcastInDim S2x2048x1024 ![] bcast_S_S2x2048x1024 (constant S_ .f32 0x3F800000#32)) (Host.exp (Host.negf z)))

/-- The main result, its parts side by side. -/
def parts (P : FVec Ideal S2x2048x6192 .f32) : FVec Ideal S4096x6144 .f32 :=
  shapeCast _ (concatenate S2x2048x6144 2 [
      ⟨S2x2048x512, extractStridedSlice S2x2048x512 ![0, 0, 0] P slices_S2x2048x6192_S2x2048x512_0_0_0⟩,
      ⟨S2x2048x512, extractStridedSlice S2x2048x512 ![0, 0, 512] P slices_S2x2048x6192_S2x2048x512_0_0_512⟩,
      ⟨S2x2048x1024, extractStridedSlice S2x2048x1024 ![0, 0, 1024] P slices_S2x2048x6192_S2x2048x1024_0_0_1024⟩,
      ⟨S2x2048x1024, gateOf (extractStridedSlice S2x2048x1024 ![0, 0, 2048] P slices_S2x2048x6192_S2x2048x1024_0_0_2048)⟩,
      ⟨S2x2048x1024, mulf (extractStridedSlice S2x2048x1024 ![0, 0, 3088] P slices_S2x2048x6192_S2x2048x1024_0_0_3088)
        (gateOf (extractStridedSlice S2x2048x1024 ![0, 0, 3088] P slices_S2x2048x6192_S2x2048x1024_0_0_3088))⟩,
      ⟨S2x2048x2048, extractStridedSlice S2x2048x2048 ![0, 0, 4112] P slices_S2x2048x6192_S2x2048x2048_0_0_4112⟩]
      concatenates_S2x2048x512_S2x2048x512_S2x2048x1024_S2x2048x1024_S2x2048x1024_S2x2048x2048_S2x2048x6144_d2) shapeCasts_S2x2048x6144_S4096x6144

/-- The gates, side by side. -/
def gates (P : FVec Ideal S2x2048x6192 .f32) : FVec Ideal S4096x128 .f32 :=
  shapeCast _ (concatenate S2x2048x128 2 [
      ⟨S2x2048x8, extractStridedSlice S2x2048x8 ![0, 0, 3072] P slices_S2x2048x6192_S2x2048x8_0_0_3072⟩,
      ⟨S2x2048x8, extractStridedSlice S2x2048x8 ![0, 0, 3080] P slices_S2x2048x6192_S2x2048x8_0_0_3080⟩,
      ⟨S2x2048x32, extractStridedSlice S2x2048x32 ![0, 0, 6160] P slices_S2x2048x6192_S2x2048x32_0_0_6160⟩,
      ⟨S2x2048x80, broadcastInDim S2x2048x80 ![] bcast_S_S2x2048x80 (constant S_ .f32 0x00000000#32)⟩]
      concatenates_S2x2048x8_S2x2048x8_S2x2048x32_S2x2048x80_S2x2048x128_d2) shapeCasts_S2x2048x128_S4096x128

theorem products_at (x : FVec Ideal S2x2048x2048 .f32) (sh sc : FVec Ideal S2x1x2048 .f32) (g : FVec Ideal S2048 .f32)
    (w : FVec Ideal S2048x6192 .f32) (b : Fin 2) (s : Fin 2048) (n : Fin 6192) :
    (products x sh sc g w (ix3 b s n) : EReal)
      = lin (unorm (fun l => x (ix3 b s l)) (fun l => g (ix1 l)) (fun l => sc (ix3 b 0 l)) (fun l => sh (ix3 b 0 l))) (fun k => w (ix2 k n)) := by
  pointwise [products, lin, unorm]

theorem gateOf_at (z : FVec Ideal S2x2048x1024 .f32) (b : Fin 2) (s : Fin 2048) (n : Fin 1024) :
    (gateOf z (ix3 b s n) : EReal) = sgm (z (ix3 b s n)) := by
  pointwise [gateOf, sgm]

theorem gates_at (P : FVec Ideal S2x2048x6192 .f32) (r : Fin 4096) (n : Fin 128) :
    (gates P (ix2 r n) : EReal) = gatesAt (fun b s n => P (ix3 b s n)) ⟨r.val / 2048, by omega⟩ ⟨r.val % 2048, by omega⟩ n := by
  pointwise [gates, gatesAt]
  have hn := n.isLt
  have e : ∀ (i j : ℕ) (hi : i < 6192) (hj : j < 6192), i = j →
      (P (ix3 ⟨r.val / 2048, by omega⟩ ⟨r.val % 2048, by omega⟩ ⟨i, hi⟩) : EReal) = P (ix3 ⟨r.val / 2048, by omega⟩ ⟨r.val % 2048, by omega⟩ ⟨j, hj⟩) := by
    intro i j hi hj h
    subst h
    rfl
  by_cases h : n.val < 48
  · rw [dif_pos h]
    by_cases a : n.val < 8
    · rw [dif_pos a]
      exact e _ _ _ _ (by unfold gateCol; rw [if_pos (by omega)])
    by_cases b : n.val - 8 < 8
    · rw [dif_neg a, dif_pos b]
      exact e _ _ _ _ (by unfold gateCol; rw [if_pos (by omega)]; omega)
    · rw [dif_neg a, dif_neg b, dif_pos (by omega)]
      exact e _ _ _ _ (by unfold gateCol; rw [if_neg (by omega)]; omega)
  · rw [dif_neg h, dif_neg (by omega), dif_neg (by omega), dif_neg (by omega)]

set_option maxHeartbeats 1000000 in
theorem parts_at (P : FVec Ideal S2x2048x6192 .f32) (r : Fin 4096) (n : Fin 6144) :
    (parts P (ix2 r n) : EReal) = plainAt (fun b s n => P (ix3 b s n)) ⟨r.val / 2048, by omega⟩ ⟨r.val % 2048, by omega⟩ n := by
  unfold plainAt
  pointwise [parts]
  have hn := n.isLt
  simp only [gateOf_at]
  pointwise
  have e : ∀ (i j : ℕ) (hi : i < 6192) (hj : j < 6192), i = j →
      (P (ix3 ⟨r.val / 2048, by omega⟩ ⟨r.val % 2048, by omega⟩ ⟨i, hi⟩) : EReal) = P (ix3 ⟨r.val / 2048, by omega⟩ ⟨r.val % 2048, by omega⟩ ⟨j, hj⟩) := by
    intro i j hi hj h
    subst h
    rfl
  by_cases h0 : n.val < 2048
  · rw [dif_pos h0]
    by_cases a : n.val < 512
    · rw [dif_pos a]
    by_cases b : n.val - 512 < 512
    · rw [dif_neg a, dif_pos b]
      exact e _ _ _ _ (by omega)
    · rw [dif_neg a, dif_neg b, dif_pos (by omega)]
      exact e _ _ _ _ (by omega)
  rw [dif_neg h0, dif_neg (by omega), dif_neg (by omega), dif_neg (by omega)]
  by_cases h1 : n.val < 3072
  · rw [dif_pos h1, dif_pos (by omega)]
    exact congrArg sgm (e _ _ _ _ (by omega))
  rw [dif_neg h1, dif_neg (by omega)]
  by_cases h2 : n.val < 4096
  · rw [dif_pos h2, dif_pos (by omega)]
    exact congrArg silu (e _ _ _ _ (by omega))
  · rw [dif_neg h2, dif_neg (by omega)]
    exact e _ _ _ _ (by omega)

variable (m : (ℓ : Loc nD τ sig) → Buf (Elt Ideal) ℓ)

abbrev prods (c : Dev nD) : FVec Ideal S2x2048x6192 .f32 :=
  products (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem main_term (c : Dev nD) : Value.res_main_v39 m c = parts (prods m c) := rfl

theorem gates_term (c : Dev nD) : Value.res_main_v40 m c = gates (prods m c) := rfl

end Cert.Reference9Ideal.InProjSample

end
-- ==== Proof.InProjSample.Claim.lean ====
module

public import proofs.«01_k».proof.Defs
public import proofs.«01_k».proof.Proof.InProjSample.Array
public import proofs.«01_k».proof.Proof.InProjSample.Reference
public import proofs.«01_k».proof.Proof.Gen.Kernel9.Frame
public import Idealize.ShloMosaic.Lib.Claim

/-! # The sample's input projection equals its reference -/

@[expose] public section

set_option maxRecDepth 16384

noncomputable section

namespace Cert.InProjSample

open Idealize.ShloMosaic Idealize.ShloMosaic.TcCoe Idealize.SL.Sem
open Cert.InProj Cert.Kernel9Ideal.InProjSample

variable (m : (ℓ : Loc Cert.Kernel9Ideal.nD Cert.Kernel9Ideal.τ Cert.Kernel9Ideal.sig) → Buf (Elt Ideal) ℓ) (ρ : Dev Cert.Kernel9Ideal.nD → PrngReg)
variable (m' : (ℓ : Loc Cert.Reference9Ideal.nD Cert.Reference9Ideal.τ Cert.Reference9Ideal.sig) → Buf (Elt Ideal) ℓ)

/-- The kernel's run: both results by their entries, the arguments as they were. -/
theorem kernel_run : θ_run Cert.Kernel9Ideal.defs (onTc (τ := Cert.Kernel9Ideal.τ) Cert.Kernel9Ideal.main) ⟨m, fun _ => 0, ρ⟩ fun r => ∀ c : Dev Cert.Kernel9Ideal.nD,
    r.2.mem ((c.tc : Thread Cert.Kernel9Ideal.nD Cert.Kernel9Ideal.τ).loc Cert.Kernel9Ideal.main_v8_0) = mainArr m c
    ∧ r.2.mem ((c.tc : Thread Cert.Kernel9Ideal.nD Cert.Kernel9Ideal.τ).loc Cert.Kernel9Ideal.main_v8_1) = gateArr m c :=
  (θ_run Cert.Kernel9Ideal.defs _ _).mono
    (fun _ h c => ⟨((h c).1 6).trans (final_main m c), ((h c).1 7).trans (final_gates m c)⟩)
    (Cert.Kernel9Ideal.Gen.run_main m ρ)

/-- From equal arguments, the reference's products are the kernel's. -/
theorem prods_eq (c : Dev Cert.Kernel9Ideal.nD)
    (h0 : (m' ((c.tc : Thread _ Cert.Reference9Ideal.τ).loc Cert.Reference9Ideal.main_arg0) : FVec Ideal Cert.Reference9Ideal.S2x2048x2048 .f32) = aX m c)
    (h1 : (m' ((c.tc : Thread _ Cert.Reference9Ideal.τ).loc Cert.Reference9Ideal.main_arg1) : FVec Ideal Cert.Reference9Ideal.S2x1x2048 .f32) = aSh m c)
    (h2 : (m' ((c.tc : Thread _ Cert.Reference9Ideal.τ).loc Cert.Reference9Ideal.main_arg2) : FVec Ideal Cert.Reference9Ideal.S2x1x2048 .f32) = aSc m c)
    (h3 : (m' ((c.tc : Thread _ Cert.Reference9Ideal.τ).loc Cert.Reference9Ideal.main_arg3) : FVec Ideal Cert.Reference9Ideal.S2048 .f32) = aG m c)
    (h4 : (m' ((c.tc : Thread _ Cert.Reference9Ideal.τ).loc Cert.Reference9Ideal.main_arg4) : FVec Ideal Cert.Reference9Ideal.S2048x6192 .f32) = aW m c)
    (b : Fin 2) (s : Fin 2048) (n : Fin 6192) :
    (Cert.Reference9Ideal.InProjSample.prods m' c (ix3 b s n) : EReal) = prod m c b s n := by
  refine (Cert.Reference9Ideal.InProjSample.products_at _ _ _ _ _ b s n).trans ?_
  rw [h0, h1, h2, h3, h4]
  rfl

theorem algebraic : Cert.algebraic_Kernel9Ideal_Reference9Ideal := by
  intro m ρ m' ρ' _ hagree
  refine ⟨fun c => mainArr m c, fun c => gateArr m c, ?_, ?_⟩
  · exact (θ_run Cert.Kernel9Ideal.defs _ _).mono (fun _ h c => ⟨(h.1 c).1, (h.1 c).2, h.2.1 c⟩)
      (θ_run_and (kernel_run m ρ) (Cert.Kernel9Ideal.Gen.frame m ρ))
  · refine (θ_run Cert.Reference9Ideal.defs _ _).mono (fun r h c => ?_) (Cert.Reference9Ideal.Value.run (F := Ideal) m' ρ')
    obtain ⟨h0, h1, h2, h3, h4⟩ := hagree c
    have hp := prods_eq m m' c h0 h1 h2 h3 h4
    have hp' : (fun b s n => (Cert.Reference9Ideal.InProjSample.prods m' c (ix3 b s n) : EReal)) = prod m c := by
      funext b s n
      exact hp b s n
    refine ⟨(h c).1.trans ?_, (h c).2.1.trans ?_, (h c).2.2⟩
    · refine (Cert.Reference9Ideal.InProjSample.main_term m' c).trans ?_
      funext y
      idx_vars y
      refine (Cert.Reference9Ideal.InProjSample.parts_at _ y0 y1).trans ?_
      rw [hp']
      rfl
    · refine (Cert.Reference9Ideal.InProjSample.gates_term m' c).trans ?_
      funext y
      idx_vars y
      refine (Cert.Reference9Ideal.InProjSample.gates_at _ y0 y1).trans ?_
      rw [hp']
      rfl

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

end Cert.InProjSample

end
-- ==== Proof.lean ====
module

public import proofs.«01_k».proof.Defs
public import proofs.«01_k».proof.Proof.InProj.Claim
public import proofs.«01_k».proof.Proof.Mlp.Claim
public import proofs.«01_k».proof.Proof.OutProj.Claim
public import proofs.«01_k».proof.Proof.MlpSample.Claim
public import proofs.«01_k».proof.Proof.Modulate.Claim
public import proofs.«01_k».proof.Proof.GridConv.Claim
public import proofs.«01_k».proof.Proof.Gates.Claim
public import proofs.«01_k».proof.Proof.OutProjSample.Claim
public import proofs.«01_k».proof.Proof.InProjSample.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.InProj.frame_kernel, Cert.InProj.frame_ideal, Cert.InProj.frame_reference,
  Cert.Mlp.frame_kernel, Cert.Mlp.frame_ideal, Cert.Mlp.frame_reference,
  Cert.OutProj.frame_kernel, Cert.OutProj.frame_ideal, Cert.OutProj.frame_reference,
  Cert.MlpSample.frame_kernel, Cert.MlpSample.frame_ideal, Cert.MlpSample.frame_reference,
  Cert.Modulate.frame_kernel, Cert.Modulate.frame_ideal, Cert.Modulate.frame_reference,
  Cert.GridConv.frame_kernel, Cert.GridConv.frame_ideal, Cert.GridConv.frame_reference,
  Cert.Gates.frame_kernel, Cert.Gates.frame_ideal, Cert.Gates.frame_reference,
  Cert.OutProjSample.frame_kernel, Cert.OutProjSample.frame_ideal, Cert.OutProjSample.frame_reference,
  Cert.InProjSample.frame_kernel, Cert.InProjSample.frame_ideal, Cert.InProjSample.frame_reference,
  trivial, Cert.InProj.algebraic, trivial, Cert.Mlp.algebraic,
  trivial, Cert.OutProj.algebraic, trivial, Cert.MlpSample.algebraic,
  trivial, Cert.Modulate.algebraic, trivial, Cert.GridConv.algebraic,
  trivial, Cert.Gates.algebraic, trivial, Cert.OutProjSample.algebraic,
  trivial, Cert.InProjSample.algebraic⟩

end Cert.Proof

end
